-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x7168 : Shape := ⟨3, ![2, 896, 7168]⟩
abbrev S2x896x1024 : Shape := ⟨3, ![2, 896, 1024]⟩
abbrev S2x8x128x896 : Shape := ⟨4, ![2, 8, 128, 896]⟩
abbrev S56 : Shape := ⟨1, ![56]⟩
abbrev S8 : Shape := ⟨1, ![8]⟩
abbrev S1x896x896 : Shape := ⟨3, ![1, 896, 896]⟩
abbrev S1x896x128 : Shape := ⟨3, ![1, 896, 128]⟩
abbrev S1x1x128x896 : Shape := ⟨4, ![1, 1, 128, 896]⟩
abbrev S3x896x256 : Shape := ⟨3, ![3, 896, 256]⟩
abbrev S2x896x256 : Shape := ⟨3, ![2, 896, 256]⟩
abbrev S1 : Shape := ⟨1, ![1]⟩
abbrev S128x128 : Shape := ⟨2, ![128, 128]⟩
abbrev S1x128x128 : Shape := ⟨3, ![1, 128, 128]⟩
abbrev S256x128 : Shape := ⟨2, ![256, 128]⟩
abbrev S128x256 : Shape := ⟨2, ![128, 256]⟩
abbrev S1x128x256 : Shape := ⟨3, ![1, 128, 256]⟩
abbrev S8x256 : Shape := ⟨2, ![8, 256]⟩
abbrev S256 : Shape := ⟨1, ![256]⟩
abbrev S1x256 : Shape := ⟨2, ![1, 256]⟩
abbrev S1x1x128x128 : Shape := ⟨4, ![1, 1, 128, 128]⟩
abbrev S8x128 : Shape := ⟨2, ![8, 128]⟩
abbrev S128 : Shape := ⟨1, ![128]⟩
abbrev S1x128 : Shape := ⟨2, ![1, 128]⟩
abbrev S1x1x128x256 : Shape := ⟨4, ![1, 1, 128, 256]⟩
abbrev S1x256x256 : Shape := ⟨3, ![1, 256, 256]⟩
abbrev S256x256 : Shape := ⟨2, ![256, 256]⟩
abbrev S1x256x128 : Shape := ⟨3, ![1, 256, 128]⟩
abbrev S1x1x128x384 : Shape := ⟨4, ![1, 1, 128, 384]⟩
abbrev S128x384 : Shape := ⟨2, ![128, 384]⟩
abbrev S1x384x256 : Shape := ⟨3, ![1, 384, 256]⟩
abbrev S384x256 : Shape := ⟨2, ![384, 256]⟩
abbrev S1x384x128 : Shape := ⟨3, ![1, 384, 128]⟩
abbrev S384x128 : Shape := ⟨2, ![384, 128]⟩
abbrev S1x1x128x512 : Shape := ⟨4, ![1, 1, 128, 512]⟩
abbrev S128x512 : Shape := ⟨2, ![128, 512]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S1x1x128x640 : Shape := ⟨4, ![1, 1, 128, 640]⟩
abbrev S128x640 : Shape := ⟨2, ![128, 640]⟩
abbrev S1x640x256 : Shape := ⟨3, ![1, 640, 256]⟩
abbrev S640x256 : Shape := ⟨2, ![640, 256]⟩
abbrev S1x640x128 : Shape := ⟨3, ![1, 640, 128]⟩
abbrev S640x128 : Shape := ⟨2, ![640, 128]⟩
abbrev S1x1x128x768 : Shape := ⟨4, ![1, 1, 128, 768]⟩
abbrev S128x768 : Shape := ⟨2, ![128, 768]⟩
abbrev S1x768x256 : Shape := ⟨3, ![1, 768, 256]⟩
abbrev S768x256 : Shape := ⟨2, ![768, 256]⟩
abbrev S1x768x128 : Shape := ⟨3, ![1, 768, 128]⟩
abbrev S768x128 : Shape := ⟨2, ![768, 128]⟩
abbrev S128x896 : Shape := ⟨2, ![128, 896]⟩
abbrev S1x896x256 : Shape := ⟨3, ![1, 896, 256]⟩
abbrev S896x256 : Shape := ⟨2, ![896, 256]⟩
abbrev S896x128 : Shape := ⟨2, ![896, 128]⟩

abbrev nBuf : Space → Nat
  | .hbm => 7
  | .vmem => 10
  | .smem => 3
  | _ => 0

abbrev bufTy : (tb : Table) → Fin (tcTables nBuf tb) → BufTy
  | .hbm, ⟨0, _⟩ => ⟨S2x896x7168, .fp8e4m3⟩
  | .hbm, ⟨1, _⟩ => ⟨S2x896x1024, .fp8e4m3⟩
  | .hbm, ⟨2, _⟩ => ⟨S2x8x128x896, .fp8e4m3⟩
  | .hbm, ⟨3, _⟩ => ⟨S56, .f32⟩
  | .hbm, ⟨4, _⟩ => ⟨S8, .f32⟩
  | .hbm, ⟨5, _⟩ => ⟨S8, .f32⟩
  | .hbm, ⟨6, _⟩ => ⟨S2x896x7168, .bf16⟩
  | .local _ .vmem, ⟨0, _⟩ => ⟨S1x896x896, .fp8e4m3⟩
  | .local _ .vmem, ⟨1, _⟩ => ⟨S1x896x896, .fp8e4m3⟩
  | .local _ .vmem, ⟨2, _⟩ => ⟨S1x896x128, .fp8e4m3⟩
  | .local _ .vmem, ⟨3, _⟩ => ⟨S1x896x128, .fp8e4m3⟩
  | .local _ .vmem, ⟨4, _⟩ => ⟨S1x1x128x896, .fp8e4m3⟩
  | .local _ .vmem, ⟨5, _⟩ => ⟨S1x1x128x896, .fp8e4m3⟩
  | .local _ .vmem, ⟨6, _⟩ => ⟨S1x896x896, .bf16⟩
  | .local _ .vmem, ⟨7, _⟩ => ⟨S1x896x896, .bf16⟩
  | .local _ .vmem, ⟨8, _⟩ => ⟨S3x896x256, .f32⟩
  | .local _ .vmem, ⟨9, _⟩ => ⟨S2x896x256, .fp8e4m3⟩
  | .local _ .smem, ⟨0, _⟩ => ⟨S56, .f32⟩
  | .local _ .smem, ⟨1, _⟩ => ⟨S8, .f32⟩
  | .local _ .smem, ⟨2, _⟩ => ⟨S8, .f32⟩
  | _, _ => ⟨S2x896x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32 : BitVec 32) : Fin 1 → Nat :=
  let arg1 : BitVec 32 := BitVec.ofNat 32 (i 1).val
  let c7_i32 : BitVec 32 := 7#32
  let v3 : BitVec 32 := Scalar.muli arg1 c7_i32
  let v4 : BitVec 32 := Scalar.addi v3 c0_i32
  let v5 : Index := Scalar.indexCast v4
  ![v5.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x896x896 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x896 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x896x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x896x7168 : Shape := ⟨3, ![2, 896, 7168]⟩
abbrev S2x896x1024 : Shape := ⟨3, ![2, 896, 1024]⟩
abbrev S2x8x128x896 : Shape := ⟨4, ![2, 8, 128, 896]⟩
abbrev S56 : Shape := ⟨1, ![56]⟩
abbrev S8 : Shape := ⟨1, ![8]⟩
abbrev S2x896x8x7x128 : Shape := ⟨5, ![2, 896, 8, 7, 128]⟩
abbrev S2x896x8x128 : Shape := ⟨4, ![2, 896, 8, 128]⟩
abbrev S8x7 : Shape := ⟨2, ![8, 7]⟩
abbrev S8x1 : Shape := ⟨2, ![8, 1]⟩
abbrev S_ : Shape := ⟨0, ![]⟩
abbrev S1x8x7x1x1 : Shape := ⟨5, ![1, 8, 7, 1, 1]⟩
abbrev S2x8x896x896x7 : Shape := ⟨5, ![2, 8, 896, 896, 7]⟩
abbrev S2x8x7x896x896 : Shape := ⟨5, ![2, 8, 7, 896, 896]⟩
abbrev S896 : Shape := ⟨1, ![896]⟩
abbrev S1x896 : Shape := ⟨2, ![1, 896]⟩
abbrev S896x1 : Shape := ⟨2, ![896, 1]⟩
abbrev S896x896 : Shape := ⟨2, ![896, 896]⟩
abbrev S1x1x1x896x896 : Shape := ⟨5, ![1, 1, 1, 896, 896]⟩
abbrev S2x8x7x896 : Shape := ⟨4, ![2, 8, 7, 896]⟩
abbrev S2x8x7x896x1 : Shape := ⟨5, ![2, 8, 7, 896, 1]⟩
abbrev S2x8x128x7x896 : Shape := ⟨5, ![2, 8, 128, 7, 896]⟩
abbrev S1x1x8x1x1 : Shape := ⟨5, ![1, 1, 8, 1, 1]⟩

abbrev nBuf : Space → Nat
  | .hbm => 60
  | .vmem => 8
  | .smem => 0
  | _ => 0

abbrev bufTy : (tb : Table) → Fin (tcTables nBuf tb) → BufTy
  | .hbm, ⟨0, _⟩ => ⟨S2x896x7168, .fp8e4m3⟩
  | .hbm, ⟨1, _⟩ => ⟨S2x896x1024, .fp8e4m3⟩
  | .hbm, ⟨2, _⟩ => ⟨S2x8x128x896, .fp8e4m3⟩
  | .hbm, ⟨3, _⟩ => ⟨S56, .f32⟩
  | .hbm, ⟨4, _⟩ => ⟨S8, .f32⟩
  | .hbm, ⟨5, _⟩ => ⟨S8, .f32⟩
  | .hbm, ⟨6, _⟩ => ⟨S2x896x7168, .f32⟩
  | .hbm, ⟨7, _⟩ => ⟨S2x896x1024, .f32⟩
  | .hbm, ⟨8, _⟩ => ⟨S2x8x128x896, .f32⟩
  | .hbm, ⟨9, _⟩ => ⟨S2x896x8x7x128, .f32⟩
  | .hbm, ⟨10, _⟩ => ⟨S2x896x8x128, .f32⟩
  | .hbm, ⟨11, _⟩ => ⟨S8x7, .f32⟩
  | .hbm, ⟨12, _⟩ => ⟨S8x1, .f32⟩
  | .hbm, ⟨13, _⟩ => ⟨S8x7, .f32⟩
  | .hbm, ⟨14, _⟩ => ⟨S8x7, .f32⟩
  | .hbm, ⟨15, _⟩ => ⟨S_, .f32⟩
  | .hbm, ⟨16, _⟩ => ⟨S8x7, .f32⟩
  | .hbm, ⟨17, _⟩ => ⟨S8x7, .f32⟩
  | .hbm, ⟨18, _⟩ => ⟨S1x8x7x1x1, .f32⟩
  | .hbm, ⟨19, _⟩ => ⟨S2x8x896x896x7, .f32⟩
  | .hbm, ⟨20, _⟩ => ⟨S2x8x7x896x896, .f32⟩
  | .hbm, ⟨21, _⟩ => ⟨S2x8x7x896x896, .f32⟩
  | .hbm, ⟨22, _⟩ => ⟨S2x8x7x896x896, .f32⟩
  | .hbm, ⟨23, _⟩ => ⟨S896, .i32⟩
  | .hbm, ⟨24, _⟩ => ⟨S1x896, .i32⟩
  | .hbm, ⟨25, _⟩ => ⟨S896x1, .i32⟩
  | .hbm, ⟨26, _⟩ => ⟨S896x896, .i32⟩
  | .hbm, ⟨27, _⟩ => ⟨S896x896, .i32⟩
  | .hbm, ⟨28, _⟩ => ⟨S896x896, .i1⟩
  | .hbm, ⟨29, _⟩ => ⟨S1x1x1x896x896, .i1⟩
  | .hbm, ⟨30, _⟩ => ⟨S_, .f32⟩
  | .hbm, ⟨31, _⟩ => ⟨S_, .f32⟩
  | .hbm, ⟨32, _⟩ => ⟨S2x8x7x896x896, .i1⟩
  | .hbm, ⟨33, _⟩ => ⟨S2x8x7x896x896, .f32⟩
  | .hbm, ⟨34, _⟩ => ⟨S2x8x7x896x896, .f32⟩
  | .hbm, ⟨35, _⟩ => ⟨S_, .f32⟩
  | .hbm, ⟨36, _⟩ => ⟨S2x8x7x896, .f32⟩
  | .hbm, ⟨37, _⟩ => ⟨S_, .f32⟩
  | .hbm, ⟨38, _⟩ => ⟨S2x8x7x896, .f32⟩
  | .hbm, ⟨39, _⟩ => ⟨S2x8x7x896, .f32⟩
  | .hbm, ⟨40, _⟩ => ⟨S2x8x7x896x1, .f32⟩
  | .hbm, ⟨41, _⟩ => ⟨S2x8x7x896x896, .f32⟩
  | .hbm, ⟨42, _⟩ => ⟨S2x8x7x896x896, .f32⟩
  | .hbm, ⟨43, _⟩ => ⟨S2x8x7x896x896, .f32⟩
  | .hbm, ⟨44, _⟩ => ⟨S_, .f32⟩
  | .hbm, ⟨45, _⟩ => ⟨S2x8x7x896, .f32⟩
  | .hbm, ⟨46, _⟩ => ⟨S2x8x7x896x1, .f32⟩
  | .hbm, ⟨47, _⟩ => ⟨S2x8x7x896x896, .f32⟩
  | .hbm, ⟨48, _⟩ => ⟨S2x8x7x896x896, .f32⟩
  | .hbm, ⟨49, _⟩ => ⟨S2x8x7x896x896, .f32⟩
  | .hbm, ⟨50, _⟩ => ⟨S2x8x128x7x896, .f32⟩
  | .hbm, ⟨51, _⟩ => ⟨S2x896x8x7x128, .f32⟩
  | .hbm, ⟨52, _⟩ => ⟨S1x1x8x1x1, .f32⟩
  | .hbm, ⟨53, _⟩ => ⟨S_, .f32⟩
  | .hbm, ⟨54, _⟩ => ⟨S1x1x8x1x1, .f32⟩
  | .hbm, ⟨55, _⟩ => ⟨S1x1x8x1x1, .f32⟩
  | .hbm, ⟨56, _⟩ => ⟨S2x896x8x7x128, .f32⟩
  | .hbm, ⟨57, _⟩ => ⟨S2x896x8x7x128, .f32⟩
  | .hbm, ⟨58, _⟩ => ⟨S2x896x8x7x128, .bf16⟩
  | .hbm, ⟨59, _⟩ => ⟨S2x896x7168, .bf16⟩
  | .local _ .vmem, ⟨0, _⟩ => ⟨S2x896x7168, .fp8e4m3⟩
  | .local _ .vmem, ⟨1, _⟩ => ⟨S2x896x1024, .fp8e4m3⟩
  | .local _ .vmem, ⟨2, _⟩ => ⟨S2x8x128x896, .fp8e4m3⟩
  | .local _ .vmem, ⟨3, _⟩ => ⟨S2x896x7168, .f32⟩
  | .local _ .vmem, ⟨4, _⟩ => ⟨S2x896x1024, .f32⟩
  | .local _ .vmem, ⟨5, _⟩ => ⟨S2x8x128x896, .f32⟩
  | .local _ .vmem, ⟨6, _⟩ => ⟨S2x8x7x896x896, .f32⟩
  | .local _ .vmem, ⟨7, _⟩ => ⟨S2x8x7x896x896, .f32⟩
  | _, _ => ⟨S2x896x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := .none

abbrev stage0_0 : Fin 1 → Memref sig .tc .vmem S2x896x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S2x8x7x896x896 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x8x7x896x896 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== Proof.Claims.lean ====
/- The claims that need no value: the three frames are the generated ones, and the one constant the idealization names
   is the real number it stands for. -/
module

public import proofs.«01_k».proof.Defs
public import proofs.«01_k».proof.Proof.Gen.Kernel.Frame
public import proofs.«01_k».proof.Proof.Gen.KernelIdeal.Frame
public import proofs.«01_k».proof.Proof.Gen.ReferenceIdeal.Frame

@[expose] public section

noncomputable section

open Idealize.ShloMosaic Idealize.SL.Sem

namespace Cert.Proof.Claims

/-- The kernel runs, leaves its arguments alone and ends quiet. -/
theorem frame_p : Cert.quiescent_Kernel := fun m ρ _ => Cert.Kernel.Gen.frame m ρ
/-- So does its idealization. -/
theorem frame_pi : Cert.quiescent_KernelIdeal := fun m ρ _ => Cert.KernelIdeal.Gen.frame m ρ
/-- So does the reference. -/
theorem frame_ri : Cert.quiescent_ReferenceIdeal := fun m ρ _ => Cert.ReferenceIdeal.Gen.frame m ρ

/-- The literal the kernel multiplies its scores by is `log2 e`, which the table names `(log 2)⁻¹`. -/
theorem preserves : Cert.preserves_Kernel_KernelIdeal :=
  IdealRules.named_const.statement Cert.KernelIdeal.κ "log2e" .f32 0x3FB8AA3B#32 (((Real.log 2)⁻¹ : ℝ) : EReal) rfl

end Cert.Proof.Claims

end
-- ==== Proof.RefRun.lean ====
/- The reference's run with its result named: beside the arguments, which end as launched, the result array ends at the
   contents the program's steps leave there, boundary after boundary (`Gen.W6`). -/
module

public import proofs.«01_k».proof.Proof.Gen.ReferenceIdeal.Frame

@[expose] public section

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every execution of the reference ends with the result at the last boundary's contents and the arguments as launched. -/
theorem run : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.ReferenceIdeal.RefRun

end
-- ==== Proof.Ref.Region.lean ====
/- What the reference's two whole-array calls leave: the decoded operands, and the probabilities' codes. -/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![0, 0, 0] ∧ win0_1.index t = ![0, 0, 0] ∧ win0_2.index t = ![0, 0, 0, 0] ∧
    win0_3.index t = ![0, 0, 0] ∧ win0_4.index t = ![0, 0, 0] ∧ win0_5.index t = ![0, 0, 0, 0] :=
  (by decide +kernel : ∀ t : Fin grid0.N, _)
theorem idx1 : ∀ t : Fin cfg1.N, win1_0.index t = ![0, 0, 0, 0, 0] ∧ win1_1.index t = ![0, 0, 0, 0, 0] :=
  (by decide +kernel : ∀ t : Fin grid1.N, _)

/-- The decoded queries are the queries. -/
theorem region0_3 (c : Dev nD) : (dat0 (F := Ideal) V c).arrAt 3 cfg0.N = fun y => (V c main_arg0 y : EReal) := by
  refine (dat0 V c).arrAt_eq_of_covers 3 _ (by decide +kernel) fun t hf y => ?_
  blk_simp
  rw [after0_3]
  frame_out
  show iblk0 V c 0 t y = _
  blk_point [iblk0, (idx0 t).1, (idx0 t).2.2.2.1]
/-- The decoded keys are the keys. -/
theorem region0_4 (c : Dev nD) : (dat0 (F := Ideal) V c).arrAt 4 cfg0.N = fun y => (V c main_arg1 y : EReal) := by
  refine (dat0 V c).arrAt_eq_of_covers 4 _ (by decide +kernel) fun t hf y => ?_
  blk_simp
  rw [after0_4]
  frame_out
  show iblk0 V c 1 t y = _
  blk_point [iblk0, (idx0 t).2.1, (idx0 t).2.2.2.2.1]
/-- The decoded values are the values. -/
theorem region0_5 (c : Dev nD) : (dat0 (F := Ideal) V c).arrAt 5 cfg0.N = fun y => (V c main_arg2 y : EReal) := by
  refine (dat0 V c).arrAt_eq_of_covers 5 _ (by decide +kernel) fun t hf y => ?_
  blk_simp
  rw [after0_5]
  frame_out
  show iblk0 V c 2 t y = _
  blk_point [iblk0, (idx0 t).2.2.1, (idx0 t).2.2.2.2.2]

/-- The code of a probability. -/
def code (x : EReal) : EReal := min (Ideal.ofBits .f32 0x43E00000#32) (max 0 (x * Ideal.ofBits .f32 0x43E00000#32))

/-- The codes: each probability times 448, cut to the range from 0 to 448. -/
theorem region1_1 (c : Dev nD) : (dat1 (F := Ideal) V c).arrAt 1 cfg1.N = fun y =>
    code (V c main_v32 y) := by
  refine (dat1 V c).arrAt_eq_of_covers 1 _ (by decide +kernel) fun t hf y => ?_
  blk_simp
  rw [after1_1]
  frame_out
  have e : iblk1 V c 0 t y = V c main_v32 (((cfg1.win 1).blk t).view.emb y) := by
    blk_point [iblk1, (idx1 t).1, (idx1 t).2]
  unfold k1_pay1
  pointwise
  rw [e]
  rfl

end Cert.ReferenceIdeal.Val

end
-- ==== Proof.Ref.Host.lean ====
/- The reference's host lines, read at an index. -/
module

public import proofs.«01_k».proof.Proof.Ref.Region
public import Idealize.ShloMosaic.Lib.StableHlo.RunRead
public import Idealize.ShloMosaic.Lib.StableHlo.ReadAt

@[expose] public section

set_option maxRecDepth 16384

noncomputable section

namespace Cert.ReferenceIdeal.Val

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- A row's largest entry from `init`, over any shapes: a fold over the reduced axis. -/
theorem hostMax_fold {s t u : Shape} {a : Fin s.rank} (x : FVec Ideal s .f32) (init : FVec Ideal u .f32) (h' : s.ReducesTo [a] t) (h : s.Reduces [a] t)
    (hu : 0 < u.numel) (j : t.Idx) :
    Host.reduce FloatOps.maximumf x init h' hu j =
      ((Finset.univ : Finset (Fin (s.size a))).fold max (init (Shape.Idx.first hu) : EReal) (fun k => (x (h.lift j k) : EReal))) :=
  Host.reduce_eq_fold_single (α := EReal) max x init h' h hu j

theorem red_last : S2x8x7x896x896.Reduces [4] S2x8x7x896 := by decide

theorem lift_last (b : Fin 2) (v : Fin 8) (h : Fin 7) (q t : Fin 896) : red_last.lift (ix4 (n0 := 2) (n1 := 8) (n2 := 7) (n3 := 896) b v h q) t =
    ix5 (n0 := 2) (n1 := 8) (n2 := 7) (n3 := 896) (n4 := 896) b v h q t := by
  funext a
  refine Fin.ext ?_
  match a with
  | 0 => rfl
  | 1 => rfl
  | 2 => rfl
  | 3 => rfl
  | 4 => rfl

/-- The rows' largest entries, as a whole array. -/
def rowMax (x : FVec Ideal S2x8x7x896x896 .f32) : FVec Ideal S2x8x7x896 .f32 :=
  Host.reduce FloatOps.maximumf x (constant S_ .f32 0xFF800000#32 : FVec Ideal S_ .f32) reducesTo_S2x8x7x896x896_S2x8x7x896_d4 h_S_

theorem rowMax_at (x : FVec Ideal S2x8x7x896x896 .f32) (b : Fin 2) (v : Fin 8) (h : Fin 7) (q : Fin 896) :
    rowMax x (ix4 b v h q) = (Finset.fold max (Ideal.ofBits .f32 0xFF800000#32) (fun t' => x (ix5 b v h q t')) Finset.univ : EReal) := by
  unfold rowMax
  refine (hostMax_fold x _ _ red_last _ _).trans ?_
  have e : (fun k : Fin 896 => (x (red_last.lift (ix4 (n0 := 2) (n1 := 8) (n2 := 7) (n3 := 896) b v h q) k) : EReal)) = fun t' => x (ix5 b v h q t') :=
    funext fun k => congrArg x (lift_last b v h q k)
  exact congrArg (fun f => Finset.fold max (Ideal.ofBits .f32 0xFF800000#32) f (Finset.univ : Finset (Fin 896))) e

/-- The exponentials of the scores, each against its row's entry of `r`, as whole arrays. -/
def F28 (x : FVec Ideal S2x8x7x896x896 .f32) (r : FVec Ideal S2x8x7x896 .f32) : FVec Ideal S2x8x7x896x896 .f32 :=
  Host.exp (subf x (broadcastInDim S2x8x7x896x896 ![0, 1, 2, 3, 4] bcast_S2x8x7x896x1_S2x8x7x896x896_0_1_2_3_4
    (broadcastInDim S2x8x7x896x1 ![0, 1, 2, 3] bcast_S2x8x7x896_S2x8x7x896x1_0_1_2_3
      (maximumf (broadcastInDim S2x8x7x896 ![] bcast_S_S2x8x7x896 (constant S_ .f32 0xFF800000#32)) r))))

/-- The exponentials, each over its row's sum, as whole arrays. -/
def F32 (e : FVec Ideal S2x8x7x896x896 .f32) : FVec Ideal S2x8x7x896x896 .f32 :=
  Host.divf e (broadcastInDim S2x8x7x896x896 ![0, 1, 2, 3, 4] bcast_S2x8x7x896x1_S2x8x7x896x896_0_1_2_3_4
    (broadcastInDim S2x8x7x896x1 ![0, 1, 2, 3] bcast_S2x8x7x896_S2x8x7x896x1_0_1_2_3
      (Host.reduceAdd e (constant S_ .f32 0x00000000#32 : FVec Ideal S_ .f32) reducesTo_S2x8x7x896x896_S2x8x7x896_d4 h_S_)))

theorem F28_at (x : FVec Ideal S2x8x7x896x896 .f32) (r : FVec Ideal S2x8x7x896 .f32) (b : Fin 2) (v : Fin 8) (h : Fin 7) (q t : Fin 896) :
    F28 x r (ix5 b v h q t) = (Ideal.exp (x (ix5 b v h q t) - max (Ideal.ofBits .f32 0xFF800000#32) (r (ix4 b v h q))) : EReal) := by
  unfold F28
  pointwise

theorem F32_at (x : FVec Ideal S2x8x7x896x896 .f32) (b : Fin 2) (v : Fin 8) (h : Fin 7) (q t : Fin 896) :
    F32 x (ix5 b v h q t) = (Ideal.div (x (ix5 b v h q t)) (∑ t' : Fin 896, x (ix5 b v h q t')) : EReal) := by
  unfold F32
  pointwise

theorem v32 (c : Dev nD) :
    (W4 (F := Ideal) m ρ c (Proc.devRef .tc main_v32) : Vec Ideal S2x8x7x896x896 .f32) =
      F32 (F28 (W3 m ρ c (Proc.devRef .tc main_v21)) (rowMax (W3 m ρ c (Proc.devRef .tc main_v21)))) := by
  after_results_simp
  rfl

/-- Buffers at the calls' exits, at their shapes. -/
abbrev qW (c : Dev nD) : FVec Ideal S2x896x7168 .f32 := W1 (F := Ideal) m ρ c (Proc.devRef .tc main_v0_0)
abbrev kW (c : Dev nD) : FVec Ideal S2x896x1024 .f32 := W1 (F := Ideal) m ρ c (Proc.devRef .tc main_v0_1)
abbrev a3W (c : Dev nD) : FVec Ideal S56 .f32 := W1 (F := Ideal) m ρ c (Proc.devRef .tc main_arg3)
abbrev a4W (c : Dev nD) : FVec Ideal S8 .f32 := W1 (F := Ideal) m ρ c (Proc.devRef .tc main_arg4)
abbrev vW (c : Dev nD) : FVec Ideal S2x8x128x896 .f32 := W5 (F := Ideal) m ρ c (Proc.devRef .tc main_v0_2)
abbrev pW (c : Dev nD) : FVec Ideal S2x8x7x896x896 .f32 := W5 (F := Ideal) m ρ c (Proc.devRef .tc main_v33)
abbrev a5W (c : Dev nD) : FVec Ideal S8 .f32 := W5 (F := Ideal) m ρ c (Proc.devRef .tc main_arg5)
abbrev sW (c : Dev nD) : FVec Ideal S2x8x7x896x896 .f32 := W3 (F := Ideal) m ρ c (Proc.devRef .tc main_v21)
abbrev oW (c : Dev nD) : FVec Ideal S2x896x7168 .bf16 := W6 (F := Ideal) m ρ c (Proc.devRef .tc main_v42)

/-- The masked score at its indices. -/
theorem v21 (c : Dev nD) (b : Fin 2) (v : Fin 8) (h : Fin 7) (q t : Fin 896) :
    sW m ρ c (ix5 b v h q t) =
      (Scalar.select (IntOp.cmpi .sle (BitVec.ofNat 32 t.val) (BitVec.ofNat 32 q.val))
        ((∑ x : Fin 128, kW m ρ c (ix3 b t ⟨v.val * 128 + x.val, by omega⟩) * qW m ρ c (ix3 b q ⟨v.val * 896 + h.val * 128 + x.val, by omega⟩)) *
          (a3W m ρ c (ix1 ⟨v.val * 7 + h.val, by omega⟩) * a4W m ρ c (ix1 v) * Ideal.ofBits .f32 0x3DB504F3#32))
        (Ideal.ofBits .f32 0xFF800000#32) : EReal) := by
  unfold sW
  after_reads_at
  pointwise
  rfl

/-- The result at its indices, from the codes. -/
theorem v42 (c : Dev nD) (b : Fin 2) (q : Fin 896) (x : Fin 7168) :
    oW m ρ c (ix3 b q x) =
      ((∑ t : Fin 896, vW m ρ c (ix4 b ⟨x.val / 896, by omega⟩ ⟨x.val % 128, by omega⟩ t) *
          pW m ρ c (ix5 b ⟨x.val / 896, by omega⟩ ⟨x.val / 128 % 7, by omega⟩ q t)) *
      (a5W m ρ c (ix1 ⟨x.val / 896, by omega⟩) * Ideal.ofBits .f32 0x3B124925#32) : EReal) := by
  unfold oW
  after_reads_at

end Cert.ReferenceIdeal.Val

end
-- ==== Proof.Kern.Spec.lean ====
/- What one grid point computes, as functions of head `h`, query `q` and key `t`: scores scaled to base two and masked
   causally, their maximum over the key blocks up to the query's own, exponentials, sums, probability codes and outputs.
   And the facts about sums and maxima over blocks that reading the tiles needs. -/
module

public import proofs.«01_k».proof.KernelIdeal
public import Idealize.ShloMosaic.Lib.Pointwise

@[expose] public section

noncomputable section

namespace Cert.KernelIdeal.Tile

open Idealize.ShloMosaic

/-- A function of head, query and key. -/
abbrev Fn := ℕ → ℕ → ℕ → EReal
/-- A function of head and query. -/
abbrev Fn2 := ℕ → ℕ → EReal

/-- How many keys the query blocks up to `q`'s hold: the kernel looks no further. -/
def upto (q : ℕ) : ℕ := 128 * (q / 128 + 1)

/-- The scaled, causally masked score. -/
def sc (K X : ℕ → ℕ → EReal) (σ : ℕ → EReal) : Fn := fun h q t =>
  if t ≤ q then (∑ d : Fin 128, K t d * X q (128 * h + d)) * σ h else ⊥
/-- The maximum over the keys. -/
def mx (f : Fn) : Fn2 := fun h q => (Finset.range (upto q)).sup (f h q)
/-- The exponential in base two, shifted by the maximum. -/
def ex (f : Fn) : Fn := fun h q t => Ideal.exp2 (f h q t - mx f h q)
/-- The sum over the keys. -/
def sm (e : Fn) : Fn2 := fun h q => ∑ t ∈ Finset.range (upto q), e h q t
/-- The factor that turns exponentials into codes. -/
def rc (e : Fn) : Fn2 := fun h q => Ideal.div (Ideal.ofBits .f32 0x43E00000#32) (sm e h q)
/-- The code of a probability. -/
def cd (e : Fn) : Fn := fun h q t => min (Ideal.ofBits .f32 0x43E00000#32) (max 0 (e h q t * rc e h q))
/-- The output: the codes against the values, scaled. -/
def out (V : ℕ → ℕ → EReal) (ω : EReal) (p : Fn) : Fn := fun h q d =>
  (∑ t ∈ Finset.range (upto q), V d t * p h q t) * ω

/-- A 128 x 128 block of a two-dimensional array, from row `a` and column `b`. -/
def blk (F : ℕ → ℕ → EReal) (a b : ℕ) : FVec Ideal S1x128x128 .fp8e4m3 := fun j => F (a + (j 1).val) (b + (j 2).val)

theorem upto_block (i x : ℕ) (hx : x < 128) : upto (128 * i + x) = 128 * (i + 1) := by
  unfold upto; rw [Nat.mul_add_div (by omega), Nat.div_eq_of_lt hx, Nat.add_zero]

/-- The literal of minus infinity. -/
theorem ofBits_ninf : Ideal.ofBits .f32 0xFF800000#32 = ⊥ := by simp [Ideal.ofBits, Ideal.ieee]

/-- Comparing small numbers as signed words is comparing them. -/
theorem sle_ofNat (a b : ℕ) (ha : a < 896) (hb : b < 896) :
    IntOp.cmpi .sle (BitVec.ofNat 32 a) (BitVec.ofNat 32 b) = if a ≤ b then 1#1 else 0#1 := by
  have e : ∀ n : ℕ, n < 896 → (BitVec.ofNat 32 n).toInt = n := fun n hn => by
    rw [BitVec.toInt_eq_toNat_of_lt] <;> simp only [BitVec.toNat_ofNat] <;> omega
  simp only [IntOp.cmpi, BitVec.sle, e a ha, e b hb, Nat.cast_le]
  by_cases h : a ≤ b <;> simp [h]

/-- Sixteen rows of eight are the rows of a block. -/
theorem sum_8_16 (g : ℕ → EReal) : ∑ r : Fin 8, ∑ s : Fin 16, g (8 * s.val + r.val) = ∑ t : Fin 128, g t.val := by
  rw [Finset.sum_comm, ← (finProdFinEquiv (m := 16) (n := 8)).sum_comp, Fintype.sum_prod_type]
  refine Finset.sum_congr rfl fun s _ => Finset.sum_congr rfl fun r _ => ?_
  simp [finProdFinEquiv, Nat.add_comm]

/-- A sum over `c` blocks, one block more. -/
theorem sum_block (g : ℕ → EReal) (c : ℕ) :
    ∑ t ∈ Finset.range (128 * (c + 1)), g t = ∑ t ∈ Finset.range (128 * c), g t + ∑ t : Fin 128, g (128 * c + t.val) := by
  rw [Nat.mul_add, Nat.mul_one, Finset.sum_range_add, Finset.sum_range (fun t => g (128 * c + t))]

/-- A sum over `n` numbers as one over a range. -/
theorem sum_fin (g : ℕ → EReal) (n : ℕ) : ∑ t : Fin n, g t.val = ∑ t ∈ Finset.range n, g t :=
  (Finset.sum_range g).symm

end Cert.KernelIdeal.Tile

end
-- ==== Proof.Join.lean ====
/- The softmax with base-two exponentials over the key blocks up to the query's own, and the softmax with natural
   exponentials over every key, give the same codes and the same outputs. The factor 1 / log 2 is positive and real, so it
   passes the maximum and the difference, at infinities too. A masked key adds nothing to a maximum, a sum or an output. -/
module

public import proofs.«01_k».proof.Proof.Kern.Spec

@[expose] public section

noncomputable section

namespace Cert.Proof.Join

open Idealize.ShloMosaic Cert.KernelIdeal.Tile

/-- One over the natural logarithm of two. -/
def lam : EReal := ((Real.log 2)⁻¹ : ℝ)

theorem lam_pos : (0 : ℝ) < (Real.log 2)⁻¹ := inv_pos.2 (Real.log_pos (by norm_num))

theorem bot_mul_lam : (⊥ : EReal) * lam = ⊥ := EReal.bot_mul_coe_of_pos lam_pos
theorem top_mul_lam : (⊤ : EReal) * lam = ⊤ := EReal.top_mul_coe_of_pos lam_pos

theorem sub_mul_lam (a b : EReal) : a * lam - b * lam = (a - b) * lam := by
  induction a with
  | bot => rw [bot_mul_lam, EReal.bot_sub, EReal.bot_sub, bot_mul_lam]
  | top =>
    induction b with
    | bot => rw [bot_mul_lam, top_mul_lam, EReal.top_sub_bot, top_mul_lam]
    | top => rw [top_mul_lam]; show (⊤ : EReal) + -⊤ = (⊤ + -⊤) * lam; rw [EReal.neg_top, EReal.add_bot, bot_mul_lam]
    | coe b => unfold lam; rw [← EReal.coe_mul, EReal.top_sub_coe, ← lam, top_mul_lam, EReal.top_sub_coe]
  | coe a =>
    induction b with
    | bot => unfold lam; rw [← EReal.coe_mul, ← lam, bot_mul_lam, EReal.coe_sub_bot, EReal.coe_sub_bot, top_mul_lam]
    | top => rw [top_mul_lam, EReal.sub_top, EReal.sub_top, bot_mul_lam]
    | coe b => unfold lam; rw [← EReal.coe_mul, ← EReal.coe_mul, ← EReal.coe_sub, ← EReal.coe_sub, ← EReal.coe_mul, sub_mul]

/-- Two to the power of `z / log 2` is `e` to the power of `z`. -/
theorem exp2_lam (z : EReal) : Ideal.exp2 (z * lam) = Ideal.exp z := by
  induction z with
  | bot => rw [bot_mul_lam]; rfl
  | top => rw [top_mul_lam]; rfl
  | coe r =>
    unfold lam
    rw [← EReal.coe_mul]
    show ((Real.rpow 2 (r * (Real.log 2)⁻¹) : ℝ) : EReal) = ((Real.exp r : ℝ) : EReal)
    congr 1
    show (2 : ℝ) ^ (r * (Real.log 2)⁻¹) = _
    have h2 : Real.log 2 ≠ 0 := (Real.log_pos (by norm_num)).ne'
    rw [Real.rpow_def_of_pos (by norm_num)]
    congr 1
    field_simp

theorem mul_lam_mono : Monotone fun x : EReal => x * lam := fun a b h => by
  have h0 : (0 : EReal) ≤ lam := EReal.coe_nonneg.2 lam_pos.le
  exact mul_le_mul_of_nonneg_right h h0

theorem sup_mul_lam (S : Finset ℕ) (f : ℕ → EReal) : (S.sup fun t => f t * lam) = S.sup f * lam := by
  refine (Finset.comp_sup_eq_sup_comp_of_is_total (fun x : EReal => x * lam) mul_lam_mono bot_mul_lam).symm

theorem upto_gt (q : ℕ) : q < upto q := by unfold upto; omega
theorem upto_le (q : ℕ) (h : q < 896) : upto q ≤ 896 := by unfold upto; omega

/-- Beyond the query's own blocks a maximum meets masked keys only. -/
theorem sup_upto (q : ℕ) (hq : q < 896) (f : ℕ → EReal) (h : ∀ t, q < t → f t = ⊥) :
    (Finset.range (upto q)).sup f = (Finset.range 896).sup f := by
  refine le_antisymm (Finset.sup_mono (Finset.range_mono (upto_le q hq))) (Finset.sup_le fun t _ => ?_)
  by_cases ht : q < t
  · rw [h t ht]; exact bot_le
  · exact Finset.le_sup (f := f) (Finset.mem_range.2 (by have := upto_gt q; omega))

/-- Beyond the query's own blocks a sum meets zeros only. -/
theorem sum_upto (q : ℕ) (hq : q < 896) (f : ℕ → EReal) (h : ∀ t, q < t → f t = 0) :
    ∑ t ∈ Finset.range (upto q), f t = ∑ t ∈ Finset.range 896, f t :=
  Finset.sum_subset (Finset.range_mono (upto_le q hq)) fun t _ ht =>
    h t (by have := upto_gt q; have := mt Finset.mem_range.2 ht; omega)

/-- The natural exponential of a score against its row's largest over every key. -/
def en (s : ℕ → EReal) (t : ℕ) : EReal := Ideal.exp (s t - (Finset.range 896).sup s)

theorem exp_nonneg (z : EReal) : 0 ≤ Ideal.exp z := by
  induction z with
  | bot => exact le_refl _
  | top => exact le_top
  | coe r => exact EReal.coe_nonneg.2 (Real.exp_pos r).le

theorem en_bot (s : ℕ → EReal) (t : ℕ) (h : s t = ⊥) : en s t = 0 := by
  unfold en; rw [h, EReal.bot_sub]; rfl

theorem ofBits_448 : Ideal.ofBits .f32 0x43E00000#32 = ((448 : ℝ) : EReal) := by
  simp [Ideal.ofBits, Ideal.ieee]
  show ((14680064 : ℝ) : EReal) * ((((2 : ℝ) ^ 15)⁻¹ : ℝ) : EReal) = ((448 : ℝ) : EReal)
  rw [← EReal.coe_mul]
  norm_num

/-- A probability's code, its quotient first. -/
def cn (s : ℕ → EReal) (t : ℕ) : EReal :=
  min (Ideal.ofBits .f32 0x43E00000#32)
    (max 0 (Ideal.div (en s t) (∑ t' ∈ Finset.range 896, en s t') * Ideal.ofBits .f32 0x43E00000#32))

/-- The scores scaled to base two are the scores times `1 / log 2`. -/
theorem sc_lam (K X : ℕ → ℕ → EReal) (σ σ' : ℕ → EReal) (h : ℕ) (hσ : σ h = σ' h * lam) (q t : ℕ) :
    sc K X σ h q t = sc K X σ' h q t * lam := by
  unfold sc
  by_cases ht : t ≤ q
  · rw [if_pos ht, if_pos ht, hσ, mul_assoc]
  · rw [if_neg ht, if_neg ht, bot_mul_lam]

theorem sc_masked (K X : ℕ → ℕ → EReal) (σ : ℕ → EReal) (h q t : ℕ) (ht : q < t) : sc K X σ h q t = ⊥ :=
  if_neg (by omega)

theorem ex_eq (K X : ℕ → ℕ → EReal) (σ σ' : ℕ → EReal) (h : ℕ) (hσ : σ h = σ' h * lam) (q : ℕ) (hq : q < 896) (t : ℕ) :
    ex (sc K X σ) h q t = en (sc K X σ' h q) t := by
  have e : sc K X σ h q = fun t => sc K X σ' h q t * lam := funext (sc_lam K X σ σ' h hσ q)
  unfold ex mx en
  rw [e, sup_mul_lam, sup_upto q hq _ fun t ht => sc_masked K X σ' h q t ht]
  show Ideal.exp2 (_ * lam - _ * lam) = _
  rw [sub_mul_lam, exp2_lam]

theorem cd_eq (K X : ℕ → ℕ → EReal) (σ σ' : ℕ → EReal) (h : ℕ) (hσ : σ h = σ' h * lam) (q : ℕ) (hq : q < 896) (t : ℕ) (ht : t < 896) :
    cd (ex (sc K X σ)) h q t = cn (sc K X σ' h q) t := by
  have hs : sm (ex (sc K X σ)) h q = ∑ t' ∈ Finset.range 896, en (sc K X σ' h q) t' := by
    unfold sm
    rw [← sum_upto q hq _ fun t ht => en_bot _ t (sc_masked K X σ' h q t ht)]
    exact Finset.sum_congr rfl fun t _ => ex_eq K X σ σ' h hσ q hq t
  unfold cd rc cn
  rw [hs, ex_eq K X σ σ' h hσ q hq t]
  generalize hl : (∑ t' ∈ Finset.range 896, en (sc K X σ' h q) t') = l
  by_cases h0 : l = 0
  · have e0 : en (sc K X σ' h q) t = 0 :=
      (Finset.sum_eq_zero_iff_of_nonneg (fun i _ => exp_nonneg _)).1 (hl.trans h0) t (Finset.mem_range.2 ht)
    rw [e0, zero_mul]
    have : Ideal.div 0 l = ⊥ := by
      unfold Ideal.div
      rw [if_pos h0, if_neg (lt_irrefl _)]
    rw [this, ofBits_448, EReal.bot_mul_coe_of_pos (by norm_num : (0 : ℝ) < 448), max_eq_left (bot_le), max_self]
  · have e1 : ∀ x : EReal, Ideal.div x l = x * l⁻¹ := fun x => by unfold Ideal.div; rw [if_neg h0]
    rw [e1, e1, mul_assoc, mul_comm (l⁻¹) _]

theorem cn_masked (K X : ℕ → ℕ → EReal) (σ : ℕ → EReal) (h q t : ℕ) (ht : q < t) : cn (sc K X σ h q) t = 0 := by
  unfold cn
  rw [en_bot _ t (sc_masked K X σ h q t ht), ofBits_448]
  unfold Ideal.div
  split
  · rw [if_neg (lt_irrefl _), EReal.bot_mul_coe_of_pos (by norm_num : (0 : ℝ) < 448), max_eq_left (bot_le)]
    exact min_eq_right (EReal.coe_nonneg.2 (by norm_num))
  · rw [zero_mul, zero_mul, max_self]
    exact min_eq_right (EReal.coe_nonneg.2 (by norm_num))

/-- The outputs agree. -/
theorem out_eq (K X V : ℕ → ℕ → EReal) (σ σ' : ℕ → EReal) (ω : EReal) (h : ℕ) (hσ : σ h = σ' h * lam) (q : ℕ) (hq : q < 896) (d : ℕ) :
    out V ω (cd (ex (sc K X σ))) h q d = (∑ t ∈ Finset.range 896, V d t * cn (sc K X σ' h q) t) * ω := by
  unfold out
  congr 1
  rw [← sum_upto q hq _ fun t ht => by rw [cn_masked K X σ' h q t ht, mul_zero]]
  refine Finset.sum_congr rfl fun t ht => ?_
  rw [cd_eq K X σ σ' h hσ q hq t ((Finset.mem_range.1 ht).trans_le (upto_le q hq))]

end Cert.Proof.Join

end
-- ==== Proof.Kern.Read.lean ====
/- The blocks one grid point reads, as functions of numbers: its queries, keys and values, and the factors its scores and
   outputs are scaled by. -/
module

public import proofs.«01_k».proof.Proof.Gen.KernelIdeal.Frame.RunA
public import Idealize.ShloMosaic.Lib.Pipeline.ValueKit.Tiles
public import proofs.«01_k».proof.Proof.Kern.Spec

@[expose] public section

set_option maxRecDepth 16384

noncomputable section

namespace Cert.KernelIdeal.Tile

open Cert.KernelIdeal Cert.KernelIdeal.Gen Idealize.ShloMosaic Idealize.ShloMosaic.TcCoe

/-- The query block, by row and column. -/
def Xf (x3 : Vec Ideal S1x896x896 .fp8e4m3) : ℕ → ℕ → EReal := fun a b =>
  if h : a < 896 ∧ b < 896 then x3 (ix3 (n0 := 1) (n1 := 896) (n2 := 896) 0 ⟨a, h.1⟩ ⟨b, h.2⟩) else 0
/-- The key block, by row and column. -/
def Kf (x4 : Vec Ideal S1x896x128 .fp8e4m3) : ℕ → ℕ → EReal := fun a b =>
  if h : a < 896 ∧ b < 128 then x4 (ix3 (n0 := 1) (n1 := 896) (n2 := 128) 0 ⟨a, h.1⟩ ⟨b, h.2⟩) else 0
/-- The value block, transposed, by row and column. -/
def Vf (x5 : Vec Ideal S1x1x128x896 .fp8e4m3) : ℕ → ℕ → EReal := fun a b =>
  if h : a < 128 ∧ b < 896 then x5 (ix4 (n0 := 1) (n1 := 1) (n2 := 128) (n3 := 896) 0 0 ⟨a, h.1⟩ ⟨b, h.2⟩) else 0

theorem readX (arg5 : Memref sig .tc .vmem S1x896x896 .fp8e4m3) (harg5 : arg5.IsWhole) (x3 : Vec Ideal S1x896x896 .fp8e4m3)
    (a b : ℕ) (inb) (h : a + 128 ≤ 896 ∧ b + 128 ≤ 896) :
    View.readAt (Elt Ideal) arg5.view (Rect.unit (s := S1x896x896) ![0, a, b] S1x128x128.size inb).toLoadRect (harg5.unread x3) = blk (Xf x3) a b := by
  rw [View.readAt_eq_ld, harg5.read_unread]
  funext j
  have h1 : (j 1).val < 128 := (j 1).isLt
  have h2 : (j 2).val < 128 := (j 2).isLt
  have h0 : (j 0).val < 1 := (j 0).isLt
  unfold blk Xf
  rw [dif_pos (by omega)]
  refine View.ld_unit_apply_of _ _ _ _ _ _ fun k => ?_
  fin_cases k
  · show (0 : ℕ) = 0 + (j 0).val; omega
  · rfl
  · rfl

theorem readK (arg6 : Memref sig .tc .vmem S1x896x128 .fp8e4m3) (harg6 : arg6.IsWhole) (x4 : Vec Ideal S1x896x128 .fp8e4m3)
    (a : ℕ) (inb) (h : a + 128 ≤ 896) :
    View.readAt (Elt Ideal) arg6.view (Rect.unit (s := S1x896x128) ![0, a, 0] S1x128x128.size inb).toLoadRect (harg6.unread x4) = blk (Kf x4) a 0 := by
  rw [View.readAt_eq_ld, harg6.read_unread]
  funext j
  have h1 : (j 1).val < 128 := (j 1).isLt
  have h2 : (j 2).val < 128 := (j 2).isLt
  have h0 : (j 0).val < 1 := (j 0).isLt
  unfold blk Kf
  rw [dif_pos (by omega)]
  refine View.ld_unit_apply_of _ _ _ _ _ _ fun k => ?_
  fin_cases k
  · show (0 : ℕ) = 0 + (j 0).val; omega
  · rfl
  · rfl

theorem readV (n : ℕ) (arg7 : Memref sig .tc .vmem S1x1x128x896 .fp8e4m3) (harg7 : arg7.IsWhole) (x5 : Vec Ideal S1x1x128x896 .fp8e4m3)
    (inb) (h : n ≤ 896) :
    View.readAt (Elt Ideal) arg7.view (Rect.unit (s := S1x1x128x896) ![0, 0, 0, 0] ![1, 1, 128, n] inb).toLoadRect (harg7.unread x5) =
      fun j => Vf x5 (j 2).val (j 3).val := by
  rw [View.readAt_eq_ld, harg7.read_unread]
  funext j
  have h3 : (j 3).val < n := (j 3).isLt
  have h2 : (j 2).val < 128 := (j 2).isLt
  have h1 : (j 1).val < 1 := (j 1).isLt
  have h0 : (j 0).val < 1 := (j 0).isLt
  unfold Vf
  rw [dif_pos (by omega)]
  refine View.ld_unit_apply_of _ _ _ _ _ _ fun k => ?_
  fin_cases k
  · show (0 : ℕ) = 0 + (j 0).val; omega
  · show (0 : ℕ) = 0 + (j 1).val; omega
  · show (j 2).val = 0 + (j 2).val; omega
  · show (j 3).val = 0 + (j 3).val; omega

/-- The factor of a head's scores: its query and key scales, the head size's, and the base change. -/
def sg (i : grid0.Coords) (x0 : Vec Ideal S56 .f32) (x1 : Vec Ideal S8 .f32) : ℕ → EReal := fun h =>
  if hh : 7 * (i 1).val + h < 56 then
    x0 (ix1 (n0 := 56) ⟨7 * (i 1).val + h, hh⟩) * x1 (ix1 (n0 := 8) ⟨(i 1).val, (i 1).isLt⟩) * Ideal.ofBits .f32 0x3DB504F3#32
      * (((Real.log 2)⁻¹ : ℝ) : EReal)
  else 0
/-- The factor of the outputs. -/
def om (i : grid0.Coords) (x2 : Vec Ideal S8 .f32) : EReal :=
  x2 (ix1 (n0 := 8) ⟨(i 1).val, (i 1).isLt⟩) * Ideal.ofBits .f32 0x3B124925#32

theorem off1_eq (i : grid0.Coords) (k : Fin 1) : k0_off1 i k = (i 1).val := by
  have h1 : (i 1).val < 8 := (i 1).isLt
  fin_cases k
  simp [k0_off1, Scalar.indexCast]
  try omega

theorem off2_eq (i : grid0.Coords) (h : ℕ) (hh : h < 7) (k : Fin 1) : k0_off2 i (BitVec.ofNat 32 h) k = 7 * (i 1).val + h := by
  have h1 : (i 1).val < 8 := (i 1).isLt
  fin_cases k
  simp [k0_off2, Scalar.indexCast, Scalar.muli, Scalar.addi, IntOp.addi, IntOp.muli]
  omega

theorem readS8 (arg : Memref sig .tc .smem S8 .f32) (harg : arg.IsWhole) (x : Vec Ideal S8 .f32) (i : grid0.Coords) (inb) (hn) :
    View.readAt (Elt Ideal) arg.view (Rect.unit (s := S8) (k0_off1 i) S1.size inb).toLoadRect (harg.unread x) (Shape.Idx.first hn)
      = x (ix1 (n0 := 8) ⟨(i 1).val, (i 1).isLt⟩) := by
  rw [View.readAt_eq_ld, harg.read_unread]
  refine View.ld_unit_apply_of _ _ _ _ _ _ fun k => ?_
  rw [off1_eq]
  fin_cases k
  show (i 1).val = (i 1).val + 0
  rfl

theorem readS56 (arg : Memref sig .tc .smem S56 .f32) (harg : arg.IsWhole) (x : Vec Ideal S56 .f32) (i : grid0.Coords) (h : ℕ) (hh : h < 7) (inb) (hn)
    (hb : 7 * (i 1).val + h < 56) :
    View.readAt (Elt Ideal) arg.view (Rect.unit (s := S56) (k0_off2 i (BitVec.ofNat 32 h)) S1.size inb).toLoadRect (harg.unread x) (Shape.Idx.first hn)
      = x (ix1 (n0 := 56) ⟨7 * (i 1).val + h, hb⟩) := by
  rw [View.readAt_eq_ld, harg.read_unread]
  refine View.ld_unit_apply_of _ _ _ _ _ _ fun k => ?_
  rw [off2_eq i h hh]
  fin_cases k
  show 7 * (i 1).val + h = 7 * (i 1).val + h + 0
  rfl

/-- A score factor as the kernel computes it from the two scales it read. -/
theorem sg_eq (i : grid0.Coords) (x0 : Vec Ideal S56 .f32) (x1 : Vec Ideal S8 .f32) (h : ℕ) (hb : 7 * (i 1).val + h < 56) (a b : EReal)
    (ha : a = x0 (ix1 (n0 := 56) ⟨7 * (i 1).val + h, hb⟩)) (hb' : b = x1 (ix1 (n0 := 8) ⟨(i 1).val, (i 1).isLt⟩)) :
    k0_pay4 (F := Ideal) a b = sg i x0 x1 h := by
  subst ha hb'
  unfold sg
  rw [dif_pos hb]
  unfold k0_pay4
  rw [IdealRules.named_const.ideal_named_scalar _ _ _ _ rfl]
  rfl

end Cert.KernelIdeal.Tile

end
-- ==== Proof.Kern.Tile256.lean ====
/- One tile of two heads: what the kernel computes for 128 keys against 128 queries of each of two heads, read as
   functions of (head, query, key). -/
module

public import proofs.«01_k».proof.Proof.Gen.KernelIdeal.Skeleton
public import proofs.«01_k».proof.Proof.Kern.Spec

@[expose] public section

set_option maxRecDepth 16384

noncomputable section

namespace Cert.KernelIdeal.Tile

open Cert.KernelIdeal Cert.KernelIdeal.Gen Idealize.ShloMosaic Idealize.ShloMosaic.TcCoe

/-- The tile of `f` at query block `i`, key block `c` and heads `h`, `h + 1`. -/
def T256 {φ : FTy} (f : Fn) (i c h : ℕ) : FVec Ideal S128x256 φ := fun j =>
  f (h + (j 1).val / 128) (128 * i + (j 1).val % 128) (128 * c + (j 0).val)
/-- The same, as the buffers hold it. -/
def B256 {φ : FTy} (f : Fn) (i c h : ℕ) : FVec Ideal S1x128x256 φ := fun j =>
  f (h + (j 2).val / 128) (128 * i + (j 2).val % 128) (128 * c + (j 1).val)
/-- The row of `g` at query block `i`. -/
def R256 (g : Fn2) (i h : ℕ) : FVec Ideal S1x256 .f32 := fun j => g (h + (j 1).val / 128) (128 * i + (j 1).val % 128)

theorem store256 {φ : FTy} (f : Fn) (i c h : ℕ) (hh : S128x256.ShapeCasts S1x128x256) :
    shapeCast S1x128x256 (T256 (φ := φ) f i c h) hh = B256 f i c h := by
  funext j
  pointwise [T256, B256]

/-! ## Scores -/

/-- The product of a key block with two heads' query blocks, the second operand transposed. -/
def prod256 (kb qa qb : FVec Ideal S1x128x128 .fp8e4m3) : FVec Ideal S128x256 .f32 :=
  matmul (F := Ideal) dot_S128x128_S256x128_S128x256_1_1_0_0_n_n none (shapeCast S128x128 kb shapeCasts_S1x128x128_S128x128)
    (concatenate S256x128 0 [⟨S128x128, shapeCast S128x128 qa shapeCasts_S1x128x128_S128x128⟩, ⟨S128x128, shapeCast S128x128 qb shapeCasts_S1x128x128_S128x128⟩] concatenates_S128x128_S128x128_S256x128_d0)
    (constant S128x256 .f32 0x00000000#32)
/-- A score tile below the diagonal. -/
def scoreN256 (kb qa qb : FVec Ideal S1x128x128 .fp8e4m3) (s1 s2 : EReal) : FVec Ideal S128x256 .f32 :=
  concatenate S128x256 1
    [⟨S128x128, mulf (F := Ideal) (φ := .f32) (extractStridedSlice S128x128 ![0, 0] (prod256 kb qa qb) slices_S128x256_o0_0_S128x128) (broadcast S128x128 s1)⟩,
     ⟨S128x128, mulf (F := Ideal) (φ := .f32) (extractStridedSlice S128x128 ![0, 128] (prod256 kb qa qb) slices_S128x256_o0_128_S128x128) (broadcast S128x128 s2)⟩] concatenates_S128x128_S128x128_S128x256_d1
/-- A score tile on the diagonal: the causal bias is added. -/
def scoreD256 (kb qa qb : FVec Ideal S1x128x128 .fp8e4m3) (s1 s2 : EReal) : FVec Ideal S128x256 .f32 :=
  concatenate S128x256 1
    [⟨S128x128, addf (F := Ideal) (φ := .f32) (mulf (F := Ideal) (φ := .f32) (extractStridedSlice S128x128 ![0, 0] (prod256 kb qa qb) slices_S128x256_o0_0_S128x128) (broadcast S128x128 s1)) k0_pay11⟩,
     ⟨S128x128, addf (F := Ideal) (φ := .f32) (mulf (F := Ideal) (φ := .f32) (extractStridedSlice S128x128 ![0, 128] (prod256 kb qa qb) slices_S128x256_o0_128_S128x128) (broadcast S128x128 s2)) k0_pay11⟩] concatenates_S128x128_S128x128_S128x256_d1

theorem scoreN256_eq (K X : ℕ → ℕ → EReal) (σ : ℕ → EReal) (i c h : ℕ) (hc : c < i) :
    scoreN256 (blk K (128 * c) 0) (blk X (128 * i) (128 * h)) (blk X (128 * i) (128 * (h + 1))) (σ h) (σ (h + 1))
      = T256 (sc K X σ) i c h := by
  funext j
  pointwise [scoreN256, prod256, T256, sc, blk]
  have h0 : (j 0).val < 128 := (j 0).isLt
  have h1 : (j 1).val < 256 := (j 1).isLt
  by_cases hj : (j 1).val < 128
  · simp only [hj, dif_pos, Nat.div_eq_of_lt hj, Nat.mod_eq_of_lt hj, Nat.add_zero]
    rw [if_pos (by omega)]
  · have e1 : (j 1).val / 128 = 1 := by omega
    have e2 : (j 1).val % 128 = (j 1).val - 128 := by omega
    simp only [hj, dif_neg, not_false_eq_true, e1, e2]
    rw [if_pos (by omega)]

theorem scoreD256_eq (K X : ℕ → ℕ → EReal) (σ : ℕ → EReal) (i h : ℕ) :
    scoreD256 (blk K (128 * i) 0) (blk X (128 * i) (128 * h)) (blk X (128 * i) (128 * (h + 1))) (σ h) (σ (h + 1))
      = T256 (sc K X σ) i i h := by
  funext j
  have h0 : (j 0).val < 128 := (j 0).isLt
  have h1 : (j 1).val < 256 := (j 1).isLt
  pointwise [scoreD256, prod256, T256, sc, blk, k0_pay11]
  by_cases hj : (j 1).val < 128
  · simp only [hj, dif_pos, Nat.div_eq_of_lt hj, Nat.mod_eq_of_lt hj, Nat.add_zero]
    rw [sle_ofNat _ _ (by omega) (by omega), ofBits_ninf]
    by_cases hq : (j 0).val ≤ (j 1).val
    · rw [if_pos hq, if_pos (by omega)]; simp [Scalar.select]
    · rw [if_neg hq, if_neg (by omega)]; simp [Scalar.select]
  · have e1 : (j 1).val / 128 = 1 := by omega
    have e2 : (j 1).val % 128 = (j 1).val - 128 := by omega
    simp only [hj, dif_neg, not_false_eq_true, e1, e2]
    rw [sle_ofNat _ _ (by omega) (by omega), ofBits_ninf]
    by_cases hq : (j 0).val ≤ (j 1).val - 128
    · rw [if_pos hq, if_pos (by omega)]; simp [Scalar.select]
    · rw [if_neg hq, if_neg (by omega)]; simp [Scalar.select]

/-! ## Row maxima -/

/-- A tile folded to eight rows by the maximum, as a tree. -/
def fmax256 (x : FVec Ideal S128x256 .f32) : FVec Ideal S8x256 .f32 :=
  (maximumf (F := Ideal) (φ := .f32) (maximumf (F := Ideal) (φ := .f32) (maximumf (F := Ideal) (φ := .f32) (maximumf (F := Ideal) (φ := .f32) (extractStridedSlice S8x256 ![0, 0] x slices_S128x256_o0_0_S8x256)
    (extractStridedSlice S8x256 ![8, 0] x slices_S128x256_o8_0_S8x256))
    (maximumf (F := Ideal) (φ := .f32) (extractStridedSlice S8x256 ![16, 0] x slices_S128x256_o16_0_S8x256)
    (extractStridedSlice S8x256 ![24, 0] x slices_S128x256_o24_0_S8x256)))
    (maximumf (F := Ideal) (φ := .f32) (maximumf (F := Ideal) (φ := .f32) (extractStridedSlice S8x256 ![32, 0] x slices_S128x256_o32_0_S8x256)
    (extractStridedSlice S8x256 ![40, 0] x slices_S128x256_o40_0_S8x256))
    (maximumf (F := Ideal) (φ := .f32) (extractStridedSlice S8x256 ![48, 0] x slices_S128x256_o48_0_S8x256)
    (extractStridedSlice S8x256 ![56, 0] x slices_S128x256_o56_0_S8x256))))
    (maximumf (F := Ideal) (φ := .f32) (maximumf (F := Ideal) (φ := .f32) (maximumf (F := Ideal) (φ := .f32) (extractStridedSlice S8x256 ![64, 0] x slices_S128x256_o64_0_S8x256)
    (extractStridedSlice S8x256 ![72, 0] x slices_S128x256_o72_0_S8x256))
    (maximumf (F := Ideal) (φ := .f32) (extractStridedSlice S8x256 ![80, 0] x slices_S128x256_o80_0_S8x256)
    (extractStridedSlice S8x256 ![88, 0] x slices_S128x256_o88_0_S8x256)))
    (maximumf (F := Ideal) (φ := .f32) (maximumf (F := Ideal) (φ := .f32) (extractStridedSlice S8x256 ![96, 0] x slices_S128x256_o96_0_S8x256)
    (extractStridedSlice S8x256 ![104, 0] x slices_S128x256_o104_0_S8x256))
    (maximumf (F := Ideal) (φ := .f32) (extractStridedSlice S8x256 ![112, 0] x slices_S128x256_o112_0_S8x256)
    (extractStridedSlice S8x256 ![120, 0] x slices_S128x256_o120_0_S8x256)))))
/-- The tiles' folds, joined one after the other. -/
def amax256 (a : FVec Ideal S8x256 .f32) : List (FVec Ideal S128x256 .f32) → FVec Ideal S8x256 .f32
  | [] => a
  | x :: l => amax256 (maximumf (F := Ideal) (φ := .f32) a (fmax256 x)) l
/-- The row of maxima of eight rows. -/
def vmax256 (a : FVec Ideal S8x256 .f32) : FVec Ideal S1x256 .f32 :=
  shapeCast S1x256 (multiReduction (F := Ideal) .maximumf [0] S256 a 0xFF800000#32 reduces_S8x256_S256 (.inl rfl) rfl) shapeCasts_S256_S1x256
/-- The row of maxima of the tiles. -/
def rmax256 (x : FVec Ideal S128x256 .f32) (l : List (FVec Ideal S128x256 .f32)) : FVec Ideal S1x256 .f32 := vmax256 (amax256 (fmax256 x) l)

theorem vmax256_apply (a : FVec Ideal S8x256 .f32) (l : Fin 256) :
    vmax256 a (ix2 0 l) = (Finset.univ : Finset (Fin 8)).fold max (Ideal.ofBits .f32 0xFF800000#32) fun r => a (ix2 r l) := by
  pointwise [vmax256]

theorem vmax256_le (a : FVec Ideal S8x256 .f32) (l : Fin 256) (b : EReal) :
    vmax256 a (ix2 0 l) ≤ b ↔ ∀ r : Fin 8, a (ix2 r l) ≤ b := by
  rw [vmax256_apply, ofBits_ninf]
  exact (Finset.fold_max_le (β := EReal) b).trans ⟨fun hh r => hh.2 r (Finset.mem_univ _), fun hh => ⟨bot_le, fun r _ => hh r⟩⟩

theorem fmax256_le (x : FVec Ideal S128x256 .f32) (r : Fin 8) (l : Fin 256) (b : EReal) :
    fmax256 x (ix2 r l) ≤ b ↔ ∀ s : Fin 16, x (ix2 (n0 := 128) ⟨8 * s.val + r.val, by omega⟩ l) ≤ b := by
  pointwise [fmax256]
  simp only [max_le_iff, Fin.forall_fin_succ, Fin.forall_fin_zero_pi]
  simp [and_assoc, Nat.add_comm]

theorem amax256_le (f : Fn) (i h : ℕ) (r : Fin 8) (l : Fin 256) (b : EReal) (n c : ℕ) (a : FVec Ideal S8x256 .f32) :
    amax256 a ((List.range' c n).map (T256 f i · h)) (ix2 r l) ≤ b ↔
      a (ix2 r l) ≤ b ∧ ∀ k, c ≤ k → k < c + n → ∀ s : Fin 16, f (h + l.val / 128) (128 * i + l.val % 128) (128 * k + (8 * s.val + r.val)) ≤ b := by
  induction n generalizing c a with
  | zero => exact ⟨fun hh => ⟨hh, fun k h1 h2 => by omega⟩, fun hh => hh.1⟩
  | succ n ih =>
    rw [List.range'_succ, List.map_cons, amax256, ih]
    have e : maximumf (F := Ideal) (φ := .f32) a (fmax256 (T256 f i c h)) (ix2 r l) = max (a (ix2 r l)) (fmax256 (T256 f i c h) (ix2 r l)) := rfl
    rw [e, max_le_iff, fmax256_le]
    constructor
    · rintro ⟨⟨h1, h2⟩, h3⟩
      refine ⟨h1, fun k hk1 hk2 s => ?_⟩
      rcases Nat.eq_or_lt_of_le hk1 with rfl | hlt
      · exact h2 s
      · exact h3 k (by omega) (by omega) s
    · rintro ⟨h1, h2⟩
      exact ⟨⟨h1, fun s => h2 c le_rfl (by omega) s⟩, fun k hk1 hk2 s => h2 k (by omega) (by omega) s⟩

/-- The row the kernel shifts by holds the maxima. -/
theorem rmax256_eq (f : Fn) (i h : ℕ) :
    rmax256 (T256 f i 0 h) ((List.range' 1 i).map (T256 f i · h)) = R256 (mx f) i h := by
  funext j
  obtain ⟨z, l, rfl⟩ : ∃ (z : Fin 1) (l : Fin 256), j = ix2 z l := ⟨j 0, j 1, eq_ix2 j⟩
  obtain rfl : z = 0 := Subsingleton.elim _ _
  have hl := l.isLt
  refine eq_of_forall_ge_iff (α := EReal) fun b => (vmax256_le _ _ _).trans ?_
  have hR : R256 (mx f) i h (ix2 0 l) = (Finset.range (128 * (i + 1))).sup (f (h + l.val / 128) (128 * i + l.val % 128)) := by
    rw [← upto_block i (l.val % 128) (by omega)]; rfl
  rw [hR]
  refine Iff.trans ?_ (Finset.sup_le_iff (α := EReal)).symm
  constructor
  · intro hh t ht
    have ht := Finset.mem_range.mp ht
    obtain ⟨h1, h2⟩ := (amax256_le f i h _ _ _ _ _ _).mp (hh ⟨t % 8, by omega⟩)
    have h1 := (fmax256_le _ _ _ _).mp h1
    have e : t = 128 * (t / 128) + (8 * (t % 128 / 8) + t % 8) := by omega
    rcases Nat.eq_zero_or_pos (t / 128) with h0 | h0
    · have h3 := h1 ⟨t % 128 / 8, by omega⟩
      rw [e, h0]; exact h3
    · have h3 := h2 (t / 128) h0 (by omega) ⟨t % 128 / 8, by omega⟩
      rw [e]; exact h3
  · intro hh r
    have hr := r.isLt
    exact (amax256_le f i h _ _ _ _ _ _).mpr ⟨(fmax256_le _ _ _ _).mpr fun s => hh _ (Finset.mem_range.mpr (by have := s.isLt; show 128 * 0 + (8 * s.val + r.val) < _; omega)),
      fun k h1 h2 s => hh _ (Finset.mem_range.mpr (by have := s.isLt; omega))⟩

/-! ## Exponentials -/

/-- The exponentials of a score tile, shifted by the row of maxima. -/
def expT256 (s : FVec Ideal S1x128x256 .f32) (m : FVec Ideal S1x256 .f32) : FVec Ideal S128x256 .f32 :=
  exp2 (F := Ideal) (φ := .f32) (subf (F := Ideal) (φ := .f32) (shapeCast S128x256 s shapeCasts_S1x128x256_S128x256) (broadcastTo S128x256 m broadcasts_S1x256_S128x256))

theorem expT256_eq (f : Fn) (i c h : ℕ) : expT256 (B256 f i c h) (R256 (mx f) i h) = T256 (ex f) i c h := by
  funext j
  pointwise [expT256, B256, R256, T256, ex]
  rfl

/-! ## Row sums -/

/-- A tile folded to eight rows by addition, as a tree. -/
def fsum256 (x : FVec Ideal S128x256 .f32) : FVec Ideal S8x256 .f32 :=
  (addf (F := Ideal) (φ := .f32) (addf (F := Ideal) (φ := .f32) (addf (F := Ideal) (φ := .f32) (addf (F := Ideal) (φ := .f32) (extractStridedSlice S8x256 ![0, 0] x slices_S128x256_o0_0_S8x256)
    (extractStridedSlice S8x256 ![8, 0] x slices_S128x256_o8_0_S8x256))
    (addf (F := Ideal) (φ := .f32) (extractStridedSlice S8x256 ![16, 0] x slices_S128x256_o16_0_S8x256)
    (extractStridedSlice S8x256 ![24, 0] x slices_S128x256_o24_0_S8x256)))
    (addf (F := Ideal) (φ := .f32) (addf (F := Ideal) (φ := .f32) (extractStridedSlice S8x256 ![32, 0] x slices_S128x256_o32_0_S8x256)
    (extractStridedSlice S8x256 ![40, 0] x slices_S128x256_o40_0_S8x256))
    (addf (F := Ideal) (φ := .f32) (extractStridedSlice S8x256 ![48, 0] x slices_S128x256_o48_0_S8x256)
    (extractStridedSlice S8x256 ![56, 0] x slices_S128x256_o56_0_S8x256))))
    (addf (F := Ideal) (φ := .f32) (addf (F := Ideal) (φ := .f32) (addf (F := Ideal) (φ := .f32) (extractStridedSlice S8x256 ![64, 0] x slices_S128x256_o64_0_S8x256)
    (extractStridedSlice S8x256 ![72, 0] x slices_S128x256_o72_0_S8x256))
    (addf (F := Ideal) (φ := .f32) (extractStridedSlice S8x256 ![80, 0] x slices_S128x256_o80_0_S8x256)
    (extractStridedSlice S8x256 ![88, 0] x slices_S128x256_o88_0_S8x256)))
    (addf (F := Ideal) (φ := .f32) (addf (F := Ideal) (φ := .f32) (extractStridedSlice S8x256 ![96, 0] x slices_S128x256_o96_0_S8x256)
    (extractStridedSlice S8x256 ![104, 0] x slices_S128x256_o104_0_S8x256))
    (addf (F := Ideal) (φ := .f32) (extractStridedSlice S8x256 ![112, 0] x slices_S128x256_o112_0_S8x256)
    (extractStridedSlice S8x256 ![120, 0] x slices_S128x256_o120_0_S8x256)))))
/-- The tiles' folds, added one after the other. -/
def asum256 (a : FVec Ideal S8x256 .f32) : List (FVec Ideal S128x256 .f32) → FVec Ideal S8x256 .f32
  | [] => a
  | x :: l => asum256 (addf (F := Ideal) (φ := .f32) a (fsum256 x)) l
/-- 448 over the row of sums of eight rows. -/
def vdiv256 (a : FVec Ideal S8x256 .f32) : FVec Ideal S1x256 .f32 :=
  divf (F := Ideal) (φ := .f32) (broadcast S1x256 (Scalar.ofBits (F := Ideal) .f32 0x43E00000#32))
    (shapeCast S1x256 (multiReduction (F := Ideal) .add [0] S256 a 0x00000000#32 reduces_S8x256_S256 (.inl rfl) rfl) shapeCasts_S256_S1x256)

/-- 448 over the row of sums of the tiles. -/
def rdiv256 (x : FVec Ideal S128x256 .f32) (l : List (FVec Ideal S128x256 .f32)) : FVec Ideal S1x256 .f32 := vdiv256 (asum256 (fsum256 x) l)

theorem vdiv256_apply (a : FVec Ideal S8x256 .f32) (l : Fin 256) :
    vdiv256 a (ix2 0 l) = Ideal.div (Ideal.ofBits .f32 0x43E00000#32) (∑ r : Fin 8, a (ix2 r l)) := by
  pointwise [vdiv256]

theorem fsum256_eq (x : FVec Ideal S128x256 .f32) (r : Fin 8) (l : Fin 256) :
    fsum256 x (ix2 r l) = ∑ s : Fin 16, x (ix2 (n0 := 128) ⟨8 * s.val + r.val, by omega⟩ l) := by
  pointwise [fsum256]
  simp only [Fin.sum_univ_succ, Fin.sum_univ_zero]
  simp [Nat.add_comm]
  abel

theorem asum256_eq (f : Fn) (i h : ℕ) (l : Fin 256) (n c : ℕ) (a : FVec Ideal S8x256 .f32)
    (ha : ∑ r : Fin 8, a (ix2 r l) = ∑ t ∈ Finset.range (128 * c), f (h + l.val / 128) (128 * i + l.val % 128) t) :
    ∑ r : Fin 8, asum256 a ((List.range' c n).map (T256 f i · h)) (ix2 r l)
      = ∑ t ∈ Finset.range (128 * (c + n)), f (h + l.val / 128) (128 * i + l.val % 128) t := by
  induction n generalizing c a with
  | zero => exact ha
  | succ n ih =>
    rw [List.range'_succ, List.map_cons, asum256]
    have e : ∀ r, addf (F := Ideal) (φ := .f32) a (fsum256 (T256 f i c h)) (ix2 r l) = a (ix2 r l) + fsum256 (T256 f i c h) (ix2 r l) := fun _ => rfl
    have := ih (c + 1) (addf (F := Ideal) (φ := .f32) a (fsum256 (T256 f i c h))) (by
      simp only [e]
      rw [Finset.sum_add_distrib, ha, sum_block]
      congr 1
      simp only [fsum256_eq]
      exact sum_8_16 fun t => f (h + l.val / 128) (128 * i + l.val % 128) (128 * c + t))
    rw [this]; congr 2; ring

theorem rdiv256_eq (f : Fn) (i h : ℕ) :
    rdiv256 (T256 f i 0 h) ((List.range' 1 i).map (T256 f i · h)) = R256 (rc f) i h := by
  funext j
  obtain ⟨z, l, rfl⟩ : ∃ (z : Fin 1) (l : Fin 256), j = ix2 z l := ⟨j 0, j 1, eq_ix2 j⟩
  obtain rfl : z = 0 := Subsingleton.elim _ _
  have hl := l.isLt
  refine (vdiv256_apply _ _).trans ?_
  rw [asum256_eq f i h l i 1]
  · have hR : R256 (rc f) i h (ix2 0 l) = Ideal.div (Ideal.ofBits .f32 0x43E00000#32) (∑ t ∈ Finset.range (128 * (i + 1)), f (h + l.val / 128) (128 * i + l.val % 128) t) := by
      rw [← upto_block i (l.val % 128) (by omega)]; rfl
    rw [hR, Nat.add_comm 1 i]
  · simp only [fsum256_eq]
    rw [Finset.sum_range]
    refine Eq.trans ?_ (sum_8_16 fun t => f (h + l.val / 128) (128 * i + l.val % 128) t)
    refine Finset.sum_congr rfl fun r _ => Finset.sum_congr rfl fun s _ => ?_
    show f (h + l.val / 128) (128 * i + l.val % 128) (128 * 0 + (8 * s.val + r.val)) = _
    rw [Nat.mul_zero, Nat.zero_add]

/-! ## Codes -/

/-- The codes of a tile of exponentials. -/
def code256 (s : FVec Ideal S1x128x256 .f32) (r : FVec Ideal S1x256 .f32) : FVec Ideal S128x256 .fp8e4m3 :=
  truncf (F := Ideal) .fp8e4m3 (minimumf (F := Ideal) (φ := .f32) (broadcast S128x256 (Scalar.ofBits (F := Ideal) .f32 0x43E00000#32))
    (maximumf (F := Ideal) (φ := .f32) (broadcast S128x256 (Scalar.ofBits (F := Ideal) .f32 0x00000000#32))
      (mulf (F := Ideal) (φ := .f32) (shapeCast S128x256 s shapeCasts_S1x128x256_S128x256) (broadcastTo S128x256 r broadcasts_S1x256_S128x256)))) bitsLt_fp8e4m3_f32

theorem code256_eq (f : Fn) (i c h : ℕ) : code256 (B256 f i c h) (R256 (rc f) i h) = T256 (cd f) i c h := by
  funext j
  pointwise [code256, B256, R256, T256, cd]

end Cert.KernelIdeal.Tile

end
-- ==== Proof.Kern.Tile128.lean ====
/- One tile of a single head: what the kernel computes for 128 keys against 128 queries of one head, read as
   functions of (head, query, key). -/
module

public import proofs.«01_k».proof.Proof.Gen.KernelIdeal.Skeleton
public import proofs.«01_k».proof.Proof.Kern.Spec

@[expose] public section

set_option maxRecDepth 16384

noncomputable section

namespace Cert.KernelIdeal.Tile

open Cert.KernelIdeal Cert.KernelIdeal.Gen Idealize.ShloMosaic Idealize.ShloMosaic.TcCoe

/-- The tile of `f` at query block `i`, key block `c` and head `h`. -/
def T128 {φ : FTy} (f : Fn) (i c h : ℕ) : FVec Ideal S128x128 φ := fun j =>
  f h (128 * i + (j 1).val) (128 * c + (j 0).val)
/-- The same, as the buffers hold it. -/
def B128 {φ : FTy} (f : Fn) (i c h : ℕ) : FVec Ideal S1x128x128 φ := fun j =>
  f h (128 * i + (j 2).val) (128 * c + (j 1).val)
/-- The row of `g` at query block `i`. -/
def R128 (g : Fn2) (i h : ℕ) : FVec Ideal S1x128 .f32 := fun j => g h (128 * i + (j 1).val)

theorem store128 {φ : FTy} (f : Fn) (i c h : ℕ) (hh : S128x128.ShapeCasts S1x128x128) :
    shapeCast S1x128x128 (T128 (φ := φ) f i c h) hh = B128 f i c h := by
  funext j
  pointwise [T128, B128]

/-! ## Scores -/

/-- A score tile below the diagonal. -/
def scoreN128 (kb qa : FVec Ideal S1x128x128 .fp8e4m3) (s1 : EReal) : FVec Ideal S128x128 .f32 :=
  mulf (F := Ideal) (φ := .f32) (matmul (F := Ideal) dot_S128x128_S128x128_S128x128_1_1_0_0_n_n none (shapeCast S128x128 kb shapeCasts_S1x128x128_S128x128)
    (shapeCast S128x128 qa shapeCasts_S1x128x128_S128x128) (constant S128x128 .f32 0x00000000#32)) (broadcast S128x128 s1)
/-- A score tile on the diagonal: the causal bias is added. -/
def scoreD128 (kb qa : FVec Ideal S1x128x128 .fp8e4m3) (s1 : EReal) : FVec Ideal S128x128 .f32 :=
  addf (F := Ideal) (φ := .f32) (scoreN128 kb qa s1) k0_pay11

theorem scoreN128_eq (K X : ℕ → ℕ → EReal) (σ : ℕ → EReal) (i c h : ℕ) (hc : c < i) :
    scoreN128 (blk K (128 * c) 0) (blk X (128 * i) (128 * h)) (σ h) = T128 (sc K X σ) i c h := by
  funext j
  have h0 : (j 0).val < 128 := (j 0).isLt
  pointwise [scoreN128, T128, sc, blk]
  rw [if_pos (by omega)]

theorem scoreD128_eq (K X : ℕ → ℕ → EReal) (σ : ℕ → EReal) (i h : ℕ) :
    scoreD128 (blk K (128 * i) 0) (blk X (128 * i) (128 * h)) (σ h) = T128 (sc K X σ) i i h := by
  funext j
  have h0 : (j 0).val < 128 := (j 0).isLt
  have h1 : (j 1).val < 128 := (j 1).isLt
  pointwise [scoreD128, scoreN128, T128, sc, blk, k0_pay11]
  rw [sle_ofNat _ _ (by omega) (by omega), ofBits_ninf]
  by_cases hq : (j 0).val ≤ (j 1).val
  · rw [if_pos hq, if_pos (by omega)]; simp [Scalar.select]
  · rw [if_neg hq, if_neg (by omega)]; simp [Scalar.select]

/-! ## Row maxima -/

/-- A tile folded to eight rows by the maximum, as a tree. -/
def fmax128 (x : FVec Ideal S128x128 .f32) : FVec Ideal S8x128 .f32 :=
  (maximumf (F := Ideal) (φ := .f32) (maximumf (F := Ideal) (φ := .f32) (maximumf (F := Ideal) (φ := .f32) (maximumf (F := Ideal) (φ := .f32) (extractStridedSlice S8x128 ![0, 0] x slices_S128x128_o0_0_S8x128)
    (extractStridedSlice S8x128 ![8, 0] x slices_S128x128_o8_0_S8x128))
    (maximumf (F := Ideal) (φ := .f32) (extractStridedSlice S8x128 ![16, 0] x slices_S128x128_o16_0_S8x128)
    (extractStridedSlice S8x128 ![24, 0] x slices_S128x128_o24_0_S8x128)))
    (maximumf (F := Ideal) (φ := .f32) (maximumf (F := Ideal) (φ := .f32) (extractStridedSlice S8x128 ![32, 0] x slices_S128x128_o32_0_S8x128)
    (extractStridedSlice S8x128 ![40, 0] x slices_S128x128_o40_0_S8x128))
    (maximumf (F := Ideal) (φ := .f32) (extractStridedSlice S8x128 ![48, 0] x slices_S128x128_o48_0_S8x128)
    (extractStridedSlice S8x128 ![56, 0] x slices_S128x128_o56_0_S8x128))))
    (maximumf (F := Ideal) (φ := .f32) (maximumf (F := Ideal) (φ := .f32) (maximumf (F := Ideal) (φ := .f32) (extractStridedSlice S8x128 ![64, 0] x slices_S128x128_o64_0_S8x128)
    (extractStridedSlice S8x128 ![72, 0] x slices_S128x128_o72_0_S8x128))
    (maximumf (F := Ideal) (φ := .f32) (extractStridedSlice S8x128 ![80, 0] x slices_S128x128_o80_0_S8x128)
    (extractStridedSlice S8x128 ![88, 0] x slices_S128x128_o88_0_S8x128)))
    (maximumf (F := Ideal) (φ := .f32) (maximumf (F := Ideal) (φ := .f32) (extractStridedSlice S8x128 ![96, 0] x slices_S128x128_o96_0_S8x128)
    (extractStridedSlice S8x128 ![104, 0] x slices_S128x128_o104_0_S8x128))
    (maximumf (F := Ideal) (φ := .f32) (extractStridedSlice S8x128 ![112, 0] x slices_S128x128_o112_0_S8x128)
    (extractStridedSlice S8x128 ![120, 0] x slices_S128x128_o120_0_S8x128)))))
/-- The tiles' folds, joined one after the other. -/
def amax128 (a : FVec Ideal S8x128 .f32) : List (FVec Ideal S128x128 .f32) → FVec Ideal S8x128 .f32
  | [] => a
  | x :: l => amax128 (maximumf (F := Ideal) (φ := .f32) a (fmax128 x)) l
/-- The row of maxima of eight rows. -/
def vmax128 (a : FVec Ideal S8x128 .f32) : FVec Ideal S1x128 .f32 :=
  shapeCast S1x128 (multiReduction (F := Ideal) .maximumf [0] S128 a 0xFF800000#32 reduces_S8x128_S128 (.inl rfl) rfl) shapeCasts_S128_S1x128
/-- The row of maxima of the tiles. -/
def rmax128 (x : FVec Ideal S128x128 .f32) (l : List (FVec Ideal S128x128 .f32)) : FVec Ideal S1x128 .f32 := vmax128 (amax128 (fmax128 x) l)

theorem vmax128_apply (a : FVec Ideal S8x128 .f32) (l : Fin 128) :
    vmax128 a (ix2 0 l) = (Finset.univ : Finset (Fin 8)).fold max (Ideal.ofBits .f32 0xFF800000#32) fun r => a (ix2 r l) := by
  pointwise [vmax128]

theorem vmax128_le (a : FVec Ideal S8x128 .f32) (l : Fin 128) (b : EReal) :
    vmax128 a (ix2 0 l) ≤ b ↔ ∀ r : Fin 8, a (ix2 r l) ≤ b := by
  rw [vmax128_apply, ofBits_ninf]
  exact (Finset.fold_max_le (β := EReal) b).trans ⟨fun hh r => hh.2 r (Finset.mem_univ _), fun hh => ⟨bot_le, fun r _ => hh r⟩⟩

theorem fmax128_le (x : FVec Ideal S128x128 .f32) (r : Fin 8) (l : Fin 128) (b : EReal) :
    fmax128 x (ix2 r l) ≤ b ↔ ∀ s : Fin 16, x (ix2 (n0 := 128) ⟨8 * s.val + r.val, by omega⟩ l) ≤ b := by
  pointwise [fmax128]
  simp only [max_le_iff, Fin.forall_fin_succ, Fin.forall_fin_zero_pi]
  simp [and_assoc, Nat.add_comm]

theorem amax128_le (f : Fn) (i h : ℕ) (r : Fin 8) (l : Fin 128) (b : EReal) (n c : ℕ) (a : FVec Ideal S8x128 .f32) :
    amax128 a ((List.range' c n).map (T128 f i · h)) (ix2 r l) ≤ b ↔
      a (ix2 r l) ≤ b ∧ ∀ k, c ≤ k → k < c + n → ∀ s : Fin 16, f h (128 * i + l.val) (128 * k + (8 * s.val + r.val)) ≤ b := by
  induction n generalizing c a with
  | zero => exact ⟨fun hh => ⟨hh, fun k h1 h2 => by omega⟩, fun hh => hh.1⟩
  | succ n ih =>
    rw [List.range'_succ, List.map_cons, amax128, ih]
    have e : maximumf (F := Ideal) (φ := .f32) a (fmax128 (T128 f i c h)) (ix2 r l) = max (a (ix2 r l)) (fmax128 (T128 f i c h) (ix2 r l)) := rfl
    rw [e, max_le_iff, fmax128_le]
    constructor
    · rintro ⟨⟨h1, h2⟩, h3⟩
      refine ⟨h1, fun k hk1 hk2 s => ?_⟩
      rcases Nat.eq_or_lt_of_le hk1 with rfl | hlt
      · exact h2 s
      · exact h3 k (by omega) (by omega) s
    · rintro ⟨h1, h2⟩
      exact ⟨⟨h1, fun s => h2 c le_rfl (by omega) s⟩, fun k hk1 hk2 s => h2 k (by omega) (by omega) s⟩

/-- The row the kernel shifts by holds the maxima. -/
theorem rmax128_eq (f : Fn) (i h : ℕ) :
    rmax128 (T128 f i 0 h) ((List.range' 1 i).map (T128 f i · h)) = R128 (mx f) i h := by
  funext j
  obtain ⟨z, l, rfl⟩ : ∃ (z : Fin 1) (l : Fin 128), j = ix2 z l := ⟨j 0, j 1, eq_ix2 j⟩
  obtain rfl : z = 0 := Subsingleton.elim _ _
  have hl := l.isLt
  refine eq_of_forall_ge_iff (α := EReal) fun b => (vmax128_le _ _ _).trans ?_
  have hR : R128 (mx f) i h (ix2 0 l) = (Finset.range (128 * (i + 1))).sup (f h (128 * i + l.val)) := by
    rw [← upto_block i l.val (by omega)]; rfl
  rw [hR]
  refine Iff.trans ?_ (Finset.sup_le_iff (α := EReal)).symm
  constructor
  · intro hh t ht
    have ht := Finset.mem_range.mp ht
    obtain ⟨h1, h2⟩ := (amax128_le f i h _ _ _ _ _ _).mp (hh ⟨t % 8, by omega⟩)
    have h1 := (fmax128_le _ _ _ _).mp h1
    have e : t = 128 * (t / 128) + (8 * (t % 128 / 8) + t % 8) := by omega
    rcases Nat.eq_zero_or_pos (t / 128) with h0 | h0
    · have h3 := h1 ⟨t % 128 / 8, by omega⟩
      rw [e, h0]; exact h3
    · have h3 := h2 (t / 128) h0 (by omega) ⟨t % 128 / 8, by omega⟩
      rw [e]; exact h3
  · intro hh r
    have hr := r.isLt
    exact (amax128_le f i h _ _ _ _ _ _).mpr ⟨(fmax128_le _ _ _ _).mpr fun s => hh _ (Finset.mem_range.mpr (by have := s.isLt; show 128 * 0 + (8 * s.val + r.val) < _; omega)),
      fun k h1 h2 s => hh _ (Finset.mem_range.mpr (by have := s.isLt; omega))⟩

/-! ## Exponentials -/

/-- The exponentials of a score tile, shifted by the row of maxima. -/
def expT128 (s : FVec Ideal S1x128x128 .f32) (m : FVec Ideal S1x128 .f32) : FVec Ideal S128x128 .f32 :=
  exp2 (F := Ideal) (φ := .f32) (subf (F := Ideal) (φ := .f32) (shapeCast S128x128 s shapeCasts_S1x128x128_S128x128) (broadcastTo S128x128 m broadcasts_S1x128_S128x128))

theorem expT128_eq (f : Fn) (i c h : ℕ) : expT128 (B128 f i c h) (R128 (mx f) i h) = T128 (ex f) i c h := by
  funext j
  pointwise [expT128, B128, R128, T128, ex]
  rfl

/-! ## Row sums -/

/-- A tile folded to eight rows by addition, as a tree. -/
def fsum128 (x : FVec Ideal S128x128 .f32) : FVec Ideal S8x128 .f32 :=
  (addf (F := Ideal) (φ := .f32) (addf (F := Ideal) (φ := .f32) (addf (F := Ideal) (φ := .f32) (addf (F := Ideal) (φ := .f32) (extractStridedSlice S8x128 ![0, 0] x slices_S128x128_o0_0_S8x128)
    (extractStridedSlice S8x128 ![8, 0] x slices_S128x128_o8_0_S8x128))
    (addf (F := Ideal) (φ := .f32) (extractStridedSlice S8x128 ![16, 0] x slices_S128x128_o16_0_S8x128)
    (extractStridedSlice S8x128 ![24, 0] x slices_S128x128_o24_0_S8x128)))
    (addf (F := Ideal) (φ := .f32) (addf (F := Ideal) (φ := .f32) (extractStridedSlice S8x128 ![32, 0] x slices_S128x128_o32_0_S8x128)
    (extractStridedSlice S8x128 ![40, 0] x slices_S128x128_o40_0_S8x128))
    (addf (F := Ideal) (φ := .f32) (extractStridedSlice S8x128 ![48, 0] x slices_S128x128_o48_0_S8x128)
    (extractStridedSlice S8x128 ![56, 0] x slices_S128x128_o56_0_S8x128))))
    (addf (F := Ideal) (φ := .f32) (addf (F := Ideal) (φ := .f32) (addf (F := Ideal) (φ := .f32) (extractStridedSlice S8x128 ![64, 0] x slices_S128x128_o64_0_S8x128)
    (extractStridedSlice S8x128 ![72, 0] x slices_S128x128_o72_0_S8x128))
    (addf (F := Ideal) (φ := .f32) (extractStridedSlice S8x128 ![80, 0] x slices_S128x128_o80_0_S8x128)
    (extractStridedSlice S8x128 ![88, 0] x slices_S128x128_o88_0_S8x128)))
    (addf (F := Ideal) (φ := .f32) (addf (F := Ideal) (φ := .f32) (extractStridedSlice S8x128 ![96, 0] x slices_S128x128_o96_0_S8x128)
    (extractStridedSlice S8x128 ![104, 0] x slices_S128x128_o104_0_S8x128))
    (addf (F := Ideal) (φ := .f32) (extractStridedSlice S8x128 ![112, 0] x slices_S128x128_o112_0_S8x128)
    (extractStridedSlice S8x128 ![120, 0] x slices_S128x128_o120_0_S8x128)))))
/-- The tiles' folds, added one after the other. -/
def asum128 (a : FVec Ideal S8x128 .f32) : List (FVec Ideal S128x128 .f32) → FVec Ideal S8x128 .f32
  | [] => a
  | x :: l => asum128 (addf (F := Ideal) (φ := .f32) a (fsum128 x)) l
/-- 448 over the row of sums of eight rows. -/
def vdiv128 (a : FVec Ideal S8x128 .f32) : FVec Ideal S1x128 .f32 :=
  divf (F := Ideal) (φ := .f32) (broadcast S1x128 (Scalar.ofBits (F := Ideal) .f32 0x43E00000#32))
    (shapeCast S1x128 (multiReduction (F := Ideal) .add [0] S128 a 0x00000000#32 reduces_S8x128_S128 (.inl rfl) rfl) shapeCasts_S128_S1x128)

/-- 448 over the row of sums of the tiles. -/
def rdiv128 (x : FVec Ideal S128x128 .f32) (l : List (FVec Ideal S128x128 .f32)) : FVec Ideal S1x128 .f32 := vdiv128 (asum128 (fsum128 x) l)

theorem vdiv128_apply (a : FVec Ideal S8x128 .f32) (l : Fin 128) :
    vdiv128 a (ix2 0 l) = Ideal.div (Ideal.ofBits .f32 0x43E00000#32) (∑ r : Fin 8, a (ix2 r l)) := by
  pointwise [vdiv128]

theorem fsum128_eq (x : FVec Ideal S128x128 .f32) (r : Fin 8) (l : Fin 128) :
    fsum128 x (ix2 r l) = ∑ s : Fin 16, x (ix2 (n0 := 128) ⟨8 * s.val + r.val, by omega⟩ l) := by
  pointwise [fsum128]
  simp only [Fin.sum_univ_succ, Fin.sum_univ_zero]
  simp [Nat.add_comm]
  abel

theorem asum128_eq (f : Fn) (i h : ℕ) (l : Fin 128) (n c : ℕ) (a : FVec Ideal S8x128 .f32)
    (ha : ∑ r : Fin 8, a (ix2 r l) = ∑ t ∈ Finset.range (128 * c), f h (128 * i + l.val) t) :
    ∑ r : Fin 8, asum128 a ((List.range' c n).map (T128 f i · h)) (ix2 r l)
      = ∑ t ∈ Finset.range (128 * (c + n)), f h (128 * i + l.val) t := by
  induction n generalizing c a with
  | zero => exact ha
  | succ n ih =>
    rw [List.range'_succ, List.map_cons, asum128]
    have e : ∀ r, addf (F := Ideal) (φ := .f32) a (fsum128 (T128 f i c h)) (ix2 r l) = a (ix2 r l) + fsum128 (T128 f i c h) (ix2 r l) := fun _ => rfl
    have := ih (c + 1) (addf (F := Ideal) (φ := .f32) a (fsum128 (T128 f i c h))) (by
      simp only [e]
      rw [Finset.sum_add_distrib, ha, sum_block]
      congr 1
      simp only [fsum128_eq]
      exact sum_8_16 fun t => f h (128 * i + l.val) (128 * c + t))
    rw [this]; congr 2; ring

theorem rdiv128_eq (f : Fn) (i h : ℕ) :
    rdiv128 (T128 f i 0 h) ((List.range' 1 i).map (T128 f i · h)) = R128 (rc f) i h := by
  funext j
  obtain ⟨z, l, rfl⟩ : ∃ (z : Fin 1) (l : Fin 128), j = ix2 z l := ⟨j 0, j 1, eq_ix2 j⟩
  obtain rfl : z = 0 := Subsingleton.elim _ _
  have hl := l.isLt
  refine (vdiv128_apply _ _).trans ?_
  rw [asum128_eq f i h l i 1]
  · have hR : R128 (rc f) i h (ix2 0 l) = Ideal.div (Ideal.ofBits .f32 0x43E00000#32) (∑ t ∈ Finset.range (128 * (i + 1)), f h (128 * i + l.val) t) := by
      rw [← upto_block i l.val (by omega)]; rfl
    rw [hR, Nat.add_comm 1 i]
  · simp only [fsum128_eq]
    rw [Finset.sum_range]
    refine Eq.trans ?_ (sum_8_16 fun t => f h (128 * i + l.val) t)
    refine Finset.sum_congr rfl fun r _ => Finset.sum_congr rfl fun s _ => ?_
    show f h (128 * i + l.val) (128 * 0 + (8 * s.val + r.val)) = _
    rw [Nat.mul_zero, Nat.zero_add]

/-! ## Codes -/

/-- The codes of a tile of exponentials. -/
def code128 (s : FVec Ideal S1x128x128 .f32) (r : FVec Ideal S1x128 .f32) : FVec Ideal S128x128 .fp8e4m3 :=
  truncf (F := Ideal) .fp8e4m3 (minimumf (F := Ideal) (φ := .f32) (broadcast S128x128 (Scalar.ofBits (F := Ideal) .f32 0x43E00000#32))
    (maximumf (F := Ideal) (φ := .f32) (broadcast S128x128 (Scalar.ofBits (F := Ideal) .f32 0x00000000#32))
      (mulf (F := Ideal) (φ := .f32) (shapeCast S128x128 s shapeCasts_S1x128x128_S128x128) (broadcastTo S128x128 r broadcasts_S1x128_S128x128)))) bitsLt_fp8e4m3_f32

theorem code128_eq (f : Fn) (i c h : ℕ) : code128 (B128 f i c h) (R128 (rc f) i h) = T128 (cd f) i c h := by
  funext j
  pointwise [code128, B128, R128, T128, cd]

end Cert.KernelIdeal.Tile

end
-- ==== Proof.Kern.Slab.lean ====
/- Rows of a scratch buffer filled block by block: if the stores so far left a function in the rows below a block, and a
   store puts the same function into that block, it is left in the rows up to the block's end. -/
module

public import proofs.«01_k».proof.Proof.Gen.KernelIdeal.Skeleton
public import proofs.«01_k».proof.Proof.Kern.Tile256
public import proofs.«01_k».proof.Proof.Kern.Tile128
public import Idealize.ShloMosaic.Lib.Pipeline.ReadBack
public import Idealize.ShloMosaic.Lib.Pipeline.ValueKit.Tiles

@[expose] public section

set_option maxRecDepth 16384

noncomputable section

namespace Cert.KernelIdeal.Tile

open Cert.KernelIdeal Cert.KernelIdeal.Gen Idealize.ShloMosaic Idealize.ShloMosaic.TcCoe

/-- The stores `L` into the codes' buffer left `f` in slot `s`, in its first `w` columns and the rows below `128 n`. -/
def Slab (w : ℕ) (L : List (View.Piece (Elt Ideal) S2x896x256 .fp8e4m3)) (s n : ℕ) (f : Fn) (i h : ℕ) : Prop :=
  ∀ y : S2x896x256.Idx, (y 0).val = s → (y 1).val < 128 * n → (y 2).val < w →
    View.canon L y = f (h + (y 2).val / 128) (128 * i + (y 2).val % 128) (y 1).val

theorem Slab.nil (w : ℕ) (L : List (View.Piece (Elt Ideal) S2x896x256 .fp8e4m3)) (s : ℕ) (f : Fn) (i h : ℕ) : Slab w L s 0 f i h :=
  fun y _ h1 _ => absurd h1 (by omega)

/-- A store into the other slot changes nothing. -/
theorem Slab.other {w : ℕ} {L : List (View.Piece (Elt Ideal) S2x896x256 .fp8e4m3)} {s n : ℕ} {f : Fn} {i h : ℕ} (H : Slab w L s n f i h)
    (s' r w' : ℕ) (hs : s' ≠ s) (inb) (p) : Slab w (⟨Rect.unit (s := S2x896x256) ![s', r, 0] ![1, 128, w'] inb, p⟩ :: L) s n f i h := fun y h0 h1 h2 => by
  rw [View.canon_cons_of_not_mem, H y h0 h1 h2]
  intro hm
  have h := ((Rect.mem_set_unit (inb := inb)).mp hm) 0
  have e' : (![s', r, 0] : Fin 3 → ℕ) 0 = s' := rfl
  have e2 : (![1, 128, w'] : Fin 3 → ℕ) 0 = 1 := rfl
  rw [e', e2] at h
  omega

/-- A store of the next block extends the rows. -/
theorem Slab.next {w : ℕ} {L : List (View.Piece (Elt Ideal) S2x896x256 .fp8e4m3)} {s n : ℕ} {f : Fn} {i h : ℕ} (H : Slab w L s n f i h)
    (inb) (p : (Rect.unit (s := S2x896x256) ![s, 128 * n, 0] ![1, 128, w] inb).shape.Idx → Elt Ideal .fp8e4m3)
    (hp : ∀ j, p j = f (h + (j 2).val / 128) (128 * i + (j 2).val % 128) (128 * n + (j 1).val)) :
    Slab w (⟨Rect.unit (s := S2x896x256) ![s, 128 * n, 0] ![1, 128, w] inb, p⟩ :: L) s (n + 1) f i h := fun y h0 h1 h2 => by
  by_cases hy : (y 1).val < 128 * n
  · rw [View.canon_cons_of_not_mem, H y h0 hy h2]
    intro hm
    have h := ((Rect.mem_set_unit (inb := inb)).mp hm) 1
    have e' : (![s, 128 * n, 0] : Fin 3 → ℕ) 1 = 128 * n := rfl
    rw [e'] at h
    omega
  · let j : (Rect.unit (s := S2x896x256) ![s, 128 * n, 0] ![1, 128, w] inb).shape.Idx :=
      ix3 (n0 := 1) (n1 := 128) (n2 := w) 0 ⟨(y 1).val - 128 * n, by omega⟩ ⟨(y 2).val, h2⟩
    have hj : (Rect.unit (s := S2x896x256) ![s, 128 * n, 0] ![1, 128, w] inb).idx j = y := by
      funext k
      refine Fin.ext ((Rect.idx_unit_val _ _ _ _ _).trans ?_)
      fin_cases k
      · show s + 0 = (y 0).val; omega
      · show 128 * n + ((y 1).val - 128 * n) = (y 1).val; omega
      · show 0 + (y 2).val = (y 2).val; omega
    have e := View.canon_cons_emb (Val := Elt Ideal) (Rect.unit (s := S2x896x256) ![s, 128 * n, 0] ![1, 128, w] inb) p L j
    have e : View.canon (⟨Rect.unit (s := S2x896x256) ![s, 128 * n, 0] ![1, 128, w] inb, p⟩ :: L) ((Rect.unit (s := S2x896x256) ![s, 128 * n, 0] ![1, 128, w] inb).idx j) = p j := e
    rw [hj] at e
    rw [e, hp]
    show f (h + (y 2).val / 128) (128 * i + (y 2).val % 128) (128 * n + ((y 1).val - 128 * n)) = _
    rw [show 128 * n + ((y 1).val - 128 * n) = (y 1).val by omega]

/-- Loading the filled rows gives the function. -/
theorem Slab.read {w : ℕ} {L : List (View.Piece (Elt Ideal) S2x896x256 .fp8e4m3)} {s n : ℕ} {f : Fn} {i h : ℕ} (H : Slab w L s n f i h)
    (m : ℕ) (hm : m ≤ 128 * n) (v : View sig .tc .vmem S2x896x256 .fp8e4m3) (inb) :
    v.readCov L (Rect.unit (s := S2x896x256) ![s, 0, 0] ![1, m, w] inb).toLoadRect
      = fun j => f (h + (j 2).val / 128) (128 * i + (j 2).val % 128) (j 1).val := by
  rw [View.readCov_eq_canon']
  funext j
  have h0 : (j 0).val < 1 := (j 0).isLt
  have h1 : (j 1).val < m := (j 1).isLt
  have h2 : (j 2).val < w := (j 2).isLt
  have e0 : ((Rect.unit (s := S2x896x256) ![s, 0, 0] ![1, m, w] inb).toLoadRect.idx j 0).val = s + (j 0).val := Rect.idx_unit_val (s := S2x896x256) ![s, 0, 0] ![1, m, w] inb j 0
  have e1 : ((Rect.unit (s := S2x896x256) ![s, 0, 0] ![1, m, w] inb).toLoadRect.idx j 1).val = 0 + (j 1).val := Rect.idx_unit_val (s := S2x896x256) ![s, 0, 0] ![1, m, w] inb j 1
  have e2 : ((Rect.unit (s := S2x896x256) ![s, 0, 0] ![1, m, w] inb).toLoadRect.idx j 2).val = 0 + (j 2).val := Rect.idx_unit_val (s := S2x896x256) ![s, 0, 0] ![1, m, w] inb j 2
  rw [H _ (by omega) (by omega) (by omega), e1, e2, Nat.zero_add, Nat.zero_add]

/-- A block of one head, as the rows want it. -/
theorem B128_slab (f : Fn) (i c h : ℕ) (j : S1x128x128.Idx) :
    B128 (φ := .fp8e4m3) f i c h j = f (h + (j 2).val / 128) (128 * i + (j 2).val % 128) (128 * c + (j 1).val) := by
  have h2 : (j 2).val < 128 := (j 2).isLt
  rw [Nat.div_eq_of_lt h2, Nat.mod_eq_of_lt h2]
  rfl

end Cert.KernelIdeal.Tile

end
-- ==== Proof.Kern.Out.lean ====
/- The products with the values: the codes of one or two heads against the block's values, for each number of keys,
   and the output blocks they are cut into. -/
module

public import proofs.«01_k».proof.Proof.Gen.KernelIdeal.Skeleton
public import proofs.«01_k».proof.Proof.Kern.Spec

@[expose] public section

set_option maxRecDepth 16384

noncomputable section

namespace Cert.KernelIdeal.Tile

open Cert.KernelIdeal Cert.KernelIdeal.Gen Idealize.ShloMosaic Idealize.ShloMosaic.TcCoe

theorem upto_zero (x : ℕ) (hx : x < 128) : upto x = 128 := by
  unfold upto; rw [Nat.div_eq_of_lt hx]

/-- What an output block holds, from query block `i` of head `h`. -/
def OB (g : Fn) (i h : ℕ) : FVec Ideal S1x128x128 .bf16 := fun j => g h (128 * i + (j 1).val) (j 2).val

/-- The left half of a product, turned. -/
def outA256 (t : FVec Ideal S128x256 .bf16) : FVec Ideal S1x128x128 .bf16 :=
  shapeCast S1x128x128 (transpose S128x128 [1, 0] (extractStridedSlice S128x128 ![0, 0] t slices_S128x256_o0_0_S128x128) transposes_S128x128_p1_0_S128x128) shapeCasts_S128x128_S1x128x128
/-- The right half of a product, turned. -/
def outB256 (t : FVec Ideal S128x256 .bf16) : FVec Ideal S1x128x128 .bf16 :=
  shapeCast S1x128x128 (transpose S128x128 [1, 0] (extractStridedSlice S128x128 ![0, 128] t slices_S128x256_o0_128_S128x128) transposes_S128x128_p1_0_S128x128) shapeCasts_S128x128_S1x128x128
/-- A product of one head, turned. -/
def outA128 (t : FVec Ideal S128x128 .bf16) : FVec Ideal S1x128x128 .bf16 :=
  shapeCast S1x128x128 (transpose S128x128 [1, 0] t transposes_S128x128_p1_0_S128x128) shapeCasts_S128x128_S1x128x128
/-- The product of two heads as a function of (head, query, coordinate). -/
def OT256 (g : Fn) (i h : ℕ) : FVec Ideal S128x256 .bf16 := fun j => g (h + (j 1).val / 128) (128 * i + (j 1).val % 128) (j 0).val
/-- The product of one head. -/
def OT128 (g : Fn) (i h : ℕ) : FVec Ideal S128x128 .bf16 := fun j => g h (128 * i + (j 1).val) (j 0).val

theorem outA256_eq (g : Fn) (i h : ℕ) : outA256 (OT256 g i h) = OB g i h := by
  funext j
  have h1 : (j 1).val < 128 := (j 1).isLt
  pointwise [outA256, OT256, OB]
  congr 2 <;> omega

theorem outB256_eq (g : Fn) (i h : ℕ) : outB256 (OT256 g i h) = OB g i (h + 1) := by
  funext j
  have h1 : (j 1).val < 128 := (j 1).isLt
  pointwise [outB256, OT256, OB]
  congr 2 <;> omega

theorem outA128_eq (g : Fn) (i h : ℕ) : outA128 (OT128 g i h) = OB g i h := by
  funext j
  pointwise [outA128, OT128, OB]

/-- The product of 128 keys' codes of two heads with the values. -/
def prod256_128 (v : FVec Ideal S1x1x128x128 .fp8e4m3) (p : FVec Ideal S1x128x256 .fp8e4m3) (ω : EReal) : FVec Ideal S128x256 .bf16 :=
  truncf (F := Ideal) .bf16 (mulf (F := Ideal) (φ := .f32) (matmul (F := Ideal) dot_S128x128_S128x256_S128x256_1_0_0_1_n_n none (shapeCast S128x128 v shapeCasts_S1x1x128x128_S128x128)
    (shapeCast S128x256 p shapeCasts_S1x128x256_S128x256) (constant S128x256 .f32 0x00000000#32)) (broadcast S128x256 ω)) bitsLt_bf16_f32
theorem prod256_128_eq (V : ℕ → ℕ → EReal) (p : Fn) (ω : EReal) (h : ℕ) :
    prod256_128 (fun j => V (j 2).val (j 3).val) (fun j => p (h + (j 2).val / 128) (128 * 0 + (j 2).val % 128) (j 1).val) ω = OT256 (out V ω p) 0 h := by
  funext j
  have h1 : (j 1).val < 256 := (j 1).isLt
  pointwise [prod256_128, OT256, out]
  rw [upto_zero _ (by omega), Finset.sum_range]

/-- The product of 256 keys' codes of two heads with the values. -/
def prod256_256 (v : FVec Ideal S1x1x128x256 .fp8e4m3) (p : FVec Ideal S1x256x256 .fp8e4m3) (ω : EReal) : FVec Ideal S128x256 .bf16 :=
  truncf (F := Ideal) .bf16 (mulf (F := Ideal) (φ := .f32) (matmul (F := Ideal) dot_S128x256_S256x256_S128x256_1_0_0_1_n_n none (shapeCast S128x256 v shapeCasts_S1x1x128x256_S128x256)
    (shapeCast S256x256 p shapeCasts_S1x256x256_S256x256) (constant S128x256 .f32 0x00000000#32)) (broadcast S128x256 ω)) bitsLt_bf16_f32
theorem prod256_256_eq (V : ℕ → ℕ → EReal) (p : Fn) (ω : EReal) (h : ℕ) :
    prod256_256 (fun j => V (j 2).val (j 3).val) (fun j => p (h + (j 2).val / 128) (128 * 1 + (j 2).val % 128) (j 1).val) ω = OT256 (out V ω p) 1 h := by
  funext j
  have h1 : (j 1).val < 256 := (j 1).isLt
  pointwise [prod256_256, OT256, out]
  rw [upto_block 1 _ (by omega), Finset.sum_range]

/-- The product of 384 keys' codes of two heads with the values. -/
def prod256_384 (v : FVec Ideal S1x1x128x384 .fp8e4m3) (p : FVec Ideal S1x384x256 .fp8e4m3) (ω : EReal) : FVec Ideal S128x256 .bf16 :=
  truncf (F := Ideal) .bf16 (mulf (F := Ideal) (φ := .f32) (matmul (F := Ideal) dot_S128x384_S384x256_S128x256_1_0_0_1_n_n none (shapeCast S128x384 v shapeCasts_S1x1x128x384_S128x384)
    (shapeCast S384x256 p shapeCasts_S1x384x256_S384x256) (constant S128x256 .f32 0x00000000#32)) (broadcast S128x256 ω)) bitsLt_bf16_f32
theorem prod256_384_eq (V : ℕ → ℕ → EReal) (p : Fn) (ω : EReal) (h : ℕ) :
    prod256_384 (fun j => V (j 2).val (j 3).val) (fun j => p (h + (j 2).val / 128) (128 * 2 + (j 2).val % 128) (j 1).val) ω = OT256 (out V ω p) 2 h := by
  funext j
  have h1 : (j 1).val < 256 := (j 1).isLt
  pointwise [prod256_384, OT256, out]
  rw [upto_block 2 _ (by omega), Finset.sum_range]

/-- The product of 512 keys' codes of two heads with the values. -/
def prod256_512 (v : FVec Ideal S1x1x128x512 .fp8e4m3) (p : FVec Ideal S1x512x256 .fp8e4m3) (ω : EReal) : FVec Ideal S128x256 .bf16 :=
  truncf (F := Ideal) .bf16 (mulf (F := Ideal) (φ := .f32) (matmul (F := Ideal) dot_S128x512_S512x256_S128x256_1_0_0_1_n_n none (shapeCast S128x512 v shapeCasts_S1x1x128x512_S128x512)
    (shapeCast S512x256 p shapeCasts_S1x512x256_S512x256) (constant S128x256 .f32 0x00000000#32)) (broadcast S128x256 ω)) bitsLt_bf16_f32
theorem prod256_512_eq (V : ℕ → ℕ → EReal) (p : Fn) (ω : EReal) (h : ℕ) :
    prod256_512 (fun j => V (j 2).val (j 3).val) (fun j => p (h + (j 2).val / 128) (128 * 3 + (j 2).val % 128) (j 1).val) ω = OT256 (out V ω p) 3 h := by
  funext j
  have h1 : (j 1).val < 256 := (j 1).isLt
  pointwise [prod256_512, OT256, out]
  rw [upto_block 3 _ (by omega), Finset.sum_range]

/-- The product of 640 keys' codes of two heads with the values. -/
def prod256_640 (v : FVec Ideal S1x1x128x640 .fp8e4m3) (p : FVec Ideal S1x640x256 .fp8e4m3) (ω : EReal) : FVec Ideal S128x256 .bf16 :=
  truncf (F := Ideal) .bf16 (mulf (F := Ideal) (φ := .f32) (matmul (F := Ideal) dot_S128x640_S640x256_S128x256_1_0_0_1_n_n none (shapeCast S128x640 v shapeCasts_S1x1x128x640_S128x640)
    (shapeCast S640x256 p shapeCasts_S1x640x256_S640x256) (constant S128x256 .f32 0x00000000#32)) (broadcast S128x256 ω)) bitsLt_bf16_f32
theorem prod256_640_eq (V : ℕ → ℕ → EReal) (p : Fn) (ω : EReal) (h : ℕ) :
    prod256_640 (fun j => V (j 2).val (j 3).val) (fun j => p (h + (j 2).val / 128) (128 * 4 + (j 2).val % 128) (j 1).val) ω = OT256 (out V ω p) 4 h := by
  funext j
  have h1 : (j 1).val < 256 := (j 1).isLt
  pointwise [prod256_640, OT256, out]
  rw [upto_block 4 _ (by omega), Finset.sum_range]

/-- The product of 768 keys' codes of two heads with the values. -/
def prod256_768 (v : FVec Ideal S1x1x128x768 .fp8e4m3) (p : FVec Ideal S1x768x256 .fp8e4m3) (ω : EReal) : FVec Ideal S128x256 .bf16 :=
  truncf (F := Ideal) .bf16 (mulf (F := Ideal) (φ := .f32) (matmul (F := Ideal) dot_S128x768_S768x256_S128x256_1_0_0_1_n_n none (shapeCast S128x768 v shapeCasts_S1x1x128x768_S128x768)
    (shapeCast S768x256 p shapeCasts_S1x768x256_S768x256) (constant S128x256 .f32 0x00000000#32)) (broadcast S128x256 ω)) bitsLt_bf16_f32
theorem prod256_768_eq (V : ℕ → ℕ → EReal) (p : Fn) (ω : EReal) (h : ℕ) :
    prod256_768 (fun j => V (j 2).val (j 3).val) (fun j => p (h + (j 2).val / 128) (128 * 5 + (j 2).val % 128) (j 1).val) ω = OT256 (out V ω p) 5 h := by
  funext j
  have h1 : (j 1).val < 256 := (j 1).isLt
  pointwise [prod256_768, OT256, out]
  rw [upto_block 5 _ (by omega), Finset.sum_range]

/-- The product of 896 keys' codes of two heads with the values. -/
def prod256_896 (v : FVec Ideal S1x1x128x896 .fp8e4m3) (p : FVec Ideal S1x896x256 .fp8e4m3) (ω : EReal) : FVec Ideal S128x256 .bf16 :=
  truncf (F := Ideal) .bf16 (mulf (F := Ideal) (φ := .f32) (matmul (F := Ideal) dot_S128x896_S896x256_S128x256_1_0_0_1_n_n none (shapeCast S128x896 v shapeCasts_S1x1x128x896_S128x896)
    (shapeCast S896x256 p shapeCasts_S1x896x256_S896x256) (constant S128x256 .f32 0x00000000#32)) (broadcast S128x256 ω)) bitsLt_bf16_f32
theorem prod256_896_eq (V : ℕ → ℕ → EReal) (p : Fn) (ω : EReal) (h : ℕ) :
    prod256_896 (fun j => V (j 2).val (j 3).val) (fun j => p (h + (j 2).val / 128) (128 * 6 + (j 2).val % 128) (j 1).val) ω = OT256 (out V ω p) 6 h := by
  funext j
  have h1 : (j 1).val < 256 := (j 1).isLt
  pointwise [prod256_896, OT256, out]
  rw [upto_block 6 _ (by omega), Finset.sum_range]

/-- The product of 128 keys' codes with the values. -/
def prod128_128 (v : FVec Ideal S1x1x128x128 .fp8e4m3) (p : FVec Ideal S1x128x128 .fp8e4m3) (ω : EReal) : FVec Ideal S128x128 .bf16 :=
  truncf (F := Ideal) .bf16 (mulf (F := Ideal) (φ := .f32) (matmul (F := Ideal) dot_S128x128_S128x128_S128x128_1_0_0_1_n_n none (shapeCast S128x128 v shapeCasts_S1x1x128x128_S128x128)
    (shapeCast S128x128 p shapeCasts_S1x128x128_S128x128) (constant S128x128 .f32 0x00000000#32)) (broadcast S128x128 ω)) bitsLt_bf16_f32
theorem prod128_128_eq (V : ℕ → ℕ → EReal) (p : Fn) (ω : EReal) (h : ℕ) :
    prod128_128 (fun j => V (j 2).val (j 3).val) (fun j => p (h + (j 2).val / 128) (128 * 0 + (j 2).val % 128) (j 1).val) ω = OT128 (out V ω p) 0 h := by
  funext j
  have h1 : (j 1).val < 128 := (j 1).isLt
  pointwise [prod128_128, OT128, out]
  rw [upto_zero _ (by omega), Finset.sum_range]
  simp only [Nat.div_eq_of_lt h1, Nat.mod_eq_of_lt h1, Nat.add_zero]

/-- The product of 256 keys' codes with the values. -/
def prod128_256 (v : FVec Ideal S1x1x128x256 .fp8e4m3) (p : FVec Ideal S1x256x128 .fp8e4m3) (ω : EReal) : FVec Ideal S128x128 .bf16 :=
  truncf (F := Ideal) .bf16 (mulf (F := Ideal) (φ := .f32) (matmul (F := Ideal) dot_S128x256_S256x128_S128x128_1_0_0_1_n_n none (shapeCast S128x256 v shapeCasts_S1x1x128x256_S128x256)
    (shapeCast S256x128 p shapeCasts_S1x256x128_S256x128) (constant S128x128 .f32 0x00000000#32)) (broadcast S128x128 ω)) bitsLt_bf16_f32
theorem prod128_256_eq (V : ℕ → ℕ → EReal) (p : Fn) (ω : EReal) (h : ℕ) :
    prod128_256 (fun j => V (j 2).val (j 3).val) (fun j => p (h + (j 2).val / 128) (128 * 1 + (j 2).val % 128) (j 1).val) ω = OT128 (out V ω p) 1 h := by
  funext j
  have h1 : (j 1).val < 128 := (j 1).isLt
  pointwise [prod128_256, OT128, out]
  rw [upto_block 1 _ (by omega), Finset.sum_range]
  simp only [Nat.div_eq_of_lt h1, Nat.mod_eq_of_lt h1, Nat.add_zero]

/-- The product of 384 keys' codes with the values. -/
def prod128_384 (v : FVec Ideal S1x1x128x384 .fp8e4m3) (p : FVec Ideal S1x384x128 .fp8e4m3) (ω : EReal) : FVec Ideal S128x128 .bf16 :=
  truncf (F := Ideal) .bf16 (mulf (F := Ideal) (φ := .f32) (matmul (F := Ideal) dot_S128x384_S384x128_S128x128_1_0_0_1_n_n none (shapeCast S128x384 v shapeCasts_S1x1x128x384_S128x384)
    (shapeCast S384x128 p shapeCasts_S1x384x128_S384x128) (constant S128x128 .f32 0x00000000#32)) (broadcast S128x128 ω)) bitsLt_bf16_f32
theorem prod128_384_eq (V : ℕ → ℕ → EReal) (p : Fn) (ω : EReal) (h : ℕ) :
    prod128_384 (fun j => V (j 2).val (j 3).val) (fun j => p (h + (j 2).val / 128) (128 * 2 + (j 2).val % 128) (j 1).val) ω = OT128 (out V ω p) 2 h := by
  funext j
  have h1 : (j 1).val < 128 := (j 1).isLt
  pointwise [prod128_384, OT128, out]
  rw [upto_block 2 _ (by omega), Finset.sum_range]
  simp only [Nat.div_eq_of_lt h1, Nat.mod_eq_of_lt h1, Nat.add_zero]

/-- The product of 512 keys' codes with the values. -/
def prod128_512 (v : FVec Ideal S1x1x128x512 .fp8e4m3) (p : FVec Ideal S1x512x128 .fp8e4m3) (ω : EReal) : FVec Ideal S128x128 .bf16 :=
  truncf (F := Ideal) .bf16 (mulf (F := Ideal) (φ := .f32) (matmul (F := Ideal) dot_S128x512_S512x128_S128x128_1_0_0_1_n_n none (shapeCast S128x512 v shapeCasts_S1x1x128x512_S128x512)
    (shapeCast S512x128 p shapeCasts_S1x512x128_S512x128) (constant S128x128 .f32 0x00000000#32)) (broadcast S128x128 ω)) bitsLt_bf16_f32
theorem prod128_512_eq (V : ℕ → ℕ → EReal) (p : Fn) (ω : EReal) (h : ℕ) :
    prod128_512 (fun j => V (j 2).val (j 3).val) (fun j => p (h + (j 2).val / 128) (128 * 3 + (j 2).val % 128) (j 1).val) ω = OT128 (out V ω p) 3 h := by
  funext j
  have h1 : (j 1).val < 128 := (j 1).isLt
  pointwise [prod128_512, OT128, out]
  rw [upto_block 3 _ (by omega), Finset.sum_range]
  simp only [Nat.div_eq_of_lt h1, Nat.mod_eq_of_lt h1, Nat.add_zero]

/-- The product of 640 keys' codes with the values. -/
def prod128_640 (v : FVec Ideal S1x1x128x640 .fp8e4m3) (p : FVec Ideal S1x640x128 .fp8e4m3) (ω : EReal) : FVec Ideal S128x128 .bf16 :=
  truncf (F := Ideal) .bf16 (mulf (F := Ideal) (φ := .f32) (matmul (F := Ideal) dot_S128x640_S640x128_S128x128_1_0_0_1_n_n none (shapeCast S128x640 v shapeCasts_S1x1x128x640_S128x640)
    (shapeCast S640x128 p shapeCasts_S1x640x128_S640x128) (constant S128x128 .f32 0x00000000#32)) (broadcast S128x128 ω)) bitsLt_bf16_f32
theorem prod128_640_eq (V : ℕ → ℕ → EReal) (p : Fn) (ω : EReal) (h : ℕ) :
    prod128_640 (fun j => V (j 2).val (j 3).val) (fun j => p (h + (j 2).val / 128) (128 * 4 + (j 2).val % 128) (j 1).val) ω = OT128 (out V ω p) 4 h := by
  funext j
  have h1 : (j 1).val < 128 := (j 1).isLt
  pointwise [prod128_640, OT128, out]
  rw [upto_block 4 _ (by omega), Finset.sum_range]
  simp only [Nat.div_eq_of_lt h1, Nat.mod_eq_of_lt h1, Nat.add_zero]

/-- The product of 768 keys' codes with the values. -/
def prod128_768 (v : FVec Ideal S1x1x128x768 .fp8e4m3) (p : FVec Ideal S1x768x128 .fp8e4m3) (ω : EReal) : FVec Ideal S128x128 .bf16 :=
  truncf (F := Ideal) .bf16 (mulf (F := Ideal) (φ := .f32) (matmul (F := Ideal) dot_S128x768_S768x128_S128x128_1_0_0_1_n_n none (shapeCast S128x768 v shapeCasts_S1x1x128x768_S128x768)
    (shapeCast S768x128 p shapeCasts_S1x768x128_S768x128) (constant S128x128 .f32 0x00000000#32)) (broadcast S128x128 ω)) bitsLt_bf16_f32
theorem prod128_768_eq (V : ℕ → ℕ → EReal) (p : Fn) (ω : EReal) (h : ℕ) :
    prod128_768 (fun j => V (j 2).val (j 3).val) (fun j => p (h + (j 2).val / 128) (128 * 5 + (j 2).val % 128) (j 1).val) ω = OT128 (out V ω p) 5 h := by
  funext j
  have h1 : (j 1).val < 128 := (j 1).isLt
  pointwise [prod128_768, OT128, out]
  rw [upto_block 5 _ (by omega), Finset.sum_range]
  simp only [Nat.div_eq_of_lt h1, Nat.mod_eq_of_lt h1, Nat.add_zero]

/-- The product of 896 keys' codes with the values. -/
def prod128_896 (v : FVec Ideal S1x1x128x896 .fp8e4m3) (p : FVec Ideal S1x896x128 .fp8e4m3) (ω : EReal) : FVec Ideal S128x128 .bf16 :=
  truncf (F := Ideal) .bf16 (mulf (F := Ideal) (φ := .f32) (matmul (F := Ideal) dot_S128x896_S896x128_S128x128_1_0_0_1_n_n none (shapeCast S128x896 v shapeCasts_S1x1x128x896_S128x896)
    (shapeCast S896x128 p shapeCasts_S1x896x128_S896x128) (constant S128x128 .f32 0x00000000#32)) (broadcast S128x128 ω)) bitsLt_bf16_f32
theorem prod128_896_eq (V : ℕ → ℕ → EReal) (p : Fn) (ω : EReal) (h : ℕ) :
    prod128_896 (fun j => V (j 2).val (j 3).val) (fun j => p (h + (j 2).val / 128) (128 * 6 + (j 2).val % 128) (j 1).val) ω = OT128 (out V ω p) 6 h := by
  funext j
  have h1 : (j 1).val < 128 := (j 1).isLt
  pointwise [prod128_896, OT128, out]
  rw [upto_block 6 _ (by omega), Finset.sum_range]
  simp only [Nat.div_eq_of_lt h1, Nat.mod_eq_of_lt h1, Nat.add_zero]

end Cert.KernelIdeal.Tile

end
-- ==== Proof.Kern.Base.lean ====
/- The tiles one grid point computes, from the blocks as it reads them. -/
module

public import proofs.«01_k».proof.Proof.Kern.Read
public import proofs.«01_k».proof.Proof.Kern.Slab
public import proofs.«01_k».proof.Proof.Kern.Out

@[expose] public section

set_option maxRecDepth 16384

noncomputable section

namespace Cert.KernelIdeal.Tile

open Cert.KernelIdeal Cert.KernelIdeal.Gen Idealize.ShloMosaic Idealize.ShloMosaic.TcCoe

/-- The scores of a grid point's blocks. -/
def Sc (i : grid0.Coords) (x0 : Vec Ideal S56 .f32) (x1 : Vec Ideal S8 .f32) (x3 : Vec Ideal S1x896x896 .fp8e4m3)
    (x4 : Vec Ideal S1x896x128 .fp8e4m3) : Fn := sc (Kf x4) (Xf x3) (sg i x0 x1)

/-- A query block as read. -/
def rdX (arg5 : Memref sig .tc .vmem S1x896x896 .fp8e4m3) (harg5 : arg5.IsWhole) (x3 : Vec Ideal S1x896x896 .fp8e4m3) (a b : ℕ)
    (h : a + 128 ≤ 896 ∧ b + 128 ≤ 896) : FVec Ideal S1x128x128 .fp8e4m3 :=
  View.readAt (Elt Ideal) arg5.view (Rect.unit (s := S1x896x896) ![0, a, b] S1x128x128.size
    (fun k => by fin_cases k; exacts [Nat.le_refl 1, h.1, h.2])).toLoadRect (harg5.unread x3)
/-- A key block as read. -/
def rdK (arg6 : Memref sig .tc .vmem S1x896x128 .fp8e4m3) (harg6 : arg6.IsWhole) (x4 : Vec Ideal S1x896x128 .fp8e4m3) (a : ℕ)
    (h : a + 128 ≤ 896) : FVec Ideal S1x128x128 .fp8e4m3 :=
  View.readAt (Elt Ideal) arg6.view (Rect.unit (s := S1x896x128) ![0, a, 0] S1x128x128.size
    (fun k => by fin_cases k; exacts [Nat.le_refl 1, h, Nat.le_refl 128])).toLoadRect (harg6.unread x4)
/-- The first `n` keys' values as read. -/
def rdV (n : ℕ) (arg7 : Memref sig .tc .vmem S1x1x128x896 .fp8e4m3) (harg7 : arg7.IsWhole) (x5 : Vec Ideal S1x1x128x896 .fp8e4m3)
    (h : n ≤ 896) : (⟨4, ![1, 1, 128, n]⟩ : Shape).Idx → EReal :=
  View.readAt (Elt Ideal) arg7.view (Rect.unit (s := S1x1x128x896) ![0, 0, 0, 0] ![1, 1, 128, n]
    (fun k => by fin_cases k; exacts [Nat.le_refl 1, Nat.le_refl 1, Nat.le_refl 128, (by show 0 + n ≤ 896; omega)])).toLoadRect (harg7.unread x5)
/-- A score factor from the scales as read. -/
def sgw (i : grid0.Coords) (arg2 : Memref sig .tc .smem S56 .f32) (harg2 : arg2.IsWhole) (arg3 : Memref sig .tc .smem S8 .f32) (harg3 : arg3.IsWhole)
    (x0 : Vec Ideal S56 .f32) (x1 : Vec Ideal S8 .f32) (h : ℕ) (hh : h < 7) : EReal :=
  k0_pay4 (F := Ideal)
    (View.readAt (Elt Ideal) arg2.view (Rect.unit (s := S56) (k0_off2 i (BitVec.ofNat 32 h)) S1.size (k0_off2_inb i ⟨h, hh⟩)).toLoadRect (harg2.unread x0)
      (Shape.Idx.first (s := S1) numel1_S1.symm.le))
    (View.readAt (Elt Ideal) arg3.view (Rect.unit (s := S8) (k0_off1 i) S1.size (k0_off1_inb i)).toLoadRect (harg3.unread x1)
      (Shape.Idx.first (s := S1) numel1_S1.symm.le))
/-- The output factor from the scale as read. -/
def omw (i : grid0.Coords) (arg4 : Memref sig .tc .smem S8 .f32) (harg4 : arg4.IsWhole) (x2 : Vec Ideal S8 .f32) : EReal :=
  k0_pay3 (F := Ideal)
    (View.readAt (Elt Ideal) arg4.view (Rect.unit (s := S8) (k0_off1 i) S1.size (k0_off1_inb i)).toLoadRect (harg4.unread x2)
      (Shape.Idx.first (s := S1) numel1_S1.symm.le))

variable (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem rdX_eq (a b : ℕ) (h : a + 128 ≤ 896 ∧ b + 128 ≤ 896) : rdX arg5 harg5 x3 a b h = blk (Xf x3) a b := readX _ _ _ _ _ _ h
theorem rdK_eq (a : ℕ) (h : a + 128 ≤ 896) : rdK arg6 harg6 x4 a h = blk (Kf x4) a 0 := readK _ _ _ _ _ h
theorem rdV_eq (n : ℕ) (h : n ≤ 896) : rdV n arg7 harg7 x5 h = fun j => Vf x5 (j 2).val (j 3).val := readV n _ _ _ _ h
theorem sgw_eq (h : ℕ) (hh : h < 7) : sgw i arg2 harg2 arg3 harg3 x0 x1 h hh = sg i x0 x1 h := by
  have h1 : (i 1).val < 8 := (i 1).isLt
  exact sg_eq i x0 x1 h (by omega) _ _ (readS56 _ _ _ _ _ hh _ _ _) (readS8 _ _ _ _ _ _)
theorem omw_eq : omw i arg4 harg4 x2 = om i x2 :=
  congrArg (k0_pay3 (F := Ideal)) (readS8 _ _ _ _ _ _)

theorem scoreN256_rd (a c h : ℕ) (hc : c < a) (ha : a < 7) (hh : h + 1 < 7) :
    scoreN256 (rdK arg6 harg6 x4 (128 * c) (by omega)) (rdX arg5 harg5 x3 (128 * a) (128 * h) (by omega))
      (rdX arg5 harg5 x3 (128 * a) (128 * (h + 1)) (by omega)) (sgw i arg2 harg2 arg3 harg3 x0 x1 h (by omega))
      (sgw i arg2 harg2 arg3 harg3 x0 x1 (h + 1) hh) = T256 (Sc i x0 x1 x3 x4) a c h := by
  rw [rdK_eq, rdX_eq, rdX_eq, sgw_eq, sgw_eq]; exact scoreN256_eq _ _ _ _ _ _ hc
theorem scoreD256_rd (a h : ℕ) (ha : a < 7) (hh : h + 1 < 7) :
    scoreD256 (rdK arg6 harg6 x4 (128 * a) (by omega)) (rdX arg5 harg5 x3 (128 * a) (128 * h) (by omega))
      (rdX arg5 harg5 x3 (128 * a) (128 * (h + 1)) (by omega)) (sgw i arg2 harg2 arg3 harg3 x0 x1 h (by omega))
      (sgw i arg2 harg2 arg3 harg3 x0 x1 (h + 1) hh) = T256 (Sc i x0 x1 x3 x4) a a h := by
  rw [rdK_eq, rdX_eq, rdX_eq, sgw_eq, sgw_eq]; exact scoreD256_eq _ _ _ _ _
theorem scoreN128_rd (a c h : ℕ) (hc : c < a) (ha : a < 7) (hh : h < 7) :
    scoreN128 (rdK arg6 harg6 x4 (128 * c) (by omega)) (rdX arg5 harg5 x3 (128 * a) (128 * h) (by omega))
      (sgw i arg2 harg2 arg3 harg3 x0 x1 h hh) = T128 (Sc i x0 x1 x3 x4) a c h := by
  rw [rdK_eq, rdX_eq, sgw_eq]; exact scoreN128_eq _ _ _ _ _ _ hc
theorem scoreD128_rd (a h : ℕ) (ha : a < 7) (hh : h < 7) :
    scoreD128 (rdK arg6 harg6 x4 (128 * a) (by omega)) (rdX arg5 harg5 x3 (128 * a) (128 * h) (by omega))
      (sgw i arg2 harg2 arg3 harg3 x0 x1 h hh) = T128 (Sc i x0 x1 x3 x4) a a h := by
  rw [rdK_eq, rdX_eq, sgw_eq]; exact scoreD128_eq _ _ _ _ _

/-- The outputs of a grid point's blocks. -/
def Ou (i : grid0.Coords) (x0 : Vec Ideal S56 .f32) (x1 : Vec Ideal S8 .f32) (x2 : Vec Ideal S8 .f32) (x3 : Vec Ideal S1x896x896 .fp8e4m3)
    (x4 : Vec Ideal S1x896x128 .fp8e4m3) (x5 : Vec Ideal S1x1x128x896 .fp8e4m3) : Fn :=
  out (Vf x5) (om i x2) (cd (ex (Sc i x0 x1 x3 x4)))

end Cert.KernelIdeal.Tile

end
-- ==== Proof.Kern.Block0.lean ====
/- The tiles of query block 0 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_0_0 : (v88 (F := Ideal) c i arg2 harg2 arg3 harg3 arg5 harg5 arg6 harg6 x0 x1 x3 x4) = T256 (Sc i x0 x1 x3 x4) 0 0 0 :=
  scoreD256_rd i arg2 harg2 arg3 harg3 arg5 harg5 arg6 harg6 x0 x1 x3 x4 0 0 (by decide) (by decide)

theorem R_0_0 : (v176 (F := Ideal) c i arg2 harg2 arg3 harg3 arg5 harg5 arg6 harg6 arg9 x0 x1 x3 x4) = B256 (φ := .f32) (Sc i x0 x1 x3 x4) 0 0 0 := by
  refine Eq.trans ?_ ((congrArg (fun t => shapeCast S1x128x256 t shapeCasts_S128x256_S1x128x256) (S_0_0 c i arg2 harg2 arg3 harg3 arg5 harg5 arg6 harg6 x0 x1 x3 x4)).trans (store256 _ _ _ _ _))
  refine (View.readCov_skip _ _ _ _ _ (by decide)).trans ?_
  exact View.readCov_cons_toLoadRect _ _ _ _

theorem M_0 : (v124 (F := Ideal) c i arg2 harg2 arg3 harg3 arg5 harg5 arg6 harg6 x0 x1 x3 x4) = R256 (mx (Sc i x0 x1 x3 x4)) 0 0 := by
  refine (show _ = rmax256 (v88 (F := Ideal) c i arg2 harg2 arg3 harg3 arg5 harg5 arg6 harg6 x0 x1 x3 x4) [] from rfl).trans ?_
  rw [S_0_0]
  exact rmax256_eq _ _ _

theorem E_0_0 : expT256 (v176 (F := Ideal) c i arg2 harg2 arg3 harg3 arg5 harg5 arg6 harg6 arg9 x0 x1 x3 x4) (v124 (F := Ideal) c i arg2 harg2 arg3 harg3 arg5 harg5 arg6 harg6 x0 x1 x3 x4) = T256 (ex (Sc i x0 x1 x3 x4)) 0 0 0 := by
  rw [R_0_0, M_0]; exact expT256_eq _ _ _ _

theorem Q_0_0 : (v311 (F := Ideal) c i arg2 harg2 arg3 harg3 arg5 harg5 arg6 harg6 arg9 x0 x1 x3 x4) = B256 (φ := .f32) (ex (Sc i x0 x1 x3 x4)) 0 0 0 := by
  refine Eq.trans ?_ ((congrArg (fun t => shapeCast S1x128x256 t shapeCasts_S128x256_S1x128x256) (E_0_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  exact View.readCov_cons_toLoadRect _ _ _ _

theorem L_0 : (v220 (F := Ideal) c i arg2 harg2 arg3 harg3 arg5 harg5 arg6 harg6 arg9 x0 x1 x3 x4) = R256 (rc (ex (Sc i x0 x1 x3 x4))) 0 0 := by
  refine (show _ = rdiv256 (expT256 (v176 (F := Ideal) c i arg2 harg2 arg3 harg3 arg5 harg5 arg6 harg6 arg9 x0 x1 x3 x4) (v124 (F := Ideal) c i arg2 harg2 arg3 harg3 arg5 harg5 arg6 harg6 x0 x1 x3 x4)) [] from rfl).trans ?_
  rw [E_0_0]
  exact rdiv256_eq _ _ _

theorem C_0_0 : code256 (v311 (F := Ideal) c i arg2 harg2 arg3 harg3 arg5 harg5 arg6 harg6 arg9 x0 x1 x3 x4) (v220 (F := Ideal) c i arg2 harg2 arg3 harg3 arg5 harg5 arg6 harg6 arg9 x0 x1 x3 x4) = T256 (cd (ex (Sc i x0 x1 x3 x4))) 0 0 0 := by
  rw [Q_0_0, L_0]; exact code256_eq _ _ _ _

theorem P_0 : (v331 (F := Ideal) c i arg2 harg2 arg3 harg3 arg5 harg5 arg6 harg6 arg9 arg10 x0 x1 x3 x4) = fun j => (cd (ex (Sc i x0 x1 x3 x4))) (0 + (j 2).val / 128) (128 * 0 + (j 2).val % 128) (j 1).val := by
  refine Eq.trans (Slab.read (f := (cd (ex (Sc i x0 x1 x3 x4)))) (i := 0) (h := 0) (n := 1) ?_ 128 (by decide) _ _) rfl
  refine Slab.next (n := 0) ?_ _ _ ?_
  rotate_left
  · intro j
    exact (congrFun ((congrArg (fun t => shapeCast S1x128x256 t shapeCasts_S128x256_S1x128x256) (C_0_0 c i arg2 harg2 arg3 harg3 arg5 harg5 arg6 harg6 arg9 x0 x1 x3 x4)).trans (store256 _ _ _ _ _)) j)
  exact Slab.nil _ _ _ _ _ _

theorem D_0 : prod256_128 (rdV 128 arg7 harg7 x5 (by decide)) (v331 (F := Ideal) c i arg2 harg2 arg3 harg3 arg5 harg5 arg6 harg6 arg9 arg10 x0 x1 x3 x4) (omw i arg4 harg4 x2) = OT256 (Ou i x0 x1 x2 x3 x4 x5) 0 0 := by
  rw [rdV_eq, omw_eq, P_0]; exact prod256_128_eq _ _ _ _

theorem O_0_0 : (v341 (F := Ideal) c i arg2 harg2 arg3 harg3 arg4 harg4 arg5 harg5 arg6 harg6 arg7 harg7 arg9 arg10 x0 x1 x2 x3 x4 x5) = OB (Ou i x0 x1 x2 x3 x4 x5) 0 0 := (congrArg outA256 (D_0 c i arg2 harg2 arg3 harg3 arg4 harg4 arg5 harg5 arg6 harg6 arg7 harg7 arg9 arg10 x0 x1 x2 x3 x4 x5)).trans (outA256_eq _ _ _)

theorem O_0_1 : (v346 (F := Ideal) c i arg2 harg2 arg3 harg3 arg4 harg4 arg5 harg5 arg6 harg6 arg7 harg7 arg9 arg10 x0 x1 x2 x3 x4 x5) = OB (Ou i x0 x1 x2 x3 x4 x5) 0 1 := (congrArg outB256 (D_0 c i arg2 harg2 arg3 harg3 arg4 harg4 arg5 harg5 arg6 harg6 arg7 harg7 arg9 arg10 x0 x1 x2 x3 x4 x5)).trans (outB256_eq _ _ _)

theorem S_1_0 : (v141 (F := Ideal) c i arg2 harg2 arg3 harg3 arg5 harg5 arg6 harg6 x0 x1 x3 x4) = T256 (Sc i x0 x1 x3 x4) 0 0 2 :=
  scoreD256_rd i arg2 harg2 arg3 harg3 arg5 harg5 arg6 harg6 x0 x1 x3 x4 0 2 (by decide) (by decide)

theorem R_1_0 : (v272 (F := Ideal) c i arg2 harg2 arg3 harg3 arg5 harg5 arg6 harg6 arg9 x0 x1 x3 x4) = B256 (φ := .f32) (Sc i x0 x1 x3 x4) 0 0 2 := by
  refine Eq.trans ?_ ((congrArg (fun t => shapeCast S1x128x256 t shapeCasts_S128x256_S1x128x256) (S_1_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  exact View.readCov_cons_toLoadRect _ _ _ _

theorem M_1 : (v216 (F := Ideal) c i arg2 harg2 arg3 harg3 arg5 harg5 arg6 harg6 x0 x1 x3 x4) = R256 (mx (Sc i x0 x1 x3 x4)) 0 2 := by
  refine (show _ = rmax256 (v141 (F := Ideal) c i arg2 harg2 arg3 harg3 arg5 harg5 arg6 harg6 x0 x1 x3 x4) [] from rfl).trans ?_
  rw [S_1_0]
  exact rmax256_eq _ _ _

theorem E_1_0 : expT256 (v272 (F := Ideal) c i arg2 harg2 arg3 harg3 arg5 harg5 arg6 harg6 arg9 x0 x1 x3 x4) (v216 (F := Ideal) c i arg2 harg2 arg3 harg3 arg5 harg5 arg6 harg6 x0 x1 x3 x4) = T256 (ex (Sc i x0 x1 x3 x4)) 0 0 2 := by
  rw [R_1_0, M_1]; exact expT256_eq _ _ _ _

theorem Q_1_0 : (v428 (F := Ideal) c i arg2 harg2 arg3 harg3 arg5 harg5 arg6 harg6 arg9 x0 x1 x3 x4) = B256 (φ := .f32) (ex (Sc i x0 x1 x3 x4)) 0 0 2 := by
  refine Eq.trans ?_ ((congrArg (fun t => shapeCast S1x128x256 t shapeCasts_S128x256_S1x128x256) (E_1_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  exact View.readCov_cons_toLoadRect _ _ _ _

theorem L_1 : (v328 (F := Ideal) c i arg2 harg2 arg3 harg3 arg5 harg5 arg6 harg6 arg9 x0 x1 x3 x4) = R256 (rc (ex (Sc i x0 x1 x3 x4))) 0 2 := by
  refine (show _ = rdiv256 (expT256 (v272 (F := Ideal) c i arg2 harg2 arg3 harg3 arg5 harg5 arg6 harg6 arg9 x0 x1 x3 x4) (v216 (F := Ideal) c i arg2 harg2 arg3 harg3 arg5 harg5 arg6 harg6 x0 x1 x3 x4)) [] from rfl).trans ?_
  rw [E_1_0]
  exact rdiv256_eq _ _ _

theorem C_1_0 : code256 (v428 (F := Ideal) c i arg2 harg2 arg3 harg3 arg5 harg5 arg6 harg6 arg9 x0 x1 x3 x4) (v328 (F := Ideal) c i arg2 harg2 arg3 harg3 arg5 harg5 arg6 harg6 arg9 x0 x1 x3 x4) = T256 (cd (ex (Sc i x0 x1 x3 x4))) 0 0 2 := by
  rw [Q_1_0, L_1]; exact code256_eq _ _ _ _

theorem P_1 : (v448 (F := Ideal) c i arg2 harg2 arg3 harg3 arg5 harg5 arg6 harg6 arg9 arg10 x0 x1 x3 x4) = fun j => (cd (ex (Sc i x0 x1 x3 x4))) (2 + (j 2).val / 128) (128 * 0 + (j 2).val % 128) (j 1).val := by
  refine Eq.trans (Slab.read (f := (cd (ex (Sc i x0 x1 x3 x4)))) (i := 0) (h := 2) (n := 1) ?_ 128 (by decide) _ _) rfl
  refine Slab.next (n := 0) ?_ _ _ ?_
  rotate_left
  · intro j
    exact (congrFun ((congrArg (fun t => shapeCast S1x128x256 t shapeCasts_S128x256_S1x128x256) (C_1_0 c i arg2 harg2 arg3 harg3 arg5 harg5 arg6 harg6 arg9 x0 x1 x3 x4)).trans (store256 _ _ _ _ _)) j)
  exact Slab.nil _ _ _ _ _ _

theorem D_1 : prod256_128 (rdV 128 arg7 harg7 x5 (by decide)) (v448 (F := Ideal) c i arg2 harg2 arg3 harg3 arg5 harg5 arg6 harg6 arg9 arg10 x0 x1 x3 x4) (omw i arg4 harg4 x2) = OT256 (Ou i x0 x1 x2 x3 x4 x5) 0 2 := by
  rw [rdV_eq, omw_eq, P_1]; exact prod256_128_eq _ _ _ _

theorem O_1_0 : (v458 (F := Ideal) c i arg2 harg2 arg3 harg3 arg4 harg4 arg5 harg5 arg6 harg6 arg7 harg7 arg9 arg10 x0 x1 x2 x3 x4 x5) = OB (Ou i x0 x1 x2 x3 x4 x5) 0 2 := (congrArg outA256 (D_1 c i arg2 harg2 arg3 harg3 arg4 harg4 arg5 harg5 arg6 harg6 arg7 harg7 arg9 arg10 x0 x1 x2 x3 x4 x5)).trans (outA256_eq _ _ _)

theorem O_1_1 : (v463 (F := Ideal) c i arg2 harg2 arg3 harg3 arg4 harg4 arg5 harg5 arg6 harg6 arg7 harg7 arg9 arg10 x0 x1 x2 x3 x4 x5) = OB (Ou i x0 x1 x2 x3 x4 x5) 0 3 := (congrArg outB256 (D_1 c i arg2 harg2 arg3 harg3 arg4 harg4 arg5 harg5 arg6 harg6 arg7 harg7 arg9 arg10 x0 x1 x2 x3 x4 x5)).trans (outB256_eq _ _ _)

theorem S_2_0 : (v237 (F := Ideal) c i arg2 harg2 arg3 harg3 arg5 harg5 arg6 harg6 x0 x1 x3 x4) = T256 (Sc i x0 x1 x3 x4) 0 0 4 :=
  scoreD256_rd i arg2 harg2 arg3 harg3 arg5 harg5 arg6 harg6 x0 x1 x3 x4 0 4 (by decide) (by decide)

theorem R_2_0 : (v389 (F := Ideal) c i arg2 harg2 arg3 harg3 arg5 harg5 arg6 harg6 arg9 x0 x1 x3 x4) = B256 (φ := .f32) (Sc i x0 x1 x3 x4) 0 0 4 := by
  refine Eq.trans ?_ ((congrArg (fun t => shapeCast S1x128x256 t shapeCasts_S128x256_S1x128x256) (S_2_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  exact View.readCov_cons_toLoadRect _ _ _ _

theorem M_2 : (v324 (F := Ideal) c i arg2 harg2 arg3 harg3 arg5 harg5 arg6 harg6 x0 x1 x3 x4) = R256 (mx (Sc i x0 x1 x3 x4)) 0 4 := by
  refine (show _ = rmax256 (v237 (F := Ideal) c i arg2 harg2 arg3 harg3 arg5 harg5 arg6 harg6 x0 x1 x3 x4) [] from rfl).trans ?_
  rw [S_2_0]
  exact rmax256_eq _ _ _

theorem E_2_0 : expT256 (v389 (F := Ideal) c i arg2 harg2 arg3 harg3 arg5 harg5 arg6 harg6 arg9 x0 x1 x3 x4) (v324 (F := Ideal) c i arg2 harg2 arg3 harg3 arg5 harg5 arg6 harg6 x0 x1 x3 x4) = T256 (ex (Sc i x0 x1 x3 x4)) 0 0 4 := by
  rw [R_2_0, M_2]; exact expT256_eq _ _ _ _

theorem Q_2_0 : (v552 (F := Ideal) c i arg2 harg2 arg3 harg3 arg5 harg5 arg6 harg6 arg9 x0 x1 x3 x4) = B256 (φ := .f32) (ex (Sc i x0 x1 x3 x4)) 0 0 4 := by
  refine Eq.trans ?_ ((congrArg (fun t => shapeCast S1x128x256 t shapeCasts_S128x256_S1x128x256) (E_2_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  exact View.readCov_cons_toLoadRect _ _ _ _

theorem L_2 : (v445 (F := Ideal) c i arg2 harg2 arg3 harg3 arg5 harg5 arg6 harg6 arg9 x0 x1 x3 x4) = R256 (rc (ex (Sc i x0 x1 x3 x4))) 0 4 := by
  refine (show _ = rdiv256 (expT256 (v389 (F := Ideal) c i arg2 harg2 arg3 harg3 arg5 harg5 arg6 harg6 arg9 x0 x1 x3 x4) (v324 (F := Ideal) c i arg2 harg2 arg3 harg3 arg5 harg5 arg6 harg6 x0 x1 x3 x4)) [] from rfl).trans ?_
  rw [E_2_0]
  exact rdiv256_eq _ _ _

theorem C_2_0 : code256 (v552 (F := Ideal) c i arg2 harg2 arg3 harg3 arg5 harg5 arg6 harg6 arg9 x0 x1 x3 x4) (v445 (F := Ideal) c i arg2 harg2 arg3 harg3 arg5 harg5 arg6 harg6 arg9 x0 x1 x3 x4) = T256 (cd (ex (Sc i x0 x1 x3 x4))) 0 0 4 := by
  rw [Q_2_0, L_2]; exact code256_eq _ _ _ _

theorem P_2 : (v617 (F := Ideal) c i arg2 harg2 arg3 harg3 arg5 harg5 arg6 harg6 arg9 arg10 x0 x1 x3 x4) = fun j => (cd (ex (Sc i x0 x1 x3 x4))) (4 + (j 2).val / 128) (128 * 0 + (j 2).val % 128) (j 1).val := by
  refine Eq.trans (Slab.read (f := (cd (ex (Sc i x0 x1 x3 x4)))) (i := 0) (h := 4) (n := 1) ?_ 128 (by decide) _ _) rfl
  refine Slab.next (n := 0) ?_ _ _ ?_
  rotate_left
  · intro j
    exact (congrFun ((congrArg (fun t => shapeCast S1x128x256 t shapeCasts_S128x256_S1x128x256) (C_2_0 c i arg2 harg2 arg3 harg3 arg5 harg5 arg6 harg6 arg9 x0 x1 x3 x4)).trans (store256 _ _ _ _ _)) j)
  exact Slab.nil _ _ _ _ _ _

theorem D_2 : prod256_128 (rdV 128 arg7 harg7 x5 (by decide)) (v617 (F := Ideal) c i arg2 harg2 arg3 harg3 arg5 harg5 arg6 harg6 arg9 arg10 x0 x1 x3 x4) (omw i arg4 harg4 x2) = OT256 (Ou i x0 x1 x2 x3 x4 x5) 0 4 := by
  rw [rdV_eq, omw_eq, P_2]; exact prod256_128_eq _ _ _ _

theorem O_2_0 : (v627 (F := Ideal) c i arg2 harg2 arg3 harg3 arg4 harg4 arg5 harg5 arg6 harg6 arg7 harg7 arg9 arg10 x0 x1 x2 x3 x4 x5) = OB (Ou i x0 x1 x2 x3 x4 x5) 0 4 := (congrArg outA256 (D_2 c i arg2 harg2 arg3 harg3 arg4 harg4 arg5 harg5 arg6 harg6 arg7 harg7 arg9 arg10 x0 x1 x2 x3 x4 x5)).trans (outA256_eq _ _ _)

theorem O_2_1 : (v632 (F := Ideal) c i arg2 harg2 arg3 harg3 arg4 harg4 arg5 harg5 arg6 harg6 arg7 harg7 arg9 arg10 x0 x1 x2 x3 x4 x5) = OB (Ou i x0 x1 x2 x3 x4 x5) 0 5 := (congrArg outB256 (D_2 c i arg2 harg2 arg3 harg3 arg4 harg4 arg5 harg5 arg6 harg6 arg7 harg7 arg9 arg10 x0 x1 x2 x3 x4 x5)).trans (outB256_eq _ _ _)

theorem S_3_0 : (v354 (F := Ideal) c i arg2 harg2 arg3 harg3 arg5 harg5 arg6 harg6 x0 x1 x3 x4) = T128 (Sc i x0 x1 x3 x4) 0 0 6 :=
  scoreD128_rd i arg2 harg2 arg3 harg3 arg5 harg5 arg6 harg6 x0 x1 x3 x4 0 6 (by decide) (by decide)

theorem R_3_0 : (v513 (F := Ideal) c i arg2 harg2 arg3 harg3 arg5 harg5 arg6 harg6 arg9 x0 x1 x3 x4) = B128 (φ := .f32) (Sc i x0 x1 x3 x4) 0 0 6 := by
  refine Eq.trans ?_ ((congrArg (fun t => shapeCast S1x128x128 t shapeCasts_S128x128_S1x128x128) (S_3_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  exact View.readCov_cons_toLoadRect _ _ _ _

theorem M_3 : (v441 (F := Ideal) c i arg2 harg2 arg3 harg3 arg5 harg5 arg6 harg6 x0 x1 x3 x4) = R128 (mx (Sc i x0 x1 x3 x4)) 0 6 := by
  refine (show _ = rmax128 (v354 (F := Ideal) c i arg2 harg2 arg3 harg3 arg5 harg5 arg6 harg6 x0 x1 x3 x4) [] from rfl).trans ?_
  rw [S_3_0]
  exact rmax128_eq _ _ _

theorem E_3_0 : expT128 (v513 (F := Ideal) c i arg2 harg2 arg3 harg3 arg5 harg5 arg6 harg6 arg9 x0 x1 x3 x4) (v441 (F := Ideal) c i arg2 harg2 arg3 harg3 arg5 harg5 arg6 harg6 x0 x1 x3 x4) = T128 (ex (Sc i x0 x1 x3 x4)) 0 0 6 := by
  rw [R_3_0, M_3]; exact expT128_eq _ _ _ _

theorem Q_3_0 : (v723 (F := Ideal) c i arg2 harg2 arg3 harg3 arg5 harg5 arg6 harg6 arg9 x0 x1 x3 x4) = B128 (φ := .f32) (ex (Sc i x0 x1 x3 x4)) 0 0 6 := by
  refine Eq.trans ?_ ((congrArg (fun t => shapeCast S1x128x128 t shapeCasts_S128x128_S1x128x128) (E_3_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_3 : (v614 (F := Ideal) c i arg2 harg2 arg3 harg3 arg5 harg5 arg6 harg6 arg9 x0 x1 x3 x4) = R128 (rc (ex (Sc i x0 x1 x3 x4))) 0 6 := by
  refine (show _ = rdiv128 (expT128 (v513 (F := Ideal) c i arg2 harg2 arg3 harg3 arg5 harg5 arg6 harg6 arg9 x0 x1 x3 x4) (v441 (F := Ideal) c i arg2 harg2 arg3 harg3 arg5 harg5 arg6 harg6 x0 x1 x3 x4)) [] from rfl).trans ?_
  rw [E_3_0]
  exact rdiv128_eq _ _ _

theorem C_3_0 : code128 (v723 (F := Ideal) c i arg2 harg2 arg3 harg3 arg5 harg5 arg6 harg6 arg9 x0 x1 x3 x4) (v614 (F := Ideal) c i arg2 harg2 arg3 harg3 arg5 harg5 arg6 harg6 arg9 x0 x1 x3 x4) = T128 (cd (ex (Sc i x0 x1 x3 x4))) 0 0 6 := by
  rw [Q_3_0, L_3]; exact code128_eq _ _ _ _

theorem P_3 : (v824 (F := Ideal) c i arg2 harg2 arg3 harg3 arg5 harg5 arg6 harg6 arg9 arg10 x0 x1 x3 x4) = fun j => (cd (ex (Sc i x0 x1 x3 x4))) (6 + (j 2).val / 128) (128 * 0 + (j 2).val % 128) (j 1).val := by
  refine Eq.trans (Slab.read (f := (cd (ex (Sc i x0 x1 x3 x4)))) (i := 0) (h := 6) (n := 1) ?_ 128 (by decide) _ _) rfl
  refine Slab.next (n := 0) ?_ _ _ ?_
  rotate_left
  · intro j
    exact (congrFun ((congrArg (fun t => shapeCast S1x128x128 t shapeCasts_S128x128_S1x128x128) (C_3_0 c i arg2 harg2 arg3 harg3 arg5 harg5 arg6 harg6 arg9 x0 x1 x3 x4)).trans (store128 _ _ _ _ _)) j).trans (B128_slab _ _ _ _ _)
  exact Slab.nil _ _ _ _ _ _

theorem D_3 : prod128_128 (rdV 128 arg7 harg7 x5 (by decide)) (v824 (F := Ideal) c i arg2 harg2 arg3 harg3 arg5 harg5 arg6 harg6 arg9 arg10 x0 x1 x3 x4) (omw i arg4 harg4 x2) = OT128 (Ou i x0 x1 x2 x3 x4 x5) 0 6 := by
  rw [rdV_eq, omw_eq, P_3]; exact prod128_128_eq _ _ _ _

theorem O_3_0 : (v833 (F := Ideal) c i arg2 harg2 arg3 harg3 arg4 harg4 arg5 harg5 arg6 harg6 arg7 harg7 arg9 arg10 x0 x1 x2 x3 x4 x5) = OB (Ou i x0 x1 x2 x3 x4 x5) 0 6 := (congrArg outA128 (D_3 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Block1.lean ====
/- The tiles of query block 1 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_4_0 : (v478 (F := Ideal) c i arg2 harg2 arg3 harg3 arg5 harg5 arg6 harg6 x0 x1 x3 x4) = T256 (Sc i x0 x1 x3 x4) 1 0 0 :=
  scoreN256_rd i arg2 harg2 arg3 harg3 arg5 harg5 arg6 harg6 x0 x1 x3 x4 1 0 0 (by decide) (by decide) (by decide)

theorem S_4_1 : (v575 (F := Ideal) c i arg2 harg2 arg3 harg3 arg5 harg5 arg6 harg6 x0 x1 x3 x4) = T256 (Sc i x0 x1 x3 x4) 1 1 0 :=
  scoreD256_rd i arg2 harg2 arg3 harg3 arg5 harg5 arg6 harg6 x0 x1 x3 x4 1 0 (by decide) (by decide)

theorem R_4_0 : (v684 (F := Ideal) c i arg2 harg2 arg3 harg3 arg5 harg5 arg6 harg6 arg9 x0 x1 x3 x4) = B256 (φ := .f32) (Sc i x0 x1 x3 x4) 1 0 0 := by
  refine Eq.trans ?_ ((congrArg (fun t => shapeCast S1x128x256 t shapeCasts_S128x256_S1x128x256) (S_4_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_4_1 : (v782 (F := Ideal) c i arg2 harg2 arg3 harg3 arg5 harg5 arg6 harg6 arg9 x0 x1 x3 x4) = B256 (φ := .f32) (Sc i x0 x1 x3 x4) 1 1 0 := by
  refine Eq.trans ?_ ((congrArg (fun t => shapeCast S1x128x256 t shapeCasts_S128x256_S1x128x256) (S_4_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_4 : (v634 (F := Ideal) c i arg2 harg2 arg3 harg3 arg5 harg5 arg6 harg6 x0 x1 x3 x4) = R256 (mx (Sc i x0 x1 x3 x4)) 1 0 := by
  refine (show _ = rmax256 (v478 (F := Ideal) c i arg2 harg2 arg3 harg3 arg5 harg5 arg6 harg6 x0 x1 x3 x4) [(v575 (F := Ideal) c i arg2 harg2 arg3 harg3 arg5 harg5 arg6 harg6 x0 x1 x3 x4)] from rfl).trans ?_
  rw [S_4_0, S_4_1]
  exact rmax256_eq _ _ _

theorem E_4_0 : expT256 (v684 (F := Ideal) c i arg2 harg2 arg3 harg3 arg5 harg5 arg6 harg6 arg9 x0 x1 x3 x4) (v634 (F := Ideal) c i arg2 harg2 arg3 harg3 arg5 harg5 arg6 harg6 x0 x1 x3 x4) = T256 (ex (Sc i x0 x1 x3 x4)) 1 0 0 := by
  rw [R_4_0, M_4]; exact expT256_eq _ _ _ _

theorem E_4_1 : expT256 (v782 (F := Ideal) c i arg2 harg2 arg3 harg3 arg5 harg5 arg6 harg6 arg9 x0 x1 x3 x4) (v634 (F := Ideal) c i arg2 harg2 arg3 harg3 arg5 harg5 arg6 harg6 x0 x1 x3 x4) = T256 (ex (Sc i x0 x1 x3 x4)) 1 1 0 := by
  rw [R_4_1, M_4]; exact expT256_eq _ _ _ _

theorem Q_4_0 : (v928 (F := Ideal) c i arg2 harg2 arg3 harg3 arg5 harg5 arg6 harg6 arg9 x0 x1 x3 x4) = B256 (φ := .f32) (ex (Sc i x0 x1 x3 x4)) 1 0 0 := by
  refine Eq.trans ?_ ((congrArg (fun t => shapeCast S1x128x256 t shapeCasts_S128x256_S1x128x256) (E_4_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_4_1 : (v1027 (F := Ideal) c i arg2 harg2 arg3 harg3 arg5 harg5 arg6 harg6 arg9 x0 x1 x3 x4) = B256 (φ := .f32) (ex (Sc i x0 x1 x3 x4)) 1 1 0 := by
  refine Eq.trans ?_ ((congrArg (fun t => shapeCast S1x128x256 t shapeCasts_S128x256_S1x128x256) (E_4_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_4 : (v839 (F := Ideal) c i arg2 harg2 arg3 harg3 arg5 harg5 arg6 harg6 arg9 x0 x1 x3 x4) = R256 (rc (ex (Sc i x0 x1 x3 x4))) 1 0 := by
  refine (show _ = rdiv256 (expT256 (v684 (F := Ideal) c i arg2 harg2 arg3 harg3 arg5 harg5 arg6 harg6 arg9 x0 x1 x3 x4) (v634 (F := Ideal) c i arg2 harg2 arg3 harg3 arg5 harg5 arg6 harg6 x0 x1 x3 x4)) [expT256 (v782 (F := Ideal) c i arg2 harg2 arg3 harg3 arg5 harg5 arg6 harg6 arg9 x0 x1 x3 x4) (v634 (F := Ideal) c i arg2 harg2 arg3 harg3 arg5 harg5 arg6 harg6 x0 x1 x3 x4)] from rfl).trans ?_
  rw [E_4_0, E_4_1]
  exact rdiv256_eq _ _ _

theorem C_4_0 : code256 (v928 (F := Ideal) c i arg2 harg2 arg3 harg3 arg5 harg5 arg6 harg6 arg9 x0 x1 x3 x4) (v839 (F := Ideal) c i arg2 harg2 arg3 harg3 arg5 harg5 arg6 harg6 arg9 x0 x1 x3 x4) = T256 (cd (ex (Sc i x0 x1 x3 x4))) 1 0 0 := by
  rw [Q_4_0, L_4]; exact code256_eq _ _ _ _

theorem C_4_1 : code256 (v1027 (F := Ideal) c i arg2 harg2 arg3 harg3 arg5 harg5 arg6 harg6 arg9 x0 x1 x3 x4) (v839 (F := Ideal) c i arg2 harg2 arg3 harg3 arg5 harg5 arg6 harg6 arg9 x0 x1 x3 x4) = T256 (cd (ex (Sc i x0 x1 x3 x4))) 1 1 0 := by
  rw [Q_4_1, L_4]; exact code256_eq _ _ _ _

theorem P_4 : (v1047 (F := Ideal) c i arg2 harg2 arg3 harg3 arg5 harg5 arg6 harg6 arg9 arg10 x0 x1 x3 x4) = fun j => (cd (ex (Sc i x0 x1 x3 x4))) (0 + (j 2).val / 128) (128 * 1 + (j 2).val % 128) (j 1).val := by
  refine Eq.trans (Slab.read (f := (cd (ex (Sc i x0 x1 x3 x4)))) (i := 1) (h := 0) (n := 2) ?_ 256 (by decide) _ _) rfl
  refine Slab.next (n := 1) ?_ _ _ ?_
  rotate_left
  · intro j
    exact (congrFun ((congrArg (fun t => shapeCast S1x128x256 t shapeCasts_S128x256_S1x128x256) (C_4_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_4_0 c i arg2 harg2 arg3 harg3 arg5 harg5 arg6 harg6 arg9 x0 x1 x3 x4)).trans (store256 _ _ _ _ _)) j)
  exact Slab.nil _ _ _ _ _ _

theorem D_4 : prod256_256 (rdV 256 arg7 harg7 x5 (by decide)) (v1047 (F := Ideal) c i arg2 harg2 arg3 harg3 arg5 harg5 arg6 harg6 arg9 arg10 x0 x1 x3 x4) (omw i arg4 harg4 x2) = OT256 (Ou i x0 x1 x2 x3 x4 x5) 1 0 := by
  rw [rdV_eq, omw_eq, P_4]; exact prod256_256_eq _ _ _ _

theorem O_4_0 : (v1057 (F := Ideal) c i arg2 harg2 arg3 harg3 arg4 harg4 arg5 harg5 arg6 harg6 arg7 harg7 arg9 arg10 x0 x1 x2 x3 x4 x5) = OB (Ou i x0 x1 x2 x3 x4 x5) 1 0 := (congrArg outA256 (D_4 c i arg2 harg2 arg3 harg3 arg4 harg4 arg5 harg5 arg6 harg6 arg7 harg7 arg9 arg10 x0 x1 x2 x3 x4 x5)).trans (outA256_eq _ _ _)

theorem O_4_1 : (v1062 (F := Ideal) c i arg2 harg2 arg3 harg3 arg4 harg4 arg5 harg5 arg6 harg6 arg7 harg7 arg9 arg10 x0 x1 x2 x3 x4 x5) = OB (Ou i x0 x1 x2 x3 x4 x5) 1 1 := (congrArg outB256 (D_4 c i arg2 harg2 arg3 harg3 arg4 harg4 arg5 harg5 arg6 harg6 arg7 harg7 arg9 arg10 x0 x1 x2 x3 x4 x5)).trans (outB256_eq _ _ _)

theorem S_5_0 : (v649 (F := Ideal) c i arg2 harg2 arg3 harg3 arg5 harg5 arg6 harg6 x0 x1 x3 x4) = T256 (Sc i x0 x1 x3 x4) 1 0 2 :=
  scoreN256_rd i arg2 harg2 arg3 harg3 arg5 harg5 arg6 harg6 x0 x1 x3 x4 1 0 2 (by decide) (by decide) (by decide)

theorem S_5_1 : (v746 (F := Ideal) c i arg2 harg2 arg3 harg3 arg5 harg5 arg6 harg6 x0 x1 x3 x4) = T256 (Sc i x0 x1 x3 x4) 1 1 2 :=
  scoreD256_rd i arg2 harg2 arg3 harg3 arg5 harg5 arg6 harg6 x0 x1 x3 x4 1 2 (by decide) (by decide)

theorem R_5_0 : (v889 (F := Ideal) c i arg2 harg2 arg3 harg3 arg5 harg5 arg6 harg6 arg9 x0 x1 x3 x4) = B256 (φ := .f32) (Sc i x0 x1 x3 x4) 1 0 2 := by
  refine Eq.trans ?_ ((congrArg (fun t => shapeCast S1x128x256 t shapeCasts_S128x256_S1x128x256) (S_5_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_5_1 : (v987 (F := Ideal) c i arg2 harg2 arg3 harg3 arg5 harg5 arg6 harg6 arg9 x0 x1 x3 x4) = B256 (φ := .f32) (Sc i x0 x1 x3 x4) 1 1 2 := by
  refine Eq.trans ?_ ((congrArg (fun t => shapeCast S1x128x256 t shapeCasts_S128x256_S1x128x256) (S_5_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_5 : (v835 (F := Ideal) c i arg2 harg2 arg3 harg3 arg5 harg5 arg6 harg6 x0 x1 x3 x4) = R256 (mx (Sc i x0 x1 x3 x4)) 1 2 := by
  refine (show _ = rmax256 (v649 (F := Ideal) c i arg2 harg2 arg3 harg3 arg5 harg5 arg6 harg6 x0 x1 x3 x4) [(v746 (F := Ideal) c i arg2 harg2 arg3 harg3 arg5 harg5 arg6 harg6 x0 x1 x3 x4)] from rfl).trans ?_
  rw [S_5_0, S_5_1]
  exact rmax256_eq _ _ _

theorem E_5_0 : expT256 (v889 (F := Ideal) c i arg2 harg2 arg3 harg3 arg5 harg5 arg6 harg6 arg9 x0 x1 x3 x4) (v835 (F := Ideal) c i arg2 harg2 arg3 harg3 arg5 harg5 arg6 harg6 x0 x1 x3 x4) = T256 (ex (Sc i x0 x1 x3 x4)) 1 0 2 := by
  rw [R_5_0, M_5]; exact expT256_eq _ _ _ _

theorem E_5_1 : expT256 (v987 (F := Ideal) c i arg2 harg2 arg3 harg3 arg5 harg5 arg6 harg6 arg9 x0 x1 x3 x4) (v835 (F := Ideal) c i arg2 harg2 arg3 harg3 arg5 harg5 arg6 harg6 x0 x1 x3 x4) = T256 (ex (Sc i x0 x1 x3 x4)) 1 1 2 := by
  rw [R_5_1, M_5]; exact expT256_eq _ _ _ _

theorem Q_5_0 : (v1143 (F := Ideal) c i arg2 harg2 arg3 harg3 arg5 harg5 arg6 harg6 arg9 x0 x1 x3 x4) = B256 (φ := .f32) (ex (Sc i x0 x1 x3 x4)) 1 0 2 := by
  refine Eq.trans ?_ ((congrArg (fun t => shapeCast S1x128x256 t shapeCasts_S128x256_S1x128x256) (E_5_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_5_1 : (v1236 (F := Ideal) c i arg2 harg2 arg3 harg3 arg5 harg5 arg6 harg6 arg9 x0 x1 x3 x4) = B256 (φ := .f32) (ex (Sc i x0 x1 x3 x4)) 1 1 2 := by
  refine Eq.trans ?_ ((congrArg (fun t => shapeCast S1x128x256 t shapeCasts_S128x256_S1x128x256) (E_5_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_5 : (v1044 (F := Ideal) c i arg2 harg2 arg3 harg3 arg5 harg5 arg6 harg6 arg9 x0 x1 x3 x4) = R256 (rc (ex (Sc i x0 x1 x3 x4))) 1 2 := by
  refine (show _ = rdiv256 (expT256 (v889 (F := Ideal) c i arg2 harg2 arg3 harg3 arg5 harg5 arg6 harg6 arg9 x0 x1 x3 x4) (v835 (F := Ideal) c i arg2 harg2 arg3 harg3 arg5 harg5 arg6 harg6 x0 x1 x3 x4)) [expT256 (v987 (F := Ideal) c i arg2 harg2 arg3 harg3 arg5 harg5 arg6 harg6 arg9 x0 x1 x3 x4) (v835 (F := Ideal) c i arg2 harg2 arg3 harg3 arg5 harg5 arg6 harg6 x0 x1 x3 x4)] from rfl).trans ?_
  rw [E_5_0, E_5_1]
  exact rdiv256_eq _ _ _

theorem C_5_0 : code256 (v1143 (F := Ideal) c i arg2 harg2 arg3 harg3 arg5 harg5 arg6 harg6 arg9 x0 x1 x3 x4) (v1044 (F := Ideal) c i arg2 harg2 arg3 harg3 arg5 harg5 arg6 harg6 arg9 x0 x1 x3 x4) = T256 (cd (ex (Sc i x0 x1 x3 x4))) 1 0 2 := by
  rw [Q_5_0, L_5]; exact code256_eq _ _ _ _

theorem C_5_1 : code256 (v1236 (F := Ideal) c i arg2 harg2 arg3 harg3 arg5 harg5 arg6 harg6 arg9 x0 x1 x3 x4) (v1044 (F := Ideal) c i arg2 harg2 arg3 harg3 arg5 harg5 arg6 harg6 arg9 x0 x1 x3 x4) = T256 (cd (ex (Sc i x0 x1 x3 x4))) 1 1 2 := by
  rw [Q_5_1, L_5]; exact code256_eq _ _ _ _

theorem P_5 : (v1256 (F := Ideal) c i arg2 harg2 arg3 harg3 arg5 harg5 arg6 harg6 arg9 arg10 x0 x1 x3 x4) = fun j => (cd (ex (Sc i x0 x1 x3 x4))) (2 + (j 2).val / 128) (128 * 1 + (j 2).val % 128) (j 1).val := by
  refine Eq.trans (Slab.read (f := (cd (ex (Sc i x0 x1 x3 x4)))) (i := 1) (h := 2) (n := 2) ?_ 256 (by decide) _ _) rfl
  refine Slab.next (n := 1) ?_ _ _ ?_
  rotate_left
  · intro j
    exact (congrFun ((congrArg (fun t => shapeCast S1x128x256 t shapeCasts_S128x256_S1x128x256) (C_5_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_5_0 c i arg2 harg2 arg3 harg3 arg5 harg5 arg6 harg6 arg9 x0 x1 x3 x4)).trans (store256 _ _ _ _ _)) j)
  exact Slab.nil _ _ _ _ _ _

theorem D_5 : prod256_256 (rdV 256 arg7 harg7 x5 (by decide)) (v1256 (F := Ideal) c i arg2 harg2 arg3 harg3 arg5 harg5 arg6 harg6 arg9 arg10 x0 x1 x3 x4) (omw i arg4 harg4 x2) = OT256 (Ou i x0 x1 x2 x3 x4 x5) 1 2 := by
  rw [rdV_eq, omw_eq, P_5]; exact prod256_256_eq _ _ _ _

theorem O_5_0 : (v1266 (F := Ideal) c i arg2 harg2 arg3 harg3 arg4 harg4 arg5 harg5 arg6 harg6 arg7 harg7 arg9 arg10 x0 x1 x2 x3 x4 x5) = OB (Ou i x0 x1 x2 x3 x4 x5) 1 2 := (congrArg outA256 (D_5 c i arg2 harg2 arg3 harg3 arg4 harg4 arg5 harg5 arg6 harg6 arg7 harg7 arg9 arg10 x0 x1 x2 x3 x4 x5)).trans (outA256_eq _ _ _)

theorem O_5_1 : (v1271 (F := Ideal) c i arg2 harg2 arg3 harg3 arg4 harg4 arg5 harg5 arg6 harg6 arg7 harg7 arg9 arg10 x0 x1 x2 x3 x4 x5) = OB (Ou i x0 x1 x2 x3 x4 x5) 1 3 := (congrArg outB256 (D_5 c i arg2 harg2 arg3 harg3 arg4 harg4 arg5 harg5 arg6 harg6 arg7 harg7 arg9 arg10 x0 x1 x2 x3 x4 x5)).trans (outB256_eq _ _ _)

theorem S_6_0 : (v854 (F := Ideal) c i arg2 harg2 arg3 harg3 arg5 harg5 arg6 harg6 x0 x1 x3 x4) = T256 (Sc i x0 x1 x3 x4) 1 0 4 :=
  scoreN256_rd i arg2 harg2 arg3 harg3 arg5 harg5 arg6 harg6 x0 x1 x3 x4 1 0 4 (by decide) (by decide) (by decide)

theorem S_6_1 : (v951 (F := Ideal) c i arg2 harg2 arg3 harg3 arg5 harg5 arg6 harg6 x0 x1 x3 x4) = T256 (Sc i x0 x1 x3 x4) 1 1 4 :=
  scoreD256_rd i arg2 harg2 arg3 harg3 arg5 harg5 arg6 harg6 x0 x1 x3 x4 1 4 (by decide) (by decide)

theorem R_6_0 : (v1104 (F := Ideal) c i arg2 harg2 arg3 harg3 arg5 harg5 arg6 harg6 arg9 x0 x1 x3 x4) = B256 (φ := .f32) (Sc i x0 x1 x3 x4) 1 0 4 := by
  refine Eq.trans ?_ ((congrArg (fun t => shapeCast S1x128x256 t shapeCasts_S128x256_S1x128x256) (S_6_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_6_1 : (v1196 (F := Ideal) c i arg2 harg2 arg3 harg3 arg5 harg5 arg6 harg6 arg9 x0 x1 x3 x4) = B256 (φ := .f32) (Sc i x0 x1 x3 x4) 1 1 4 := by
  refine Eq.trans ?_ ((congrArg (fun t => shapeCast S1x128x256 t shapeCasts_S128x256_S1x128x256) (S_6_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_6 : (v1040 (F := Ideal) c i arg2 harg2 arg3 harg3 arg5 harg5 arg6 harg6 x0 x1 x3 x4) = R256 (mx (Sc i x0 x1 x3 x4)) 1 4 := by
  refine (show _ = rmax256 (v854 (F := Ideal) c i arg2 harg2 arg3 harg3 arg5 harg5 arg6 harg6 x0 x1 x3 x4) [(v951 (F := Ideal) c i arg2 harg2 arg3 harg3 arg5 harg5 arg6 harg6 x0 x1 x3 x4)] from rfl).trans ?_
  rw [S_6_0, S_6_1]
  exact rmax256_eq _ _ _

theorem E_6_0 : expT256 (v1104 (F := Ideal) c i arg2 harg2 arg3 harg3 arg5 harg5 arg6 harg6 arg9 x0 x1 x3 x4) (v1040 (F := Ideal) c i arg2 harg2 arg3 harg3 arg5 harg5 arg6 harg6 x0 x1 x3 x4) = T256 (ex (Sc i x0 x1 x3 x4)) 1 0 4 := by
  rw [R_6_0, M_6]; exact expT256_eq _ _ _ _

theorem E_6_1 : expT256 (v1196 (F := Ideal) c i arg2 harg2 arg3 harg3 arg5 harg5 arg6 harg6 arg9 x0 x1 x3 x4) (v1040 (F := Ideal) c i arg2 harg2 arg3 harg3 arg5 harg5 arg6 harg6 x0 x1 x3 x4) = T256 (ex (Sc i x0 x1 x3 x4)) 1 1 4 := by
  rw [R_6_1, M_6]; exact expT256_eq _ _ _ _

theorem Q_6_0 : (v1360 (F := Ideal) c i arg2 harg2 arg3 harg3 arg5 harg5 arg6 harg6 arg9 x0 x1 x3 x4) = B256 (φ := .f32) (ex (Sc i x0 x1 x3 x4)) 1 0 4 := by
  refine Eq.trans ?_ ((congrArg (fun t => shapeCast S1x128x256 t shapeCasts_S128x256_S1x128x256) (E_6_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_6_1 : (v1457 (F := Ideal) c i arg2 harg2 arg3 harg3 arg5 harg5 arg6 harg6 arg9 x0 x1 x3 x4) = B256 (φ := .f32) (ex (Sc i x0 x1 x3 x4)) 1 1 4 := by
  refine Eq.trans ?_ ((congrArg (fun t => shapeCast S1x128x256 t shapeCasts_S128x256_S1x128x256) (E_6_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_6 : (v1253 (F := Ideal) c i arg2 harg2 arg3 harg3 arg5 harg5 arg6 harg6 arg9 x0 x1 x3 x4) = R256 (rc (ex (Sc i x0 x1 x3 x4))) 1 4 := by
  refine (show _ = rdiv256 (expT256 (v1104 (F := Ideal) c i arg2 harg2 arg3 harg3 arg5 harg5 arg6 harg6 arg9 x0 x1 x3 x4) (v1040 (F := Ideal) c i arg2 harg2 arg3 harg3 arg5 harg5 arg6 harg6 x0 x1 x3 x4)) [expT256 (v1196 (F := Ideal) c i arg2 harg2 arg3 harg3 arg5 harg5 arg6 harg6 arg9 x0 x1 x3 x4) (v1040 (F := Ideal) c i arg2 harg2 arg3 harg3 arg5 harg5 arg6 harg6 x0 x1 x3 x4)] from rfl).trans ?_
  rw [E_6_0, E_6_1]
  exact rdiv256_eq _ _ _

theorem C_6_0 : code256 (v1360 (F := Ideal) c i arg2 harg2 arg3 harg3 arg5 harg5 arg6 harg6 arg9 x0 x1 x3 x4) (v1253 (F := Ideal) c i arg2 harg2 arg3 harg3 arg5 harg5 arg6 harg6 arg9 x0 x1 x3 x4) = T256 (cd (ex (Sc i x0 x1 x3 x4))) 1 0 4 := by
  rw [Q_6_0, L_6]; exact code256_eq _ _ _ _

theorem C_6_1 : code256 (v1457 (F := Ideal) c i arg2 harg2 arg3 harg3 arg5 harg5 arg6 harg6 arg9 x0 x1 x3 x4) (v1253 (F := Ideal) c i arg2 harg2 arg3 harg3 arg5 harg5 arg6 harg6 arg9 x0 x1 x3 x4) = T256 (cd (ex (Sc i x0 x1 x3 x4))) 1 1 4 := by
  rw [Q_6_1, L_6]; exact code256_eq _ _ _ _

theorem P_6 : (v1522 (F := Ideal) c i arg2 harg2 arg3 harg3 arg5 harg5 arg6 harg6 arg9 arg10 x0 x1 x3 x4) = fun j => (cd (ex (Sc i x0 x1 x3 x4))) (4 + (j 2).val / 128) (128 * 1 + (j 2).val % 128) (j 1).val := by
  refine Eq.trans (Slab.read (f := (cd (ex (Sc i x0 x1 x3 x4)))) (i := 1) (h := 4) (n := 2) ?_ 256 (by decide) _ _) rfl
  refine Slab.next (n := 1) ?_ _ _ ?_
  rotate_left
  · intro j
    exact (congrFun ((congrArg (fun t => shapeCast S1x128x256 t shapeCasts_S128x256_S1x128x256) (C_6_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_6_0 c i arg2 harg2 arg3 harg3 arg5 harg5 arg6 harg6 arg9 x0 x1 x3 x4)).trans (store256 _ _ _ _ _)) j)
  exact Slab.nil _ _ _ _ _ _

theorem D_6 : prod256_256 (rdV 256 arg7 harg7 x5 (by decide)) (v1522 (F := Ideal) c i arg2 harg2 arg3 harg3 arg5 harg5 arg6 harg6 arg9 arg10 x0 x1 x3 x4) (omw i arg4 harg4 x2) = OT256 (Ou i x0 x1 x2 x3 x4 x5) 1 4 := by
  rw [rdV_eq, omw_eq, P_6]; exact prod256_256_eq _ _ _ _

theorem O_6_0 : (v1532 (F := Ideal) c i arg2 harg2 arg3 harg3 arg4 harg4 arg5 harg5 arg6 harg6 arg7 harg7 arg9 arg10 x0 x1 x2 x3 x4 x5) = OB (Ou i x0 x1 x2 x3 x4 x5) 1 4 := (congrArg outA256 (D_6 c i arg2 harg2 arg3 harg3 arg4 harg4 arg5 harg5 arg6 harg6 arg7 harg7 arg9 arg10 x0 x1 x2 x3 x4 x5)).trans (outA256_eq _ _ _)

theorem O_6_1 : (v1537 (F := Ideal) c i arg2 harg2 arg3 harg3 arg4 harg4 arg5 harg5 arg6 harg6 arg7 harg7 arg9 arg10 x0 x1 x2 x3 x4 x5) = OB (Ou i x0 x1 x2 x3 x4 x5) 1 5 := (congrArg outB256 (D_6 c i arg2 harg2 arg3 harg3 arg4 harg4 arg5 harg5 arg6 harg6 arg7 harg7 arg9 arg10 x0 x1 x2 x3 x4 x5)).trans (outB256_eq _ _ _)

theorem S_7_0 : (v1069 (F := Ideal) c i arg2 harg2 arg3 harg3 arg5 harg5 arg6 harg6 x0 x1 x3 x4) = T128 (Sc i x0 x1 x3 x4) 1 0 6 :=
  scoreN128_rd i arg2 harg2 arg3 harg3 arg5 harg5 arg6 harg6 x0 x1 x3 x4 1 0 6 (by decide) (by decide) (by decide)

theorem S_7_1 : (v1160 (F := Ideal) c i arg2 harg2 arg3 harg3 arg5 harg5 arg6 harg6 x0 x1 x3 x4) = T128 (Sc i x0 x1 x3 x4) 1 1 6 :=
  scoreD128_rd i arg2 harg2 arg3 harg3 arg5 harg5 arg6 harg6 x0 x1 x3 x4 1 6 (by decide) (by decide)

theorem R_7_0 : (v1321 (F := Ideal) c i arg2 harg2 arg3 harg3 arg5 harg5 arg6 harg6 arg9 x0 x1 x3 x4) = B128 (φ := .f32) (Sc i x0 x1 x3 x4) 1 0 6 := by
  refine Eq.trans ?_ ((congrArg (fun t => shapeCast S1x128x128 t shapeCasts_S128x128_S1x128x128) (S_7_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_7_1 : (v1417 (F := Ideal) c i arg2 harg2 arg3 harg3 arg5 harg5 arg6 harg6 arg9 x0 x1 x3 x4) = B128 (φ := .f32) (Sc i x0 x1 x3 x4) 1 1 6 := by
  refine Eq.trans ?_ ((congrArg (fun t => shapeCast S1x128x128 t shapeCasts_S128x128_S1x128x128) (S_7_1 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_7 : (v1249 (F := Ideal) c i arg2 harg2 arg3 harg3 arg5 harg5 arg6 harg6 x0 x1 x3 x4) = R128 (mx (Sc i x0 x1 x3 x4)) 1 6 := by
  refine (show _ = rmax128 (v1069 (F := Ideal) c i arg2 harg2 arg3 harg3 arg5 harg5 arg6 harg6 x0 x1 x3 x4) [(v1160 (F := Ideal) c i arg2 harg2 arg3 harg3 arg5 harg5 arg6 harg6 x0 x1 x3 x4)] from rfl).trans ?_
  rw [S_7_0, S_7_1]
  exact rmax128_eq _ _ _

theorem E_7_0 : expT128 (v1321 (F := Ideal) c i arg2 harg2 arg3 harg3 arg5 harg5 arg6 harg6 arg9 x0 x1 x3 x4) (v1249 (F := Ideal) c i arg2 harg2 arg3 harg3 arg5 harg5 arg6 harg6 x0 x1 x3 x4) = T128 (ex (Sc i x0 x1 x3 x4)) 1 0 6 := by
  rw [R_7_0, M_7]; exact expT128_eq _ _ _ _

theorem E_7_1 : expT128 (v1417 (F := Ideal) c i arg2 harg2 arg3 harg3 arg5 harg5 arg6 harg6 arg9 x0 x1 x3 x4) (v1249 (F := Ideal) c i arg2 harg2 arg3 harg3 arg5 harg5 arg6 harg6 x0 x1 x3 x4) = T128 (ex (Sc i x0 x1 x3 x4)) 1 1 6 := by
  rw [R_7_1, M_7]; exact expT128_eq _ _ _ _

theorem Q_7_0 : (v1628 (F := Ideal) c i arg2 harg2 arg3 harg3 arg5 harg5 arg6 harg6 arg9 x0 x1 x3 x4) = B128 (φ := .f32) (ex (Sc i x0 x1 x3 x4)) 1 0 6 := by
  refine Eq.trans ?_ ((congrArg (fun t => shapeCast S1x128x128 t shapeCasts_S128x128_S1x128x128) (E_7_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_7_1 : (v1725 (F := Ideal) c i arg2 harg2 arg3 harg3 arg5 harg5 arg6 harg6 arg9 x0 x1 x3 x4) = B128 (φ := .f32) (ex (Sc i x0 x1 x3 x4)) 1 1 6 := by
  refine Eq.trans ?_ ((congrArg (fun t => shapeCast S1x128x128 t shapeCasts_S128x128_S1x128x128) (E_7_1 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_7 : (v1519 (F := Ideal) c i arg2 harg2 arg3 harg3 arg5 harg5 arg6 harg6 arg9 x0 x1 x3 x4) = R128 (rc (ex (Sc i x0 x1 x3 x4))) 1 6 := by
  refine (show _ = rdiv128 (expT128 (v1321 (F := Ideal) c i arg2 harg2 arg3 harg3 arg5 harg5 arg6 harg6 arg9 x0 x1 x3 x4) (v1249 (F := Ideal) c i arg2 harg2 arg3 harg3 arg5 harg5 arg6 harg6 x0 x1 x3 x4)) [expT128 (v1417 (F := Ideal) c i arg2 harg2 arg3 harg3 arg5 harg5 arg6 harg6 arg9 x0 x1 x3 x4) (v1249 (F := Ideal) c i arg2 harg2 arg3 harg3 arg5 harg5 arg6 harg6 x0 x1 x3 x4)] from rfl).trans ?_
  rw [E_7_0, E_7_1]
  exact rdiv128_eq _ _ _

theorem C_7_0 : code128 (v1628 (F := Ideal) c i arg2 harg2 arg3 harg3 arg5 harg5 arg6 harg6 arg9 x0 x1 x3 x4) (v1519 (F := Ideal) c i arg2 harg2 arg3 harg3 arg5 harg5 arg6 harg6 arg9 x0 x1 x3 x4) = T128 (cd (ex (Sc i x0 x1 x3 x4))) 1 0 6 := by
  rw [Q_7_0, L_7]; exact code128_eq _ _ _ _

theorem C_7_1 : code128 (v1725 (F := Ideal) c i arg2 harg2 arg3 harg3 arg5 harg5 arg6 harg6 arg9 x0 x1 x3 x4) (v1519 (F := Ideal) c i arg2 harg2 arg3 harg3 arg5 harg5 arg6 harg6 arg9 x0 x1 x3 x4) = T128 (cd (ex (Sc i x0 x1 x3 x4))) 1 1 6 := by
  rw [Q_7_1, L_7]; exact code128_eq _ _ _ _

theorem P_7 : (v1826 (F := Ideal) c i arg2 harg2 arg3 harg3 arg5 harg5 arg6 harg6 arg9 arg10 x0 x1 x3 x4) = fun j => (cd (ex (Sc i x0 x1 x3 x4))) (6 + (j 2).val / 128) (128 * 1 + (j 2).val % 128) (j 1).val := by
  refine Eq.trans (Slab.read (f := (cd (ex (Sc i x0 x1 x3 x4)))) (i := 1) (h := 6) (n := 2) ?_ 256 (by decide) _ _) rfl
  refine Slab.next (n := 1) ?_ _ _ ?_
  rotate_left
  · intro j
    exact (congrFun ((congrArg (fun t => shapeCast S1x128x128 t shapeCasts_S128x128_S1x128x128) (C_7_1 c i arg2 harg2 arg3 harg3 arg5 harg5 arg6 harg6 arg9 x0 x1 x3 x4)).trans (store128 _ _ _ _ _)) j).trans (B128_slab _ _ _ _ _)
  refine Slab.next (n := 0) ?_ _ _ ?_
  rotate_left
  · intro j
    exact (congrFun ((congrArg (fun t => shapeCast S1x128x128 t shapeCasts_S128x128_S1x128x128) (C_7_0 c i arg2 harg2 arg3 harg3 arg5 harg5 arg6 harg6 arg9 x0 x1 x3 x4)).trans (store128 _ _ _ _ _)) j).trans (B128_slab _ _ _ _ _)
  exact Slab.nil _ _ _ _ _ _

theorem D_7 : prod128_256 (rdV 256 arg7 harg7 x5 (by decide)) (v1826 (F := Ideal) c i arg2 harg2 arg3 harg3 arg5 harg5 arg6 harg6 arg9 arg10 x0 x1 x3 x4) (omw i arg4 harg4 x2) = OT128 (Ou i x0 x1 x2 x3 x4 x5) 1 6 := by
  rw [rdV_eq, omw_eq, P_7]; exact prod128_256_eq _ _ _ _

theorem O_7_0 : (v1835 (F := Ideal) c i arg2 harg2 arg3 harg3 arg4 harg4 arg5 harg5 arg6 harg6 arg7 harg7 arg9 arg10 x0 x1 x2 x3 x4 x5) = OB (Ou i x0 x1 x2 x3 x4 x5) 1 6 := (congrArg outA128 (D_7 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Block2.lean ====
/- The tiles of query block 2 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_8_0 : (v1286 (F := Ideal) c i arg2 harg2 arg3 harg3 arg5 harg5 arg6 harg6 x0 x1 x3 x4) = T256 (Sc i x0 x1 x3 x4) 2 0 0 :=
  scoreN256_rd i arg2 harg2 arg3 harg3 arg5 harg5 arg6 harg6 x0 x1 x3 x4 2 0 0 (by decide) (by decide) (by decide)

theorem S_8_1 : (v1381 (F := Ideal) c i arg2 harg2 arg3 harg3 arg5 harg5 arg6 harg6 x0 x1 x3 x4) = T256 (Sc i x0 x1 x3 x4) 2 1 0 :=
  scoreN256_rd i arg2 harg2 arg3 harg3 arg5 harg5 arg6 harg6 x0 x1 x3 x4 2 1 0 (by decide) (by decide) (by decide)

theorem S_8_2 : (v1480 (F := Ideal) c i arg2 harg2 arg3 harg3 arg5 harg5 arg6 harg6 x0 x1 x3 x4) = T256 (Sc i x0 x1 x3 x4) 2 2 0 :=
  scoreD256_rd i arg2 harg2 arg3 harg3 arg5 harg5 arg6 harg6 x0 x1 x3 x4 2 0 (by decide) (by decide)

theorem R_8_0 : (v1589 (F := Ideal) c i arg2 harg2 arg3 harg3 arg5 harg5 arg6 harg6 arg9 x0 x1 x3 x4) = B256 (φ := .f32) (Sc i x0 x1 x3 x4) 2 0 0 := by
  refine Eq.trans ?_ ((congrArg (fun t => shapeCast S1x128x256 t shapeCasts_S128x256_S1x128x256) (S_8_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_8_1 : (v1685 (F := Ideal) c i arg2 harg2 arg3 harg3 arg5 harg5 arg6 harg6 arg9 x0 x1 x3 x4) = B256 (φ := .f32) (Sc i x0 x1 x3 x4) 2 1 0 := by
  refine Eq.trans ?_ ((congrArg (fun t => shapeCast S1x128x256 t shapeCasts_S128x256_S1x128x256) (S_8_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_8_2 : (v1784 (F := Ideal) c i arg2 harg2 arg3 harg3 arg5 harg5 arg6 harg6 arg9 x0 x1 x3 x4) = B256 (φ := .f32) (Sc i x0 x1 x3 x4) 2 2 0 := by
  refine Eq.trans ?_ ((congrArg (fun t => shapeCast S1x128x256 t shapeCasts_S128x256_S1x128x256) (S_8_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_8 : (v1539 (F := Ideal) c i arg2 harg2 arg3 harg3 arg5 harg5 arg6 harg6 x0 x1 x3 x4) = R256 (mx (Sc i x0 x1 x3 x4)) 2 0 := by
  refine (show _ = rmax256 (v1286 (F := Ideal) c i arg2 harg2 arg3 harg3 arg5 harg5 arg6 harg6 x0 x1 x3 x4) [(v1381 (F := Ideal) c i arg2 harg2 arg3 harg3 arg5 harg5 arg6 harg6 x0 x1 x3 x4), (v1480 (F := Ideal) c i arg2 harg2 arg3 harg3 arg5 harg5 arg6 harg6 x0 x1 x3 x4)] from rfl).trans ?_
  rw [S_8_0, S_8_1, S_8_2]
  exact rmax256_eq _ _ _

theorem E_8_0 : expT256 (v1589 (F := Ideal) c i arg2 harg2 arg3 harg3 arg5 harg5 arg6 harg6 arg9 x0 x1 x3 x4) (v1539 (F := Ideal) c i arg2 harg2 arg3 harg3 arg5 harg5 arg6 harg6 x0 x1 x3 x4) = T256 (ex (Sc i x0 x1 x3 x4)) 2 0 0 := by
  rw [R_8_0, M_8]; exact expT256_eq _ _ _ _

theorem E_8_1 : expT256 (v1685 (F := Ideal) c i arg2 harg2 arg3 harg3 arg5 harg5 arg6 harg6 arg9 x0 x1 x3 x4) (v1539 (F := Ideal) c i arg2 harg2 arg3 harg3 arg5 harg5 arg6 harg6 x0 x1 x3 x4) = T256 (ex (Sc i x0 x1 x3 x4)) 2 1 0 := by
  rw [R_8_1, M_8]; exact expT256_eq _ _ _ _

theorem E_8_2 : expT256 (v1784 (F := Ideal) c i arg2 harg2 arg3 harg3 arg5 harg5 arg6 harg6 arg9 x0 x1 x3 x4) (v1539 (F := Ideal) c i arg2 harg2 arg3 harg3 arg5 harg5 arg6 harg6 x0 x1 x3 x4) = T256 (ex (Sc i x0 x1 x3 x4)) 2 2 0 := by
  rw [R_8_2, M_8]; exact expT256_eq _ _ _ _

theorem Q_8_0 : (v1930 (F := Ideal) c i arg2 harg2 arg3 harg3 arg5 harg5 arg6 harg6 arg9 x0 x1 x3 x4) = B256 (φ := .f32) (ex (Sc i x0 x1 x3 x4)) 2 0 0 := by
  refine Eq.trans ?_ ((congrArg (fun t => shapeCast S1x128x256 t shapeCasts_S128x256_S1x128x256) (E_8_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_8_1 : (v2027 (F := Ideal) c i arg2 harg2 arg3 harg3 arg5 harg5 arg6 harg6 arg9 x0 x1 x3 x4) = B256 (φ := .f32) (ex (Sc i x0 x1 x3 x4)) 2 1 0 := by
  refine Eq.trans ?_ ((congrArg (fun t => shapeCast S1x128x256 t shapeCasts_S128x256_S1x128x256) (E_8_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_8_2 : (v2126 (F := Ideal) c i arg2 harg2 arg3 harg3 arg5 harg5 arg6 harg6 arg9 x0 x1 x3 x4) = B256 (φ := .f32) (ex (Sc i x0 x1 x3 x4)) 2 2 0 := by
  refine Eq.trans ?_ ((congrArg (fun t => shapeCast S1x128x256 t shapeCasts_S128x256_S1x128x256) (E_8_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_8 : (v1841 (F := Ideal) c i arg2 harg2 arg3 harg3 arg5 harg5 arg6 harg6 arg9 x0 x1 x3 x4) = R256 (rc (ex (Sc i x0 x1 x3 x4))) 2 0 := by
  refine (show _ = rdiv256 (expT256 (v1589 (F := Ideal) c i arg2 harg2 arg3 harg3 arg5 harg5 arg6 harg6 arg9 x0 x1 x3 x4) (v1539 (F := Ideal) c i arg2 harg2 arg3 harg3 arg5 harg5 arg6 harg6 x0 x1 x3 x4)) [expT256 (v1685 (F := Ideal) c i arg2 harg2 arg3 harg3 arg5 harg5 arg6 harg6 arg9 x0 x1 x3 x4) (v1539 (F := Ideal) c i arg2 harg2 arg3 harg3 arg5 harg5 arg6 harg6 x0 x1 x3 x4), expT256 (v1784 (F := Ideal) c i arg2 harg2 arg3 harg3 arg5 harg5 arg6 harg6 arg9 x0 x1 x3 x4) (v1539 (F := Ideal) c i arg2 harg2 arg3 harg3 arg5 harg5 arg6 harg6 x0 x1 x3 x4)] from rfl).trans ?_
  rw [E_8_0, E_8_1, E_8_2]
  exact rdiv256_eq _ _ _

theorem C_8_0 : code256 (v1930 (F := Ideal) c i arg2 harg2 arg3 harg3 arg5 harg5 arg6 harg6 arg9 x0 x1 x3 x4) (v1841 (F := Ideal) c i arg2 harg2 arg3 harg3 arg5 harg5 arg6 harg6 arg9 x0 x1 x3 x4) = T256 (cd (ex (Sc i x0 x1 x3 x4))) 2 0 0 := by
  rw [Q_8_0, L_8]; exact code256_eq _ _ _ _

theorem C_8_1 : code256 (v2027 (F := Ideal) c i arg2 harg2 arg3 harg3 arg5 harg5 arg6 harg6 arg9 x0 x1 x3 x4) (v1841 (F := Ideal) c i arg2 harg2 arg3 harg3 arg5 harg5 arg6 harg6 arg9 x0 x1 x3 x4) = T256 (cd (ex (Sc i x0 x1 x3 x4))) 2 1 0 := by
  rw [Q_8_1, L_8]; exact code256_eq _ _ _ _

theorem C_8_2 : code256 (v2126 (F := Ideal) c i arg2 harg2 arg3 harg3 arg5 harg5 arg6 harg6 arg9 x0 x1 x3 x4) (v1841 (F := Ideal) c i arg2 harg2 arg3 harg3 arg5 harg5 arg6 harg6 arg9 x0 x1 x3 x4) = T256 (cd (ex (Sc i x0 x1 x3 x4))) 2 2 0 := by
  rw [Q_8_2, L_8]; exact code256_eq _ _ _ _

theorem P_8 : (v2146 (F := Ideal) c i arg2 harg2 arg3 harg3 arg5 harg5 arg6 harg6 arg9 arg10 x0 x1 x3 x4) = fun j => (cd (ex (Sc i x0 x1 x3 x4))) (0 + (j 2).val / 128) (128 * 2 + (j 2).val % 128) (j 1).val := by
  refine Eq.trans (Slab.read (f := (cd (ex (Sc i x0 x1 x3 x4)))) (i := 2) (h := 0) (n := 3) ?_ 384 (by decide) _ _) rfl
  refine Slab.next (n := 2) ?_ _ _ ?_
  rotate_left
  · intro j
    exact (congrFun ((congrArg (fun t => shapeCast S1x128x256 t shapeCasts_S128x256_S1x128x256) (C_8_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_8_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_8_0 c i arg2 harg2 arg3 harg3 arg5 harg5 arg6 harg6 arg9 x0 x1 x3 x4)).trans (store256 _ _ _ _ _)) j)
  exact Slab.nil _ _ _ _ _ _

theorem D_8 : prod256_384 (rdV 384 arg7 harg7 x5 (by decide)) (v2146 (F := Ideal) c i arg2 harg2 arg3 harg3 arg5 harg5 arg6 harg6 arg9 arg10 x0 x1 x3 x4) (omw i arg4 harg4 x2) = OT256 (Ou i x0 x1 x2 x3 x4 x5) 2 0 := by
  rw [rdV_eq, omw_eq, P_8]; exact prod256_384_eq _ _ _ _

theorem O_8_0 : (v2156 (F := Ideal) c i arg2 harg2 arg3 harg3 arg4 harg4 arg5 harg5 arg6 harg6 arg7 harg7 arg9 arg10 x0 x1 x2 x3 x4 x5) = OB (Ou i x0 x1 x2 x3 x4 x5) 2 0 := (congrArg outA256 (D_8 c i arg2 harg2 arg3 harg3 arg4 harg4 arg5 harg5 arg6 harg6 arg7 harg7 arg9 arg10 x0 x1 x2 x3 x4 x5)).trans (outA256_eq _ _ _)

theorem O_8_1 : (v2161 (F := Ideal) c i arg2 harg2 arg3 harg3 arg4 harg4 arg5 harg5 arg6 harg6 arg7 harg7 arg9 arg10 x0 x1 x2 x3 x4 x5) = OB (Ou i x0 x1 x2 x3 x4 x5) 2 1 := (congrArg outB256 (D_8 c i arg2 harg2 arg3 harg3 arg4 harg4 arg5 harg5 arg6 harg6 arg7 harg7 arg9 arg10 x0 x1 x2 x3 x4 x5)).trans (outB256_eq _ _ _)

theorem S_9_0 : (v1554 (F := Ideal) c i arg2 harg2 arg3 harg3 arg5 harg5 arg6 harg6 x0 x1 x3 x4) = T256 (Sc i x0 x1 x3 x4) 2 0 2 :=
  scoreN256_rd i arg2 harg2 arg3 harg3 arg5 harg5 arg6 harg6 x0 x1 x3 x4 2 0 2 (by decide) (by decide) (by decide)

theorem S_9_1 : (v1649 (F := Ideal) c i arg2 harg2 arg3 harg3 arg5 harg5 arg6 harg6 x0 x1 x3 x4) = T256 (Sc i x0 x1 x3 x4) 2 1 2 :=
  scoreN256_rd i arg2 harg2 arg3 harg3 arg5 harg5 arg6 harg6 x0 x1 x3 x4 2 1 2 (by decide) (by decide) (by decide)

theorem S_9_2 : (v1748 (F := Ideal) c i arg2 harg2 arg3 harg3 arg5 harg5 arg6 harg6 x0 x1 x3 x4) = T256 (Sc i x0 x1 x3 x4) 2 2 2 :=
  scoreD256_rd i arg2 harg2 arg3 harg3 arg5 harg5 arg6 harg6 x0 x1 x3 x4 2 2 (by decide) (by decide)

theorem R_9_0 : (v1891 (F := Ideal) c i arg2 harg2 arg3 harg3 arg5 harg5 arg6 harg6 arg9 x0 x1 x3 x4) = B256 (φ := .f32) (Sc i x0 x1 x3 x4) 2 0 2 := by
  refine Eq.trans ?_ ((congrArg (fun t => shapeCast S1x128x256 t shapeCasts_S128x256_S1x128x256) (S_9_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_9_1 : (v1987 (F := Ideal) c i arg2 harg2 arg3 harg3 arg5 harg5 arg6 harg6 arg9 x0 x1 x3 x4) = B256 (φ := .f32) (Sc i x0 x1 x3 x4) 2 1 2 := by
  refine Eq.trans ?_ ((congrArg (fun t => shapeCast S1x128x256 t shapeCasts_S128x256_S1x128x256) (S_9_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_9_2 : (v2086 (F := Ideal) c i arg2 harg2 arg3 harg3 arg5 harg5 arg6 harg6 arg9 x0 x1 x3 x4) = B256 (φ := .f32) (Sc i x0 x1 x3 x4) 2 2 2 := by
  refine Eq.trans ?_ ((congrArg (fun t => shapeCast S1x128x256 t shapeCasts_S128x256_S1x128x256) (S_9_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_9 : (v1837 (F := Ideal) c i arg2 harg2 arg3 harg3 arg5 harg5 arg6 harg6 x0 x1 x3 x4) = R256 (mx (Sc i x0 x1 x3 x4)) 2 2 := by
  refine (show _ = rmax256 (v1554 (F := Ideal) c i arg2 harg2 arg3 harg3 arg5 harg5 arg6 harg6 x0 x1 x3 x4) [(v1649 (F := Ideal) c i arg2 harg2 arg3 harg3 arg5 harg5 arg6 harg6 x0 x1 x3 x4), (v1748 (F := Ideal) c i arg2 harg2 arg3 harg3 arg5 harg5 arg6 harg6 x0 x1 x3 x4)] from rfl).trans ?_
  rw [S_9_0, S_9_1, S_9_2]
  exact rmax256_eq _ _ _

theorem E_9_0 : expT256 (v1891 (F := Ideal) c i arg2 harg2 arg3 harg3 arg5 harg5 arg6 harg6 arg9 x0 x1 x3 x4) (v1837 (F := Ideal) c i arg2 harg2 arg3 harg3 arg5 harg5 arg6 harg6 x0 x1 x3 x4) = T256 (ex (Sc i x0 x1 x3 x4)) 2 0 2 := by
  rw [R_9_0, M_9]; exact expT256_eq _ _ _ _

theorem E_9_1 : expT256 (v1987 (F := Ideal) c i arg2 harg2 arg3 harg3 arg5 harg5 arg6 harg6 arg9 x0 x1 x3 x4) (v1837 (F := Ideal) c i arg2 harg2 arg3 harg3 arg5 harg5 arg6 harg6 x0 x1 x3 x4) = T256 (ex (Sc i x0 x1 x3 x4)) 2 1 2 := by
  rw [R_9_1, M_9]; exact expT256_eq _ _ _ _

theorem E_9_2 : expT256 (v2086 (F := Ideal) c i arg2 harg2 arg3 harg3 arg5 harg5 arg6 harg6 arg9 x0 x1 x3 x4) (v1837 (F := Ideal) c i arg2 harg2 arg3 harg3 arg5 harg5 arg6 harg6 x0 x1 x3 x4) = T256 (ex (Sc i x0 x1 x3 x4)) 2 2 2 := by
  rw [R_9_2, M_9]; exact expT256_eq _ _ _ _

theorem Q_9_0 : (v2242 (F := Ideal) c i arg2 harg2 arg3 harg3 arg5 harg5 arg6 harg6 arg9 x0 x1 x3 x4) = B256 (φ := .f32) (ex (Sc i x0 x1 x3 x4)) 2 0 2 := by
  refine Eq.trans ?_ ((congrArg (fun t => shapeCast S1x128x256 t shapeCasts_S128x256_S1x128x256) (E_9_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_9_1 : (v2334 (F := Ideal) c i arg2 harg2 arg3 harg3 arg5 harg5 arg6 harg6 arg9 x0 x1 x3 x4) = B256 (φ := .f32) (ex (Sc i x0 x1 x3 x4)) 2 1 2 := by
  refine Eq.trans ?_ ((congrArg (fun t => shapeCast S1x128x256 t shapeCasts_S128x256_S1x128x256) (E_9_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_9_2 : (v2427 (F := Ideal) c i arg2 harg2 arg3 harg3 arg5 harg5 arg6 harg6 arg9 x0 x1 x3 x4) = B256 (φ := .f32) (ex (Sc i x0 x1 x3 x4)) 2 2 2 := by
  refine Eq.trans ?_ ((congrArg (fun t => shapeCast S1x128x256 t shapeCasts_S128x256_S1x128x256) (E_9_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_9 : (v2143 (F := Ideal) c i arg2 harg2 arg3 harg3 arg5 harg5 arg6 harg6 arg9 x0 x1 x3 x4) = R256 (rc (ex (Sc i x0 x1 x3 x4))) 2 2 := by
  refine (show _ = rdiv256 (expT256 (v1891 (F := Ideal) c i arg2 harg2 arg3 harg3 arg5 harg5 arg6 harg6 arg9 x0 x1 x3 x4) (v1837 (F := Ideal) c i arg2 harg2 arg3 harg3 arg5 harg5 arg6 harg6 x0 x1 x3 x4)) [expT256 (v1987 (F := Ideal) c i arg2 harg2 arg3 harg3 arg5 harg5 arg6 harg6 arg9 x0 x1 x3 x4) (v1837 (F := Ideal) c i arg2 harg2 arg3 harg3 arg5 harg5 arg6 harg6 x0 x1 x3 x4), expT256 (v2086 (F := Ideal) c i arg2 harg2 arg3 harg3 arg5 harg5 arg6 harg6 arg9 x0 x1 x3 x4) (v1837 (F := Ideal) c i arg2 harg2 arg3 harg3 arg5 harg5 arg6 harg6 x0 x1 x3 x4)] from rfl).trans ?_
  rw [E_9_0, E_9_1, E_9_2]
  exact rdiv256_eq _ _ _

theorem C_9_0 : code256 (v2242 (F := Ideal) c i arg2 harg2 arg3 harg3 arg5 harg5 arg6 harg6 arg9 x0 x1 x3 x4) (v2143 (F := Ideal) c i arg2 harg2 arg3 harg3 arg5 harg5 arg6 harg6 arg9 x0 x1 x3 x4) = T256 (cd (ex (Sc i x0 x1 x3 x4))) 2 0 2 := by
  rw [Q_9_0, L_9]; exact code256_eq _ _ _ _

theorem C_9_1 : code256 (v2334 (F := Ideal) c i arg2 harg2 arg3 harg3 arg5 harg5 arg6 harg6 arg9 x0 x1 x3 x4) (v2143 (F := Ideal) c i arg2 harg2 arg3 harg3 arg5 harg5 arg6 harg6 arg9 x0 x1 x3 x4) = T256 (cd (ex (Sc i x0 x1 x3 x4))) 2 1 2 := by
  rw [Q_9_1, L_9]; exact code256_eq _ _ _ _

theorem C_9_2 : code256 (v2427 (F := Ideal) c i arg2 harg2 arg3 harg3 arg5 harg5 arg6 harg6 arg9 x0 x1 x3 x4) (v2143 (F := Ideal) c i arg2 harg2 arg3 harg3 arg5 harg5 arg6 harg6 arg9 x0 x1 x3 x4) = T256 (cd (ex (Sc i x0 x1 x3 x4))) 2 2 2 := by
  rw [Q_9_2, L_9]; exact code256_eq _ _ _ _

theorem P_9 : (v2447 (F := Ideal) c i arg2 harg2 arg3 harg3 arg5 harg5 arg6 harg6 arg9 arg10 x0 x1 x3 x4) = fun j => (cd (ex (Sc i x0 x1 x3 x4))) (2 + (j 2).val / 128) (128 * 2 + (j 2).val % 128) (j 1).val := by
  refine Eq.trans (Slab.read (f := (cd (ex (Sc i x0 x1 x3 x4)))) (i := 2) (h := 2) (n := 3) ?_ 384 (by decide) _ _) rfl
  refine Slab.next (n := 2) ?_ _ _ ?_
  rotate_left
  · intro j
    exact (congrFun ((congrArg (fun t => shapeCast S1x128x256 t shapeCasts_S128x256_S1x128x256) (C_9_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_9_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_9_0 c i arg2 harg2 arg3 harg3 arg5 harg5 arg6 harg6 arg9 x0 x1 x3 x4)).trans (store256 _ _ _ _ _)) j)
  exact Slab.nil _ _ _ _ _ _

theorem D_9 : prod256_384 (rdV 384 arg7 harg7 x5 (by decide)) (v2447 (F := Ideal) c i arg2 harg2 arg3 harg3 arg5 harg5 arg6 harg6 arg9 arg10 x0 x1 x3 x4) (omw i arg4 harg4 x2) = OT256 (Ou i x0 x1 x2 x3 x4 x5) 2 2 := by
  rw [rdV_eq, omw_eq, P_9]; exact prod256_384_eq _ _ _ _

theorem O_9_0 : (v2457 (F := Ideal) c i arg2 harg2 arg3 harg3 arg4 harg4 arg5 harg5 arg6 harg6 arg7 harg7 arg9 arg10 x0 x1 x2 x3 x4 x5) = OB (Ou i x0 x1 x2 x3 x4 x5) 2 2 := (congrArg outA256 (D_9 c i arg2 harg2 arg3 harg3 arg4 harg4 arg5 harg5 arg6 harg6 arg7 harg7 arg9 arg10 x0 x1 x2 x3 x4 x5)).trans (outA256_eq _ _ _)

theorem O_9_1 : (v2462 (F := Ideal) c i arg2 harg2 arg3 harg3 arg4 harg4 arg5 harg5 arg6 harg6 arg7 harg7 arg9 arg10 x0 x1 x2 x3 x4 x5) = OB (Ou i x0 x1 x2 x3 x4 x5) 2 3 := (congrArg outB256 (D_9 c i arg2 harg2 arg3 harg3 arg4 harg4 arg5 harg5 arg6 harg6 arg7 harg7 arg9 arg10 x0 x1 x2 x3 x4 x5)).trans (outB256_eq _ _ _)

theorem S_10_0 : (v1856 (F := Ideal) c i arg2 harg2 arg3 harg3 arg5 harg5 arg6 harg6 x0 x1 x3 x4) = T256 (Sc i x0 x1 x3 x4) 2 0 4 :=
  scoreN256_rd i arg2 harg2 arg3 harg3 arg5 harg5 arg6 harg6 x0 x1 x3 x4 2 0 4 (by decide) (by decide) (by decide)

theorem S_10_1 : (v1951 (F := Ideal) c i arg2 harg2 arg3 harg3 arg5 harg5 arg6 harg6 x0 x1 x3 x4) = T256 (Sc i x0 x1 x3 x4) 2 1 4 :=
  scoreN256_rd i arg2 harg2 arg3 harg3 arg5 harg5 arg6 harg6 x0 x1 x3 x4 2 1 4 (by decide) (by decide) (by decide)

theorem S_10_2 : (v2050 (F := Ideal) c i arg2 harg2 arg3 harg3 arg5 harg5 arg6 harg6 x0 x1 x3 x4) = T256 (Sc i x0 x1 x3 x4) 2 2 4 :=
  scoreD256_rd i arg2 harg2 arg3 harg3 arg5 harg5 arg6 harg6 x0 x1 x3 x4 2 4 (by decide) (by decide)

theorem R_10_0 : (v2203 (F := Ideal) c i arg2 harg2 arg3 harg3 arg5 harg5 arg6 harg6 arg9 x0 x1 x3 x4) = B256 (φ := .f32) (Sc i x0 x1 x3 x4) 2 0 4 := by
  refine Eq.trans ?_ ((congrArg (fun t => shapeCast S1x128x256 t shapeCasts_S128x256_S1x128x256) (S_10_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_10_1 : (v2294 (F := Ideal) c i arg2 harg2 arg3 harg3 arg5 harg5 arg6 harg6 arg9 x0 x1 x3 x4) = B256 (φ := .f32) (Sc i x0 x1 x3 x4) 2 1 4 := by
  refine Eq.trans ?_ ((congrArg (fun t => shapeCast S1x128x256 t shapeCasts_S128x256_S1x128x256) (S_10_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_10_2 : (v2387 (F := Ideal) c i arg2 harg2 arg3 harg3 arg5 harg5 arg6 harg6 arg9 x0 x1 x3 x4) = B256 (φ := .f32) (Sc i x0 x1 x3 x4) 2 2 4 := by
  refine Eq.trans ?_ ((congrArg (fun t => shapeCast S1x128x256 t shapeCasts_S128x256_S1x128x256) (S_10_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_10 : (v2139 (F := Ideal) c i arg2 harg2 arg3 harg3 arg5 harg5 arg6 harg6 x0 x1 x3 x4) = R256 (mx (Sc i x0 x1 x3 x4)) 2 4 := by
  refine (show _ = rmax256 (v1856 (F := Ideal) c i arg2 harg2 arg3 harg3 arg5 harg5 arg6 harg6 x0 x1 x3 x4) [(v1951 (F := Ideal) c i arg2 harg2 arg3 harg3 arg5 harg5 arg6 harg6 x0 x1 x3 x4), (v2050 (F := Ideal) c i arg2 harg2 arg3 harg3 arg5 harg5 arg6 harg6 x0 x1 x3 x4)] from rfl).trans ?_
  rw [S_10_0, S_10_1, S_10_2]
  exact rmax256_eq _ _ _

theorem E_10_0 : expT256 (v2203 (F := Ideal) c i arg2 harg2 arg3 harg3 arg5 harg5 arg6 harg6 arg9 x0 x1 x3 x4) (v2139 (F := Ideal) c i arg2 harg2 arg3 harg3 arg5 harg5 arg6 harg6 x0 x1 x3 x4) = T256 (ex (Sc i x0 x1 x3 x4)) 2 0 4 := by
  rw [R_10_0, M_10]; exact expT256_eq _ _ _ _

theorem E_10_1 : expT256 (v2294 (F := Ideal) c i arg2 harg2 arg3 harg3 arg5 harg5 arg6 harg6 arg9 x0 x1 x3 x4) (v2139 (F := Ideal) c i arg2 harg2 arg3 harg3 arg5 harg5 arg6 harg6 x0 x1 x3 x4) = T256 (ex (Sc i x0 x1 x3 x4)) 2 1 4 := by
  rw [R_10_1, M_10]; exact expT256_eq _ _ _ _

theorem E_10_2 : expT256 (v2387 (F := Ideal) c i arg2 harg2 arg3 harg3 arg5 harg5 arg6 harg6 arg9 x0 x1 x3 x4) (v2139 (F := Ideal) c i arg2 harg2 arg3 harg3 arg5 harg5 arg6 harg6 x0 x1 x3 x4) = T256 (ex (Sc i x0 x1 x3 x4)) 2 2 4 := by
  rw [R_10_2, M_10]; exact expT256_eq _ _ _ _

theorem Q_10_0 : (v2551 (F := Ideal) c i arg2 harg2 arg3 harg3 arg5 harg5 arg6 harg6 arg9 x0 x1 x3 x4) = B256 (φ := .f32) (ex (Sc i x0 x1 x3 x4)) 2 0 4 := by
  refine Eq.trans ?_ ((congrArg (fun t => shapeCast S1x128x256 t shapeCasts_S128x256_S1x128x256) (E_10_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_10_1 : (v2648 (F := Ideal) c i arg2 harg2 arg3 harg3 arg5 harg5 arg6 harg6 arg9 x0 x1 x3 x4) = B256 (φ := .f32) (ex (Sc i x0 x1 x3 x4)) 2 1 4 := by
  refine Eq.trans ?_ ((congrArg (fun t => shapeCast S1x128x256 t shapeCasts_S128x256_S1x128x256) (E_10_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_10_2 : (v2745 (F := Ideal) c i arg2 harg2 arg3 harg3 arg5 harg5 arg6 harg6 arg9 x0 x1 x3 x4) = B256 (φ := .f32) (ex (Sc i x0 x1 x3 x4)) 2 2 4 := by
  refine Eq.trans ?_ ((congrArg (fun t => shapeCast S1x128x256 t shapeCasts_S128x256_S1x128x256) (E_10_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_10 : (v2444 (F := Ideal) c i arg2 harg2 arg3 harg3 arg5 harg5 arg6 harg6 arg9 x0 x1 x3 x4) = R256 (rc (ex (Sc i x0 x1 x3 x4))) 2 4 := by
  refine (show _ = rdiv256 (expT256 (v2203 (F := Ideal) c i arg2 harg2 arg3 harg3 arg5 harg5 arg6 harg6 arg9 x0 x1 x3 x4) (v2139 (F := Ideal) c i arg2 harg2 arg3 harg3 arg5 harg5 arg6 harg6 x0 x1 x3 x4)) [expT256 (v2294 (F := Ideal) c i arg2 harg2 arg3 harg3 arg5 harg5 arg6 harg6 arg9 x0 x1 x3 x4) (v2139 (F := Ideal) c i arg2 harg2 arg3 harg3 arg5 harg5 arg6 harg6 x0 x1 x3 x4), expT256 (v2387 (F := Ideal) c i arg2 harg2 arg3 harg3 arg5 harg5 arg6 harg6 arg9 x0 x1 x3 x4) (v2139 (F := Ideal) c i arg2 harg2 arg3 harg3 arg5 harg5 arg6 harg6 x0 x1 x3 x4)] from rfl).trans ?_
  rw [E_10_0, E_10_1, E_10_2]
  exact rdiv256_eq _ _ _

theorem C_10_0 : code256 (v2551 (F := Ideal) c i arg2 harg2 arg3 harg3 arg5 harg5 arg6 harg6 arg9 x0 x1 x3 x4) (v2444 (F := Ideal) c i arg2 harg2 arg3 harg3 arg5 harg5 arg6 harg6 arg9 x0 x1 x3 x4) = T256 (cd (ex (Sc i x0 x1 x3 x4))) 2 0 4 := by
  rw [Q_10_0, L_10]; exact code256_eq _ _ _ _

theorem C_10_1 : code256 (v2648 (F := Ideal) c i arg2 harg2 arg3 harg3 arg5 harg5 arg6 harg6 arg9 x0 x1 x3 x4) (v2444 (F := Ideal) c i arg2 harg2 arg3 harg3 arg5 harg5 arg6 harg6 arg9 x0 x1 x3 x4) = T256 (cd (ex (Sc i x0 x1 x3 x4))) 2 1 4 := by
  rw [Q_10_1, L_10]; exact code256_eq _ _ _ _

theorem C_10_2 : code256 (v2745 (F := Ideal) c i arg2 harg2 arg3 harg3 arg5 harg5 arg6 harg6 arg9 x0 x1 x3 x4) (v2444 (F := Ideal) c i arg2 harg2 arg3 harg3 arg5 harg5 arg6 harg6 arg9 x0 x1 x3 x4) = T256 (cd (ex (Sc i x0 x1 x3 x4))) 2 2 4 := by
  rw [Q_10_2, L_10]; exact code256_eq _ _ _ _

theorem P_10 : (v2810 (F := Ideal) c i arg2 harg2 arg3 harg3 arg5 harg5 arg6 harg6 arg9 arg10 x0 x1 x3 x4) = fun j => (cd (ex (Sc i x0 x1 x3 x4))) (4 + (j 2).val / 128) (128 * 2 + (j 2).val % 128) (j 1).val := by
  refine Eq.trans (Slab.read (f := (cd (ex (Sc i x0 x1 x3 x4)))) (i := 2) (h := 4) (n := 3) ?_ 384 (by decide) _ _) rfl
  refine Slab.next (n := 2) ?_ _ _ ?_
  rotate_left
  · intro j
    exact (congrFun ((congrArg (fun t => shapeCast S1x128x256 t shapeCasts_S128x256_S1x128x256) (C_10_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_10_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_10_0 c i arg2 harg2 arg3 harg3 arg5 harg5 arg6 harg6 arg9 x0 x1 x3 x4)).trans (store256 _ _ _ _ _)) j)
  exact Slab.nil _ _ _ _ _ _

theorem D_10 : prod256_384 (rdV 384 arg7 harg7 x5 (by decide)) (v2810 (F := Ideal) c i arg2 harg2 arg3 harg3 arg5 harg5 arg6 harg6 arg9 arg10 x0 x1 x3 x4) (omw i arg4 harg4 x2) = OT256 (Ou i x0 x1 x2 x3 x4 x5) 2 4 := by
  rw [rdV_eq, omw_eq, P_10]; exact prod256_384_eq _ _ _ _

theorem O_10_0 : (v2820 (F := Ideal) c i arg2 harg2 arg3 harg3 arg4 harg4 arg5 harg5 arg6 harg6 arg7 harg7 arg9 arg10 x0 x1 x2 x3 x4 x5) = OB (Ou i x0 x1 x2 x3 x4 x5) 2 4 := (congrArg outA256 (D_10 c i arg2 harg2 arg3 harg3 arg4 harg4 arg5 harg5 arg6 harg6 arg7 harg7 arg9 arg10 x0 x1 x2 x3 x4 x5)).trans (outA256_eq _ _ _)

theorem O_10_1 : (v2825 (F := Ideal) c i arg2 harg2 arg3 harg3 arg4 harg4 arg5 harg5 arg6 harg6 arg7 harg7 arg9 arg10 x0 x1 x2 x3 x4 x5) = OB (Ou i x0 x1 x2 x3 x4 x5) 2 5 := (congrArg outB256 (D_10 c i arg2 harg2 arg3 harg3 arg4 harg4 arg5 harg5 arg6 harg6 arg7 harg7 arg9 arg10 x0 x1 x2 x3 x4 x5)).trans (outB256_eq _ _ _)

theorem S_11_0 : (v2168 (F := Ideal) c i arg2 harg2 arg3 harg3 arg5 harg5 arg6 harg6 x0 x1 x3 x4) = T128 (Sc i x0 x1 x3 x4) 2 0 6 :=
  scoreN128_rd i arg2 harg2 arg3 harg3 arg5 harg5 arg6 harg6 x0 x1 x3 x4 2 0 6 (by decide) (by decide) (by decide)

theorem S_11_1 : (v2258 (F := Ideal) c i arg2 harg2 arg3 harg3 arg5 harg5 arg6 harg6 x0 x1 x3 x4) = T128 (Sc i x0 x1 x3 x4) 2 1 6 :=
  scoreN128_rd i arg2 harg2 arg3 harg3 arg5 harg5 arg6 harg6 x0 x1 x3 x4 2 1 6 (by decide) (by decide) (by decide)

theorem S_11_2 : (v2351 (F := Ideal) c i arg2 harg2 arg3 harg3 arg5 harg5 arg6 harg6 x0 x1 x3 x4) = T128 (Sc i x0 x1 x3 x4) 2 2 6 :=
  scoreD128_rd i arg2 harg2 arg3 harg3 arg5 harg5 arg6 harg6 x0 x1 x3 x4 2 6 (by decide) (by decide)

theorem R_11_0 : (v2512 (F := Ideal) c i arg2 harg2 arg3 harg3 arg5 harg5 arg6 harg6 arg9 x0 x1 x3 x4) = B128 (φ := .f32) (Sc i x0 x1 x3 x4) 2 0 6 := by
  refine Eq.trans ?_ ((congrArg (fun t => shapeCast S1x128x128 t shapeCasts_S128x128_S1x128x128) (S_11_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_11_1 : (v2608 (F := Ideal) c i arg2 harg2 arg3 harg3 arg5 harg5 arg6 harg6 arg9 x0 x1 x3 x4) = B128 (φ := .f32) (Sc i x0 x1 x3 x4) 2 1 6 := by
  refine Eq.trans ?_ ((congrArg (fun t => shapeCast S1x128x128 t shapeCasts_S128x128_S1x128x128) (S_11_1 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_11_2 : (v2705 (F := Ideal) c i arg2 harg2 arg3 harg3 arg5 harg5 arg6 harg6 arg9 x0 x1 x3 x4) = B128 (φ := .f32) (Sc i x0 x1 x3 x4) 2 2 6 := by
  refine Eq.trans ?_ ((congrArg (fun t => shapeCast S1x128x128 t shapeCasts_S128x128_S1x128x128) (S_11_2 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_11 : (v2440 (F := Ideal) c i arg2 harg2 arg3 harg3 arg5 harg5 arg6 harg6 x0 x1 x3 x4) = R128 (mx (Sc i x0 x1 x3 x4)) 2 6 := by
  refine (show _ = rmax128 (v2168 (F := Ideal) c i arg2 harg2 arg3 harg3 arg5 harg5 arg6 harg6 x0 x1 x3 x4) [(v2258 (F := Ideal) c i arg2 harg2 arg3 harg3 arg5 harg5 arg6 harg6 x0 x1 x3 x4), (v2351 (F := Ideal) c i arg2 harg2 arg3 harg3 arg5 harg5 arg6 harg6 x0 x1 x3 x4)] from rfl).trans ?_
  rw [S_11_0, S_11_1, S_11_2]
  exact rmax128_eq _ _ _

theorem E_11_0 : expT128 (v2512 (F := Ideal) c i arg2 harg2 arg3 harg3 arg5 harg5 arg6 harg6 arg9 x0 x1 x3 x4) (v2440 (F := Ideal) c i arg2 harg2 arg3 harg3 arg5 harg5 arg6 harg6 x0 x1 x3 x4) = T128 (ex (Sc i x0 x1 x3 x4)) 2 0 6 := by
  rw [R_11_0, M_11]; exact expT128_eq _ _ _ _

theorem E_11_1 : expT128 (v2608 (F := Ideal) c i arg2 harg2 arg3 harg3 arg5 harg5 arg6 harg6 arg9 x0 x1 x3 x4) (v2440 (F := Ideal) c i arg2 harg2 arg3 harg3 arg5 harg5 arg6 harg6 x0 x1 x3 x4) = T128 (ex (Sc i x0 x1 x3 x4)) 2 1 6 := by
  rw [R_11_1, M_11]; exact expT128_eq _ _ _ _

theorem E_11_2 : expT128 (v2705 (F := Ideal) c i arg2 harg2 arg3 harg3 arg5 harg5 arg6 harg6 arg9 x0 x1 x3 x4) (v2440 (F := Ideal) c i arg2 harg2 arg3 harg3 arg5 harg5 arg6 harg6 x0 x1 x3 x4) = T128 (ex (Sc i x0 x1 x3 x4)) 2 2 6 := by
  rw [R_11_2, M_11]; exact expT128_eq _ _ _ _

theorem Q_11_0 : (v2916 (F := Ideal) c i arg2 harg2 arg3 harg3 arg5 harg5 arg6 harg6 arg9 x0 x1 x3 x4) = B128 (φ := .f32) (ex (Sc i x0 x1 x3 x4)) 2 0 6 := by
  refine Eq.trans ?_ ((congrArg (fun t => shapeCast S1x128x128 t shapeCasts_S128x128_S1x128x128) (E_11_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_11_1 : (v3013 (F := Ideal) c i arg2 harg2 arg3 harg3 arg5 harg5 arg6 harg6 arg9 x0 x1 x3 x4) = B128 (φ := .f32) (ex (Sc i x0 x1 x3 x4)) 2 1 6 := by
  refine Eq.trans ?_ ((congrArg (fun t => shapeCast S1x128x128 t shapeCasts_S128x128_S1x128x128) (E_11_1 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_11_2 : (v3110 (F := Ideal) c i arg2 harg2 arg3 harg3 arg5 harg5 arg6 harg6 arg9 x0 x1 x3 x4) = B128 (φ := .f32) (ex (Sc i x0 x1 x3 x4)) 2 2 6 := by
  refine Eq.trans ?_ ((congrArg (fun t => shapeCast S1x128x128 t shapeCasts_S128x128_S1x128x128) (E_11_2 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_11 : (v2807 (F := Ideal) c i arg2 harg2 arg3 harg3 arg5 harg5 arg6 harg6 arg9 x0 x1 x3 x4) = R128 (rc (ex (Sc i x0 x1 x3 x4))) 2 6 := by
  refine (show _ = rdiv128 (expT128 (v2512 (F := Ideal) c i arg2 harg2 arg3 harg3 arg5 harg5 arg6 harg6 arg9 x0 x1 x3 x4) (v2440 (F := Ideal) c i arg2 harg2 arg3 harg3 arg5 harg5 arg6 harg6 x0 x1 x3 x4)) [expT128 (v2608 (F := Ideal) c i arg2 harg2 arg3 harg3 arg5 harg5 arg6 harg6 arg9 x0 x1 x3 x4) (v2440 (F := Ideal) c i arg2 harg2 arg3 harg3 arg5 harg5 arg6 harg6 x0 x1 x3 x4), expT128 (v2705 (F := Ideal) c i arg2 harg2 arg3 harg3 arg5 harg5 arg6 harg6 arg9 x0 x1 x3 x4) (v2440 (F := Ideal) c i arg2 harg2 arg3 harg3 arg5 harg5 arg6 harg6 x0 x1 x3 x4)] from rfl).trans ?_
  rw [E_11_0, E_11_1, E_11_2]
  exact rdiv128_eq _ _ _

theorem C_11_0 : code128 (v2916 (F := Ideal) c i arg2 harg2 arg3 harg3 arg5 harg5 arg6 harg6 arg9 x0 x1 x3 x4) (v2807 (F := Ideal) c i arg2 harg2 arg3 harg3 arg5 harg5 arg6 harg6 arg9 x0 x1 x3 x4) = T128 (cd (ex (Sc i x0 x1 x3 x4))) 2 0 6 := by
  rw [Q_11_0, L_11]; exact code128_eq _ _ _ _

theorem C_11_1 : code128 (v3013 (F := Ideal) c i arg2 harg2 arg3 harg3 arg5 harg5 arg6 harg6 arg9 x0 x1 x3 x4) (v2807 (F := Ideal) c i arg2 harg2 arg3 harg3 arg5 harg5 arg6 harg6 arg9 x0 x1 x3 x4) = T128 (cd (ex (Sc i x0 x1 x3 x4))) 2 1 6 := by
  rw [Q_11_1, L_11]; exact code128_eq _ _ _ _

theorem C_11_2 : code128 (v3110 (F := Ideal) c i arg2 harg2 arg3 harg3 arg5 harg5 arg6 harg6 arg9 x0 x1 x3 x4) (v2807 (F := Ideal) c i arg2 harg2 arg3 harg3 arg5 harg5 arg6 harg6 arg9 x0 x1 x3 x4) = T128 (cd (ex (Sc i x0 x1 x3 x4))) 2 2 6 := by
  rw [Q_11_2, L_11]; exact code128_eq _ _ _ _

theorem P_11 : (v3211 (F := Ideal) c i arg2 harg2 arg3 harg3 arg5 harg5 arg6 harg6 arg9 arg10 x0 x1 x3 x4) = fun j => (cd (ex (Sc i x0 x1 x3 x4))) (6 + (j 2).val / 128) (128 * 2 + (j 2).val % 128) (j 1).val := by
  refine Eq.trans (Slab.read (f := (cd (ex (Sc i x0 x1 x3 x4)))) (i := 2) (h := 6) (n := 3) ?_ 384 (by decide) _ _) rfl
  refine Slab.next (n := 2) ?_ _ _ ?_
  rotate_left
  · intro j
    exact (congrFun ((congrArg (fun t => shapeCast S1x128x128 t shapeCasts_S128x128_S1x128x128) (C_11_2 c i arg2 harg2 arg3 harg3 arg5 harg5 arg6 harg6 arg9 x0 x1 x3 x4)).trans (store128 _ _ _ _ _)) j).trans (B128_slab _ _ _ _ _)
  refine Slab.next (n := 1) ?_ _ _ ?_
  rotate_left
  · intro j
    exact (congrFun ((congrArg (fun t => shapeCast S1x128x128 t shapeCasts_S128x128_S1x128x128) (C_11_1 c i arg2 harg2 arg3 harg3 arg5 harg5 arg6 harg6 arg9 x0 x1 x3 x4)).trans (store128 _ _ _ _ _)) j).trans (B128_slab _ _ _ _ _)
  refine Slab.next (n := 0) ?_ _ _ ?_
  rotate_left
  · intro j
    exact (congrFun ((congrArg (fun t => shapeCast S1x128x128 t shapeCasts_S128x128_S1x128x128) (C_11_0 c i arg2 harg2 arg3 harg3 arg5 harg5 arg6 harg6 arg9 x0 x1 x3 x4)).trans (store128 _ _ _ _ _)) j).trans (B128_slab _ _ _ _ _)
  exact Slab.nil _ _ _ _ _ _

theorem D_11 : prod128_384 (rdV 384 arg7 harg7 x5 (by decide)) (v3211 (F := Ideal) c i arg2 harg2 arg3 harg3 arg5 harg5 arg6 harg6 arg9 arg10 x0 x1 x3 x4) (omw i arg4 harg4 x2) = OT128 (Ou i x0 x1 x2 x3 x4 x5) 2 6 := by
  rw [rdV_eq, omw_eq, P_11]; exact prod128_384_eq _ _ _ _

theorem O_11_0 : (v3220 (F := Ideal) c i arg2 harg2 arg3 harg3 arg4 harg4 arg5 harg5 arg6 harg6 arg7 harg7 arg9 arg10 x0 x1 x2 x3 x4 x5) = OB (Ou i x0 x1 x2 x3 x4 x5) 2 6 := (congrArg outA128 (D_11 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Block3.lean ====
/- The tiles of query block 3 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_12_0 : (v2477 (F := Ideal) c i arg2 harg2 arg3 harg3 arg5 harg5 arg6 harg6 x0 x1 x3 x4) = T256 (Sc i x0 x1 x3 x4) 3 0 0 :=
  scoreN256_rd i arg2 harg2 arg3 harg3 arg5 harg5 arg6 harg6 x0 x1 x3 x4 3 0 0 (by decide) (by decide) (by decide)

theorem S_12_1 : (v2572 (F := Ideal) c i arg2 harg2 arg3 harg3 arg5 harg5 arg6 harg6 x0 x1 x3 x4) = T256 (Sc i x0 x1 x3 x4) 3 1 0 :=
  scoreN256_rd i arg2 harg2 arg3 harg3 arg5 harg5 arg6 harg6 x0 x1 x3 x4 3 1 0 (by decide) (by decide) (by decide)

theorem S_12_2 : (v2669 (F := Ideal) c i arg2 harg2 arg3 harg3 arg5 harg5 arg6 harg6 x0 x1 x3 x4) = T256 (Sc i x0 x1 x3 x4) 3 2 0 :=
  scoreN256_rd i arg2 harg2 arg3 harg3 arg5 harg5 arg6 harg6 x0 x1 x3 x4 3 2 0 (by decide) (by decide) (by decide)

theorem S_12_3 : (v2768 (F := Ideal) c i arg2 harg2 arg3 harg3 arg5 harg5 arg6 harg6 x0 x1 x3 x4) = T256 (Sc i x0 x1 x3 x4) 3 3 0 :=
  scoreD256_rd i arg2 harg2 arg3 harg3 arg5 harg5 arg6 harg6 x0 x1 x3 x4 3 0 (by decide) (by decide)

theorem R_12_0 : (v2877 (F := Ideal) c i arg2 harg2 arg3 harg3 arg5 harg5 arg6 harg6 arg9 x0 x1 x3 x4) = B256 (φ := .f32) (Sc i x0 x1 x3 x4) 3 0 0 := by
  refine Eq.trans ?_ ((congrArg (fun t => shapeCast S1x128x256 t shapeCasts_S128x256_S1x128x256) (S_12_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_12_1 : (v2973 (F := Ideal) c i arg2 harg2 arg3 harg3 arg5 harg5 arg6 harg6 arg9 x0 x1 x3 x4) = B256 (φ := .f32) (Sc i x0 x1 x3 x4) 3 1 0 := by
  refine Eq.trans ?_ ((congrArg (fun t => shapeCast S1x128x256 t shapeCasts_S128x256_S1x128x256) (S_12_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_12_2 : (v3070 (F := Ideal) c i arg2 harg2 arg3 harg3 arg5 harg5 arg6 harg6 arg9 x0 x1 x3 x4) = B256 (φ := .f32) (Sc i x0 x1 x3 x4) 3 2 0 := by
  refine Eq.trans ?_ ((congrArg (fun t => shapeCast S1x128x256 t shapeCasts_S128x256_S1x128x256) (S_12_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_12_3 : (v3169 (F := Ideal) c i arg2 harg2 arg3 harg3 arg5 harg5 arg6 harg6 arg9 x0 x1 x3 x4) = B256 (φ := .f32) (Sc i x0 x1 x3 x4) 3 3 0 := by
  refine Eq.trans ?_ ((congrArg (fun t => shapeCast S1x128x256 t shapeCasts_S128x256_S1x128x256) (S_12_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_12 : (v2827 (F := Ideal) c i arg2 harg2 arg3 harg3 arg5 harg5 arg6 harg6 x0 x1 x3 x4) = R256 (mx (Sc i x0 x1 x3 x4)) 3 0 := by
  refine (show _ = rmax256 (v2477 (F := Ideal) c i arg2 harg2 arg3 harg3 arg5 harg5 arg6 harg6 x0 x1 x3 x4) [(v2572 (F := Ideal) c i arg2 harg2 arg3 harg3 arg5 harg5 arg6 harg6 x0 x1 x3 x4), (v2669 (F := Ideal) c i arg2 harg2 arg3 harg3 arg5 harg5 arg6 harg6 x0 x1 x3 x4), (v2768 (F := Ideal) c i arg2 harg2 arg3 harg3 arg5 harg5 arg6 harg6 x0 x1 x3 x4)] from rfl).trans ?_
  rw [S_12_0, S_12_1, S_12_2, S_12_3]
  exact rmax256_eq _ _ _

theorem E_12_0 : expT256 (v2877 (F := Ideal) c i arg2 harg2 arg3 harg3 arg5 harg5 arg6 harg6 arg9 x0 x1 x3 x4) (v2827 (F := Ideal) c i arg2 harg2 arg3 harg3 arg5 harg5 arg6 harg6 x0 x1 x3 x4) = T256 (ex (Sc i x0 x1 x3 x4)) 3 0 0 := by
  rw [R_12_0, M_12]; exact expT256_eq _ _ _ _

theorem E_12_1 : expT256 (v2973 (F := Ideal) c i arg2 harg2 arg3 harg3 arg5 harg5 arg6 harg6 arg9 x0 x1 x3 x4) (v2827 (F := Ideal) c i arg2 harg2 arg3 harg3 arg5 harg5 arg6 harg6 x0 x1 x3 x4) = T256 (ex (Sc i x0 x1 x3 x4)) 3 1 0 := by
  rw [R_12_1, M_12]; exact expT256_eq _ _ _ _

theorem E_12_2 : expT256 (v3070 (F := Ideal) c i arg2 harg2 arg3 harg3 arg5 harg5 arg6 harg6 arg9 x0 x1 x3 x4) (v2827 (F := Ideal) c i arg2 harg2 arg3 harg3 arg5 harg5 arg6 harg6 x0 x1 x3 x4) = T256 (ex (Sc i x0 x1 x3 x4)) 3 2 0 := by
  rw [R_12_2, M_12]; exact expT256_eq _ _ _ _

theorem E_12_3 : expT256 (v3169 (F := Ideal) c i arg2 harg2 arg3 harg3 arg5 harg5 arg6 harg6 arg9 x0 x1 x3 x4) (v2827 (F := Ideal) c i arg2 harg2 arg3 harg3 arg5 harg5 arg6 harg6 x0 x1 x3 x4) = T256 (ex (Sc i x0 x1 x3 x4)) 3 3 0 := by
  rw [R_12_3, M_12]; exact expT256_eq _ _ _ _

theorem Q_12_0 : (v3315 (F := Ideal) c i arg2 harg2 arg3 harg3 arg5 harg5 arg6 harg6 arg9 x0 x1 x3 x4) = B256 (φ := .f32) (ex (Sc i x0 x1 x3 x4)) 3 0 0 := by
  refine Eq.trans ?_ ((congrArg (fun t => shapeCast S1x128x256 t shapeCasts_S128x256_S1x128x256) (E_12_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_12_1 : (v3412 (F := Ideal) c i arg2 harg2 arg3 harg3 arg5 harg5 arg6 harg6 arg9 x0 x1 x3 x4) = B256 (φ := .f32) (ex (Sc i x0 x1 x3 x4)) 3 1 0 := by
  refine Eq.trans ?_ ((congrArg (fun t => shapeCast S1x128x256 t shapeCasts_S128x256_S1x128x256) (E_12_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_12_2 : (v3509 (F := Ideal) c i arg2 harg2 arg3 harg3 arg5 harg5 arg6 harg6 arg9 x0 x1 x3 x4) = B256 (φ := .f32) (ex (Sc i x0 x1 x3 x4)) 3 2 0 := by
  refine Eq.trans ?_ ((congrArg (fun t => shapeCast S1x128x256 t shapeCasts_S128x256_S1x128x256) (E_12_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_12_3 : (v3608 (F := Ideal) c i arg2 harg2 arg3 harg3 arg5 harg5 arg6 harg6 arg9 x0 x1 x3 x4) = B256 (φ := .f32) (ex (Sc i x0 x1 x3 x4)) 3 3 0 := by
  refine Eq.trans ?_ ((congrArg (fun t => shapeCast S1x128x256 t shapeCasts_S128x256_S1x128x256) (E_12_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_12 : (v3226 (F := Ideal) c i arg2 harg2 arg3 harg3 arg5 harg5 arg6 harg6 arg9 x0 x1 x3 x4) = R256 (rc (ex (Sc i x0 x1 x3 x4))) 3 0 := by
  refine (show _ = rdiv256 (expT256 (v2877 (F := Ideal) c i arg2 harg2 arg3 harg3 arg5 harg5 arg6 harg6 arg9 x0 x1 x3 x4) (v2827 (F := Ideal) c i arg2 harg2 arg3 harg3 arg5 harg5 arg6 harg6 x0 x1 x3 x4)) [expT256 (v2973 (F := Ideal) c i arg2 harg2 arg3 harg3 arg5 harg5 arg6 harg6 arg9 x0 x1 x3 x4) (v2827 (F := Ideal) c i arg2 harg2 arg3 harg3 arg5 harg5 arg6 harg6 x0 x1 x3 x4), expT256 (v3070 (F := Ideal) c i arg2 harg2 arg3 harg3 arg5 harg5 arg6 harg6 arg9 x0 x1 x3 x4) (v2827 (F := Ideal) c i arg2 harg2 arg3 harg3 arg5 harg5 arg6 harg6 x0 x1 x3 x4), expT256 (v3169 (F := Ideal) c i arg2 harg2 arg3 harg3 arg5 harg5 arg6 harg6 arg9 x0 x1 x3 x4) (v2827 (F := Ideal) c i arg2 harg2 arg3 harg3 arg5 harg5 arg6 harg6 x0 x1 x3 x4)] from rfl).trans ?_
  rw [E_12_0, E_12_1, E_12_2, E_12_3]
  exact rdiv256_eq _ _ _

theorem C_12_0 : code256 (v3315 (F := Ideal) c i arg2 harg2 arg3 harg3 arg5 harg5 arg6 harg6 arg9 x0 x1 x3 x4) (v3226 (F := Ideal) c i arg2 harg2 arg3 harg3 arg5 harg5 arg6 harg6 arg9 x0 x1 x3 x4) = T256 (cd (ex (Sc i x0 x1 x3 x4))) 3 0 0 := by
  rw [Q_12_0, L_12]; exact code256_eq _ _ _ _

theorem C_12_1 : code256 (v3412 (F := Ideal) c i arg2 harg2 arg3 harg3 arg5 harg5 arg6 harg6 arg9 x0 x1 x3 x4) (v3226 (F := Ideal) c i arg2 harg2 arg3 harg3 arg5 harg5 arg6 harg6 arg9 x0 x1 x3 x4) = T256 (cd (ex (Sc i x0 x1 x3 x4))) 3 1 0 := by
  rw [Q_12_1, L_12]; exact code256_eq _ _ _ _

theorem C_12_2 : code256 (v3509 (F := Ideal) c i arg2 harg2 arg3 harg3 arg5 harg5 arg6 harg6 arg9 x0 x1 x3 x4) (v3226 (F := Ideal) c i arg2 harg2 arg3 harg3 arg5 harg5 arg6 harg6 arg9 x0 x1 x3 x4) = T256 (cd (ex (Sc i x0 x1 x3 x4))) 3 2 0 := by
  rw [Q_12_2, L_12]; exact code256_eq _ _ _ _

theorem C_12_3 : code256 (v3608 (F := Ideal) c i arg2 harg2 arg3 harg3 arg5 harg5 arg6 harg6 arg9 x0 x1 x3 x4) (v3226 (F := Ideal) c i arg2 harg2 arg3 harg3 arg5 harg5 arg6 harg6 arg9 x0 x1 x3 x4) = T256 (cd (ex (Sc i x0 x1 x3 x4))) 3 3 0 := by
  rw [Q_12_3, L_12]; exact code256_eq _ _ _ _

theorem P_12 : (v3628 (F := Ideal) c i arg2 harg2 arg3 harg3 arg5 harg5 arg6 harg6 arg9 arg10 x0 x1 x3 x4) = fun j => (cd (ex (Sc i x0 x1 x3 x4))) (0 + (j 2).val / 128) (128 * 3 + (j 2).val % 128) (j 1).val := by
  refine Eq.trans (Slab.read (f := (cd (ex (Sc i x0 x1 x3 x4)))) (i := 3) (h := 0) (n := 4) ?_ 512 (by decide) _ _) rfl
  refine Slab.next (n := 3) ?_ _ _ ?_
  rotate_left
  · intro j
    exact (congrFun ((congrArg (fun t => shapeCast S1x128x256 t shapeCasts_S128x256_S1x128x256) (C_12_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_12_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_12_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_12_0 c i arg2 harg2 arg3 harg3 arg5 harg5 arg6 harg6 arg9 x0 x1 x3 x4)).trans (store256 _ _ _ _ _)) j)
  exact Slab.nil _ _ _ _ _ _

theorem D_12 : prod256_512 (rdV 512 arg7 harg7 x5 (by decide)) (v3628 (F := Ideal) c i arg2 harg2 arg3 harg3 arg5 harg5 arg6 harg6 arg9 arg10 x0 x1 x3 x4) (omw i arg4 harg4 x2) = OT256 (Ou i x0 x1 x2 x3 x4 x5) 3 0 := by
  rw [rdV_eq, omw_eq, P_12]; exact prod256_512_eq _ _ _ _

theorem O_12_0 : (v3638 (F := Ideal) c i arg2 harg2 arg3 harg3 arg4 harg4 arg5 harg5 arg6 harg6 arg7 harg7 arg9 arg10 x0 x1 x2 x3 x4 x5) = OB (Ou i x0 x1 x2 x3 x4 x5) 3 0 := (congrArg outA256 (D_12 c i arg2 harg2 arg3 harg3 arg4 harg4 arg5 harg5 arg6 harg6 arg7 harg7 arg9 arg10 x0 x1 x2 x3 x4 x5)).trans (outA256_eq _ _ _)

theorem O_12_1 : (v3643 (F := Ideal) c i arg2 harg2 arg3 harg3 arg4 harg4 arg5 harg5 arg6 harg6 arg7 harg7 arg9 arg10 x0 x1 x2 x3 x4 x5) = OB (Ou i x0 x1 x2 x3 x4 x5) 3 1 := (congrArg outB256 (D_12 c i arg2 harg2 arg3 harg3 arg4 harg4 arg5 harg5 arg6 harg6 arg7 harg7 arg9 arg10 x0 x1 x2 x3 x4 x5)).trans (outB256_eq _ _ _)

theorem S_13_0 : (v2842 (F := Ideal) c i arg2 harg2 arg3 harg3 arg5 harg5 arg6 harg6 x0 x1 x3 x4) = T256 (Sc i x0 x1 x3 x4) 3 0 2 :=
  scoreN256_rd i arg2 harg2 arg3 harg3 arg5 harg5 arg6 harg6 x0 x1 x3 x4 3 0 2 (by decide) (by decide) (by decide)

theorem S_13_1 : (v2937 (F := Ideal) c i arg2 harg2 arg3 harg3 arg5 harg5 arg6 harg6 x0 x1 x3 x4) = T256 (Sc i x0 x1 x3 x4) 3 1 2 :=
  scoreN256_rd i arg2 harg2 arg3 harg3 arg5 harg5 arg6 harg6 x0 x1 x3 x4 3 1 2 (by decide) (by decide) (by decide)

theorem S_13_2 : (v3034 (F := Ideal) c i arg2 harg2 arg3 harg3 arg5 harg5 arg6 harg6 x0 x1 x3 x4) = T256 (Sc i x0 x1 x3 x4) 3 2 2 :=
  scoreN256_rd i arg2 harg2 arg3 harg3 arg5 harg5 arg6 harg6 x0 x1 x3 x4 3 2 2 (by decide) (by decide) (by decide)

theorem S_13_3 : (v3133 (F := Ideal) c i arg2 harg2 arg3 harg3 arg5 harg5 arg6 harg6 x0 x1 x3 x4) = T256 (Sc i x0 x1 x3 x4) 3 3 2 :=
  scoreD256_rd i arg2 harg2 arg3 harg3 arg5 harg5 arg6 harg6 x0 x1 x3 x4 3 2 (by decide) (by decide)

theorem R_13_0 : (v3276 (F := Ideal) c i arg2 harg2 arg3 harg3 arg5 harg5 arg6 harg6 arg9 x0 x1 x3 x4) = B256 (φ := .f32) (Sc i x0 x1 x3 x4) 3 0 2 := by
  refine Eq.trans ?_ ((congrArg (fun t => shapeCast S1x128x256 t shapeCasts_S128x256_S1x128x256) (S_13_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_13_1 : (v3372 (F := Ideal) c i arg2 harg2 arg3 harg3 arg5 harg5 arg6 harg6 arg9 x0 x1 x3 x4) = B256 (φ := .f32) (Sc i x0 x1 x3 x4) 3 1 2 := by
  refine Eq.trans ?_ ((congrArg (fun t => shapeCast S1x128x256 t shapeCasts_S128x256_S1x128x256) (S_13_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_13_2 : (v3469 (F := Ideal) c i arg2 harg2 arg3 harg3 arg5 harg5 arg6 harg6 arg9 x0 x1 x3 x4) = B256 (φ := .f32) (Sc i x0 x1 x3 x4) 3 2 2 := by
  refine Eq.trans ?_ ((congrArg (fun t => shapeCast S1x128x256 t shapeCasts_S128x256_S1x128x256) (S_13_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_13_3 : (v3568 (F := Ideal) c i arg2 harg2 arg3 harg3 arg5 harg5 arg6 harg6 arg9 x0 x1 x3 x4) = B256 (φ := .f32) (Sc i x0 x1 x3 x4) 3 3 2 := by
  refine Eq.trans ?_ ((congrArg (fun t => shapeCast S1x128x256 t shapeCasts_S128x256_S1x128x256) (S_13_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_13 : (v3222 (F := Ideal) c i arg2 harg2 arg3 harg3 arg5 harg5 arg6 harg6 x0 x1 x3 x4) = R256 (mx (Sc i x0 x1 x3 x4)) 3 2 := by
  refine (show _ = rmax256 (v2842 (F := Ideal) c i arg2 harg2 arg3 harg3 arg5 harg5 arg6 harg6 x0 x1 x3 x4) [(v2937 (F := Ideal) c i arg2 harg2 arg3 harg3 arg5 harg5 arg6 harg6 x0 x1 x3 x4), (v3034 (F := Ideal) c i arg2 harg2 arg3 harg3 arg5 harg5 arg6 harg6 x0 x1 x3 x4), (v3133 (F := Ideal) c i arg2 harg2 arg3 harg3 arg5 harg5 arg6 harg6 x0 x1 x3 x4)] from rfl).trans ?_
  rw [S_13_0, S_13_1, S_13_2, S_13_3]
  exact rmax256_eq _ _ _

theorem E_13_0 : expT256 (v3276 (F := Ideal) c i arg2 harg2 arg3 harg3 arg5 harg5 arg6 harg6 arg9 x0 x1 x3 x4) (v3222 (F := Ideal) c i arg2 harg2 arg3 harg3 arg5 harg5 arg6 harg6 x0 x1 x3 x4) = T256 (ex (Sc i x0 x1 x3 x4)) 3 0 2 := by
  rw [R_13_0, M_13]; exact expT256_eq _ _ _ _

theorem E_13_1 : expT256 (v3372 (F := Ideal) c i arg2 harg2 arg3 harg3 arg5 harg5 arg6 harg6 arg9 x0 x1 x3 x4) (v3222 (F := Ideal) c i arg2 harg2 arg3 harg3 arg5 harg5 arg6 harg6 x0 x1 x3 x4) = T256 (ex (Sc i x0 x1 x3 x4)) 3 1 2 := by
  rw [R_13_1, M_13]; exact expT256_eq _ _ _ _

theorem E_13_2 : expT256 (v3469 (F := Ideal) c i arg2 harg2 arg3 harg3 arg5 harg5 arg6 harg6 arg9 x0 x1 x3 x4) (v3222 (F := Ideal) c i arg2 harg2 arg3 harg3 arg5 harg5 arg6 harg6 x0 x1 x3 x4) = T256 (ex (Sc i x0 x1 x3 x4)) 3 2 2 := by
  rw [R_13_2, M_13]; exact expT256_eq _ _ _ _

theorem E_13_3 : expT256 (v3568 (F := Ideal) c i arg2 harg2 arg3 harg3 arg5 harg5 arg6 harg6 arg9 x0 x1 x3 x4) (v3222 (F := Ideal) c i arg2 harg2 arg3 harg3 arg5 harg5 arg6 harg6 x0 x1 x3 x4) = T256 (ex (Sc i x0 x1 x3 x4)) 3 3 2 := by
  rw [R_13_3, M_13]; exact expT256_eq _ _ _ _

theorem Q_13_0 : (v3724 (F := Ideal) c i arg2 harg2 arg3 harg3 arg5 harg5 arg6 harg6 arg9 x0 x1 x3 x4) = B256 (φ := .f32) (ex (Sc i x0 x1 x3 x4)) 3 0 2 := by
  refine Eq.trans ?_ ((congrArg (fun t => shapeCast S1x128x256 t shapeCasts_S128x256_S1x128x256) (E_13_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_13_1 : (v3816 (F := Ideal) c i arg2 harg2 arg3 harg3 arg5 harg5 arg6 harg6 arg9 x0 x1 x3 x4) = B256 (φ := .f32) (ex (Sc i x0 x1 x3 x4)) 3 1 2 := by
  refine Eq.trans ?_ ((congrArg (fun t => shapeCast S1x128x256 t shapeCasts_S128x256_S1x128x256) (E_13_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_13_2 : (v3908 (F := Ideal) c i arg2 harg2 arg3 harg3 arg5 harg5 arg6 harg6 arg9 x0 x1 x3 x4) = B256 (φ := .f32) (ex (Sc i x0 x1 x3 x4)) 3 2 2 := by
  refine Eq.trans ?_ ((congrArg (fun t => shapeCast S1x128x256 t shapeCasts_S128x256_S1x128x256) (E_13_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_13_3 : (v4001 (F := Ideal) c i arg2 harg2 arg3 harg3 arg5 harg5 arg6 harg6 arg9 x0 x1 x3 x4) = B256 (φ := .f32) (ex (Sc i x0 x1 x3 x4)) 3 3 2 := by
  refine Eq.trans ?_ ((congrArg (fun t => shapeCast S1x128x256 t shapeCasts_S128x256_S1x128x256) (E_13_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_13 : (v3625 (F := Ideal) c i arg2 harg2 arg3 harg3 arg5 harg5 arg6 harg6 arg9 x0 x1 x3 x4) = R256 (rc (ex (Sc i x0 x1 x3 x4))) 3 2 := by
  refine (show _ = rdiv256 (expT256 (v3276 (F := Ideal) c i arg2 harg2 arg3 harg3 arg5 harg5 arg6 harg6 arg9 x0 x1 x3 x4) (v3222 (F := Ideal) c i arg2 harg2 arg3 harg3 arg5 harg5 arg6 harg6 x0 x1 x3 x4)) [expT256 (v3372 (F := Ideal) c i arg2 harg2 arg3 harg3 arg5 harg5 arg6 harg6 arg9 x0 x1 x3 x4) (v3222 (F := Ideal) c i arg2 harg2 arg3 harg3 arg5 harg5 arg6 harg6 x0 x1 x3 x4), expT256 (v3469 (F := Ideal) c i arg2 harg2 arg3 harg3 arg5 harg5 arg6 harg6 arg9 x0 x1 x3 x4) (v3222 (F := Ideal) c i arg2 harg2 arg3 harg3 arg5 harg5 arg6 harg6 x0 x1 x3 x4), expT256 (v3568 (F := Ideal) c i arg2 harg2 arg3 harg3 arg5 harg5 arg6 harg6 arg9 x0 x1 x3 x4) (v3222 (F := Ideal) c i arg2 harg2 arg3 harg3 arg5 harg5 arg6 harg6 x0 x1 x3 x4)] from rfl).trans ?_
  rw [E_13_0, E_13_1, E_13_2, E_13_3]
  exact rdiv256_eq _ _ _

theorem C_13_0 : code256 (v3724 (F := Ideal) c i arg2 harg2 arg3 harg3 arg5 harg5 arg6 harg6 arg9 x0 x1 x3 x4) (v3625 (F := Ideal) c i arg2 harg2 arg3 harg3 arg5 harg5 arg6 harg6 arg9 x0 x1 x3 x4) = T256 (cd (ex (Sc i x0 x1 x3 x4))) 3 0 2 := by
  rw [Q_13_0, L_13]; exact code256_eq _ _ _ _

theorem C_13_1 : code256 (v3816 (F := Ideal) c i arg2 harg2 arg3 harg3 arg5 harg5 arg6 harg6 arg9 x0 x1 x3 x4) (v3625 (F := Ideal) c i arg2 harg2 arg3 harg3 arg5 harg5 arg6 harg6 arg9 x0 x1 x3 x4) = T256 (cd (ex (Sc i x0 x1 x3 x4))) 3 1 2 := by
  rw [Q_13_1, L_13]; exact code256_eq _ _ _ _

theorem C_13_2 : code256 (v3908 (F := Ideal) c i arg2 harg2 arg3 harg3 arg5 harg5 arg6 harg6 arg9 x0 x1 x3 x4) (v3625 (F := Ideal) c i arg2 harg2 arg3 harg3 arg5 harg5 arg6 harg6 arg9 x0 x1 x3 x4) = T256 (cd (ex (Sc i x0 x1 x3 x4))) 3 2 2 := by
  rw [Q_13_2, L_13]; exact code256_eq _ _ _ _

theorem C_13_3 : code256 (v4001 (F := Ideal) c i arg2 harg2 arg3 harg3 arg5 harg5 arg6 harg6 arg9 x0 x1 x3 x4) (v3625 (F := Ideal) c i arg2 harg2 arg3 harg3 arg5 harg5 arg6 harg6 arg9 x0 x1 x3 x4) = T256 (cd (ex (Sc i x0 x1 x3 x4))) 3 3 2 := by
  rw [Q_13_3, L_13]; exact code256_eq _ _ _ _

theorem P_13 : (v4021 (F := Ideal) c i arg2 harg2 arg3 harg3 arg5 harg5 arg6 harg6 arg9 arg10 x0 x1 x3 x4) = fun j => (cd (ex (Sc i x0 x1 x3 x4))) (2 + (j 2).val / 128) (128 * 3 + (j 2).val % 128) (j 1).val := by
  refine Eq.trans (Slab.read (f := (cd (ex (Sc i x0 x1 x3 x4)))) (i := 3) (h := 2) (n := 4) ?_ 512 (by decide) _ _) rfl
  refine Slab.next (n := 3) ?_ _ _ ?_
  rotate_left
  · intro j
    exact (congrFun ((congrArg (fun t => shapeCast S1x128x256 t shapeCasts_S128x256_S1x128x256) (C_13_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_13_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_13_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_13_0 c i arg2 harg2 arg3 harg3 arg5 harg5 arg6 harg6 arg9 x0 x1 x3 x4)).trans (store256 _ _ _ _ _)) j)
  exact Slab.nil _ _ _ _ _ _

theorem D_13 : prod256_512 (rdV 512 arg7 harg7 x5 (by decide)) (v4021 (F := Ideal) c i arg2 harg2 arg3 harg3 arg5 harg5 arg6 harg6 arg9 arg10 x0 x1 x3 x4) (omw i arg4 harg4 x2) = OT256 (Ou i x0 x1 x2 x3 x4 x5) 3 2 := by
  rw [rdV_eq, omw_eq, P_13]; exact prod256_512_eq _ _ _ _

theorem O_13_0 : (v4031 (F := Ideal) c i arg2 harg2 arg3 harg3 arg4 harg4 arg5 harg5 arg6 harg6 arg7 harg7 arg9 arg10 x0 x1 x2 x3 x4 x5) = OB (Ou i x0 x1 x2 x3 x4 x5) 3 2 := (congrArg outA256 (D_13 c i arg2 harg2 arg3 harg3 arg4 harg4 arg5 harg5 arg6 harg6 arg7 harg7 arg9 arg10 x0 x1 x2 x3 x4 x5)).trans (outA256_eq _ _ _)

theorem O_13_1 : (v4036 (F := Ideal) c i arg2 harg2 arg3 harg3 arg4 harg4 arg5 harg5 arg6 harg6 arg7 harg7 arg9 arg10 x0 x1 x2 x3 x4 x5) = OB (Ou i x0 x1 x2 x3 x4 x5) 3 3 := (congrArg outB256 (D_13 c i arg2 harg2 arg3 harg3 arg4 harg4 arg5 harg5 arg6 harg6 arg7 harg7 arg9 arg10 x0 x1 x2 x3 x4 x5)).trans (outB256_eq _ _ _)

theorem S_14_0 : (v3241 (F := Ideal) c i arg2 harg2 arg3 harg3 arg5 harg5 arg6 harg6 x0 x1 x3 x4) = T256 (Sc i x0 x1 x3 x4) 3 0 4 :=
  scoreN256_rd i arg2 harg2 arg3 harg3 arg5 harg5 arg6 harg6 x0 x1 x3 x4 3 0 4 (by decide) (by decide) (by decide)

theorem S_14_1 : (v3336 (F := Ideal) c i arg2 harg2 arg3 harg3 arg5 harg5 arg6 harg6 x0 x1 x3 x4) = T256 (Sc i x0 x1 x3 x4) 3 1 4 :=
  scoreN256_rd i arg2 harg2 arg3 harg3 arg5 harg5 arg6 harg6 x0 x1 x3 x4 3 1 4 (by decide) (by decide) (by decide)

theorem S_14_2 : (v3433 (F := Ideal) c i arg2 harg2 arg3 harg3 arg5 harg5 arg6 harg6 x0 x1 x3 x4) = T256 (Sc i x0 x1 x3 x4) 3 2 4 :=
  scoreN256_rd i arg2 harg2 arg3 harg3 arg5 harg5 arg6 harg6 x0 x1 x3 x4 3 2 4 (by decide) (by decide) (by decide)

theorem S_14_3 : (v3532 (F := Ideal) c i arg2 harg2 arg3 harg3 arg5 harg5 arg6 harg6 x0 x1 x3 x4) = T256 (Sc i x0 x1 x3 x4) 3 3 4 :=
  scoreD256_rd i arg2 harg2 arg3 harg3 arg5 harg5 arg6 harg6 x0 x1 x3 x4 3 4 (by decide) (by decide)

theorem R_14_0 : (v3685 (F := Ideal) c i arg2 harg2 arg3 harg3 arg5 harg5 arg6 harg6 arg9 x0 x1 x3 x4) = B256 (φ := .f32) (Sc i x0 x1 x3 x4) 3 0 4 := by
  refine Eq.trans ?_ ((congrArg (fun t => shapeCast S1x128x256 t shapeCasts_S128x256_S1x128x256) (S_14_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_14_1 : (v3776 (F := Ideal) c i arg2 harg2 arg3 harg3 arg5 harg5 arg6 harg6 arg9 x0 x1 x3 x4) = B256 (φ := .f32) (Sc i x0 x1 x3 x4) 3 1 4 := by
  refine Eq.trans ?_ ((congrArg (fun t => shapeCast S1x128x256 t shapeCasts_S128x256_S1x128x256) (S_14_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_14_2 : (v3868 (F := Ideal) c i arg2 harg2 arg3 harg3 arg5 harg5 arg6 harg6 arg9 x0 x1 x3 x4) = B256 (φ := .f32) (Sc i x0 x1 x3 x4) 3 2 4 := by
  refine Eq.trans ?_ ((congrArg (fun t => shapeCast S1x128x256 t shapeCasts_S128x256_S1x128x256) (S_14_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_14_3 : (v3961 (F := Ideal) c i arg2 harg2 arg3 harg3 arg5 harg5 arg6 harg6 arg9 x0 x1 x3 x4) = B256 (φ := .f32) (Sc i x0 x1 x3 x4) 3 3 4 := by
  refine Eq.trans ?_ ((congrArg (fun t => shapeCast S1x128x256 t shapeCasts_S128x256_S1x128x256) (S_14_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_14 : (v3621 (F := Ideal) c i arg2 harg2 arg3 harg3 arg5 harg5 arg6 harg6 x0 x1 x3 x4) = R256 (mx (Sc i x0 x1 x3 x4)) 3 4 := by
  refine (show _ = rmax256 (v3241 (F := Ideal) c i arg2 harg2 arg3 harg3 arg5 harg5 arg6 harg6 x0 x1 x3 x4) [(v3336 (F := Ideal) c i arg2 harg2 arg3 harg3 arg5 harg5 arg6 harg6 x0 x1 x3 x4), (v3433 (F := Ideal) c i arg2 harg2 arg3 harg3 arg5 harg5 arg6 harg6 x0 x1 x3 x4), (v3532 (F := Ideal) c i arg2 harg2 arg3 harg3 arg5 harg5 arg6 harg6 x0 x1 x3 x4)] from rfl).trans ?_
  rw [S_14_0, S_14_1, S_14_2, S_14_3]
  exact rmax256_eq _ _ _

theorem E_14_0 : expT256 (v3685 (F := Ideal) c i arg2 harg2 arg3 harg3 arg5 harg5 arg6 harg6 arg9 x0 x1 x3 x4) (v3621 (F := Ideal) c i arg2 harg2 arg3 harg3 arg5 harg5 arg6 harg6 x0 x1 x3 x4) = T256 (ex (Sc i x0 x1 x3 x4)) 3 0 4 := by
  rw [R_14_0, M_14]; exact expT256_eq _ _ _ _

theorem E_14_1 : expT256 (v3776 (F := Ideal) c i arg2 harg2 arg3 harg3 arg5 harg5 arg6 harg6 arg9 x0 x1 x3 x4) (v3621 (F := Ideal) c i arg2 harg2 arg3 harg3 arg5 harg5 arg6 harg6 x0 x1 x3 x4) = T256 (ex (Sc i x0 x1 x3 x4)) 3 1 4 := by
  rw [R_14_1, M_14]; exact expT256_eq _ _ _ _

theorem E_14_2 : expT256 (v3868 (F := Ideal) c i arg2 harg2 arg3 harg3 arg5 harg5 arg6 harg6 arg9 x0 x1 x3 x4) (v3621 (F := Ideal) c i arg2 harg2 arg3 harg3 arg5 harg5 arg6 harg6 x0 x1 x3 x4) = T256 (ex (Sc i x0 x1 x3 x4)) 3 2 4 := by
  rw [R_14_2, M_14]; exact expT256_eq _ _ _ _

theorem E_14_3 : expT256 (v3961 (F := Ideal) c i arg2 harg2 arg3 harg3 arg5 harg5 arg6 harg6 arg9 x0 x1 x3 x4) (v3621 (F := Ideal) c i arg2 harg2 arg3 harg3 arg5 harg5 arg6 harg6 x0 x1 x3 x4) = T256 (ex (Sc i x0 x1 x3 x4)) 3 3 4 := by
  rw [R_14_3, M_14]; exact expT256_eq _ _ _ _

theorem Q_14_0 : (v4125 (F := Ideal) c i arg2 harg2 arg3 harg3 arg5 harg5 arg6 harg6 arg9 x0 x1 x3 x4) = B256 (φ := .f32) (ex (Sc i x0 x1 x3 x4)) 3 0 4 := by
  refine Eq.trans ?_ ((congrArg (fun t => shapeCast S1x128x256 t shapeCasts_S128x256_S1x128x256) (E_14_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_14_1 : (v4222 (F := Ideal) c i arg2 harg2 arg3 harg3 arg5 harg5 arg6 harg6 arg9 x0 x1 x3 x4) = B256 (φ := .f32) (ex (Sc i x0 x1 x3 x4)) 3 1 4 := by
  refine Eq.trans ?_ ((congrArg (fun t => shapeCast S1x128x256 t shapeCasts_S128x256_S1x128x256) (E_14_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_14_2 : (v4319 (F := Ideal) c i arg2 harg2 arg3 harg3 arg5 harg5 arg6 harg6 arg9 x0 x1 x3 x4) = B256 (φ := .f32) (ex (Sc i x0 x1 x3 x4)) 3 2 4 := by
  refine Eq.trans ?_ ((congrArg (fun t => shapeCast S1x128x256 t shapeCasts_S128x256_S1x128x256) (E_14_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_14_3 : (v4416 (F := Ideal) c i arg2 harg2 arg3 harg3 arg5 harg5 arg6 harg6 arg9 x0 x1 x3 x4) = B256 (φ := .f32) (ex (Sc i x0 x1 x3 x4)) 3 3 4 := by
  refine Eq.trans ?_ ((congrArg (fun t => shapeCast S1x128x256 t shapeCasts_S128x256_S1x128x256) (E_14_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_14 : (v4018 (F := Ideal) c i arg2 harg2 arg3 harg3 arg5 harg5 arg6 harg6 arg9 x0 x1 x3 x4) = R256 (rc (ex (Sc i x0 x1 x3 x4))) 3 4 := by
  refine (show _ = rdiv256 (expT256 (v3685 (F := Ideal) c i arg2 harg2 arg3 harg3 arg5 harg5 arg6 harg6 arg9 x0 x1 x3 x4) (v3621 (F := Ideal) c i arg2 harg2 arg3 harg3 arg5 harg5 arg6 harg6 x0 x1 x3 x4)) [expT256 (v3776 (F := Ideal) c i arg2 harg2 arg3 harg3 arg5 harg5 arg6 harg6 arg9 x0 x1 x3 x4) (v3621 (F := Ideal) c i arg2 harg2 arg3 harg3 arg5 harg5 arg6 harg6 x0 x1 x3 x4), expT256 (v3868 (F := Ideal) c i arg2 harg2 arg3 harg3 arg5 harg5 arg6 harg6 arg9 x0 x1 x3 x4) (v3621 (F := Ideal) c i arg2 harg2 arg3 harg3 arg5 harg5 arg6 harg6 x0 x1 x3 x4), expT256 (v3961 (F := Ideal) c i arg2 harg2 arg3 harg3 arg5 harg5 arg6 harg6 arg9 x0 x1 x3 x4) (v3621 (F := Ideal) c i arg2 harg2 arg3 harg3 arg5 harg5 arg6 harg6 x0 x1 x3 x4)] from rfl).trans ?_
  rw [E_14_0, E_14_1, E_14_2, E_14_3]
  exact rdiv256_eq _ _ _

theorem C_14_0 : code256 (v4125 (F := Ideal) c i arg2 harg2 arg3 harg3 arg5 harg5 arg6 harg6 arg9 x0 x1 x3 x4) (v4018 (F := Ideal) c i arg2 harg2 arg3 harg3 arg5 harg5 arg6 harg6 arg9 x0 x1 x3 x4) = T256 (cd (ex (Sc i x0 x1 x3 x4))) 3 0 4 := by
  rw [Q_14_0, L_14]; exact code256_eq _ _ _ _

theorem C_14_1 : code256 (v4222 (F := Ideal) c i arg2 harg2 arg3 harg3 arg5 harg5 arg6 harg6 arg9 x0 x1 x3 x4) (v4018 (F := Ideal) c i arg2 harg2 arg3 harg3 arg5 harg5 arg6 harg6 arg9 x0 x1 x3 x4) = T256 (cd (ex (Sc i x0 x1 x3 x4))) 3 1 4 := by
  rw [Q_14_1, L_14]; exact code256_eq _ _ _ _

theorem C_14_2 : code256 (v4319 (F := Ideal) c i arg2 harg2 arg3 harg3 arg5 harg5 arg6 harg6 arg9 x0 x1 x3 x4) (v4018 (F := Ideal) c i arg2 harg2 arg3 harg3 arg5 harg5 arg6 harg6 arg9 x0 x1 x3 x4) = T256 (cd (ex (Sc i x0 x1 x3 x4))) 3 2 4 := by
  rw [Q_14_2, L_14]; exact code256_eq _ _ _ _

theorem C_14_3 : code256 (v4416 (F := Ideal) c i arg2 harg2 arg3 harg3 arg5 harg5 arg6 harg6 arg9 x0 x1 x3 x4) (v4018 (F := Ideal) c i arg2 harg2 arg3 harg3 arg5 harg5 arg6 harg6 arg9 x0 x1 x3 x4) = T256 (cd (ex (Sc i x0 x1 x3 x4))) 3 3 4 := by
  rw [Q_14_3, L_14]; exact code256_eq _ _ _ _

theorem P_14 : (v4481 (F := Ideal) c i arg2 harg2 arg3 harg3 arg5 harg5 arg6 harg6 arg9 arg10 x0 x1 x3 x4) = fun j => (cd (ex (Sc i x0 x1 x3 x4))) (4 + (j 2).val / 128) (128 * 3 + (j 2).val % 128) (j 1).val := by
  refine Eq.trans (Slab.read (f := (cd (ex (Sc i x0 x1 x3 x4)))) (i := 3) (h := 4) (n := 4) ?_ 512 (by decide) _ _) rfl
  refine Slab.next (n := 3) ?_ _ _ ?_
  rotate_left
  · intro j
    exact (congrFun ((congrArg (fun t => shapeCast S1x128x256 t shapeCasts_S128x256_S1x128x256) (C_14_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_14_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_14_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_14_0 c i arg2 harg2 arg3 harg3 arg5 harg5 arg6 harg6 arg9 x0 x1 x3 x4)).trans (store256 _ _ _ _ _)) j)
  exact Slab.nil _ _ _ _ _ _

theorem D_14 : prod256_512 (rdV 512 arg7 harg7 x5 (by decide)) (v4481 (F := Ideal) c i arg2 harg2 arg3 harg3 arg5 harg5 arg6 harg6 arg9 arg10 x0 x1 x3 x4) (omw i arg4 harg4 x2) = OT256 (Ou i x0 x1 x2 x3 x4 x5) 3 4 := by
  rw [rdV_eq, omw_eq, P_14]; exact prod256_512_eq _ _ _ _

theorem O_14_0 : (v4491 (F := Ideal) c i arg2 harg2 arg3 harg3 arg4 harg4 arg5 harg5 arg6 harg6 arg7 harg7 arg9 arg10 x0 x1 x2 x3 x4 x5) = OB (Ou i x0 x1 x2 x3 x4 x5) 3 4 := (congrArg outA256 (D_14 c i arg2 harg2 arg3 harg3 arg4 harg4 arg5 harg5 arg6 harg6 arg7 harg7 arg9 arg10 x0 x1 x2 x3 x4 x5)).trans (outA256_eq _ _ _)

theorem O_14_1 : (v4496 (F := Ideal) c i arg2 harg2 arg3 harg3 arg4 harg4 arg5 harg5 arg6 harg6 arg7 harg7 arg9 arg10 x0 x1 x2 x3 x4 x5) = OB (Ou i x0 x1 x2 x3 x4 x5) 3 5 := (congrArg outB256 (D_14 c i arg2 harg2 arg3 harg3 arg4 harg4 arg5 harg5 arg6 harg6 arg7 harg7 arg9 arg10 x0 x1 x2 x3 x4 x5)).trans (outB256_eq _ _ _)

theorem S_15_0 : (v3650 (F := Ideal) c i arg2 harg2 arg3 harg3 arg5 harg5 arg6 harg6 x0 x1 x3 x4) = T128 (Sc i x0 x1 x3 x4) 3 0 6 :=
  scoreN128_rd i arg2 harg2 arg3 harg3 arg5 harg5 arg6 harg6 x0 x1 x3 x4 3 0 6 (by decide) (by decide) (by decide)

theorem S_15_1 : (v3740 (F := Ideal) c i arg2 harg2 arg3 harg3 arg5 harg5 arg6 harg6 x0 x1 x3 x4) = T128 (Sc i x0 x1 x3 x4) 3 1 6 :=
  scoreN128_rd i arg2 harg2 arg3 harg3 arg5 harg5 arg6 harg6 x0 x1 x3 x4 3 1 6 (by decide) (by decide) (by decide)

theorem S_15_2 : (v3832 (F := Ideal) c i arg2 harg2 arg3 harg3 arg5 harg5 arg6 harg6 x0 x1 x3 x4) = T128 (Sc i x0 x1 x3 x4) 3 2 6 :=
  scoreN128_rd i arg2 harg2 arg3 harg3 arg5 harg5 arg6 harg6 x0 x1 x3 x4 3 2 6 (by decide) (by decide) (by decide)

theorem S_15_3 : (v3925 (F := Ideal) c i arg2 harg2 arg3 harg3 arg5 harg5 arg6 harg6 x0 x1 x3 x4) = T128 (Sc i x0 x1 x3 x4) 3 3 6 :=
  scoreD128_rd i arg2 harg2 arg3 harg3 arg5 harg5 arg6 harg6 x0 x1 x3 x4 3 6 (by decide) (by decide)

theorem R_15_0 : (v4086 (F := Ideal) c i arg2 harg2 arg3 harg3 arg5 harg5 arg6 harg6 arg9 x0 x1 x3 x4) = B128 (φ := .f32) (Sc i x0 x1 x3 x4) 3 0 6 := by
  refine Eq.trans ?_ ((congrArg (fun t => shapeCast S1x128x128 t shapeCasts_S128x128_S1x128x128) (S_15_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_15_1 : (v4182 (F := Ideal) c i arg2 harg2 arg3 harg3 arg5 harg5 arg6 harg6 arg9 x0 x1 x3 x4) = B128 (φ := .f32) (Sc i x0 x1 x3 x4) 3 1 6 := by
  refine Eq.trans ?_ ((congrArg (fun t => shapeCast S1x128x128 t shapeCasts_S128x128_S1x128x128) (S_15_1 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_15_2 : (v4279 (F := Ideal) c i arg2 harg2 arg3 harg3 arg5 harg5 arg6 harg6 arg9 x0 x1 x3 x4) = B128 (φ := .f32) (Sc i x0 x1 x3 x4) 3 2 6 := by
  refine Eq.trans ?_ ((congrArg (fun t => shapeCast S1x128x128 t shapeCasts_S128x128_S1x128x128) (S_15_2 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_15_3 : (v4376 (F := Ideal) c i arg2 harg2 arg3 harg3 arg5 harg5 arg6 harg6 arg9 x0 x1 x3 x4) = B128 (φ := .f32) (Sc i x0 x1 x3 x4) 3 3 6 := by
  refine Eq.trans ?_ ((congrArg (fun t => shapeCast S1x128x128 t shapeCasts_S128x128_S1x128x128) (S_15_3 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_15 : (v4014 (F := Ideal) c i arg2 harg2 arg3 harg3 arg5 harg5 arg6 harg6 x0 x1 x3 x4) = R128 (mx (Sc i x0 x1 x3 x4)) 3 6 := by
  refine (show _ = rmax128 (v3650 (F := Ideal) c i arg2 harg2 arg3 harg3 arg5 harg5 arg6 harg6 x0 x1 x3 x4) [(v3740 (F := Ideal) c i arg2 harg2 arg3 harg3 arg5 harg5 arg6 harg6 x0 x1 x3 x4), (v3832 (F := Ideal) c i arg2 harg2 arg3 harg3 arg5 harg5 arg6 harg6 x0 x1 x3 x4), (v3925 (F := Ideal) c i arg2 harg2 arg3 harg3 arg5 harg5 arg6 harg6 x0 x1 x3 x4)] from rfl).trans ?_
  rw [S_15_0, S_15_1, S_15_2, S_15_3]
  exact rmax128_eq _ _ _

theorem E_15_0 : expT128 (v4086 (F := Ideal) c i arg2 harg2 arg3 harg3 arg5 harg5 arg6 harg6 arg9 x0 x1 x3 x4) (v4014 (F := Ideal) c i arg2 harg2 arg3 harg3 arg5 harg5 arg6 harg6 x0 x1 x3 x4) = T128 (ex (Sc i x0 x1 x3 x4)) 3 0 6 := by
  rw [R_15_0, M_15]; exact expT128_eq _ _ _ _

theorem E_15_1 : expT128 (v4182 (F := Ideal) c i arg2 harg2 arg3 harg3 arg5 harg5 arg6 harg6 arg9 x0 x1 x3 x4) (v4014 (F := Ideal) c i arg2 harg2 arg3 harg3 arg5 harg5 arg6 harg6 x0 x1 x3 x4) = T128 (ex (Sc i x0 x1 x3 x4)) 3 1 6 := by
  rw [R_15_1, M_15]; exact expT128_eq _ _ _ _

theorem E_15_2 : expT128 (v4279 (F := Ideal) c i arg2 harg2 arg3 harg3 arg5 harg5 arg6 harg6 arg9 x0 x1 x3 x4) (v4014 (F := Ideal) c i arg2 harg2 arg3 harg3 arg5 harg5 arg6 harg6 x0 x1 x3 x4) = T128 (ex (Sc i x0 x1 x3 x4)) 3 2 6 := by
  rw [R_15_2, M_15]; exact expT128_eq _ _ _ _

theorem E_15_3 : expT128 (v4376 (F := Ideal) c i arg2 harg2 arg3 harg3 arg5 harg5 arg6 harg6 arg9 x0 x1 x3 x4) (v4014 (F := Ideal) c i arg2 harg2 arg3 harg3 arg5 harg5 arg6 harg6 x0 x1 x3 x4) = T128 (ex (Sc i x0 x1 x3 x4)) 3 3 6 := by
  rw [R_15_3, M_15]; exact expT128_eq _ _ _ _

theorem Q_15_0 : (v4587 (F := Ideal) c i arg2 harg2 arg3 harg3 arg5 harg5 arg6 harg6 arg9 x0 x1 x3 x4) = B128 (φ := .f32) (ex (Sc i x0 x1 x3 x4)) 3 0 6 := by
  refine Eq.trans ?_ ((congrArg (fun t => shapeCast S1x128x128 t shapeCasts_S128x128_S1x128x128) (E_15_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_15_1 : (v4684 (F := Ideal) c i arg2 harg2 arg3 harg3 arg5 harg5 arg6 harg6 arg9 x0 x1 x3 x4) = B128 (φ := .f32) (ex (Sc i x0 x1 x3 x4)) 3 1 6 := by
  refine Eq.trans ?_ ((congrArg (fun t => shapeCast S1x128x128 t shapeCasts_S128x128_S1x128x128) (E_15_1 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_15_2 : (v4781 (F := Ideal) c i arg2 harg2 arg3 harg3 arg5 harg5 arg6 harg6 arg9 x0 x1 x3 x4) = B128 (φ := .f32) (ex (Sc i x0 x1 x3 x4)) 3 2 6 := by
  refine Eq.trans ?_ ((congrArg (fun t => shapeCast S1x128x128 t shapeCasts_S128x128_S1x128x128) (E_15_2 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_15_3 : (v4878 (F := Ideal) c i arg2 harg2 arg3 harg3 arg5 harg5 arg6 harg6 arg9 x0 x1 x3 x4) = B128 (φ := .f32) (ex (Sc i x0 x1 x3 x4)) 3 3 6 := by
  refine Eq.trans ?_ ((congrArg (fun t => shapeCast S1x128x128 t shapeCasts_S128x128_S1x128x128) (E_15_3 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_15 : (v4478 (F := Ideal) c i arg2 harg2 arg3 harg3 arg5 harg5 arg6 harg6 arg9 x0 x1 x3 x4) = R128 (rc (ex (Sc i x0 x1 x3 x4))) 3 6 := by
  refine (show _ = rdiv128 (expT128 (v4086 (F := Ideal) c i arg2 harg2 arg3 harg3 arg5 harg5 arg6 harg6 arg9 x0 x1 x3 x4) (v4014 (F := Ideal) c i arg2 harg2 arg3 harg3 arg5 harg5 arg6 harg6 x0 x1 x3 x4)) [expT128 (v4182 (F := Ideal) c i arg2 harg2 arg3 harg3 arg5 harg5 arg6 harg6 arg9 x0 x1 x3 x4) (v4014 (F := Ideal) c i arg2 harg2 arg3 harg3 arg5 harg5 arg6 harg6 x0 x1 x3 x4), expT128 (v4279 (F := Ideal) c i arg2 harg2 arg3 harg3 arg5 harg5 arg6 harg6 arg9 x0 x1 x3 x4) (v4014 (F := Ideal) c i arg2 harg2 arg3 harg3 arg5 harg5 arg6 harg6 x0 x1 x3 x4), expT128 (v4376 (F := Ideal) c i arg2 harg2 arg3 harg3 arg5 harg5 arg6 harg6 arg9 x0 x1 x3 x4) (v4014 (F := Ideal) c i arg2 harg2 arg3 harg3 arg5 harg5 arg6 harg6 x0 x1 x3 x4)] from rfl).trans ?_
  rw [E_15_0, E_15_1, E_15_2, E_15_3]
  exact rdiv128_eq _ _ _

theorem C_15_0 : code128 (v4587 (F := Ideal) c i arg2 harg2 arg3 harg3 arg5 harg5 arg6 harg6 arg9 x0 x1 x3 x4) (v4478 (F := Ideal) c i arg2 harg2 arg3 harg3 arg5 harg5 arg6 harg6 arg9 x0 x1 x3 x4) = T128 (cd (ex (Sc i x0 x1 x3 x4))) 3 0 6 := by
  rw [Q_15_0, L_15]; exact code128_eq _ _ _ _

theorem C_15_1 : code128 (v4684 (F := Ideal) c i arg2 harg2 arg3 harg3 arg5 harg5 arg6 harg6 arg9 x0 x1 x3 x4) (v4478 (F := Ideal) c i arg2 harg2 arg3 harg3 arg5 harg5 arg6 harg6 arg9 x0 x1 x3 x4) = T128 (cd (ex (Sc i x0 x1 x3 x4))) 3 1 6 := by
  rw [Q_15_1, L_15]; exact code128_eq _ _ _ _

theorem C_15_2 : code128 (v4781 (F := Ideal) c i arg2 harg2 arg3 harg3 arg5 harg5 arg6 harg6 arg9 x0 x1 x3 x4) (v4478 (F := Ideal) c i arg2 harg2 arg3 harg3 arg5 harg5 arg6 harg6 arg9 x0 x1 x3 x4) = T128 (cd (ex (Sc i x0 x1 x3 x4))) 3 2 6 := by
  rw [Q_15_2, L_15]; exact code128_eq _ _ _ _

theorem C_15_3 : code128 (v4878 (F := Ideal) c i arg2 harg2 arg3 harg3 arg5 harg5 arg6 harg6 arg9 x0 x1 x3 x4) (v4478 (F := Ideal) c i arg2 harg2 arg3 harg3 arg5 harg5 arg6 harg6 arg9 x0 x1 x3 x4) = T128 (cd (ex (Sc i x0 x1 x3 x4))) 3 3 6 := by
  rw [Q_15_3, L_15]; exact code128_eq _ _ _ _

theorem P_15 : (v4979 (F := Ideal) c i arg2 harg2 arg3 harg3 arg5 harg5 arg6 harg6 arg9 arg10 x0 x1 x3 x4) = fun j => (cd (ex (Sc i x0 x1 x3 x4))) (6 + (j 2).val / 128) (128 * 3 + (j 2).val % 128) (j 1).val := by
  refine Eq.trans (Slab.read (f := (cd (ex (Sc i x0 x1 x3 x4)))) (i := 3) (h := 6) (n := 4) ?_ 512 (by decide) _ _) rfl
  refine Slab.next (n := 3) ?_ _ _ ?_
  rotate_left
  · intro j
    exact (congrFun ((congrArg (fun t => shapeCast S1x128x128 t shapeCasts_S128x128_S1x128x128) (C_15_3 c i arg2 harg2 arg3 harg3 arg5 harg5 arg6 harg6 arg9 x0 x1 x3 x4)).trans (store128 _ _ _ _ _)) j).trans (B128_slab _ _ _ _ _)
  refine Slab.next (n := 2) ?_ _ _ ?_
  rotate_left
  · intro j
    exact (congrFun ((congrArg (fun t => shapeCast S1x128x128 t shapeCasts_S128x128_S1x128x128) (C_15_2 c i arg2 harg2 arg3 harg3 arg5 harg5 arg6 harg6 arg9 x0 x1 x3 x4)).trans (store128 _ _ _ _ _)) j).trans (B128_slab _ _ _ _ _)
  refine Slab.next (n := 1) ?_ _ _ ?_
  rotate_left
  · intro j
    exact (congrFun ((congrArg (fun t => shapeCast S1x128x128 t shapeCasts_S128x128_S1x128x128) (C_15_1 c i arg2 harg2 arg3 harg3 arg5 harg5 arg6 harg6 arg9 x0 x1 x3 x4)).trans (store128 _ _ _ _ _)) j).trans (B128_slab _ _ _ _ _)
  refine Slab.next (n := 0) ?_ _ _ ?_
  rotate_left
  · intro j
    exact (congrFun ((congrArg (fun t => shapeCast S1x128x128 t shapeCasts_S128x128_S1x128x128) (C_15_0 c i arg2 harg2 arg3 harg3 arg5 harg5 arg6 harg6 arg9 x0 x1 x3 x4)).trans (store128 _ _ _ _ _)) j).trans (B128_slab _ _ _ _ _)
  exact Slab.nil _ _ _ _ _ _

theorem D_15 : prod128_512 (rdV 512 arg7 harg7 x5 (by decide)) (v4979 (F := Ideal) c i arg2 harg2 arg3 harg3 arg5 harg5 arg6 harg6 arg9 arg10 x0 x1 x3 x4) (omw i arg4 harg4 x2) = OT128 (Ou i x0 x1 x2 x3 x4 x5) 3 6 := by
  rw [rdV_eq, omw_eq, P_15]; exact prod128_512_eq _ _ _ _

theorem O_15_0 : (v4988 (F := Ideal) c i arg2 harg2 arg3 harg3 arg4 harg4 arg5 harg5 arg6 harg6 arg7 harg7 arg9 arg10 x0 x1 x2 x3 x4 x5) = OB (Ou i x0 x1 x2 x3 x4 x5) 3 6 := (congrArg outA128 (D_15 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Block4.lean ====
/- The tiles of query block 4 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_16_0 : (v4051 (F := Ideal) c i arg2 harg2 arg3 harg3 arg5 harg5 arg6 harg6 x0 x1 x3 x4) = T256 (Sc i x0 x1 x3 x4) 4 0 0 :=
  scoreN256_rd i arg2 harg2 arg3 harg3 arg5 harg5 arg6 harg6 x0 x1 x3 x4 4 0 0 (by decide) (by decide) (by decide)

theorem S_16_1 : (v4146 (F := Ideal) c i arg2 harg2 arg3 harg3 arg5 harg5 arg6 harg6 x0 x1 x3 x4) = T256 (Sc i x0 x1 x3 x4) 4 1 0 :=
  scoreN256_rd i arg2 harg2 arg3 harg3 arg5 harg5 arg6 harg6 x0 x1 x3 x4 4 1 0 (by decide) (by decide) (by decide)

theorem S_16_2 : (v4243 (F := Ideal) c i arg2 harg2 arg3 harg3 arg5 harg5 arg6 harg6 x0 x1 x3 x4) = T256 (Sc i x0 x1 x3 x4) 4 2 0 :=
  scoreN256_rd i arg2 harg2 arg3 harg3 arg5 harg5 arg6 harg6 x0 x1 x3 x4 4 2 0 (by decide) (by decide) (by decide)

theorem S_16_3 : (v4340 (F := Ideal) c i arg2 harg2 arg3 harg3 arg5 harg5 arg6 harg6 x0 x1 x3 x4) = T256 (Sc i x0 x1 x3 x4) 4 3 0 :=
  scoreN256_rd i arg2 harg2 arg3 harg3 arg5 harg5 arg6 harg6 x0 x1 x3 x4 4 3 0 (by decide) (by decide) (by decide)

theorem S_16_4 : (v4439 (F := Ideal) c i arg2 harg2 arg3 harg3 arg5 harg5 arg6 harg6 x0 x1 x3 x4) = T256 (Sc i x0 x1 x3 x4) 4 4 0 :=
  scoreD256_rd i arg2 harg2 arg3 harg3 arg5 harg5 arg6 harg6 x0 x1 x3 x4 4 0 (by decide) (by decide)

theorem R_16_0 : (v4548 (F := Ideal) c i arg2 harg2 arg3 harg3 arg5 harg5 arg6 harg6 arg9 x0 x1 x3 x4) = B256 (φ := .f32) (Sc i x0 x1 x3 x4) 4 0 0 := by
  refine Eq.trans ?_ ((congrArg (fun t => shapeCast S1x128x256 t shapeCasts_S128x256_S1x128x256) (S_16_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_16_1 : (v4644 (F := Ideal) c i arg2 harg2 arg3 harg3 arg5 harg5 arg6 harg6 arg9 x0 x1 x3 x4) = B256 (φ := .f32) (Sc i x0 x1 x3 x4) 4 1 0 := by
  refine Eq.trans ?_ ((congrArg (fun t => shapeCast S1x128x256 t shapeCasts_S128x256_S1x128x256) (S_16_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_16_2 : (v4741 (F := Ideal) c i arg2 harg2 arg3 harg3 arg5 harg5 arg6 harg6 arg9 x0 x1 x3 x4) = B256 (φ := .f32) (Sc i x0 x1 x3 x4) 4 2 0 := by
  refine Eq.trans ?_ ((congrArg (fun t => shapeCast S1x128x256 t shapeCasts_S128x256_S1x128x256) (S_16_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_16_3 : (v4838 (F := Ideal) c i arg2 harg2 arg3 harg3 arg5 harg5 arg6 harg6 arg9 x0 x1 x3 x4) = B256 (φ := .f32) (Sc i x0 x1 x3 x4) 4 3 0 := by
  refine Eq.trans ?_ ((congrArg (fun t => shapeCast S1x128x256 t shapeCasts_S128x256_S1x128x256) (S_16_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_16_4 : (v4937 (F := Ideal) c i arg2 harg2 arg3 harg3 arg5 harg5 arg6 harg6 arg9 x0 x1 x3 x4) = B256 (φ := .f32) (Sc i x0 x1 x3 x4) 4 4 0 := by
  refine Eq.trans ?_ ((congrArg (fun t => shapeCast S1x128x256 t shapeCasts_S128x256_S1x128x256) (S_16_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_16 : (v4498 (F := Ideal) c i arg2 harg2 arg3 harg3 arg5 harg5 arg6 harg6 x0 x1 x3 x4) = R256 (mx (Sc i x0 x1 x3 x4)) 4 0 := by
  refine (show _ = rmax256 (v4051 (F := Ideal) c i arg2 harg2 arg3 harg3 arg5 harg5 arg6 harg6 x0 x1 x3 x4) [(v4146 (F := Ideal) c i arg2 harg2 arg3 harg3 arg5 harg5 arg6 harg6 x0 x1 x3 x4), (v4243 (F := Ideal) c i arg2 harg2 arg3 harg3 arg5 harg5 arg6 harg6 x0 x1 x3 x4), (v4340 (F := Ideal) c i arg2 harg2 arg3 harg3 arg5 harg5 arg6 harg6 x0 x1 x3 x4), (v4439 (F := Ideal) c i arg2 harg2 arg3 harg3 arg5 harg5 arg6 harg6 x0 x1 x3 x4)] from rfl).trans ?_
  rw [S_16_0, S_16_1, S_16_2, S_16_3, S_16_4]
  exact rmax256_eq _ _ _

theorem E_16_0 : expT256 (v4548 (F := Ideal) c i arg2 harg2 arg3 harg3 arg5 harg5 arg6 harg6 arg9 x0 x1 x3 x4) (v4498 (F := Ideal) c i arg2 harg2 arg3 harg3 arg5 harg5 arg6 harg6 x0 x1 x3 x4) = T256 (ex (Sc i x0 x1 x3 x4)) 4 0 0 := by
  rw [R_16_0, M_16]; exact expT256_eq _ _ _ _

theorem E_16_1 : expT256 (v4644 (F := Ideal) c i arg2 harg2 arg3 harg3 arg5 harg5 arg6 harg6 arg9 x0 x1 x3 x4) (v4498 (F := Ideal) c i arg2 harg2 arg3 harg3 arg5 harg5 arg6 harg6 x0 x1 x3 x4) = T256 (ex (Sc i x0 x1 x3 x4)) 4 1 0 := by
  rw [R_16_1, M_16]; exact expT256_eq _ _ _ _

theorem E_16_2 : expT256 (v4741 (F := Ideal) c i arg2 harg2 arg3 harg3 arg5 harg5 arg6 harg6 arg9 x0 x1 x3 x4) (v4498 (F := Ideal) c i arg2 harg2 arg3 harg3 arg5 harg5 arg6 harg6 x0 x1 x3 x4) = T256 (ex (Sc i x0 x1 x3 x4)) 4 2 0 := by
  rw [R_16_2, M_16]; exact expT256_eq _ _ _ _

theorem E_16_3 : expT256 (v4838 (F := Ideal) c i arg2 harg2 arg3 harg3 arg5 harg5 arg6 harg6 arg9 x0 x1 x3 x4) (v4498 (F := Ideal) c i arg2 harg2 arg3 harg3 arg5 harg5 arg6 harg6 x0 x1 x3 x4) = T256 (ex (Sc i x0 x1 x3 x4)) 4 3 0 := by
  rw [R_16_3, M_16]; exact expT256_eq _ _ _ _

theorem E_16_4 : expT256 (v4937 (F := Ideal) c i arg2 harg2 arg3 harg3 arg5 harg5 arg6 harg6 arg9 x0 x1 x3 x4) (v4498 (F := Ideal) c i arg2 harg2 arg3 harg3 arg5 harg5 arg6 harg6 x0 x1 x3 x4) = T256 (ex (Sc i x0 x1 x3 x4)) 4 4 0 := by
  rw [R_16_4, M_16]; exact expT256_eq _ _ _ _

theorem Q_16_0 : (v5083 (F := Ideal) c i arg2 harg2 arg3 harg3 arg5 harg5 arg6 harg6 arg9 x0 x1 x3 x4) = B256 (φ := .f32) (ex (Sc i x0 x1 x3 x4)) 4 0 0 := by
  refine Eq.trans ?_ ((congrArg (fun t => shapeCast S1x128x256 t shapeCasts_S128x256_S1x128x256) (E_16_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_16_1 : (v5180 (F := Ideal) c i arg2 harg2 arg3 harg3 arg5 harg5 arg6 harg6 arg9 x0 x1 x3 x4) = B256 (φ := .f32) (ex (Sc i x0 x1 x3 x4)) 4 1 0 := by
  refine Eq.trans ?_ ((congrArg (fun t => shapeCast S1x128x256 t shapeCasts_S128x256_S1x128x256) (E_16_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_16_2 : (v5277 (F := Ideal) c i arg2 harg2 arg3 harg3 arg5 harg5 arg6 harg6 arg9 x0 x1 x3 x4) = B256 (φ := .f32) (ex (Sc i x0 x1 x3 x4)) 4 2 0 := by
  refine Eq.trans ?_ ((congrArg (fun t => shapeCast S1x128x256 t shapeCasts_S128x256_S1x128x256) (E_16_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_16_3 : (v5374 (F := Ideal) c i arg2 harg2 arg3 harg3 arg5 harg5 arg6 harg6 arg9 x0 x1 x3 x4) = B256 (φ := .f32) (ex (Sc i x0 x1 x3 x4)) 4 3 0 := by
  refine Eq.trans ?_ ((congrArg (fun t => shapeCast S1x128x256 t shapeCasts_S128x256_S1x128x256) (E_16_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_16_4 : (v5473 (F := Ideal) c i arg2 harg2 arg3 harg3 arg5 harg5 arg6 harg6 arg9 x0 x1 x3 x4) = B256 (φ := .f32) (ex (Sc i x0 x1 x3 x4)) 4 4 0 := by
  refine Eq.trans ?_ ((congrArg (fun t => shapeCast S1x128x256 t shapeCasts_S128x256_S1x128x256) (E_16_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_16 : (v4994 (F := Ideal) c i arg2 harg2 arg3 harg3 arg5 harg5 arg6 harg6 arg9 x0 x1 x3 x4) = R256 (rc (ex (Sc i x0 x1 x3 x4))) 4 0 := by
  refine (show _ = rdiv256 (expT256 (v4548 (F := Ideal) c i arg2 harg2 arg3 harg3 arg5 harg5 arg6 harg6 arg9 x0 x1 x3 x4) (v4498 (F := Ideal) c i arg2 harg2 arg3 harg3 arg5 harg5 arg6 harg6 x0 x1 x3 x4)) [expT256 (v4644 (F := Ideal) c i arg2 harg2 arg3 harg3 arg5 harg5 arg6 harg6 arg9 x0 x1 x3 x4) (v4498 (F := Ideal) c i arg2 harg2 arg3 harg3 arg5 harg5 arg6 harg6 x0 x1 x3 x4), expT256 (v4741 (F := Ideal) c i arg2 harg2 arg3 harg3 arg5 harg5 arg6 harg6 arg9 x0 x1 x3 x4) (v4498 (F := Ideal) c i arg2 harg2 arg3 harg3 arg5 harg5 arg6 harg6 x0 x1 x3 x4), expT256 (v4838 (F := Ideal) c i arg2 harg2 arg3 harg3 arg5 harg5 arg6 harg6 arg9 x0 x1 x3 x4) (v4498 (F := Ideal) c i arg2 harg2 arg3 harg3 arg5 harg5 arg6 harg6 x0 x1 x3 x4), expT256 (v4937 (F := Ideal) c i arg2 harg2 arg3 harg3 arg5 harg5 arg6 harg6 arg9 x0 x1 x3 x4) (v4498 (F := Ideal) c i arg2 harg2 arg3 harg3 arg5 harg5 arg6 harg6 x0 x1 x3 x4)] from rfl).trans ?_
  rw [E_16_0, E_16_1, E_16_2, E_16_3, E_16_4]
  exact rdiv256_eq _ _ _

theorem C_16_0 : code256 (v5083 (F := Ideal) c i arg2 harg2 arg3 harg3 arg5 harg5 arg6 harg6 arg9 x0 x1 x3 x4) (v4994 (F := Ideal) c i arg2 harg2 arg3 harg3 arg5 harg5 arg6 harg6 arg9 x0 x1 x3 x4) = T256 (cd (ex (Sc i x0 x1 x3 x4))) 4 0 0 := by
  rw [Q_16_0, L_16]; exact code256_eq _ _ _ _

theorem C_16_1 : code256 (v5180 (F := Ideal) c i arg2 harg2 arg3 harg3 arg5 harg5 arg6 harg6 arg9 x0 x1 x3 x4) (v4994 (F := Ideal) c i arg2 harg2 arg3 harg3 arg5 harg5 arg6 harg6 arg9 x0 x1 x3 x4) = T256 (cd (ex (Sc i x0 x1 x3 x4))) 4 1 0 := by
  rw [Q_16_1, L_16]; exact code256_eq _ _ _ _

theorem C_16_2 : code256 (v5277 (F := Ideal) c i arg2 harg2 arg3 harg3 arg5 harg5 arg6 harg6 arg9 x0 x1 x3 x4) (v4994 (F := Ideal) c i arg2 harg2 arg3 harg3 arg5 harg5 arg6 harg6 arg9 x0 x1 x3 x4) = T256 (cd (ex (Sc i x0 x1 x3 x4))) 4 2 0 := by
  rw [Q_16_2, L_16]; exact code256_eq _ _ _ _

theorem C_16_3 : code256 (v5374 (F := Ideal) c i arg2 harg2 arg3 harg3 arg5 harg5 arg6 harg6 arg9 x0 x1 x3 x4) (v4994 (F := Ideal) c i arg2 harg2 arg3 harg3 arg5 harg5 arg6 harg6 arg9 x0 x1 x3 x4) = T256 (cd (ex (Sc i x0 x1 x3 x4))) 4 3 0 := by
  rw [Q_16_3, L_16]; exact code256_eq _ _ _ _

theorem C_16_4 : code256 (v5473 (F := Ideal) c i arg2 harg2 arg3 harg3 arg5 harg5 arg6 harg6 arg9 x0 x1 x3 x4) (v4994 (F := Ideal) c i arg2 harg2 arg3 harg3 arg5 harg5 arg6 harg6 arg9 x0 x1 x3 x4) = T256 (cd (ex (Sc i x0 x1 x3 x4))) 4 4 0 := by
  rw [Q_16_4, L_16]; exact code256_eq _ _ _ _

theorem P_16 : (v5493 (F := Ideal) c i arg2 harg2 arg3 harg3 arg5 harg5 arg6 harg6 arg9 arg10 x0 x1 x3 x4) = fun j => (cd (ex (Sc i x0 x1 x3 x4))) (0 + (j 2).val / 128) (128 * 4 + (j 2).val % 128) (j 1).val := by
  refine Eq.trans (Slab.read (f := (cd (ex (Sc i x0 x1 x3 x4)))) (i := 4) (h := 0) (n := 5) ?_ 640 (by decide) _ _) rfl
  refine Slab.next (n := 4) ?_ _ _ ?_
  rotate_left
  · intro j
    exact (congrFun ((congrArg (fun t => shapeCast S1x128x256 t shapeCasts_S128x256_S1x128x256) (C_16_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_16_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_16_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_16_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_16_0 c i arg2 harg2 arg3 harg3 arg5 harg5 arg6 harg6 arg9 x0 x1 x3 x4)).trans (store256 _ _ _ _ _)) j)
  exact Slab.nil _ _ _ _ _ _

theorem D_16 : prod256_640 (rdV 640 arg7 harg7 x5 (by decide)) (v5493 (F := Ideal) c i arg2 harg2 arg3 harg3 arg5 harg5 arg6 harg6 arg9 arg10 x0 x1 x3 x4) (omw i arg4 harg4 x2) = OT256 (Ou i x0 x1 x2 x3 x4 x5) 4 0 := by
  rw [rdV_eq, omw_eq, P_16]; exact prod256_640_eq _ _ _ _

theorem O_16_0 : (v5503 (F := Ideal) c i arg2 harg2 arg3 harg3 arg4 harg4 arg5 harg5 arg6 harg6 arg7 harg7 arg9 arg10 x0 x1 x2 x3 x4 x5) = OB (Ou i x0 x1 x2 x3 x4 x5) 4 0 := (congrArg outA256 (D_16 c i arg2 harg2 arg3 harg3 arg4 harg4 arg5 harg5 arg6 harg6 arg7 harg7 arg9 arg10 x0 x1 x2 x3 x4 x5)).trans (outA256_eq _ _ _)

theorem O_16_1 : (v5508 (F := Ideal) c i arg2 harg2 arg3 harg3 arg4 harg4 arg5 harg5 arg6 harg6 arg7 harg7 arg9 arg10 x0 x1 x2 x3 x4 x5) = OB (Ou i x0 x1 x2 x3 x4 x5) 4 1 := (congrArg outB256 (D_16 c i arg2 harg2 arg3 harg3 arg4 harg4 arg5 harg5 arg6 harg6 arg7 harg7 arg9 arg10 x0 x1 x2 x3 x4 x5)).trans (outB256_eq _ _ _)

theorem S_17_0 : (v4513 (F := Ideal) c i arg2 harg2 arg3 harg3 arg5 harg5 arg6 harg6 x0 x1 x3 x4) = T256 (Sc i x0 x1 x3 x4) 4 0 2 :=
  scoreN256_rd i arg2 harg2 arg3 harg3 arg5 harg5 arg6 harg6 x0 x1 x3 x4 4 0 2 (by decide) (by decide) (by decide)

theorem S_17_1 : (v4608 (F := Ideal) c i arg2 harg2 arg3 harg3 arg5 harg5 arg6 harg6 x0 x1 x3 x4) = T256 (Sc i x0 x1 x3 x4) 4 1 2 :=
  scoreN256_rd i arg2 harg2 arg3 harg3 arg5 harg5 arg6 harg6 x0 x1 x3 x4 4 1 2 (by decide) (by decide) (by decide)

theorem S_17_2 : (v4705 (F := Ideal) c i arg2 harg2 arg3 harg3 arg5 harg5 arg6 harg6 x0 x1 x3 x4) = T256 (Sc i x0 x1 x3 x4) 4 2 2 :=
  scoreN256_rd i arg2 harg2 arg3 harg3 arg5 harg5 arg6 harg6 x0 x1 x3 x4 4 2 2 (by decide) (by decide) (by decide)

theorem S_17_3 : (v4802 (F := Ideal) c i arg2 harg2 arg3 harg3 arg5 harg5 arg6 harg6 x0 x1 x3 x4) = T256 (Sc i x0 x1 x3 x4) 4 3 2 :=
  scoreN256_rd i arg2 harg2 arg3 harg3 arg5 harg5 arg6 harg6 x0 x1 x3 x4 4 3 2 (by decide) (by decide) (by decide)

theorem S_17_4 : (v4901 (F := Ideal) c i arg2 harg2 arg3 harg3 arg5 harg5 arg6 harg6 x0 x1 x3 x4) = T256 (Sc i x0 x1 x3 x4) 4 4 2 :=
  scoreD256_rd i arg2 harg2 arg3 harg3 arg5 harg5 arg6 harg6 x0 x1 x3 x4 4 2 (by decide) (by decide)

theorem R_17_0 : (v5044 (F := Ideal) c i arg2 harg2 arg3 harg3 arg5 harg5 arg6 harg6 arg9 x0 x1 x3 x4) = B256 (φ := .f32) (Sc i x0 x1 x3 x4) 4 0 2 := by
  refine Eq.trans ?_ ((congrArg (fun t => shapeCast S1x128x256 t shapeCasts_S128x256_S1x128x256) (S_17_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_17_1 : (v5140 (F := Ideal) c i arg2 harg2 arg3 harg3 arg5 harg5 arg6 harg6 arg9 x0 x1 x3 x4) = B256 (φ := .f32) (Sc i x0 x1 x3 x4) 4 1 2 := by
  refine Eq.trans ?_ ((congrArg (fun t => shapeCast S1x128x256 t shapeCasts_S128x256_S1x128x256) (S_17_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_17_2 : (v5237 (F := Ideal) c i arg2 harg2 arg3 harg3 arg5 harg5 arg6 harg6 arg9 x0 x1 x3 x4) = B256 (φ := .f32) (Sc i x0 x1 x3 x4) 4 2 2 := by
  refine Eq.trans ?_ ((congrArg (fun t => shapeCast S1x128x256 t shapeCasts_S128x256_S1x128x256) (S_17_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_17_3 : (v5334 (F := Ideal) c i arg2 harg2 arg3 harg3 arg5 harg5 arg6 harg6 arg9 x0 x1 x3 x4) = B256 (φ := .f32) (Sc i x0 x1 x3 x4) 4 3 2 := by
  refine Eq.trans ?_ ((congrArg (fun t => shapeCast S1x128x256 t shapeCasts_S128x256_S1x128x256) (S_17_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_17_4 : (v5433 (F := Ideal) c i arg2 harg2 arg3 harg3 arg5 harg5 arg6 harg6 arg9 x0 x1 x3 x4) = B256 (φ := .f32) (Sc i x0 x1 x3 x4) 4 4 2 := by
  refine Eq.trans ?_ ((congrArg (fun t => shapeCast S1x128x256 t shapeCasts_S128x256_S1x128x256) (S_17_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_17 : (v4990 (F := Ideal) c i arg2 harg2 arg3 harg3 arg5 harg5 arg6 harg6 x0 x1 x3 x4) = R256 (mx (Sc i x0 x1 x3 x4)) 4 2 := by
  refine (show _ = rmax256 (v4513 (F := Ideal) c i arg2 harg2 arg3 harg3 arg5 harg5 arg6 harg6 x0 x1 x3 x4) [(v4608 (F := Ideal) c i arg2 harg2 arg3 harg3 arg5 harg5 arg6 harg6 x0 x1 x3 x4), (v4705 (F := Ideal) c i arg2 harg2 arg3 harg3 arg5 harg5 arg6 harg6 x0 x1 x3 x4), (v4802 (F := Ideal) c i arg2 harg2 arg3 harg3 arg5 harg5 arg6 harg6 x0 x1 x3 x4), (v4901 (F := Ideal) c i arg2 harg2 arg3 harg3 arg5 harg5 arg6 harg6 x0 x1 x3 x4)] from rfl).trans ?_
  rw [S_17_0, S_17_1, S_17_2, S_17_3, S_17_4]
  exact rmax256_eq _ _ _

theorem E_17_0 : expT256 (v5044 (F := Ideal) c i arg2 harg2 arg3 harg3 arg5 harg5 arg6 harg6 arg9 x0 x1 x3 x4) (v4990 (F := Ideal) c i arg2 harg2 arg3 harg3 arg5 harg5 arg6 harg6 x0 x1 x3 x4) = T256 (ex (Sc i x0 x1 x3 x4)) 4 0 2 := by
  rw [R_17_0, M_17]; exact expT256_eq _ _ _ _

theorem E_17_1 : expT256 (v5140 (F := Ideal) c i arg2 harg2 arg3 harg3 arg5 harg5 arg6 harg6 arg9 x0 x1 x3 x4) (v4990 (F := Ideal) c i arg2 harg2 arg3 harg3 arg5 harg5 arg6 harg6 x0 x1 x3 x4) = T256 (ex (Sc i x0 x1 x3 x4)) 4 1 2 := by
  rw [R_17_1, M_17]; exact expT256_eq _ _ _ _

theorem E_17_2 : expT256 (v5237 (F := Ideal) c i arg2 harg2 arg3 harg3 arg5 harg5 arg6 harg6 arg9 x0 x1 x3 x4) (v4990 (F := Ideal) c i arg2 harg2 arg3 harg3 arg5 harg5 arg6 harg6 x0 x1 x3 x4) = T256 (ex (Sc i x0 x1 x3 x4)) 4 2 2 := by
  rw [R_17_2, M_17]; exact expT256_eq _ _ _ _

theorem E_17_3 : expT256 (v5334 (F := Ideal) c i arg2 harg2 arg3 harg3 arg5 harg5 arg6 harg6 arg9 x0 x1 x3 x4) (v4990 (F := Ideal) c i arg2 harg2 arg3 harg3 arg5 harg5 arg6 harg6 x0 x1 x3 x4) = T256 (ex (Sc i x0 x1 x3 x4)) 4 3 2 := by
  rw [R_17_3, M_17]; exact expT256_eq _ _ _ _

theorem E_17_4 : expT256 (v5433 (F := Ideal) c i arg2 harg2 arg3 harg3 arg5 harg5 arg6 harg6 arg9 x0 x1 x3 x4) (v4990 (F := Ideal) c i arg2 harg2 arg3 harg3 arg5 harg5 arg6 harg6 x0 x1 x3 x4) = T256 (ex (Sc i x0 x1 x3 x4)) 4 4 2 := by
  rw [R_17_4, M_17]; exact expT256_eq _ _ _ _

theorem Q_17_0 : (v5589 (F := Ideal) c i arg2 harg2 arg3 harg3 arg5 harg5 arg6 harg6 arg9 x0 x1 x3 x4) = B256 (φ := .f32) (ex (Sc i x0 x1 x3 x4)) 4 0 2 := by
  refine Eq.trans ?_ ((congrArg (fun t => shapeCast S1x128x256 t shapeCasts_S128x256_S1x128x256) (E_17_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_17_1 : (v5681 (F := Ideal) c i arg2 harg2 arg3 harg3 arg5 harg5 arg6 harg6 arg9 x0 x1 x3 x4) = B256 (φ := .f32) (ex (Sc i x0 x1 x3 x4)) 4 1 2 := by
  refine Eq.trans ?_ ((congrArg (fun t => shapeCast S1x128x256 t shapeCasts_S128x256_S1x128x256) (E_17_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_17_2 : (v5773 (F := Ideal) c i arg2 harg2 arg3 harg3 arg5 harg5 arg6 harg6 arg9 x0 x1 x3 x4) = B256 (φ := .f32) (ex (Sc i x0 x1 x3 x4)) 4 2 2 := by
  refine Eq.trans ?_ ((congrArg (fun t => shapeCast S1x128x256 t shapeCasts_S128x256_S1x128x256) (E_17_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_17_3 : (v5865 (F := Ideal) c i arg2 harg2 arg3 harg3 arg5 harg5 arg6 harg6 arg9 x0 x1 x3 x4) = B256 (φ := .f32) (ex (Sc i x0 x1 x3 x4)) 4 3 2 := by
  refine Eq.trans ?_ ((congrArg (fun t => shapeCast S1x128x256 t shapeCasts_S128x256_S1x128x256) (E_17_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_17_4 : (v5958 (F := Ideal) c i arg2 harg2 arg3 harg3 arg5 harg5 arg6 harg6 arg9 x0 x1 x3 x4) = B256 (φ := .f32) (ex (Sc i x0 x1 x3 x4)) 4 4 2 := by
  refine Eq.trans ?_ ((congrArg (fun t => shapeCast S1x128x256 t shapeCasts_S128x256_S1x128x256) (E_17_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_17 : (v5490 (F := Ideal) c i arg2 harg2 arg3 harg3 arg5 harg5 arg6 harg6 arg9 x0 x1 x3 x4) = R256 (rc (ex (Sc i x0 x1 x3 x4))) 4 2 := by
  refine (show _ = rdiv256 (expT256 (v5044 (F := Ideal) c i arg2 harg2 arg3 harg3 arg5 harg5 arg6 harg6 arg9 x0 x1 x3 x4) (v4990 (F := Ideal) c i arg2 harg2 arg3 harg3 arg5 harg5 arg6 harg6 x0 x1 x3 x4)) [expT256 (v5140 (F := Ideal) c i arg2 harg2 arg3 harg3 arg5 harg5 arg6 harg6 arg9 x0 x1 x3 x4) (v4990 (F := Ideal) c i arg2 harg2 arg3 harg3 arg5 harg5 arg6 harg6 x0 x1 x3 x4), expT256 (v5237 (F := Ideal) c i arg2 harg2 arg3 harg3 arg5 harg5 arg6 harg6 arg9 x0 x1 x3 x4) (v4990 (F := Ideal) c i arg2 harg2 arg3 harg3 arg5 harg5 arg6 harg6 x0 x1 x3 x4), expT256 (v5334 (F := Ideal) c i arg2 harg2 arg3 harg3 arg5 harg5 arg6 harg6 arg9 x0 x1 x3 x4) (v4990 (F := Ideal) c i arg2 harg2 arg3 harg3 arg5 harg5 arg6 harg6 x0 x1 x3 x4), expT256 (v5433 (F := Ideal) c i arg2 harg2 arg3 harg3 arg5 harg5 arg6 harg6 arg9 x0 x1 x3 x4) (v4990 (F := Ideal) c i arg2 harg2 arg3 harg3 arg5 harg5 arg6 harg6 x0 x1 x3 x4)] from rfl).trans ?_
  rw [E_17_0, E_17_1, E_17_2, E_17_3, E_17_4]
  exact rdiv256_eq _ _ _

theorem C_17_0 : code256 (v5589 (F := Ideal) c i arg2 harg2 arg3 harg3 arg5 harg5 arg6 harg6 arg9 x0 x1 x3 x4) (v5490 (F := Ideal) c i arg2 harg2 arg3 harg3 arg5 harg5 arg6 harg6 arg9 x0 x1 x3 x4) = T256 (cd (ex (Sc i x0 x1 x3 x4))) 4 0 2 := by
  rw [Q_17_0, L_17]; exact code256_eq _ _ _ _

theorem C_17_1 : code256 (v5681 (F := Ideal) c i arg2 harg2 arg3 harg3 arg5 harg5 arg6 harg6 arg9 x0 x1 x3 x4) (v5490 (F := Ideal) c i arg2 harg2 arg3 harg3 arg5 harg5 arg6 harg6 arg9 x0 x1 x3 x4) = T256 (cd (ex (Sc i x0 x1 x3 x4))) 4 1 2 := by
  rw [Q_17_1, L_17]; exact code256_eq _ _ _ _

theorem C_17_2 : code256 (v5773 (F := Ideal) c i arg2 harg2 arg3 harg3 arg5 harg5 arg6 harg6 arg9 x0 x1 x3 x4) (v5490 (F := Ideal) c i arg2 harg2 arg3 harg3 arg5 harg5 arg6 harg6 arg9 x0 x1 x3 x4) = T256 (cd (ex (Sc i x0 x1 x3 x4))) 4 2 2 := by
  rw [Q_17_2, L_17]; exact code256_eq _ _ _ _

theorem C_17_3 : code256 (v5865 (F := Ideal) c i arg2 harg2 arg3 harg3 arg5 harg5 arg6 harg6 arg9 x0 x1 x3 x4) (v5490 (F := Ideal) c i arg2 harg2 arg3 harg3 arg5 harg5 arg6 harg6 arg9 x0 x1 x3 x4) = T256 (cd (ex (Sc i x0 x1 x3 x4))) 4 3 2 := by
  rw [Q_17_3, L_17]; exact code256_eq _ _ _ _

theorem C_17_4 : code256 (v5958 (F := Ideal) c i arg2 harg2 arg3 harg3 arg5 harg5 arg6 harg6 arg9 x0 x1 x3 x4) (v5490 (F := Ideal) c i arg2 harg2 arg3 harg3 arg5 harg5 arg6 harg6 arg9 x0 x1 x3 x4) = T256 (cd (ex (Sc i x0 x1 x3 x4))) 4 4 2 := by
  rw [Q_17_4, L_17]; exact code256_eq _ _ _ _

theorem P_17 : (v5978 (F := Ideal) c i arg2 harg2 arg3 harg3 arg5 harg5 arg6 harg6 arg9 arg10 x0 x1 x3 x4) = fun j => (cd (ex (Sc i x0 x1 x3 x4))) (2 + (j 2).val / 128) (128 * 4 + (j 2).val % 128) (j 1).val := by
  refine Eq.trans (Slab.read (f := (cd (ex (Sc i x0 x1 x3 x4)))) (i := 4) (h := 2) (n := 5) ?_ 640 (by decide) _ _) rfl
  refine Slab.next (n := 4) ?_ _ _ ?_
  rotate_left
  · intro j
    exact (congrFun ((congrArg (fun t => shapeCast S1x128x256 t shapeCasts_S128x256_S1x128x256) (C_17_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_17_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_17_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_17_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_17_0 c i arg2 harg2 arg3 harg3 arg5 harg5 arg6 harg6 arg9 x0 x1 x3 x4)).trans (store256 _ _ _ _ _)) j)
  exact Slab.nil _ _ _ _ _ _

theorem D_17 : prod256_640 (rdV 640 arg7 harg7 x5 (by decide)) (v5978 (F := Ideal) c i arg2 harg2 arg3 harg3 arg5 harg5 arg6 harg6 arg9 arg10 x0 x1 x3 x4) (omw i arg4 harg4 x2) = OT256 (Ou i x0 x1 x2 x3 x4 x5) 4 2 := by
  rw [rdV_eq, omw_eq, P_17]; exact prod256_640_eq _ _ _ _

theorem O_17_0 : (v5988 (F := Ideal) c i arg2 harg2 arg3 harg3 arg4 harg4 arg5 harg5 arg6 harg6 arg7 harg7 arg9 arg10 x0 x1 x2 x3 x4 x5) = OB (Ou i x0 x1 x2 x3 x4 x5) 4 2 := (congrArg outA256 (D_17 c i arg2 harg2 arg3 harg3 arg4 harg4 arg5 harg5 arg6 harg6 arg7 harg7 arg9 arg10 x0 x1 x2 x3 x4 x5)).trans (outA256_eq _ _ _)

theorem O_17_1 : (v5993 (F := Ideal) c i arg2 harg2 arg3 harg3 arg4 harg4 arg5 harg5 arg6 harg6 arg7 harg7 arg9 arg10 x0 x1 x2 x3 x4 x5) = OB (Ou i x0 x1 x2 x3 x4 x5) 4 3 := (congrArg outB256 (D_17 c i arg2 harg2 arg3 harg3 arg4 harg4 arg5 harg5 arg6 harg6 arg7 harg7 arg9 arg10 x0 x1 x2 x3 x4 x5)).trans (outB256_eq _ _ _)

theorem S_18_0 : (v5009 (F := Ideal) c i arg2 harg2 arg3 harg3 arg5 harg5 arg6 harg6 x0 x1 x3 x4) = T256 (Sc i x0 x1 x3 x4) 4 0 4 :=
  scoreN256_rd i arg2 harg2 arg3 harg3 arg5 harg5 arg6 harg6 x0 x1 x3 x4 4 0 4 (by decide) (by decide) (by decide)

theorem S_18_1 : (v5104 (F := Ideal) c i arg2 harg2 arg3 harg3 arg5 harg5 arg6 harg6 x0 x1 x3 x4) = T256 (Sc i x0 x1 x3 x4) 4 1 4 :=
  scoreN256_rd i arg2 harg2 arg3 harg3 arg5 harg5 arg6 harg6 x0 x1 x3 x4 4 1 4 (by decide) (by decide) (by decide)

theorem S_18_2 : (v5201 (F := Ideal) c i arg2 harg2 arg3 harg3 arg5 harg5 arg6 harg6 x0 x1 x3 x4) = T256 (Sc i x0 x1 x3 x4) 4 2 4 :=
  scoreN256_rd i arg2 harg2 arg3 harg3 arg5 harg5 arg6 harg6 x0 x1 x3 x4 4 2 4 (by decide) (by decide) (by decide)

theorem S_18_3 : (v5298 (F := Ideal) c i arg2 harg2 arg3 harg3 arg5 harg5 arg6 harg6 x0 x1 x3 x4) = T256 (Sc i x0 x1 x3 x4) 4 3 4 :=
  scoreN256_rd i arg2 harg2 arg3 harg3 arg5 harg5 arg6 harg6 x0 x1 x3 x4 4 3 4 (by decide) (by decide) (by decide)

theorem S_18_4 : (v5397 (F := Ideal) c i arg2 harg2 arg3 harg3 arg5 harg5 arg6 harg6 x0 x1 x3 x4) = T256 (Sc i x0 x1 x3 x4) 4 4 4 :=
  scoreD256_rd i arg2 harg2 arg3 harg3 arg5 harg5 arg6 harg6 x0 x1 x3 x4 4 4 (by decide) (by decide)

theorem R_18_0 : (v5550 (F := Ideal) c i arg2 harg2 arg3 harg3 arg5 harg5 arg6 harg6 arg9 x0 x1 x3 x4) = B256 (φ := .f32) (Sc i x0 x1 x3 x4) 4 0 4 := by
  refine Eq.trans ?_ ((congrArg (fun t => shapeCast S1x128x256 t shapeCasts_S128x256_S1x128x256) (S_18_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_18_1 : (v5641 (F := Ideal) c i arg2 harg2 arg3 harg3 arg5 harg5 arg6 harg6 arg9 x0 x1 x3 x4) = B256 (φ := .f32) (Sc i x0 x1 x3 x4) 4 1 4 := by
  refine Eq.trans ?_ ((congrArg (fun t => shapeCast S1x128x256 t shapeCasts_S128x256_S1x128x256) (S_18_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_18_2 : (v5733 (F := Ideal) c i arg2 harg2 arg3 harg3 arg5 harg5 arg6 harg6 arg9 x0 x1 x3 x4) = B256 (φ := .f32) (Sc i x0 x1 x3 x4) 4 2 4 := by
  refine Eq.trans ?_ ((congrArg (fun t => shapeCast S1x128x256 t shapeCasts_S128x256_S1x128x256) (S_18_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_18_3 : (v5825 (F := Ideal) c i arg2 harg2 arg3 harg3 arg5 harg5 arg6 harg6 arg9 x0 x1 x3 x4) = B256 (φ := .f32) (Sc i x0 x1 x3 x4) 4 3 4 := by
  refine Eq.trans ?_ ((congrArg (fun t => shapeCast S1x128x256 t shapeCasts_S128x256_S1x128x256) (S_18_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_18_4 : (v5918 (F := Ideal) c i arg2 harg2 arg3 harg3 arg5 harg5 arg6 harg6 arg9 x0 x1 x3 x4) = B256 (φ := .f32) (Sc i x0 x1 x3 x4) 4 4 4 := by
  refine Eq.trans ?_ ((congrArg (fun t => shapeCast S1x128x256 t shapeCasts_S128x256_S1x128x256) (S_18_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_18 : (v5486 (F := Ideal) c i arg2 harg2 arg3 harg3 arg5 harg5 arg6 harg6 x0 x1 x3 x4) = R256 (mx (Sc i x0 x1 x3 x4)) 4 4 := by
  refine (show _ = rmax256 (v5009 (F := Ideal) c i arg2 harg2 arg3 harg3 arg5 harg5 arg6 harg6 x0 x1 x3 x4) [(v5104 (F := Ideal) c i arg2 harg2 arg3 harg3 arg5 harg5 arg6 harg6 x0 x1 x3 x4), (v5201 (F := Ideal) c i arg2 harg2 arg3 harg3 arg5 harg5 arg6 harg6 x0 x1 x3 x4), (v5298 (F := Ideal) c i arg2 harg2 arg3 harg3 arg5 harg5 arg6 harg6 x0 x1 x3 x4), (v5397 (F := Ideal) c i arg2 harg2 arg3 harg3 arg5 harg5 arg6 harg6 x0 x1 x3 x4)] from rfl).trans ?_
  rw [S_18_0, S_18_1, S_18_2, S_18_3, S_18_4]
  exact rmax256_eq _ _ _

theorem E_18_0 : expT256 (v5550 (F := Ideal) c i arg2 harg2 arg3 harg3 arg5 harg5 arg6 harg6 arg9 x0 x1 x3 x4) (v5486 (F := Ideal) c i arg2 harg2 arg3 harg3 arg5 harg5 arg6 harg6 x0 x1 x3 x4) = T256 (ex (Sc i x0 x1 x3 x4)) 4 0 4 := by
  rw [R_18_0, M_18]; exact expT256_eq _ _ _ _

theorem E_18_1 : expT256 (v5641 (F := Ideal) c i arg2 harg2 arg3 harg3 arg5 harg5 arg6 harg6 arg9 x0 x1 x3 x4) (v5486 (F := Ideal) c i arg2 harg2 arg3 harg3 arg5 harg5 arg6 harg6 x0 x1 x3 x4) = T256 (ex (Sc i x0 x1 x3 x4)) 4 1 4 := by
  rw [R_18_1, M_18]; exact expT256_eq _ _ _ _

theorem E_18_2 : expT256 (v5733 (F := Ideal) c i arg2 harg2 arg3 harg3 arg5 harg5 arg6 harg6 arg9 x0 x1 x3 x4) (v5486 (F := Ideal) c i arg2 harg2 arg3 harg3 arg5 harg5 arg6 harg6 x0 x1 x3 x4) = T256 (ex (Sc i x0 x1 x3 x4)) 4 2 4 := by
  rw [R_18_2, M_18]; exact expT256_eq _ _ _ _

theorem E_18_3 : expT256 (v5825 (F := Ideal) c i arg2 harg2 arg3 harg3 arg5 harg5 arg6 harg6 arg9 x0 x1 x3 x4) (v5486 (F := Ideal) c i arg2 harg2 arg3 harg3 arg5 harg5 arg6 harg6 x0 x1 x3 x4) = T256 (ex (Sc i x0 x1 x3 x4)) 4 3 4 := by
  rw [R_18_3, M_18]; exact expT256_eq _ _ _ _

theorem E_18_4 : expT256 (v5918 (F := Ideal) c i arg2 harg2 arg3 harg3 arg5 harg5 arg6 harg6 arg9 x0 x1 x3 x4) (v5486 (F := Ideal) c i arg2 harg2 arg3 harg3 arg5 harg5 arg6 harg6 x0 x1 x3 x4) = T256 (ex (Sc i x0 x1 x3 x4)) 4 4 4 := by
  rw [R_18_4, M_18]; exact expT256_eq _ _ _ _

theorem Q_18_0 : (v6082 (F := Ideal) c i arg2 harg2 arg3 harg3 arg5 harg5 arg6 harg6 arg9 x0 x1 x3 x4) = B256 (φ := .f32) (ex (Sc i x0 x1 x3 x4)) 4 0 4 := by
  refine Eq.trans ?_ ((congrArg (fun t => shapeCast S1x128x256 t shapeCasts_S128x256_S1x128x256) (E_18_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_18_1 : (v6179 (F := Ideal) c i arg2 harg2 arg3 harg3 arg5 harg5 arg6 harg6 arg9 x0 x1 x3 x4) = B256 (φ := .f32) (ex (Sc i x0 x1 x3 x4)) 4 1 4 := by
  refine Eq.trans ?_ ((congrArg (fun t => shapeCast S1x128x256 t shapeCasts_S128x256_S1x128x256) (E_18_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_18_2 : (v6276 (F := Ideal) c i arg2 harg2 arg3 harg3 arg5 harg5 arg6 harg6 arg9 x0 x1 x3 x4) = B256 (φ := .f32) (ex (Sc i x0 x1 x3 x4)) 4 2 4 := by
  refine Eq.trans ?_ ((congrArg (fun t => shapeCast S1x128x256 t shapeCasts_S128x256_S1x128x256) (E_18_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_18_3 : (v6373 (F := Ideal) c i arg2 harg2 arg3 harg3 arg5 harg5 arg6 harg6 arg9 x0 x1 x3 x4) = B256 (φ := .f32) (ex (Sc i x0 x1 x3 x4)) 4 3 4 := by
  refine Eq.trans ?_ ((congrArg (fun t => shapeCast S1x128x256 t shapeCasts_S128x256_S1x128x256) (E_18_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_18_4 : (v6470 (F := Ideal) c i arg2 harg2 arg3 harg3 arg5 harg5 arg6 harg6 arg9 x0 x1 x3 x4) = B256 (φ := .f32) (ex (Sc i x0 x1 x3 x4)) 4 4 4 := by
  refine Eq.trans ?_ ((congrArg (fun t => shapeCast S1x128x256 t shapeCasts_S128x256_S1x128x256) (E_18_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_18 : (v5975 (F := Ideal) c i arg2 harg2 arg3 harg3 arg5 harg5 arg6 harg6 arg9 x0 x1 x3 x4) = R256 (rc (ex (Sc i x0 x1 x3 x4))) 4 4 := by
  refine (show _ = rdiv256 (expT256 (v5550 (F := Ideal) c i arg2 harg2 arg3 harg3 arg5 harg5 arg6 harg6 arg9 x0 x1 x3 x4) (v5486 (F := Ideal) c i arg2 harg2 arg3 harg3 arg5 harg5 arg6 harg6 x0 x1 x3 x4)) [expT256 (v5641 (F := Ideal) c i arg2 harg2 arg3 harg3 arg5 harg5 arg6 harg6 arg9 x0 x1 x3 x4) (v5486 (F := Ideal) c i arg2 harg2 arg3 harg3 arg5 harg5 arg6 harg6 x0 x1 x3 x4), expT256 (v5733 (F := Ideal) c i arg2 harg2 arg3 harg3 arg5 harg5 arg6 harg6 arg9 x0 x1 x3 x4) (v5486 (F := Ideal) c i arg2 harg2 arg3 harg3 arg5 harg5 arg6 harg6 x0 x1 x3 x4), expT256 (v5825 (F := Ideal) c i arg2 harg2 arg3 harg3 arg5 harg5 arg6 harg6 arg9 x0 x1 x3 x4) (v5486 (F := Ideal) c i arg2 harg2 arg3 harg3 arg5 harg5 arg6 harg6 x0 x1 x3 x4), expT256 (v5918 (F := Ideal) c i arg2 harg2 arg3 harg3 arg5 harg5 arg6 harg6 arg9 x0 x1 x3 x4) (v5486 (F := Ideal) c i arg2 harg2 arg3 harg3 arg5 harg5 arg6 harg6 x0 x1 x3 x4)] from rfl).trans ?_
  rw [E_18_0, E_18_1, E_18_2, E_18_3, E_18_4]
  exact rdiv256_eq _ _ _

theorem C_18_0 : code256 (v6082 (F := Ideal) c i arg2 harg2 arg3 harg3 arg5 harg5 arg6 harg6 arg9 x0 x1 x3 x4) (v5975 (F := Ideal) c i arg2 harg2 arg3 harg3 arg5 harg5 arg6 harg6 arg9 x0 x1 x3 x4) = T256 (cd (ex (Sc i x0 x1 x3 x4))) 4 0 4 := by
  rw [Q_18_0, L_18]; exact code256_eq _ _ _ _

theorem C_18_1 : code256 (v6179 (F := Ideal) c i arg2 harg2 arg3 harg3 arg5 harg5 arg6 harg6 arg9 x0 x1 x3 x4) (v5975 (F := Ideal) c i arg2 harg2 arg3 harg3 arg5 harg5 arg6 harg6 arg9 x0 x1 x3 x4) = T256 (cd (ex (Sc i x0 x1 x3 x4))) 4 1 4 := by
  rw [Q_18_1, L_18]; exact code256_eq _ _ _ _

theorem C_18_2 : code256 (v6276 (F := Ideal) c i arg2 harg2 arg3 harg3 arg5 harg5 arg6 harg6 arg9 x0 x1 x3 x4) (v5975 (F := Ideal) c i arg2 harg2 arg3 harg3 arg5 harg5 arg6 harg6 arg9 x0 x1 x3 x4) = T256 (cd (ex (Sc i x0 x1 x3 x4))) 4 2 4 := by
  rw [Q_18_2, L_18]; exact code256_eq _ _ _ _

theorem C_18_3 : code256 (v6373 (F := Ideal) c i arg2 harg2 arg3 harg3 arg5 harg5 arg6 harg6 arg9 x0 x1 x3 x4) (v5975 (F := Ideal) c i arg2 harg2 arg3 harg3 arg5 harg5 arg6 harg6 arg9 x0 x1 x3 x4) = T256 (cd (ex (Sc i x0 x1 x3 x4))) 4 3 4 := by
  rw [Q_18_3, L_18]; exact code256_eq _ _ _ _

theorem C_18_4 : code256 (v6470 (F := Ideal) c i arg2 harg2 arg3 harg3 arg5 harg5 arg6 harg6 arg9 x0 x1 x3 x4) (v5975 (F := Ideal) c i arg2 harg2 arg3 harg3 arg5 harg5 arg6 harg6 arg9 x0 x1 x3 x4) = T256 (cd (ex (Sc i x0 x1 x3 x4))) 4 4 4 := by
  rw [Q_18_4, L_18]; exact code256_eq _ _ _ _

theorem P_18 : (v6535 (F := Ideal) c i arg2 harg2 arg3 harg3 arg5 harg5 arg6 harg6 arg9 arg10 x0 x1 x3 x4) = fun j => (cd (ex (Sc i x0 x1 x3 x4))) (4 + (j 2).val / 128) (128 * 4 + (j 2).val % 128) (j 1).val := by
  refine Eq.trans (Slab.read (f := (cd (ex (Sc i x0 x1 x3 x4)))) (i := 4) (h := 4) (n := 5) ?_ 640 (by decide) _ _) rfl
  refine Slab.next (n := 4) ?_ _ _ ?_
  rotate_left
  · intro j
    exact (congrFun ((congrArg (fun t => shapeCast S1x128x256 t shapeCasts_S128x256_S1x128x256) (C_18_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_18_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_18_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_18_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_18_0 c i arg2 harg2 arg3 harg3 arg5 harg5 arg6 harg6 arg9 x0 x1 x3 x4)).trans (store256 _ _ _ _ _)) j)
  exact Slab.nil _ _ _ _ _ _

theorem D_18 : prod256_640 (rdV 640 arg7 harg7 x5 (by decide)) (v6535 (F := Ideal) c i arg2 harg2 arg3 harg3 arg5 harg5 arg6 harg6 arg9 arg10 x0 x1 x3 x4) (omw i arg4 harg4 x2) = OT256 (Ou i x0 x1 x2 x3 x4 x5) 4 4 := by
  rw [rdV_eq, omw_eq, P_18]; exact prod256_640_eq _ _ _ _

theorem O_18_0 : (v6545 (F := Ideal) c i arg2 harg2 arg3 harg3 arg4 harg4 arg5 harg5 arg6 harg6 arg7 harg7 arg9 arg10 x0 x1 x2 x3 x4 x5) = OB (Ou i x0 x1 x2 x3 x4 x5) 4 4 := (congrArg outA256 (D_18 c i arg2 harg2 arg3 harg3 arg4 harg4 arg5 harg5 arg6 harg6 arg7 harg7 arg9 arg10 x0 x1 x2 x3 x4 x5)).trans (outA256_eq _ _ _)

theorem O_18_1 : (v6550 (F := Ideal) c i arg2 harg2 arg3 harg3 arg4 harg4 arg5 harg5 arg6 harg6 arg7 harg7 arg9 arg10 x0 x1 x2 x3 x4 x5) = OB (Ou i x0 x1 x2 x3 x4 x5) 4 5 := (congrArg outB256 (D_18 c i arg2 harg2 arg3 harg3 arg4 harg4 arg5 harg5 arg6 harg6 arg7 harg7 arg9 arg10 x0 x1 x2 x3 x4 x5)).trans (outB256_eq _ _ _)

theorem S_19_0 : (v5515 (F := Ideal) c i arg2 harg2 arg3 harg3 arg5 harg5 arg6 harg6 x0 x1 x3 x4) = T128 (Sc i x0 x1 x3 x4) 4 0 6 :=
  scoreN128_rd i arg2 harg2 arg3 harg3 arg5 harg5 arg6 harg6 x0 x1 x3 x4 4 0 6 (by decide) (by decide) (by decide)

theorem S_19_1 : (v5605 (F := Ideal) c i arg2 harg2 arg3 harg3 arg5 harg5 arg6 harg6 x0 x1 x3 x4) = T128 (Sc i x0 x1 x3 x4) 4 1 6 :=
  scoreN128_rd i arg2 harg2 arg3 harg3 arg5 harg5 arg6 harg6 x0 x1 x3 x4 4 1 6 (by decide) (by decide) (by decide)

theorem S_19_2 : (v5697 (F := Ideal) c i arg2 harg2 arg3 harg3 arg5 harg5 arg6 harg6 x0 x1 x3 x4) = T128 (Sc i x0 x1 x3 x4) 4 2 6 :=
  scoreN128_rd i arg2 harg2 arg3 harg3 arg5 harg5 arg6 harg6 x0 x1 x3 x4 4 2 6 (by decide) (by decide) (by decide)

theorem S_19_3 : (v5789 (F := Ideal) c i arg2 harg2 arg3 harg3 arg5 harg5 arg6 harg6 x0 x1 x3 x4) = T128 (Sc i x0 x1 x3 x4) 4 3 6 :=
  scoreN128_rd i arg2 harg2 arg3 harg3 arg5 harg5 arg6 harg6 x0 x1 x3 x4 4 3 6 (by decide) (by decide) (by decide)

theorem S_19_4 : (v5882 (F := Ideal) c i arg2 harg2 arg3 harg3 arg5 harg5 arg6 harg6 x0 x1 x3 x4) = T128 (Sc i x0 x1 x3 x4) 4 4 6 :=
  scoreD128_rd i arg2 harg2 arg3 harg3 arg5 harg5 arg6 harg6 x0 x1 x3 x4 4 6 (by decide) (by decide)

theorem R_19_0 : (v6043 (F := Ideal) c i arg2 harg2 arg3 harg3 arg5 harg5 arg6 harg6 arg9 x0 x1 x3 x4) = B128 (φ := .f32) (Sc i x0 x1 x3 x4) 4 0 6 := by
  refine Eq.trans ?_ ((congrArg (fun t => shapeCast S1x128x128 t shapeCasts_S128x128_S1x128x128) (S_19_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_19_1 : (v6139 (F := Ideal) c i arg2 harg2 arg3 harg3 arg5 harg5 arg6 harg6 arg9 x0 x1 x3 x4) = B128 (φ := .f32) (Sc i x0 x1 x3 x4) 4 1 6 := by
  refine Eq.trans ?_ ((congrArg (fun t => shapeCast S1x128x128 t shapeCasts_S128x128_S1x128x128) (S_19_1 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_19_2 : (v6236 (F := Ideal) c i arg2 harg2 arg3 harg3 arg5 harg5 arg6 harg6 arg9 x0 x1 x3 x4) = B128 (φ := .f32) (Sc i x0 x1 x3 x4) 4 2 6 := by
  refine Eq.trans ?_ ((congrArg (fun t => shapeCast S1x128x128 t shapeCasts_S128x128_S1x128x128) (S_19_2 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_19_3 : (v6333 (F := Ideal) c i arg2 harg2 arg3 harg3 arg5 harg5 arg6 harg6 arg9 x0 x1 x3 x4) = B128 (φ := .f32) (Sc i x0 x1 x3 x4) 4 3 6 := by
  refine Eq.trans ?_ ((congrArg (fun t => shapeCast S1x128x128 t shapeCasts_S128x128_S1x128x128) (S_19_3 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_19_4 : (v6430 (F := Ideal) c i arg2 harg2 arg3 harg3 arg5 harg5 arg6 harg6 arg9 x0 x1 x3 x4) = B128 (φ := .f32) (Sc i x0 x1 x3 x4) 4 4 6 := by
  refine Eq.trans ?_ ((congrArg (fun t => shapeCast S1x128x128 t shapeCasts_S128x128_S1x128x128) (S_19_4 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_19 : (v5971 (F := Ideal) c i arg2 harg2 arg3 harg3 arg5 harg5 arg6 harg6 x0 x1 x3 x4) = R128 (mx (Sc i x0 x1 x3 x4)) 4 6 := by
  refine (show _ = rmax128 (v5515 (F := Ideal) c i arg2 harg2 arg3 harg3 arg5 harg5 arg6 harg6 x0 x1 x3 x4) [(v5605 (F := Ideal) c i arg2 harg2 arg3 harg3 arg5 harg5 arg6 harg6 x0 x1 x3 x4), (v5697 (F := Ideal) c i arg2 harg2 arg3 harg3 arg5 harg5 arg6 harg6 x0 x1 x3 x4), (v5789 (F := Ideal) c i arg2 harg2 arg3 harg3 arg5 harg5 arg6 harg6 x0 x1 x3 x4), (v5882 (F := Ideal) c i arg2 harg2 arg3 harg3 arg5 harg5 arg6 harg6 x0 x1 x3 x4)] from rfl).trans ?_
  rw [S_19_0, S_19_1, S_19_2, S_19_3, S_19_4]
  exact rmax128_eq _ _ _

theorem E_19_0 : expT128 (v6043 (F := Ideal) c i arg2 harg2 arg3 harg3 arg5 harg5 arg6 harg6 arg9 x0 x1 x3 x4) (v5971 (F := Ideal) c i arg2 harg2 arg3 harg3 arg5 harg5 arg6 harg6 x0 x1 x3 x4) = T128 (ex (Sc i x0 x1 x3 x4)) 4 0 6 := by
  rw [R_19_0, M_19]; exact expT128_eq _ _ _ _

theorem E_19_1 : expT128 (v6139 (F := Ideal) c i arg2 harg2 arg3 harg3 arg5 harg5 arg6 harg6 arg9 x0 x1 x3 x4) (v5971 (F := Ideal) c i arg2 harg2 arg3 harg3 arg5 harg5 arg6 harg6 x0 x1 x3 x4) = T128 (ex (Sc i x0 x1 x3 x4)) 4 1 6 := by
  rw [R_19_1, M_19]; exact expT128_eq _ _ _ _

theorem E_19_2 : expT128 (v6236 (F := Ideal) c i arg2 harg2 arg3 harg3 arg5 harg5 arg6 harg6 arg9 x0 x1 x3 x4) (v5971 (F := Ideal) c i arg2 harg2 arg3 harg3 arg5 harg5 arg6 harg6 x0 x1 x3 x4) = T128 (ex (Sc i x0 x1 x3 x4)) 4 2 6 := by
  rw [R_19_2, M_19]; exact expT128_eq _ _ _ _

theorem E_19_3 : expT128 (v6333 (F := Ideal) c i arg2 harg2 arg3 harg3 arg5 harg5 arg6 harg6 arg9 x0 x1 x3 x4) (v5971 (F := Ideal) c i arg2 harg2 arg3 harg3 arg5 harg5 arg6 harg6 x0 x1 x3 x4) = T128 (ex (Sc i x0 x1 x3 x4)) 4 3 6 := by
  rw [R_19_3, M_19]; exact expT128_eq _ _ _ _

theorem E_19_4 : expT128 (v6430 (F := Ideal) c i arg2 harg2 arg3 harg3 arg5 harg5 arg6 harg6 arg9 x0 x1 x3 x4) (v5971 (F := Ideal) c i arg2 harg2 arg3 harg3 arg5 harg5 arg6 harg6 x0 x1 x3 x4) = T128 (ex (Sc i x0 x1 x3 x4)) 4 4 6 := by
  rw [R_19_4, M_19]; exact expT128_eq _ _ _ _

theorem Q_19_0 : (v6641 (F := Ideal) c i arg2 harg2 arg3 harg3 arg5 harg5 arg6 harg6 arg9 x0 x1 x3 x4) = B128 (φ := .f32) (ex (Sc i x0 x1 x3 x4)) 4 0 6 := by
  refine Eq.trans ?_ ((congrArg (fun t => shapeCast S1x128x128 t shapeCasts_S128x128_S1x128x128) (E_19_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_19_1 : (v6738 (F := Ideal) c i arg2 harg2 arg3 harg3 arg5 harg5 arg6 harg6 arg9 x0 x1 x3 x4) = B128 (φ := .f32) (ex (Sc i x0 x1 x3 x4)) 4 1 6 := by
  refine Eq.trans ?_ ((congrArg (fun t => shapeCast S1x128x128 t shapeCasts_S128x128_S1x128x128) (E_19_1 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_19_2 : (v6835 (F := Ideal) c i arg2 harg2 arg3 harg3 arg5 harg5 arg6 harg6 arg9 x0 x1 x3 x4) = B128 (φ := .f32) (ex (Sc i x0 x1 x3 x4)) 4 2 6 := by
  refine Eq.trans ?_ ((congrArg (fun t => shapeCast S1x128x128 t shapeCasts_S128x128_S1x128x128) (E_19_2 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_19_3 : (v6932 (F := Ideal) c i arg2 harg2 arg3 harg3 arg5 harg5 arg6 harg6 arg9 x0 x1 x3 x4) = B128 (φ := .f32) (ex (Sc i x0 x1 x3 x4)) 4 3 6 := by
  refine Eq.trans ?_ ((congrArg (fun t => shapeCast S1x128x128 t shapeCasts_S128x128_S1x128x128) (E_19_3 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_19_4 : (v7029 (F := Ideal) c i arg2 harg2 arg3 harg3 arg5 harg5 arg6 harg6 arg9 x0 x1 x3 x4) = B128 (φ := .f32) (ex (Sc i x0 x1 x3 x4)) 4 4 6 := by
  refine Eq.trans ?_ ((congrArg (fun t => shapeCast S1x128x128 t shapeCasts_S128x128_S1x128x128) (E_19_4 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_19 : (v6532 (F := Ideal) c i arg2 harg2 arg3 harg3 arg5 harg5 arg6 harg6 arg9 x0 x1 x3 x4) = R128 (rc (ex (Sc i x0 x1 x3 x4))) 4 6 := by
  refine (show _ = rdiv128 (expT128 (v6043 (F := Ideal) c i arg2 harg2 arg3 harg3 arg5 harg5 arg6 harg6 arg9 x0 x1 x3 x4) (v5971 (F := Ideal) c i arg2 harg2 arg3 harg3 arg5 harg5 arg6 harg6 x0 x1 x3 x4)) [expT128 (v6139 (F := Ideal) c i arg2 harg2 arg3 harg3 arg5 harg5 arg6 harg6 arg9 x0 x1 x3 x4) (v5971 (F := Ideal) c i arg2 harg2 arg3 harg3 arg5 harg5 arg6 harg6 x0 x1 x3 x4), expT128 (v6236 (F := Ideal) c i arg2 harg2 arg3 harg3 arg5 harg5 arg6 harg6 arg9 x0 x1 x3 x4) (v5971 (F := Ideal) c i arg2 harg2 arg3 harg3 arg5 harg5 arg6 harg6 x0 x1 x3 x4), expT128 (v6333 (F := Ideal) c i arg2 harg2 arg3 harg3 arg5 harg5 arg6 harg6 arg9 x0 x1 x3 x4) (v5971 (F := Ideal) c i arg2 harg2 arg3 harg3 arg5 harg5 arg6 harg6 x0 x1 x3 x4), expT128 (v6430 (F := Ideal) c i arg2 harg2 arg3 harg3 arg5 harg5 arg6 harg6 arg9 x0 x1 x3 x4) (v5971 (F := Ideal) c i arg2 harg2 arg3 harg3 arg5 harg5 arg6 harg6 x0 x1 x3 x4)] from rfl).trans ?_
  rw [E_19_0, E_19_1, E_19_2, E_19_3, E_19_4]
  exact rdiv128_eq _ _ _

theorem C_19_0 : code128 (v6641 (F := Ideal) c i arg2 harg2 arg3 harg3 arg5 harg5 arg6 harg6 arg9 x0 x1 x3 x4) (v6532 (F := Ideal) c i arg2 harg2 arg3 harg3 arg5 harg5 arg6 harg6 arg9 x0 x1 x3 x4) = T128 (cd (ex (Sc i x0 x1 x3 x4))) 4 0 6 := by
  rw [Q_19_0, L_19]; exact code128_eq _ _ _ _

theorem C_19_1 : code128 (v6738 (F := Ideal) c i arg2 harg2 arg3 harg3 arg5 harg5 arg6 harg6 arg9 x0 x1 x3 x4) (v6532 (F := Ideal) c i arg2 harg2 arg3 harg3 arg5 harg5 arg6 harg6 arg9 x0 x1 x3 x4) = T128 (cd (ex (Sc i x0 x1 x3 x4))) 4 1 6 := by
  rw [Q_19_1, L_19]; exact code128_eq _ _ _ _

theorem C_19_2 : code128 (v6835 (F := Ideal) c i arg2 harg2 arg3 harg3 arg5 harg5 arg6 harg6 arg9 x0 x1 x3 x4) (v6532 (F := Ideal) c i arg2 harg2 arg3 harg3 arg5 harg5 arg6 harg6 arg9 x0 x1 x3 x4) = T128 (cd (ex (Sc i x0 x1 x3 x4))) 4 2 6 := by
  rw [Q_19_2, L_19]; exact code128_eq _ _ _ _

theorem C_19_3 : code128 (v6932 (F := Ideal) c i arg2 harg2 arg3 harg3 arg5 harg5 arg6 harg6 arg9 x0 x1 x3 x4) (v6532 (F := Ideal) c i arg2 harg2 arg3 harg3 arg5 harg5 arg6 harg6 arg9 x0 x1 x3 x4) = T128 (cd (ex (Sc i x0 x1 x3 x4))) 4 3 6 := by
  rw [Q_19_3, L_19]; exact code128_eq _ _ _ _

theorem C_19_4 : code128 (v7029 (F := Ideal) c i arg2 harg2 arg3 harg3 arg5 harg5 arg6 harg6 arg9 x0 x1 x3 x4) (v6532 (F := Ideal) c i arg2 harg2 arg3 harg3 arg5 harg5 arg6 harg6 arg9 x0 x1 x3 x4) = T128 (cd (ex (Sc i x0 x1 x3 x4))) 4 4 6 := by
  rw [Q_19_4, L_19]; exact code128_eq _ _ _ _

theorem P_19 : (v7130 (F := Ideal) c i arg2 harg2 arg3 harg3 arg5 harg5 arg6 harg6 arg9 arg10 x0 x1 x3 x4) = fun j => (cd (ex (Sc i x0 x1 x3 x4))) (6 + (j 2).val / 128) (128 * 4 + (j 2).val % 128) (j 1).val := by
  refine Eq.trans (Slab.read (f := (cd (ex (Sc i x0 x1 x3 x4)))) (i := 4) (h := 6) (n := 5) ?_ 640 (by decide) _ _) rfl
  refine Slab.next (n := 4) ?_ _ _ ?_
  rotate_left
  · intro j
    exact (congrFun ((congrArg (fun t => shapeCast S1x128x128 t shapeCasts_S128x128_S1x128x128) (C_19_4 c i arg2 harg2 arg3 harg3 arg5 harg5 arg6 harg6 arg9 x0 x1 x3 x4)).trans (store128 _ _ _ _ _)) j).trans (B128_slab _ _ _ _ _)
  refine Slab.next (n := 3) ?_ _ _ ?_
  rotate_left
  · intro j
    exact (congrFun ((congrArg (fun t => shapeCast S1x128x128 t shapeCasts_S128x128_S1x128x128) (C_19_3 c i arg2 harg2 arg3 harg3 arg5 harg5 arg6 harg6 arg9 x0 x1 x3 x4)).trans (store128 _ _ _ _ _)) j).trans (B128_slab _ _ _ _ _)
  refine Slab.next (n := 2) ?_ _ _ ?_
  rotate_left
  · intro j
    exact (congrFun ((congrArg (fun t => shapeCast S1x128x128 t shapeCasts_S128x128_S1x128x128) (C_19_2 c i arg2 harg2 arg3 harg3 arg5 harg5 arg6 harg6 arg9 x0 x1 x3 x4)).trans (store128 _ _ _ _ _)) j).trans (B128_slab _ _ _ _ _)
  refine Slab.next (n := 1) ?_ _ _ ?_
  rotate_left
  · intro j
    exact (congrFun ((congrArg (fun t => shapeCast S1x128x128 t shapeCasts_S128x128_S1x128x128) (C_19_1 c i arg2 harg2 arg3 harg3 arg5 harg5 arg6 harg6 arg9 x0 x1 x3 x4)).trans (store128 _ _ _ _ _)) j).trans (B128_slab _ _ _ _ _)
  refine Slab.next (n := 0) ?_ _ _ ?_
  rotate_left
  · intro j
    exact (congrFun ((congrArg (fun t => shapeCast S1x128x128 t shapeCasts_S128x128_S1x128x128) (C_19_0 c i arg2 harg2 arg3 harg3 arg5 harg5 arg6 harg6 arg9 x0 x1 x3 x4)).trans (store128 _ _ _ _ _)) j).trans (B128_slab _ _ _ _ _)
  exact Slab.nil _ _ _ _ _ _

theorem D_19 : prod128_640 (rdV 640 arg7 harg7 x5 (by decide)) (v7130 (F := Ideal) c i arg2 harg2 arg3 harg3 arg5 harg5 arg6 harg6 arg9 arg10 x0 x1 x3 x4) (omw i arg4 harg4 x2) = OT128 (Ou i x0 x1 x2 x3 x4 x5) 4 6 := by
  rw [rdV_eq, omw_eq, P_19]; exact prod128_640_eq _ _ _ _

theorem O_19_0 : (v7139 (F := Ideal) c i arg2 harg2 arg3 harg3 arg4 harg4 arg5 harg5 arg6 harg6 arg7 harg7 arg9 arg10 x0 x1 x2 x3 x4 x5) = OB (Ou i x0 x1 x2 x3 x4 x5) 4 6 := (congrArg outA128 (D_19 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Block5.lean ====
/- The tiles of query block 5 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_20_0 : (v6008 (F := Ideal) c i arg2 harg2 arg3 harg3 arg5 harg5 arg6 harg6 x0 x1 x3 x4) = T256 (Sc i x0 x1 x3 x4) 5 0 0 :=
  scoreN256_rd i arg2 harg2 arg3 harg3 arg5 harg5 arg6 harg6 x0 x1 x3 x4 5 0 0 (by decide) (by decide) (by decide)

theorem S_20_1 : (v6103 (F := Ideal) c i arg2 harg2 arg3 harg3 arg5 harg5 arg6 harg6 x0 x1 x3 x4) = T256 (Sc i x0 x1 x3 x4) 5 1 0 :=
  scoreN256_rd i arg2 harg2 arg3 harg3 arg5 harg5 arg6 harg6 x0 x1 x3 x4 5 1 0 (by decide) (by decide) (by decide)

theorem S_20_2 : (v6200 (F := Ideal) c i arg2 harg2 arg3 harg3 arg5 harg5 arg6 harg6 x0 x1 x3 x4) = T256 (Sc i x0 x1 x3 x4) 5 2 0 :=
  scoreN256_rd i arg2 harg2 arg3 harg3 arg5 harg5 arg6 harg6 x0 x1 x3 x4 5 2 0 (by decide) (by decide) (by decide)

theorem S_20_3 : (v6297 (F := Ideal) c i arg2 harg2 arg3 harg3 arg5 harg5 arg6 harg6 x0 x1 x3 x4) = T256 (Sc i x0 x1 x3 x4) 5 3 0 :=
  scoreN256_rd i arg2 harg2 arg3 harg3 arg5 harg5 arg6 harg6 x0 x1 x3 x4 5 3 0 (by decide) (by decide) (by decide)

theorem S_20_4 : (v6394 (F := Ideal) c i arg2 harg2 arg3 harg3 arg5 harg5 arg6 harg6 x0 x1 x3 x4) = T256 (Sc i x0 x1 x3 x4) 5 4 0 :=
  scoreN256_rd i arg2 harg2 arg3 harg3 arg5 harg5 arg6 harg6 x0 x1 x3 x4 5 4 0 (by decide) (by decide) (by decide)

theorem S_20_5 : (v6493 (F := Ideal) c i arg2 harg2 arg3 harg3 arg5 harg5 arg6 harg6 x0 x1 x3 x4) = T256 (Sc i x0 x1 x3 x4) 5 5 0 :=
  scoreD256_rd i arg2 harg2 arg3 harg3 arg5 harg5 arg6 harg6 x0 x1 x3 x4 5 0 (by decide) (by decide)

theorem R_20_0 : (v6602 (F := Ideal) c i arg2 harg2 arg3 harg3 arg5 harg5 arg6 harg6 arg9 x0 x1 x3 x4) = B256 (φ := .f32) (Sc i x0 x1 x3 x4) 5 0 0 := by
  refine Eq.trans ?_ ((congrArg (fun t => shapeCast S1x128x256 t shapeCasts_S128x256_S1x128x256) (S_20_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_20_1 : (v6698 (F := Ideal) c i arg2 harg2 arg3 harg3 arg5 harg5 arg6 harg6 arg9 x0 x1 x3 x4) = B256 (φ := .f32) (Sc i x0 x1 x3 x4) 5 1 0 := by
  refine Eq.trans ?_ ((congrArg (fun t => shapeCast S1x128x256 t shapeCasts_S128x256_S1x128x256) (S_20_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_20_2 : (v6795 (F := Ideal) c i arg2 harg2 arg3 harg3 arg5 harg5 arg6 harg6 arg9 x0 x1 x3 x4) = B256 (φ := .f32) (Sc i x0 x1 x3 x4) 5 2 0 := by
  refine Eq.trans ?_ ((congrArg (fun t => shapeCast S1x128x256 t shapeCasts_S128x256_S1x128x256) (S_20_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_20_3 : (v6892 (F := Ideal) c i arg2 harg2 arg3 harg3 arg5 harg5 arg6 harg6 arg9 x0 x1 x3 x4) = B256 (φ := .f32) (Sc i x0 x1 x3 x4) 5 3 0 := by
  refine Eq.trans ?_ ((congrArg (fun t => shapeCast S1x128x256 t shapeCasts_S128x256_S1x128x256) (S_20_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_20_4 : (v6989 (F := Ideal) c i arg2 harg2 arg3 harg3 arg5 harg5 arg6 harg6 arg9 x0 x1 x3 x4) = B256 (φ := .f32) (Sc i x0 x1 x3 x4) 5 4 0 := by
  refine Eq.trans ?_ ((congrArg (fun t => shapeCast S1x128x256 t shapeCasts_S128x256_S1x128x256) (S_20_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_20_5 : (v7088 (F := Ideal) c i arg2 harg2 arg3 harg3 arg5 harg5 arg6 harg6 arg9 x0 x1 x3 x4) = B256 (φ := .f32) (Sc i x0 x1 x3 x4) 5 5 0 := by
  refine Eq.trans ?_ ((congrArg (fun t => shapeCast S1x128x256 t shapeCasts_S128x256_S1x128x256) (S_20_5 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_20 : (v6552 (F := Ideal) c i arg2 harg2 arg3 harg3 arg5 harg5 arg6 harg6 x0 x1 x3 x4) = R256 (mx (Sc i x0 x1 x3 x4)) 5 0 := by
  refine (show _ = rmax256 (v6008 (F := Ideal) c i arg2 harg2 arg3 harg3 arg5 harg5 arg6 harg6 x0 x1 x3 x4) [(v6103 (F := Ideal) c i arg2 harg2 arg3 harg3 arg5 harg5 arg6 harg6 x0 x1 x3 x4), (v6200 (F := Ideal) c i arg2 harg2 arg3 harg3 arg5 harg5 arg6 harg6 x0 x1 x3 x4), (v6297 (F := Ideal) c i arg2 harg2 arg3 harg3 arg5 harg5 arg6 harg6 x0 x1 x3 x4), (v6394 (F := Ideal) c i arg2 harg2 arg3 harg3 arg5 harg5 arg6 harg6 x0 x1 x3 x4), (v6493 (F := Ideal) c i arg2 harg2 arg3 harg3 arg5 harg5 arg6 harg6 x0 x1 x3 x4)] from rfl).trans ?_
  rw [S_20_0, S_20_1, S_20_2, S_20_3, S_20_4, S_20_5]
  exact rmax256_eq _ _ _

theorem E_20_0 : expT256 (v6602 (F := Ideal) c i arg2 harg2 arg3 harg3 arg5 harg5 arg6 harg6 arg9 x0 x1 x3 x4) (v6552 (F := Ideal) c i arg2 harg2 arg3 harg3 arg5 harg5 arg6 harg6 x0 x1 x3 x4) = T256 (ex (Sc i x0 x1 x3 x4)) 5 0 0 := by
  rw [R_20_0, M_20]; exact expT256_eq _ _ _ _

theorem E_20_1 : expT256 (v6698 (F := Ideal) c i arg2 harg2 arg3 harg3 arg5 harg5 arg6 harg6 arg9 x0 x1 x3 x4) (v6552 (F := Ideal) c i arg2 harg2 arg3 harg3 arg5 harg5 arg6 harg6 x0 x1 x3 x4) = T256 (ex (Sc i x0 x1 x3 x4)) 5 1 0 := by
  rw [R_20_1, M_20]; exact expT256_eq _ _ _ _

theorem E_20_2 : expT256 (v6795 (F := Ideal) c i arg2 harg2 arg3 harg3 arg5 harg5 arg6 harg6 arg9 x0 x1 x3 x4) (v6552 (F := Ideal) c i arg2 harg2 arg3 harg3 arg5 harg5 arg6 harg6 x0 x1 x3 x4) = T256 (ex (Sc i x0 x1 x3 x4)) 5 2 0 := by
  rw [R_20_2, M_20]; exact expT256_eq _ _ _ _

theorem E_20_3 : expT256 (v6892 (F := Ideal) c i arg2 harg2 arg3 harg3 arg5 harg5 arg6 harg6 arg9 x0 x1 x3 x4) (v6552 (F := Ideal) c i arg2 harg2 arg3 harg3 arg5 harg5 arg6 harg6 x0 x1 x3 x4) = T256 (ex (Sc i x0 x1 x3 x4)) 5 3 0 := by
  rw [R_20_3, M_20]; exact expT256_eq _ _ _ _

theorem E_20_4 : expT256 (v6989 (F := Ideal) c i arg2 harg2 arg3 harg3 arg5 harg5 arg6 harg6 arg9 x0 x1 x3 x4) (v6552 (F := Ideal) c i arg2 harg2 arg3 harg3 arg5 harg5 arg6 harg6 x0 x1 x3 x4) = T256 (ex (Sc i x0 x1 x3 x4)) 5 4 0 := by
  rw [R_20_4, M_20]; exact expT256_eq _ _ _ _

theorem E_20_5 : expT256 (v7088 (F := Ideal) c i arg2 harg2 arg3 harg3 arg5 harg5 arg6 harg6 arg9 x0 x1 x3 x4) (v6552 (F := Ideal) c i arg2 harg2 arg3 harg3 arg5 harg5 arg6 harg6 x0 x1 x3 x4) = T256 (ex (Sc i x0 x1 x3 x4)) 5 5 0 := by
  rw [R_20_5, M_20]; exact expT256_eq _ _ _ _

theorem Q_20_0 : (v7234 (F := Ideal) c i arg2 harg2 arg3 harg3 arg5 harg5 arg6 harg6 arg9 x0 x1 x3 x4) = B256 (φ := .f32) (ex (Sc i x0 x1 x3 x4)) 5 0 0 := by
  refine Eq.trans ?_ ((congrArg (fun t => shapeCast S1x128x256 t shapeCasts_S128x256_S1x128x256) (E_20_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_20_1 : (v7331 (F := Ideal) c i arg2 harg2 arg3 harg3 arg5 harg5 arg6 harg6 arg9 x0 x1 x3 x4) = B256 (φ := .f32) (ex (Sc i x0 x1 x3 x4)) 5 1 0 := by
  refine Eq.trans ?_ ((congrArg (fun t => shapeCast S1x128x256 t shapeCasts_S128x256_S1x128x256) (E_20_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_20_2 : (v7428 (F := Ideal) c i arg2 harg2 arg3 harg3 arg5 harg5 arg6 harg6 arg9 x0 x1 x3 x4) = B256 (φ := .f32) (ex (Sc i x0 x1 x3 x4)) 5 2 0 := by
  refine Eq.trans ?_ ((congrArg (fun t => shapeCast S1x128x256 t shapeCasts_S128x256_S1x128x256) (E_20_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_20_3 : (v7525 (F := Ideal) c i arg2 harg2 arg3 harg3 arg5 harg5 arg6 harg6 arg9 x0 x1 x3 x4) = B256 (φ := .f32) (ex (Sc i x0 x1 x3 x4)) 5 3 0 := by
  refine Eq.trans ?_ ((congrArg (fun t => shapeCast S1x128x256 t shapeCasts_S128x256_S1x128x256) (E_20_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_20_4 : (v7622 (F := Ideal) c i arg2 harg2 arg3 harg3 arg5 harg5 arg6 harg6 arg9 x0 x1 x3 x4) = B256 (φ := .f32) (ex (Sc i x0 x1 x3 x4)) 5 4 0 := by
  refine Eq.trans ?_ ((congrArg (fun t => shapeCast S1x128x256 t shapeCasts_S128x256_S1x128x256) (E_20_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_20_5 : (v7721 (F := Ideal) c i arg2 harg2 arg3 harg3 arg5 harg5 arg6 harg6 arg9 x0 x1 x3 x4) = B256 (φ := .f32) (ex (Sc i x0 x1 x3 x4)) 5 5 0 := by
  refine Eq.trans ?_ ((congrArg (fun t => shapeCast S1x128x256 t shapeCasts_S128x256_S1x128x256) (E_20_5 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_20 : (v7145 (F := Ideal) c i arg2 harg2 arg3 harg3 arg5 harg5 arg6 harg6 arg9 x0 x1 x3 x4) = R256 (rc (ex (Sc i x0 x1 x3 x4))) 5 0 := by
  refine (show _ = rdiv256 (expT256 (v6602 (F := Ideal) c i arg2 harg2 arg3 harg3 arg5 harg5 arg6 harg6 arg9 x0 x1 x3 x4) (v6552 (F := Ideal) c i arg2 harg2 arg3 harg3 arg5 harg5 arg6 harg6 x0 x1 x3 x4)) [expT256 (v6698 (F := Ideal) c i arg2 harg2 arg3 harg3 arg5 harg5 arg6 harg6 arg9 x0 x1 x3 x4) (v6552 (F := Ideal) c i arg2 harg2 arg3 harg3 arg5 harg5 arg6 harg6 x0 x1 x3 x4), expT256 (v6795 (F := Ideal) c i arg2 harg2 arg3 harg3 arg5 harg5 arg6 harg6 arg9 x0 x1 x3 x4) (v6552 (F := Ideal) c i arg2 harg2 arg3 harg3 arg5 harg5 arg6 harg6 x0 x1 x3 x4), expT256 (v6892 (F := Ideal) c i arg2 harg2 arg3 harg3 arg5 harg5 arg6 harg6 arg9 x0 x1 x3 x4) (v6552 (F := Ideal) c i arg2 harg2 arg3 harg3 arg5 harg5 arg6 harg6 x0 x1 x3 x4), expT256 (v6989 (F := Ideal) c i arg2 harg2 arg3 harg3 arg5 harg5 arg6 harg6 arg9 x0 x1 x3 x4) (v6552 (F := Ideal) c i arg2 harg2 arg3 harg3 arg5 harg5 arg6 harg6 x0 x1 x3 x4), expT256 (v7088 (F := Ideal) c i arg2 harg2 arg3 harg3 arg5 harg5 arg6 harg6 arg9 x0 x1 x3 x4) (v6552 (F := Ideal) c i arg2 harg2 arg3 harg3 arg5 harg5 arg6 harg6 x0 x1 x3 x4)] from rfl).trans ?_
  rw [E_20_0, E_20_1, E_20_2, E_20_3, E_20_4, E_20_5]
  exact rdiv256_eq _ _ _

theorem C_20_0 : code256 (v7234 (F := Ideal) c i arg2 harg2 arg3 harg3 arg5 harg5 arg6 harg6 arg9 x0 x1 x3 x4) (v7145 (F := Ideal) c i arg2 harg2 arg3 harg3 arg5 harg5 arg6 harg6 arg9 x0 x1 x3 x4) = T256 (cd (ex (Sc i x0 x1 x3 x4))) 5 0 0 := by
  rw [Q_20_0, L_20]; exact code256_eq _ _ _ _

theorem C_20_1 : code256 (v7331 (F := Ideal) c i arg2 harg2 arg3 harg3 arg5 harg5 arg6 harg6 arg9 x0 x1 x3 x4) (v7145 (F := Ideal) c i arg2 harg2 arg3 harg3 arg5 harg5 arg6 harg6 arg9 x0 x1 x3 x4) = T256 (cd (ex (Sc i x0 x1 x3 x4))) 5 1 0 := by
  rw [Q_20_1, L_20]; exact code256_eq _ _ _ _

theorem C_20_2 : code256 (v7428 (F := Ideal) c i arg2 harg2 arg3 harg3 arg5 harg5 arg6 harg6 arg9 x0 x1 x3 x4) (v7145 (F := Ideal) c i arg2 harg2 arg3 harg3 arg5 harg5 arg6 harg6 arg9 x0 x1 x3 x4) = T256 (cd (ex (Sc i x0 x1 x3 x4))) 5 2 0 := by
  rw [Q_20_2, L_20]; exact code256_eq _ _ _ _

theorem C_20_3 : code256 (v7525 (F := Ideal) c i arg2 harg2 arg3 harg3 arg5 harg5 arg6 harg6 arg9 x0 x1 x3 x4) (v7145 (F := Ideal) c i arg2 harg2 arg3 harg3 arg5 harg5 arg6 harg6 arg9 x0 x1 x3 x4) = T256 (cd (ex (Sc i x0 x1 x3 x4))) 5 3 0 := by
  rw [Q_20_3, L_20]; exact code256_eq _ _ _ _

theorem C_20_4 : code256 (v7622 (F := Ideal) c i arg2 harg2 arg3 harg3 arg5 harg5 arg6 harg6 arg9 x0 x1 x3 x4) (v7145 (F := Ideal) c i arg2 harg2 arg3 harg3 arg5 harg5 arg6 harg6 arg9 x0 x1 x3 x4) = T256 (cd (ex (Sc i x0 x1 x3 x4))) 5 4 0 := by
  rw [Q_20_4, L_20]; exact code256_eq _ _ _ _

theorem C_20_5 : code256 (v7721 (F := Ideal) c i arg2 harg2 arg3 harg3 arg5 harg5 arg6 harg6 arg9 x0 x1 x3 x4) (v7145 (F := Ideal) c i arg2 harg2 arg3 harg3 arg5 harg5 arg6 harg6 arg9 x0 x1 x3 x4) = T256 (cd (ex (Sc i x0 x1 x3 x4))) 5 5 0 := by
  rw [Q_20_5, L_20]; exact code256_eq _ _ _ _

theorem P_20 : (v7741 (F := Ideal) c i arg2 harg2 arg3 harg3 arg5 harg5 arg6 harg6 arg9 arg10 x0 x1 x3 x4) = fun j => (cd (ex (Sc i x0 x1 x3 x4))) (0 + (j 2).val / 128) (128 * 5 + (j 2).val % 128) (j 1).val := by
  refine Eq.trans (Slab.read (f := (cd (ex (Sc i x0 x1 x3 x4)))) (i := 5) (h := 0) (n := 6) ?_ 768 (by decide) _ _) rfl
  refine Slab.next (n := 5) ?_ _ _ ?_
  rotate_left
  · intro j
    exact (congrFun ((congrArg (fun t => shapeCast S1x128x256 t shapeCasts_S128x256_S1x128x256) (C_20_5 c i arg2 harg2 arg3 harg3 arg5 harg5 arg6 harg6 arg9 x0 x1 x3 x4)).trans (store256 _ _ _ _ _)) j)
  refine Slab.next (n := 4) ?_ _ _ ?_
  rotate_left
  · intro j
    exact (congrFun ((congrArg (fun t => shapeCast S1x128x256 t shapeCasts_S128x256_S1x128x256) (C_20_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_20_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_20_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_20_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_20_0 c i arg2 harg2 arg3 harg3 arg5 harg5 arg6 harg6 arg9 x0 x1 x3 x4)).trans (store256 _ _ _ _ _)) j)
  exact Slab.nil _ _ _ _ _ _

theorem D_20 : prod256_768 (rdV 768 arg7 harg7 x5 (by decide)) (v7741 (F := Ideal) c i arg2 harg2 arg3 harg3 arg5 harg5 arg6 harg6 arg9 arg10 x0 x1 x3 x4) (omw i arg4 harg4 x2) = OT256 (Ou i x0 x1 x2 x3 x4 x5) 5 0 := by
  rw [rdV_eq, omw_eq, P_20]; exact prod256_768_eq _ _ _ _

theorem O_20_0 : (v7751 (F := Ideal) c i arg2 harg2 arg3 harg3 arg4 harg4 arg5 harg5 arg6 harg6 arg7 harg7 arg9 arg10 x0 x1 x2 x3 x4 x5) = OB (Ou i x0 x1 x2 x3 x4 x5) 5 0 := (congrArg outA256 (D_20 c i arg2 harg2 arg3 harg3 arg4 harg4 arg5 harg5 arg6 harg6 arg7 harg7 arg9 arg10 x0 x1 x2 x3 x4 x5)).trans (outA256_eq _ _ _)

theorem O_20_1 : (v7756 (F := Ideal) c i arg2 harg2 arg3 harg3 arg4 harg4 arg5 harg5 arg6 harg6 arg7 harg7 arg9 arg10 x0 x1 x2 x3 x4 x5) = OB (Ou i x0 x1 x2 x3 x4 x5) 5 1 := (congrArg outB256 (D_20 c i arg2 harg2 arg3 harg3 arg4 harg4 arg5 harg5 arg6 harg6 arg7 harg7 arg9 arg10 x0 x1 x2 x3 x4 x5)).trans (outB256_eq _ _ _)

theorem S_21_0 : (v6567 (F := Ideal) c i arg2 harg2 arg3 harg3 arg5 harg5 arg6 harg6 x0 x1 x3 x4) = T256 (Sc i x0 x1 x3 x4) 5 0 2 :=
  scoreN256_rd i arg2 harg2 arg3 harg3 arg5 harg5 arg6 harg6 x0 x1 x3 x4 5 0 2 (by decide) (by decide) (by decide)

theorem S_21_1 : (v6662 (F := Ideal) c i arg2 harg2 arg3 harg3 arg5 harg5 arg6 harg6 x0 x1 x3 x4) = T256 (Sc i x0 x1 x3 x4) 5 1 2 :=
  scoreN256_rd i arg2 harg2 arg3 harg3 arg5 harg5 arg6 harg6 x0 x1 x3 x4 5 1 2 (by decide) (by decide) (by decide)

theorem S_21_2 : (v6759 (F := Ideal) c i arg2 harg2 arg3 harg3 arg5 harg5 arg6 harg6 x0 x1 x3 x4) = T256 (Sc i x0 x1 x3 x4) 5 2 2 :=
  scoreN256_rd i arg2 harg2 arg3 harg3 arg5 harg5 arg6 harg6 x0 x1 x3 x4 5 2 2 (by decide) (by decide) (by decide)

theorem S_21_3 : (v6856 (F := Ideal) c i arg2 harg2 arg3 harg3 arg5 harg5 arg6 harg6 x0 x1 x3 x4) = T256 (Sc i x0 x1 x3 x4) 5 3 2 :=
  scoreN256_rd i arg2 harg2 arg3 harg3 arg5 harg5 arg6 harg6 x0 x1 x3 x4 5 3 2 (by decide) (by decide) (by decide)

theorem S_21_4 : (v6953 (F := Ideal) c i arg2 harg2 arg3 harg3 arg5 harg5 arg6 harg6 x0 x1 x3 x4) = T256 (Sc i x0 x1 x3 x4) 5 4 2 :=
  scoreN256_rd i arg2 harg2 arg3 harg3 arg5 harg5 arg6 harg6 x0 x1 x3 x4 5 4 2 (by decide) (by decide) (by decide)

theorem S_21_5 : (v7052 (F := Ideal) c i arg2 harg2 arg3 harg3 arg5 harg5 arg6 harg6 x0 x1 x3 x4) = T256 (Sc i x0 x1 x3 x4) 5 5 2 :=
  scoreD256_rd i arg2 harg2 arg3 harg3 arg5 harg5 arg6 harg6 x0 x1 x3 x4 5 2 (by decide) (by decide)

theorem R_21_0 : (v7195 (F := Ideal) c i arg2 harg2 arg3 harg3 arg5 harg5 arg6 harg6 arg9 x0 x1 x3 x4) = B256 (φ := .f32) (Sc i x0 x1 x3 x4) 5 0 2 := by
  refine Eq.trans ?_ ((congrArg (fun t => shapeCast S1x128x256 t shapeCasts_S128x256_S1x128x256) (S_21_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_21_1 : (v7291 (F := Ideal) c i arg2 harg2 arg3 harg3 arg5 harg5 arg6 harg6 arg9 x0 x1 x3 x4) = B256 (φ := .f32) (Sc i x0 x1 x3 x4) 5 1 2 := by
  refine Eq.trans ?_ ((congrArg (fun t => shapeCast S1x128x256 t shapeCasts_S128x256_S1x128x256) (S_21_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_21_2 : (v7388 (F := Ideal) c i arg2 harg2 arg3 harg3 arg5 harg5 arg6 harg6 arg9 x0 x1 x3 x4) = B256 (φ := .f32) (Sc i x0 x1 x3 x4) 5 2 2 := by
  refine Eq.trans ?_ ((congrArg (fun t => shapeCast S1x128x256 t shapeCasts_S128x256_S1x128x256) (S_21_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_21_3 : (v7485 (F := Ideal) c i arg2 harg2 arg3 harg3 arg5 harg5 arg6 harg6 arg9 x0 x1 x3 x4) = B256 (φ := .f32) (Sc i x0 x1 x3 x4) 5 3 2 := by
  refine Eq.trans ?_ ((congrArg (fun t => shapeCast S1x128x256 t shapeCasts_S128x256_S1x128x256) (S_21_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_21_4 : (v7582 (F := Ideal) c i arg2 harg2 arg3 harg3 arg5 harg5 arg6 harg6 arg9 x0 x1 x3 x4) = B256 (φ := .f32) (Sc i x0 x1 x3 x4) 5 4 2 := by
  refine Eq.trans ?_ ((congrArg (fun t => shapeCast S1x128x256 t shapeCasts_S128x256_S1x128x256) (S_21_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_21_5 : (v7681 (F := Ideal) c i arg2 harg2 arg3 harg3 arg5 harg5 arg6 harg6 arg9 x0 x1 x3 x4) = B256 (φ := .f32) (Sc i x0 x1 x3 x4) 5 5 2 := by
  refine Eq.trans ?_ ((congrArg (fun t => shapeCast S1x128x256 t shapeCasts_S128x256_S1x128x256) (S_21_5 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_21 : (v7141 (F := Ideal) c i arg2 harg2 arg3 harg3 arg5 harg5 arg6 harg6 x0 x1 x3 x4) = R256 (mx (Sc i x0 x1 x3 x4)) 5 2 := by
  refine (show _ = rmax256 (v6567 (F := Ideal) c i arg2 harg2 arg3 harg3 arg5 harg5 arg6 harg6 x0 x1 x3 x4) [(v6662 (F := Ideal) c i arg2 harg2 arg3 harg3 arg5 harg5 arg6 harg6 x0 x1 x3 x4), (v6759 (F := Ideal) c i arg2 harg2 arg3 harg3 arg5 harg5 arg6 harg6 x0 x1 x3 x4), (v6856 (F := Ideal) c i arg2 harg2 arg3 harg3 arg5 harg5 arg6 harg6 x0 x1 x3 x4), (v6953 (F := Ideal) c i arg2 harg2 arg3 harg3 arg5 harg5 arg6 harg6 x0 x1 x3 x4), (v7052 (F := Ideal) c i arg2 harg2 arg3 harg3 arg5 harg5 arg6 harg6 x0 x1 x3 x4)] from rfl).trans ?_
  rw [S_21_0, S_21_1, S_21_2, S_21_3, S_21_4, S_21_5]
  exact rmax256_eq _ _ _

theorem E_21_0 : expT256 (v7195 (F := Ideal) c i arg2 harg2 arg3 harg3 arg5 harg5 arg6 harg6 arg9 x0 x1 x3 x4) (v7141 (F := Ideal) c i arg2 harg2 arg3 harg3 arg5 harg5 arg6 harg6 x0 x1 x3 x4) = T256 (ex (Sc i x0 x1 x3 x4)) 5 0 2 := by
  rw [R_21_0, M_21]; exact expT256_eq _ _ _ _

theorem E_21_1 : expT256 (v7291 (F := Ideal) c i arg2 harg2 arg3 harg3 arg5 harg5 arg6 harg6 arg9 x0 x1 x3 x4) (v7141 (F := Ideal) c i arg2 harg2 arg3 harg3 arg5 harg5 arg6 harg6 x0 x1 x3 x4) = T256 (ex (Sc i x0 x1 x3 x4)) 5 1 2 := by
  rw [R_21_1, M_21]; exact expT256_eq _ _ _ _

theorem E_21_2 : expT256 (v7388 (F := Ideal) c i arg2 harg2 arg3 harg3 arg5 harg5 arg6 harg6 arg9 x0 x1 x3 x4) (v7141 (F := Ideal) c i arg2 harg2 arg3 harg3 arg5 harg5 arg6 harg6 x0 x1 x3 x4) = T256 (ex (Sc i x0 x1 x3 x4)) 5 2 2 := by
  rw [R_21_2, M_21]; exact expT256_eq _ _ _ _

theorem E_21_3 : expT256 (v7485 (F := Ideal) c i arg2 harg2 arg3 harg3 arg5 harg5 arg6 harg6 arg9 x0 x1 x3 x4) (v7141 (F := Ideal) c i arg2 harg2 arg3 harg3 arg5 harg5 arg6 harg6 x0 x1 x3 x4) = T256 (ex (Sc i x0 x1 x3 x4)) 5 3 2 := by
  rw [R_21_3, M_21]; exact expT256_eq _ _ _ _

theorem E_21_4 : expT256 (v7582 (F := Ideal) c i arg2 harg2 arg3 harg3 arg5 harg5 arg6 harg6 arg9 x0 x1 x3 x4) (v7141 (F := Ideal) c i arg2 harg2 arg3 harg3 arg5 harg5 arg6 harg6 x0 x1 x3 x4) = T256 (ex (Sc i x0 x1 x3 x4)) 5 4 2 := by
  rw [R_21_4, M_21]; exact expT256_eq _ _ _ _

theorem E_21_5 : expT256 (v7681 (F := Ideal) c i arg2 harg2 arg3 harg3 arg5 harg5 arg6 harg6 arg9 x0 x1 x3 x4) (v7141 (F := Ideal) c i arg2 harg2 arg3 harg3 arg5 harg5 arg6 harg6 x0 x1 x3 x4) = T256 (ex (Sc i x0 x1 x3 x4)) 5 5 2 := by
  rw [R_21_5, M_21]; exact expT256_eq _ _ _ _

theorem Q_21_0 : (v7837 (F := Ideal) c i arg2 harg2 arg3 harg3 arg5 harg5 arg6 harg6 arg9 x0 x1 x3 x4) = B256 (φ := .f32) (ex (Sc i x0 x1 x3 x4)) 5 0 2 := by
  refine Eq.trans ?_ ((congrArg (fun t => shapeCast S1x128x256 t shapeCasts_S128x256_S1x128x256) (E_21_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_21_1 : (v7929 (F := Ideal) c i arg2 harg2 arg3 harg3 arg5 harg5 arg6 harg6 arg9 x0 x1 x3 x4) = B256 (φ := .f32) (ex (Sc i x0 x1 x3 x4)) 5 1 2 := by
  refine Eq.trans ?_ ((congrArg (fun t => shapeCast S1x128x256 t shapeCasts_S128x256_S1x128x256) (E_21_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_21_2 : (v8021 (F := Ideal) c i arg2 harg2 arg3 harg3 arg5 harg5 arg6 harg6 arg9 x0 x1 x3 x4) = B256 (φ := .f32) (ex (Sc i x0 x1 x3 x4)) 5 2 2 := by
  refine Eq.trans ?_ ((congrArg (fun t => shapeCast S1x128x256 t shapeCasts_S128x256_S1x128x256) (E_21_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_21_3 : (v8113 (F := Ideal) c i arg2 harg2 arg3 harg3 arg5 harg5 arg6 harg6 arg9 x0 x1 x3 x4) = B256 (φ := .f32) (ex (Sc i x0 x1 x3 x4)) 5 3 2 := by
  refine Eq.trans ?_ ((congrArg (fun t => shapeCast S1x128x256 t shapeCasts_S128x256_S1x128x256) (E_21_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_21_4 : (v8205 (F := Ideal) c i arg2 harg2 arg3 harg3 arg5 harg5 arg6 harg6 arg9 x0 x1 x3 x4) = B256 (φ := .f32) (ex (Sc i x0 x1 x3 x4)) 5 4 2 := by
  refine Eq.trans ?_ ((congrArg (fun t => shapeCast S1x128x256 t shapeCasts_S128x256_S1x128x256) (E_21_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_21_5 : (v8298 (F := Ideal) c i arg2 harg2 arg3 harg3 arg5 harg5 arg6 harg6 arg9 x0 x1 x3 x4) = B256 (φ := .f32) (ex (Sc i x0 x1 x3 x4)) 5 5 2 := by
  refine Eq.trans ?_ ((congrArg (fun t => shapeCast S1x128x256 t shapeCasts_S128x256_S1x128x256) (E_21_5 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_21 : (v7738 (F := Ideal) c i arg2 harg2 arg3 harg3 arg5 harg5 arg6 harg6 arg9 x0 x1 x3 x4) = R256 (rc (ex (Sc i x0 x1 x3 x4))) 5 2 := by
  refine (show _ = rdiv256 (expT256 (v7195 (F := Ideal) c i arg2 harg2 arg3 harg3 arg5 harg5 arg6 harg6 arg9 x0 x1 x3 x4) (v7141 (F := Ideal) c i arg2 harg2 arg3 harg3 arg5 harg5 arg6 harg6 x0 x1 x3 x4)) [expT256 (v7291 (F := Ideal) c i arg2 harg2 arg3 harg3 arg5 harg5 arg6 harg6 arg9 x0 x1 x3 x4) (v7141 (F := Ideal) c i arg2 harg2 arg3 harg3 arg5 harg5 arg6 harg6 x0 x1 x3 x4), expT256 (v7388 (F := Ideal) c i arg2 harg2 arg3 harg3 arg5 harg5 arg6 harg6 arg9 x0 x1 x3 x4) (v7141 (F := Ideal) c i arg2 harg2 arg3 harg3 arg5 harg5 arg6 harg6 x0 x1 x3 x4), expT256 (v7485 (F := Ideal) c i arg2 harg2 arg3 harg3 arg5 harg5 arg6 harg6 arg9 x0 x1 x3 x4) (v7141 (F := Ideal) c i arg2 harg2 arg3 harg3 arg5 harg5 arg6 harg6 x0 x1 x3 x4), expT256 (v7582 (F := Ideal) c i arg2 harg2 arg3 harg3 arg5 harg5 arg6 harg6 arg9 x0 x1 x3 x4) (v7141 (F := Ideal) c i arg2 harg2 arg3 harg3 arg5 harg5 arg6 harg6 x0 x1 x3 x4), expT256 (v7681 (F := Ideal) c i arg2 harg2 arg3 harg3 arg5 harg5 arg6 harg6 arg9 x0 x1 x3 x4) (v7141 (F := Ideal) c i arg2 harg2 arg3 harg3 arg5 harg5 arg6 harg6 x0 x1 x3 x4)] from rfl).trans ?_
  rw [E_21_0, E_21_1, E_21_2, E_21_3, E_21_4, E_21_5]
  exact rdiv256_eq _ _ _

theorem C_21_0 : code256 (v7837 (F := Ideal) c i arg2 harg2 arg3 harg3 arg5 harg5 arg6 harg6 arg9 x0 x1 x3 x4) (v7738 (F := Ideal) c i arg2 harg2 arg3 harg3 arg5 harg5 arg6 harg6 arg9 x0 x1 x3 x4) = T256 (cd (ex (Sc i x0 x1 x3 x4))) 5 0 2 := by
  rw [Q_21_0, L_21]; exact code256_eq _ _ _ _

theorem C_21_1 : code256 (v7929 (F := Ideal) c i arg2 harg2 arg3 harg3 arg5 harg5 arg6 harg6 arg9 x0 x1 x3 x4) (v7738 (F := Ideal) c i arg2 harg2 arg3 harg3 arg5 harg5 arg6 harg6 arg9 x0 x1 x3 x4) = T256 (cd (ex (Sc i x0 x1 x3 x4))) 5 1 2 := by
  rw [Q_21_1, L_21]; exact code256_eq _ _ _ _

theorem C_21_2 : code256 (v8021 (F := Ideal) c i arg2 harg2 arg3 harg3 arg5 harg5 arg6 harg6 arg9 x0 x1 x3 x4) (v7738 (F := Ideal) c i arg2 harg2 arg3 harg3 arg5 harg5 arg6 harg6 arg9 x0 x1 x3 x4) = T256 (cd (ex (Sc i x0 x1 x3 x4))) 5 2 2 := by
  rw [Q_21_2, L_21]; exact code256_eq _ _ _ _

theorem C_21_3 : code256 (v8113 (F := Ideal) c i arg2 harg2 arg3 harg3 arg5 harg5 arg6 harg6 arg9 x0 x1 x3 x4) (v7738 (F := Ideal) c i arg2 harg2 arg3 harg3 arg5 harg5 arg6 harg6 arg9 x0 x1 x3 x4) = T256 (cd (ex (Sc i x0 x1 x3 x4))) 5 3 2 := by
  rw [Q_21_3, L_21]; exact code256_eq _ _ _ _

theorem C_21_4 : code256 (v8205 (F := Ideal) c i arg2 harg2 arg3 harg3 arg5 harg5 arg6 harg6 arg9 x0 x1 x3 x4) (v7738 (F := Ideal) c i arg2 harg2 arg3 harg3 arg5 harg5 arg6 harg6 arg9 x0 x1 x3 x4) = T256 (cd (ex (Sc i x0 x1 x3 x4))) 5 4 2 := by
  rw [Q_21_4, L_21]; exact code256_eq _ _ _ _

theorem C_21_5 : code256 (v8298 (F := Ideal) c i arg2 harg2 arg3 harg3 arg5 harg5 arg6 harg6 arg9 x0 x1 x3 x4) (v7738 (F := Ideal) c i arg2 harg2 arg3 harg3 arg5 harg5 arg6 harg6 arg9 x0 x1 x3 x4) = T256 (cd (ex (Sc i x0 x1 x3 x4))) 5 5 2 := by
  rw [Q_21_5, L_21]; exact code256_eq _ _ _ _

theorem P_21 : (v8318 (F := Ideal) c i arg2 harg2 arg3 harg3 arg5 harg5 arg6 harg6 arg9 arg10 x0 x1 x3 x4) = fun j => (cd (ex (Sc i x0 x1 x3 x4))) (2 + (j 2).val / 128) (128 * 5 + (j 2).val % 128) (j 1).val := by
  refine Eq.trans (Slab.read (f := (cd (ex (Sc i x0 x1 x3 x4)))) (i := 5) (h := 2) (n := 6) ?_ 768 (by decide) _ _) rfl
  refine Slab.next (n := 5) ?_ _ _ ?_
  rotate_left
  · intro j
    exact (congrFun ((congrArg (fun t => shapeCast S1x128x256 t shapeCasts_S128x256_S1x128x256) (C_21_5 c i arg2 harg2 arg3 harg3 arg5 harg5 arg6 harg6 arg9 x0 x1 x3 x4)).trans (store256 _ _ _ _ _)) j)
  refine Slab.next (n := 4) ?_ _ _ ?_
  rotate_left
  · intro j
    exact (congrFun ((congrArg (fun t => shapeCast S1x128x256 t shapeCasts_S128x256_S1x128x256) (C_21_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_21_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_21_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_21_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_21_0 c i arg2 harg2 arg3 harg3 arg5 harg5 arg6 harg6 arg9 x0 x1 x3 x4)).trans (store256 _ _ _ _ _)) j)
  exact Slab.nil _ _ _ _ _ _

theorem D_21 : prod256_768 (rdV 768 arg7 harg7 x5 (by decide)) (v8318 (F := Ideal) c i arg2 harg2 arg3 harg3 arg5 harg5 arg6 harg6 arg9 arg10 x0 x1 x3 x4) (omw i arg4 harg4 x2) = OT256 (Ou i x0 x1 x2 x3 x4 x5) 5 2 := by
  rw [rdV_eq, omw_eq, P_21]; exact prod256_768_eq _ _ _ _

theorem O_21_0 : (v8328 (F := Ideal) c i arg2 harg2 arg3 harg3 arg4 harg4 arg5 harg5 arg6 harg6 arg7 harg7 arg9 arg10 x0 x1 x2 x3 x4 x5) = OB (Ou i x0 x1 x2 x3 x4 x5) 5 2 := (congrArg outA256 (D_21 c i arg2 harg2 arg3 harg3 arg4 harg4 arg5 harg5 arg6 harg6 arg7 harg7 arg9 arg10 x0 x1 x2 x3 x4 x5)).trans (outA256_eq _ _ _)

theorem O_21_1 : (v8333 (F := Ideal) c i arg2 harg2 arg3 harg3 arg4 harg4 arg5 harg5 arg6 harg6 arg7 harg7 arg9 arg10 x0 x1 x2 x3 x4 x5) = OB (Ou i x0 x1 x2 x3 x4 x5) 5 3 := (congrArg outB256 (D_21 c i arg2 harg2 arg3 harg3 arg4 harg4 arg5 harg5 arg6 harg6 arg7 harg7 arg9 arg10 x0 x1 x2 x3 x4 x5)).trans (outB256_eq _ _ _)

theorem S_22_0 : (v7160 (F := Ideal) c i arg2 harg2 arg3 harg3 arg5 harg5 arg6 harg6 x0 x1 x3 x4) = T256 (Sc i x0 x1 x3 x4) 5 0 4 :=
  scoreN256_rd i arg2 harg2 arg3 harg3 arg5 harg5 arg6 harg6 x0 x1 x3 x4 5 0 4 (by decide) (by decide) (by decide)

theorem S_22_1 : (v7255 (F := Ideal) c i arg2 harg2 arg3 harg3 arg5 harg5 arg6 harg6 x0 x1 x3 x4) = T256 (Sc i x0 x1 x3 x4) 5 1 4 :=
  scoreN256_rd i arg2 harg2 arg3 harg3 arg5 harg5 arg6 harg6 x0 x1 x3 x4 5 1 4 (by decide) (by decide) (by decide)

theorem S_22_2 : (v7352 (F := Ideal) c i arg2 harg2 arg3 harg3 arg5 harg5 arg6 harg6 x0 x1 x3 x4) = T256 (Sc i x0 x1 x3 x4) 5 2 4 :=
  scoreN256_rd i arg2 harg2 arg3 harg3 arg5 harg5 arg6 harg6 x0 x1 x3 x4 5 2 4 (by decide) (by decide) (by decide)

theorem S_22_3 : (v7449 (F := Ideal) c i arg2 harg2 arg3 harg3 arg5 harg5 arg6 harg6 x0 x1 x3 x4) = T256 (Sc i x0 x1 x3 x4) 5 3 4 :=
  scoreN256_rd i arg2 harg2 arg3 harg3 arg5 harg5 arg6 harg6 x0 x1 x3 x4 5 3 4 (by decide) (by decide) (by decide)

theorem S_22_4 : (v7546 (F := Ideal) c i arg2 harg2 arg3 harg3 arg5 harg5 arg6 harg6 x0 x1 x3 x4) = T256 (Sc i x0 x1 x3 x4) 5 4 4 :=
  scoreN256_rd i arg2 harg2 arg3 harg3 arg5 harg5 arg6 harg6 x0 x1 x3 x4 5 4 4 (by decide) (by decide) (by decide)

theorem S_22_5 : (v7645 (F := Ideal) c i arg2 harg2 arg3 harg3 arg5 harg5 arg6 harg6 x0 x1 x3 x4) = T256 (Sc i x0 x1 x3 x4) 5 5 4 :=
  scoreD256_rd i arg2 harg2 arg3 harg3 arg5 harg5 arg6 harg6 x0 x1 x3 x4 5 4 (by decide) (by decide)

theorem R_22_0 : (v7798 (F := Ideal) c i arg2 harg2 arg3 harg3 arg5 harg5 arg6 harg6 arg9 x0 x1 x3 x4) = B256 (φ := .f32) (Sc i x0 x1 x3 x4) 5 0 4 := by
  refine Eq.trans ?_ ((congrArg (fun t => shapeCast S1x128x256 t shapeCasts_S128x256_S1x128x256) (S_22_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_22_1 : (v7889 (F := Ideal) c i arg2 harg2 arg3 harg3 arg5 harg5 arg6 harg6 arg9 x0 x1 x3 x4) = B256 (φ := .f32) (Sc i x0 x1 x3 x4) 5 1 4 := by
  refine Eq.trans ?_ ((congrArg (fun t => shapeCast S1x128x256 t shapeCasts_S128x256_S1x128x256) (S_22_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_22_2 : (v7981 (F := Ideal) c i arg2 harg2 arg3 harg3 arg5 harg5 arg6 harg6 arg9 x0 x1 x3 x4) = B256 (φ := .f32) (Sc i x0 x1 x3 x4) 5 2 4 := by
  refine Eq.trans ?_ ((congrArg (fun t => shapeCast S1x128x256 t shapeCasts_S128x256_S1x128x256) (S_22_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_22_3 : (v8073 (F := Ideal) c i arg2 harg2 arg3 harg3 arg5 harg5 arg6 harg6 arg9 x0 x1 x3 x4) = B256 (φ := .f32) (Sc i x0 x1 x3 x4) 5 3 4 := by
  refine Eq.trans ?_ ((congrArg (fun t => shapeCast S1x128x256 t shapeCasts_S128x256_S1x128x256) (S_22_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_22_4 : (v8165 (F := Ideal) c i arg2 harg2 arg3 harg3 arg5 harg5 arg6 harg6 arg9 x0 x1 x3 x4) = B256 (φ := .f32) (Sc i x0 x1 x3 x4) 5 4 4 := by
  refine Eq.trans ?_ ((congrArg (fun t => shapeCast S1x128x256 t shapeCasts_S128x256_S1x128x256) (S_22_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_22_5 : (v8258 (F := Ideal) c i arg2 harg2 arg3 harg3 arg5 harg5 arg6 harg6 arg9 x0 x1 x3 x4) = B256 (φ := .f32) (Sc i x0 x1 x3 x4) 5 5 4 := by
  refine Eq.trans ?_ ((congrArg (fun t => shapeCast S1x128x256 t shapeCasts_S128x256_S1x128x256) (S_22_5 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_22 : (v7734 (F := Ideal) c i arg2 harg2 arg3 harg3 arg5 harg5 arg6 harg6 x0 x1 x3 x4) = R256 (mx (Sc i x0 x1 x3 x4)) 5 4 := by
  refine (show _ = rmax256 (v7160 (F := Ideal) c i arg2 harg2 arg3 harg3 arg5 harg5 arg6 harg6 x0 x1 x3 x4) [(v7255 (F := Ideal) c i arg2 harg2 arg3 harg3 arg5 harg5 arg6 harg6 x0 x1 x3 x4), (v7352 (F := Ideal) c i arg2 harg2 arg3 harg3 arg5 harg5 arg6 harg6 x0 x1 x3 x4), (v7449 (F := Ideal) c i arg2 harg2 arg3 harg3 arg5 harg5 arg6 harg6 x0 x1 x3 x4), (v7546 (F := Ideal) c i arg2 harg2 arg3 harg3 arg5 harg5 arg6 harg6 x0 x1 x3 x4), (v7645 (F := Ideal) c i arg2 harg2 arg3 harg3 arg5 harg5 arg6 harg6 x0 x1 x3 x4)] from rfl).trans ?_
  rw [S_22_0, S_22_1, S_22_2, S_22_3, S_22_4, S_22_5]
  exact rmax256_eq _ _ _

theorem E_22_0 : expT256 (v7798 (F := Ideal) c i arg2 harg2 arg3 harg3 arg5 harg5 arg6 harg6 arg9 x0 x1 x3 x4) (v7734 (F := Ideal) c i arg2 harg2 arg3 harg3 arg5 harg5 arg6 harg6 x0 x1 x3 x4) = T256 (ex (Sc i x0 x1 x3 x4)) 5 0 4 := by
  rw [R_22_0, M_22]; exact expT256_eq _ _ _ _

theorem E_22_1 : expT256 (v7889 (F := Ideal) c i arg2 harg2 arg3 harg3 arg5 harg5 arg6 harg6 arg9 x0 x1 x3 x4) (v7734 (F := Ideal) c i arg2 harg2 arg3 harg3 arg5 harg5 arg6 harg6 x0 x1 x3 x4) = T256 (ex (Sc i x0 x1 x3 x4)) 5 1 4 := by
  rw [R_22_1, M_22]; exact expT256_eq _ _ _ _

theorem E_22_2 : expT256 (v7981 (F := Ideal) c i arg2 harg2 arg3 harg3 arg5 harg5 arg6 harg6 arg9 x0 x1 x3 x4) (v7734 (F := Ideal) c i arg2 harg2 arg3 harg3 arg5 harg5 arg6 harg6 x0 x1 x3 x4) = T256 (ex (Sc i x0 x1 x3 x4)) 5 2 4 := by
  rw [R_22_2, M_22]; exact expT256_eq _ _ _ _

theorem E_22_3 : expT256 (v8073 (F := Ideal) c i arg2 harg2 arg3 harg3 arg5 harg5 arg6 harg6 arg9 x0 x1 x3 x4) (v7734 (F := Ideal) c i arg2 harg2 arg3 harg3 arg5 harg5 arg6 harg6 x0 x1 x3 x4) = T256 (ex (Sc i x0 x1 x3 x4)) 5 3 4 := by
  rw [R_22_3, M_22]; exact expT256_eq _ _ _ _

theorem E_22_4 : expT256 (v8165 (F := Ideal) c i arg2 harg2 arg3 harg3 arg5 harg5 arg6 harg6 arg9 x0 x1 x3 x4) (v7734 (F := Ideal) c i arg2 harg2 arg3 harg3 arg5 harg5 arg6 harg6 x0 x1 x3 x4) = T256 (ex (Sc i x0 x1 x3 x4)) 5 4 4 := by
  rw [R_22_4, M_22]; exact expT256_eq _ _ _ _

theorem E_22_5 : expT256 (v8258 (F := Ideal) c i arg2 harg2 arg3 harg3 arg5 harg5 arg6 harg6 arg9 x0 x1 x3 x4) (v7734 (F := Ideal) c i arg2 harg2 arg3 harg3 arg5 harg5 arg6 harg6 x0 x1 x3 x4) = T256 (ex (Sc i x0 x1 x3 x4)) 5 5 4 := by
  rw [R_22_5, M_22]; exact expT256_eq _ _ _ _

theorem Q_22_0 : (v8422 (F := Ideal) c i arg2 harg2 arg3 harg3 arg5 harg5 arg6 harg6 arg9 x0 x1 x3 x4) = B256 (φ := .f32) (ex (Sc i x0 x1 x3 x4)) 5 0 4 := by
  refine Eq.trans ?_ ((congrArg (fun t => shapeCast S1x128x256 t shapeCasts_S128x256_S1x128x256) (E_22_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_22_1 : (v8519 (F := Ideal) c i arg2 harg2 arg3 harg3 arg5 harg5 arg6 harg6 arg9 x0 x1 x3 x4) = B256 (φ := .f32) (ex (Sc i x0 x1 x3 x4)) 5 1 4 := by
  refine Eq.trans ?_ ((congrArg (fun t => shapeCast S1x128x256 t shapeCasts_S128x256_S1x128x256) (E_22_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_22_2 : (v8616 (F := Ideal) c i arg2 harg2 arg3 harg3 arg5 harg5 arg6 harg6 arg9 x0 x1 x3 x4) = B256 (φ := .f32) (ex (Sc i x0 x1 x3 x4)) 5 2 4 := by
  refine Eq.trans ?_ ((congrArg (fun t => shapeCast S1x128x256 t shapeCasts_S128x256_S1x128x256) (E_22_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_22_3 : (v8713 (F := Ideal) c i arg2 harg2 arg3 harg3 arg5 harg5 arg6 harg6 arg9 x0 x1 x3 x4) = B256 (φ := .f32) (ex (Sc i x0 x1 x3 x4)) 5 3 4 := by
  refine Eq.trans ?_ ((congrArg (fun t => shapeCast S1x128x256 t shapeCasts_S128x256_S1x128x256) (E_22_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_22_4 : (v8810 (F := Ideal) c i arg2 harg2 arg3 harg3 arg5 harg5 arg6 harg6 arg9 x0 x1 x3 x4) = B256 (φ := .f32) (ex (Sc i x0 x1 x3 x4)) 5 4 4 := by
  refine Eq.trans ?_ ((congrArg (fun t => shapeCast S1x128x256 t shapeCasts_S128x256_S1x128x256) (E_22_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_22_5 : (v8907 (F := Ideal) c i arg2 harg2 arg3 harg3 arg5 harg5 arg6 harg6 arg9 x0 x1 x3 x4) = B256 (φ := .f32) (ex (Sc i x0 x1 x3 x4)) 5 5 4 := by
  refine Eq.trans ?_ ((congrArg (fun t => shapeCast S1x128x256 t shapeCasts_S128x256_S1x128x256) (E_22_5 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_22 : (v8315 (F := Ideal) c i arg2 harg2 arg3 harg3 arg5 harg5 arg6 harg6 arg9 x0 x1 x3 x4) = R256 (rc (ex (Sc i x0 x1 x3 x4))) 5 4 := by
  refine (show _ = rdiv256 (expT256 (v7798 (F := Ideal) c i arg2 harg2 arg3 harg3 arg5 harg5 arg6 harg6 arg9 x0 x1 x3 x4) (v7734 (F := Ideal) c i arg2 harg2 arg3 harg3 arg5 harg5 arg6 harg6 x0 x1 x3 x4)) [expT256 (v7889 (F := Ideal) c i arg2 harg2 arg3 harg3 arg5 harg5 arg6 harg6 arg9 x0 x1 x3 x4) (v7734 (F := Ideal) c i arg2 harg2 arg3 harg3 arg5 harg5 arg6 harg6 x0 x1 x3 x4), expT256 (v7981 (F := Ideal) c i arg2 harg2 arg3 harg3 arg5 harg5 arg6 harg6 arg9 x0 x1 x3 x4) (v7734 (F := Ideal) c i arg2 harg2 arg3 harg3 arg5 harg5 arg6 harg6 x0 x1 x3 x4), expT256 (v8073 (F := Ideal) c i arg2 harg2 arg3 harg3 arg5 harg5 arg6 harg6 arg9 x0 x1 x3 x4) (v7734 (F := Ideal) c i arg2 harg2 arg3 harg3 arg5 harg5 arg6 harg6 x0 x1 x3 x4), expT256 (v8165 (F := Ideal) c i arg2 harg2 arg3 harg3 arg5 harg5 arg6 harg6 arg9 x0 x1 x3 x4) (v7734 (F := Ideal) c i arg2 harg2 arg3 harg3 arg5 harg5 arg6 harg6 x0 x1 x3 x4), expT256 (v8258 (F := Ideal) c i arg2 harg2 arg3 harg3 arg5 harg5 arg6 harg6 arg9 x0 x1 x3 x4) (v7734 (F := Ideal) c i arg2 harg2 arg3 harg3 arg5 harg5 arg6 harg6 x0 x1 x3 x4)] from rfl).trans ?_
  rw [E_22_0, E_22_1, E_22_2, E_22_3, E_22_4, E_22_5]
  exact rdiv256_eq _ _ _

theorem C_22_0 : code256 (v8422 (F := Ideal) c i arg2 harg2 arg3 harg3 arg5 harg5 arg6 harg6 arg9 x0 x1 x3 x4) (v8315 (F := Ideal) c i arg2 harg2 arg3 harg3 arg5 harg5 arg6 harg6 arg9 x0 x1 x3 x4) = T256 (cd (ex (Sc i x0 x1 x3 x4))) 5 0 4 := by
  rw [Q_22_0, L_22]; exact code256_eq _ _ _ _

theorem C_22_1 : code256 (v8519 (F := Ideal) c i arg2 harg2 arg3 harg3 arg5 harg5 arg6 harg6 arg9 x0 x1 x3 x4) (v8315 (F := Ideal) c i arg2 harg2 arg3 harg3 arg5 harg5 arg6 harg6 arg9 x0 x1 x3 x4) = T256 (cd (ex (Sc i x0 x1 x3 x4))) 5 1 4 := by
  rw [Q_22_1, L_22]; exact code256_eq _ _ _ _

theorem C_22_2 : code256 (v8616 (F := Ideal) c i arg2 harg2 arg3 harg3 arg5 harg5 arg6 harg6 arg9 x0 x1 x3 x4) (v8315 (F := Ideal) c i arg2 harg2 arg3 harg3 arg5 harg5 arg6 harg6 arg9 x0 x1 x3 x4) = T256 (cd (ex (Sc i x0 x1 x3 x4))) 5 2 4 := by
  rw [Q_22_2, L_22]; exact code256_eq _ _ _ _

theorem C_22_3 : code256 (v8713 (F := Ideal) c i arg2 harg2 arg3 harg3 arg5 harg5 arg6 harg6 arg9 x0 x1 x3 x4) (v8315 (F := Ideal) c i arg2 harg2 arg3 harg3 arg5 harg5 arg6 harg6 arg9 x0 x1 x3 x4) = T256 (cd (ex (Sc i x0 x1 x3 x4))) 5 3 4 := by
  rw [Q_22_3, L_22]; exact code256_eq _ _ _ _

theorem C_22_4 : code256 (v8810 (F := Ideal) c i arg2 harg2 arg3 harg3 arg5 harg5 arg6 harg6 arg9 x0 x1 x3 x4) (v8315 (F := Ideal) c i arg2 harg2 arg3 harg3 arg5 harg5 arg6 harg6 arg9 x0 x1 x3 x4) = T256 (cd (ex (Sc i x0 x1 x3 x4))) 5 4 4 := by
  rw [Q_22_4, L_22]; exact code256_eq _ _ _ _

theorem C_22_5 : code256 (v8907 (F := Ideal) c i arg2 harg2 arg3 harg3 arg5 harg5 arg6 harg6 arg9 x0 x1 x3 x4) (v8315 (F := Ideal) c i arg2 harg2 arg3 harg3 arg5 harg5 arg6 harg6 arg9 x0 x1 x3 x4) = T256 (cd (ex (Sc i x0 x1 x3 x4))) 5 5 4 := by
  rw [Q_22_5, L_22]; exact code256_eq _ _ _ _

theorem P_22 : (v8972 (F := Ideal) c i arg2 harg2 arg3 harg3 arg5 harg5 arg6 harg6 arg9 arg10 x0 x1 x3 x4) = fun j => (cd (ex (Sc i x0 x1 x3 x4))) (4 + (j 2).val / 128) (128 * 5 + (j 2).val % 128) (j 1).val := by
  refine Eq.trans (Slab.read (f := (cd (ex (Sc i x0 x1 x3 x4)))) (i := 5) (h := 4) (n := 6) ?_ 768 (by decide) _ _) rfl
  refine Slab.next (n := 5) ?_ _ _ ?_
  rotate_left
  · intro j
    exact (congrFun ((congrArg (fun t => shapeCast S1x128x256 t shapeCasts_S128x256_S1x128x256) (C_22_5 c i arg2 harg2 arg3 harg3 arg5 harg5 arg6 harg6 arg9 x0 x1 x3 x4)).trans (store256 _ _ _ _ _)) j)
  refine Slab.next (n := 4) ?_ _ _ ?_
  rotate_left
  · intro j
    exact (congrFun ((congrArg (fun t => shapeCast S1x128x256 t shapeCasts_S128x256_S1x128x256) (C_22_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_22_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_22_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_22_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_22_0 c i arg2 harg2 arg3 harg3 arg5 harg5 arg6 harg6 arg9 x0 x1 x3 x4)).trans (store256 _ _ _ _ _)) j)
  exact Slab.nil _ _ _ _ _ _

theorem D_22 : prod256_768 (rdV 768 arg7 harg7 x5 (by decide)) (v8972 (F := Ideal) c i arg2 harg2 arg3 harg3 arg5 harg5 arg6 harg6 arg9 arg10 x0 x1 x3 x4) (omw i arg4 harg4 x2) = OT256 (Ou i x0 x1 x2 x3 x4 x5) 5 4 := by
  rw [rdV_eq, omw_eq, P_22]; exact prod256_768_eq _ _ _ _

theorem O_22_0 : (v8982 (F := Ideal) c i arg2 harg2 arg3 harg3 arg4 harg4 arg5 harg5 arg6 harg6 arg7 harg7 arg9 arg10 x0 x1 x2 x3 x4 x5) = OB (Ou i x0 x1 x2 x3 x4 x5) 5 4 := (congrArg outA256 (D_22 c i arg2 harg2 arg3 harg3 arg4 harg4 arg5 harg5 arg6 harg6 arg7 harg7 arg9 arg10 x0 x1 x2 x3 x4 x5)).trans (outA256_eq _ _ _)

theorem O_22_1 : (v8987 (F := Ideal) c i arg2 harg2 arg3 harg3 arg4 harg4 arg5 harg5 arg6 harg6 arg7 harg7 arg9 arg10 x0 x1 x2 x3 x4 x5) = OB (Ou i x0 x1 x2 x3 x4 x5) 5 5 := (congrArg outB256 (D_22 c i arg2 harg2 arg3 harg3 arg4 harg4 arg5 harg5 arg6 harg6 arg7 harg7 arg9 arg10 x0 x1 x2 x3 x4 x5)).trans (outB256_eq _ _ _)

theorem S_23_0 : (v7763 (F := Ideal) c i arg2 harg2 arg3 harg3 arg5 harg5 arg6 harg6 x0 x1 x3 x4) = T128 (Sc i x0 x1 x3 x4) 5 0 6 :=
  scoreN128_rd i arg2 harg2 arg3 harg3 arg5 harg5 arg6 harg6 x0 x1 x3 x4 5 0 6 (by decide) (by decide) (by decide)

theorem S_23_1 : (v7853 (F := Ideal) c i arg2 harg2 arg3 harg3 arg5 harg5 arg6 harg6 x0 x1 x3 x4) = T128 (Sc i x0 x1 x3 x4) 5 1 6 :=
  scoreN128_rd i arg2 harg2 arg3 harg3 arg5 harg5 arg6 harg6 x0 x1 x3 x4 5 1 6 (by decide) (by decide) (by decide)

theorem S_23_2 : (v7945 (F := Ideal) c i arg2 harg2 arg3 harg3 arg5 harg5 arg6 harg6 x0 x1 x3 x4) = T128 (Sc i x0 x1 x3 x4) 5 2 6 :=
  scoreN128_rd i arg2 harg2 arg3 harg3 arg5 harg5 arg6 harg6 x0 x1 x3 x4 5 2 6 (by decide) (by decide) (by decide)

theorem S_23_3 : (v8037 (F := Ideal) c i arg2 harg2 arg3 harg3 arg5 harg5 arg6 harg6 x0 x1 x3 x4) = T128 (Sc i x0 x1 x3 x4) 5 3 6 :=
  scoreN128_rd i arg2 harg2 arg3 harg3 arg5 harg5 arg6 harg6 x0 x1 x3 x4 5 3 6 (by decide) (by decide) (by decide)

theorem S_23_4 : (v8129 (F := Ideal) c i arg2 harg2 arg3 harg3 arg5 harg5 arg6 harg6 x0 x1 x3 x4) = T128 (Sc i x0 x1 x3 x4) 5 4 6 :=
  scoreN128_rd i arg2 harg2 arg3 harg3 arg5 harg5 arg6 harg6 x0 x1 x3 x4 5 4 6 (by decide) (by decide) (by decide)

theorem S_23_5 : (v8222 (F := Ideal) c i arg2 harg2 arg3 harg3 arg5 harg5 arg6 harg6 x0 x1 x3 x4) = T128 (Sc i x0 x1 x3 x4) 5 5 6 :=
  scoreD128_rd i arg2 harg2 arg3 harg3 arg5 harg5 arg6 harg6 x0 x1 x3 x4 5 6 (by decide) (by decide)

theorem R_23_0 : (v8383 (F := Ideal) c i arg2 harg2 arg3 harg3 arg5 harg5 arg6 harg6 arg9 x0 x1 x3 x4) = B128 (φ := .f32) (Sc i x0 x1 x3 x4) 5 0 6 := by
  refine Eq.trans ?_ ((congrArg (fun t => shapeCast S1x128x128 t shapeCasts_S128x128_S1x128x128) (S_23_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_23_1 : (v8479 (F := Ideal) c i arg2 harg2 arg3 harg3 arg5 harg5 arg6 harg6 arg9 x0 x1 x3 x4) = B128 (φ := .f32) (Sc i x0 x1 x3 x4) 5 1 6 := by
  refine Eq.trans ?_ ((congrArg (fun t => shapeCast S1x128x128 t shapeCasts_S128x128_S1x128x128) (S_23_1 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_23_2 : (v8576 (F := Ideal) c i arg2 harg2 arg3 harg3 arg5 harg5 arg6 harg6 arg9 x0 x1 x3 x4) = B128 (φ := .f32) (Sc i x0 x1 x3 x4) 5 2 6 := by
  refine Eq.trans ?_ ((congrArg (fun t => shapeCast S1x128x128 t shapeCasts_S128x128_S1x128x128) (S_23_2 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_23_3 : (v8673 (F := Ideal) c i arg2 harg2 arg3 harg3 arg5 harg5 arg6 harg6 arg9 x0 x1 x3 x4) = B128 (φ := .f32) (Sc i x0 x1 x3 x4) 5 3 6 := by
  refine Eq.trans ?_ ((congrArg (fun t => shapeCast S1x128x128 t shapeCasts_S128x128_S1x128x128) (S_23_3 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_23_4 : (v8770 (F := Ideal) c i arg2 harg2 arg3 harg3 arg5 harg5 arg6 harg6 arg9 x0 x1 x3 x4) = B128 (φ := .f32) (Sc i x0 x1 x3 x4) 5 4 6 := by
  refine Eq.trans ?_ ((congrArg (fun t => shapeCast S1x128x128 t shapeCasts_S128x128_S1x128x128) (S_23_4 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_23_5 : (v8867 (F := Ideal) c i arg2 harg2 arg3 harg3 arg5 harg5 arg6 harg6 arg9 x0 x1 x3 x4) = B128 (φ := .f32) (Sc i x0 x1 x3 x4) 5 5 6 := by
  refine Eq.trans ?_ ((congrArg (fun t => shapeCast S1x128x128 t shapeCasts_S128x128_S1x128x128) (S_23_5 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_23 : (v8311 (F := Ideal) c i arg2 harg2 arg3 harg3 arg5 harg5 arg6 harg6 x0 x1 x3 x4) = R128 (mx (Sc i x0 x1 x3 x4)) 5 6 := by
  refine (show _ = rmax128 (v7763 (F := Ideal) c i arg2 harg2 arg3 harg3 arg5 harg5 arg6 harg6 x0 x1 x3 x4) [(v7853 (F := Ideal) c i arg2 harg2 arg3 harg3 arg5 harg5 arg6 harg6 x0 x1 x3 x4), (v7945 (F := Ideal) c i arg2 harg2 arg3 harg3 arg5 harg5 arg6 harg6 x0 x1 x3 x4), (v8037 (F := Ideal) c i arg2 harg2 arg3 harg3 arg5 harg5 arg6 harg6 x0 x1 x3 x4), (v8129 (F := Ideal) c i arg2 harg2 arg3 harg3 arg5 harg5 arg6 harg6 x0 x1 x3 x4), (v8222 (F := Ideal) c i arg2 harg2 arg3 harg3 arg5 harg5 arg6 harg6 x0 x1 x3 x4)] from rfl).trans ?_
  rw [S_23_0, S_23_1, S_23_2, S_23_3, S_23_4, S_23_5]
  exact rmax128_eq _ _ _

theorem E_23_0 : expT128 (v8383 (F := Ideal) c i arg2 harg2 arg3 harg3 arg5 harg5 arg6 harg6 arg9 x0 x1 x3 x4) (v8311 (F := Ideal) c i arg2 harg2 arg3 harg3 arg5 harg5 arg6 harg6 x0 x1 x3 x4) = T128 (ex (Sc i x0 x1 x3 x4)) 5 0 6 := by
  rw [R_23_0, M_23]; exact expT128_eq _ _ _ _

theorem E_23_1 : expT128 (v8479 (F := Ideal) c i arg2 harg2 arg3 harg3 arg5 harg5 arg6 harg6 arg9 x0 x1 x3 x4) (v8311 (F := Ideal) c i arg2 harg2 arg3 harg3 arg5 harg5 arg6 harg6 x0 x1 x3 x4) = T128 (ex (Sc i x0 x1 x3 x4)) 5 1 6 := by
  rw [R_23_1, M_23]; exact expT128_eq _ _ _ _

theorem E_23_2 : expT128 (v8576 (F := Ideal) c i arg2 harg2 arg3 harg3 arg5 harg5 arg6 harg6 arg9 x0 x1 x3 x4) (v8311 (F := Ideal) c i arg2 harg2 arg3 harg3 arg5 harg5 arg6 harg6 x0 x1 x3 x4) = T128 (ex (Sc i x0 x1 x3 x4)) 5 2 6 := by
  rw [R_23_2, M_23]; exact expT128_eq _ _ _ _

theorem E_23_3 : expT128 (v8673 (F := Ideal) c i arg2 harg2 arg3 harg3 arg5 harg5 arg6 harg6 arg9 x0 x1 x3 x4) (v8311 (F := Ideal) c i arg2 harg2 arg3 harg3 arg5 harg5 arg6 harg6 x0 x1 x3 x4) = T128 (ex (Sc i x0 x1 x3 x4)) 5 3 6 := by
  rw [R_23_3, M_23]; exact expT128_eq _ _ _ _

theorem E_23_4 : expT128 (v8770 (F := Ideal) c i arg2 harg2 arg3 harg3 arg5 harg5 arg6 harg6 arg9 x0 x1 x3 x4) (v8311 (F := Ideal) c i arg2 harg2 arg3 harg3 arg5 harg5 arg6 harg6 x0 x1 x3 x4) = T128 (ex (Sc i x0 x1 x3 x4)) 5 4 6 := by
  rw [R_23_4, M_23]; exact expT128_eq _ _ _ _

theorem E_23_5 : expT128 (v8867 (F := Ideal) c i arg2 harg2 arg3 harg3 arg5 harg5 arg6 harg6 arg9 x0 x1 x3 x4) (v8311 (F := Ideal) c i arg2 harg2 arg3 harg3 arg5 harg5 arg6 harg6 x0 x1 x3 x4) = T128 (ex (Sc i x0 x1 x3 x4)) 5 5 6 := by
  rw [R_23_5, M_23]; exact expT128_eq _ _ _ _

theorem Q_23_0 : (v9078 (F := Ideal) c i arg2 harg2 arg3 harg3 arg5 harg5 arg6 harg6 arg9 x0 x1 x3 x4) = B128 (φ := .f32) (ex (Sc i x0 x1 x3 x4)) 5 0 6 := by
  refine Eq.trans ?_ ((congrArg (fun t => shapeCast S1x128x128 t shapeCasts_S128x128_S1x128x128) (E_23_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_23_1 : (v9175 (F := Ideal) c i arg2 harg2 arg3 harg3 arg5 harg5 arg6 harg6 arg9 x0 x1 x3 x4) = B128 (φ := .f32) (ex (Sc i x0 x1 x3 x4)) 5 1 6 := by
  refine Eq.trans ?_ ((congrArg (fun t => shapeCast S1x128x128 t shapeCasts_S128x128_S1x128x128) (E_23_1 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_23_2 : (v9272 (F := Ideal) c i arg2 harg2 arg3 harg3 arg5 harg5 arg6 harg6 arg9 x0 x1 x3 x4) = B128 (φ := .f32) (ex (Sc i x0 x1 x3 x4)) 5 2 6 := by
  refine Eq.trans ?_ ((congrArg (fun t => shapeCast S1x128x128 t shapeCasts_S128x128_S1x128x128) (E_23_2 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_23_3 : (v9369 (F := Ideal) c i arg2 harg2 arg3 harg3 arg5 harg5 arg6 harg6 arg9 x0 x1 x3 x4) = B128 (φ := .f32) (ex (Sc i x0 x1 x3 x4)) 5 3 6 := by
  refine Eq.trans ?_ ((congrArg (fun t => shapeCast S1x128x128 t shapeCasts_S128x128_S1x128x128) (E_23_3 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_23_4 : (v9466 (F := Ideal) c i arg2 harg2 arg3 harg3 arg5 harg5 arg6 harg6 arg9 x0 x1 x3 x4) = B128 (φ := .f32) (ex (Sc i x0 x1 x3 x4)) 5 4 6 := by
  refine Eq.trans ?_ ((congrArg (fun t => shapeCast S1x128x128 t shapeCasts_S128x128_S1x128x128) (E_23_4 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_23_5 : (v9563 (F := Ideal) c i arg2 harg2 arg3 harg3 arg5 harg5 arg6 harg6 arg9 x0 x1 x3 x4) = B128 (φ := .f32) (ex (Sc i x0 x1 x3 x4)) 5 5 6 := by
  refine Eq.trans ?_ ((congrArg (fun t => shapeCast S1x128x128 t shapeCasts_S128x128_S1x128x128) (E_23_5 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_23 : (v8969 (F := Ideal) c i arg2 harg2 arg3 harg3 arg5 harg5 arg6 harg6 arg9 x0 x1 x3 x4) = R128 (rc (ex (Sc i x0 x1 x3 x4))) 5 6 := by
  refine (show _ = rdiv128 (expT128 (v8383 (F := Ideal) c i arg2 harg2 arg3 harg3 arg5 harg5 arg6 harg6 arg9 x0 x1 x3 x4) (v8311 (F := Ideal) c i arg2 harg2 arg3 harg3 arg5 harg5 arg6 harg6 x0 x1 x3 x4)) [expT128 (v8479 (F := Ideal) c i arg2 harg2 arg3 harg3 arg5 harg5 arg6 harg6 arg9 x0 x1 x3 x4) (v8311 (F := Ideal) c i arg2 harg2 arg3 harg3 arg5 harg5 arg6 harg6 x0 x1 x3 x4), expT128 (v8576 (F := Ideal) c i arg2 harg2 arg3 harg3 arg5 harg5 arg6 harg6 arg9 x0 x1 x3 x4) (v8311 (F := Ideal) c i arg2 harg2 arg3 harg3 arg5 harg5 arg6 harg6 x0 x1 x3 x4), expT128 (v8673 (F := Ideal) c i arg2 harg2 arg3 harg3 arg5 harg5 arg6 harg6 arg9 x0 x1 x3 x4) (v8311 (F := Ideal) c i arg2 harg2 arg3 harg3 arg5 harg5 arg6 harg6 x0 x1 x3 x4), expT128 (v8770 (F := Ideal) c i arg2 harg2 arg3 harg3 arg5 harg5 arg6 harg6 arg9 x0 x1 x3 x4) (v8311 (F := Ideal) c i arg2 harg2 arg3 harg3 arg5 harg5 arg6 harg6 x0 x1 x3 x4), expT128 (v8867 (F := Ideal) c i arg2 harg2 arg3 harg3 arg5 harg5 arg6 harg6 arg9 x0 x1 x3 x4) (v8311 (F := Ideal) c i arg2 harg2 arg3 harg3 arg5 harg5 arg6 harg6 x0 x1 x3 x4)] from rfl).trans ?_
  rw [E_23_0, E_23_1, E_23_2, E_23_3, E_23_4, E_23_5]
  exact rdiv128_eq _ _ _

theorem C_23_0 : code128 (v9078 (F := Ideal) c i arg2 harg2 arg3 harg3 arg5 harg5 arg6 harg6 arg9 x0 x1 x3 x4) (v8969 (F := Ideal) c i arg2 harg2 arg3 harg3 arg5 harg5 arg6 harg6 arg9 x0 x1 x3 x4) = T128 (cd (ex (Sc i x0 x1 x3 x4))) 5 0 6 := by
  rw [Q_23_0, L_23]; exact code128_eq _ _ _ _

theorem C_23_1 : code128 (v9175 (F := Ideal) c i arg2 harg2 arg3 harg3 arg5 harg5 arg6 harg6 arg9 x0 x1 x3 x4) (v8969 (F := Ideal) c i arg2 harg2 arg3 harg3 arg5 harg5 arg6 harg6 arg9 x0 x1 x3 x4) = T128 (cd (ex (Sc i x0 x1 x3 x4))) 5 1 6 := by
  rw [Q_23_1, L_23]; exact code128_eq _ _ _ _

theorem C_23_2 : code128 (v9272 (F := Ideal) c i arg2 harg2 arg3 harg3 arg5 harg5 arg6 harg6 arg9 x0 x1 x3 x4) (v8969 (F := Ideal) c i arg2 harg2 arg3 harg3 arg5 harg5 arg6 harg6 arg9 x0 x1 x3 x4) = T128 (cd (ex (Sc i x0 x1 x3 x4))) 5 2 6 := by
  rw [Q_23_2, L_23]; exact code128_eq _ _ _ _

theorem C_23_3 : code128 (v9369 (F := Ideal) c i arg2 harg2 arg3 harg3 arg5 harg5 arg6 harg6 arg9 x0 x1 x3 x4) (v8969 (F := Ideal) c i arg2 harg2 arg3 harg3 arg5 harg5 arg6 harg6 arg9 x0 x1 x3 x4) = T128 (cd (ex (Sc i x0 x1 x3 x4))) 5 3 6 := by
  rw [Q_23_3, L_23]; exact code128_eq _ _ _ _

theorem C_23_4 : code128 (v9466 (F := Ideal) c i arg2 harg2 arg3 harg3 arg5 harg5 arg6 harg6 arg9 x0 x1 x3 x4) (v8969 (F := Ideal) c i arg2 harg2 arg3 harg3 arg5 harg5 arg6 harg6 arg9 x0 x1 x3 x4) = T128 (cd (ex (Sc i x0 x1 x3 x4))) 5 4 6 := by
  rw [Q_23_4, L_23]; exact code128_eq _ _ _ _

theorem C_23_5 : code128 (v9563 (F := Ideal) c i arg2 harg2 arg3 harg3 arg5 harg5 arg6 harg6 arg9 x0 x1 x3 x4) (v8969 (F := Ideal) c i arg2 harg2 arg3 harg3 arg5 harg5 arg6 harg6 arg9 x0 x1 x3 x4) = T128 (cd (ex (Sc i x0 x1 x3 x4))) 5 5 6 := by
  rw [Q_23_5, L_23]; exact code128_eq _ _ _ _

theorem P_23 : (v9664 (F := Ideal) c i arg2 harg2 arg3 harg3 arg5 harg5 arg6 harg6 arg9 arg10 x0 x1 x3 x4) = fun j => (cd (ex (Sc i x0 x1 x3 x4))) (6 + (j 2).val / 128) (128 * 5 + (j 2).val % 128) (j 1).val := by
  refine Eq.trans (Slab.read (f := (cd (ex (Sc i x0 x1 x3 x4)))) (i := 5) (h := 6) (n := 6) ?_ 768 (by decide) _ _) rfl
  refine Slab.next (n := 5) ?_ _ _ ?_
  rotate_left
  · intro j
    exact (congrFun ((congrArg (fun t => shapeCast S1x128x128 t shapeCasts_S128x128_S1x128x128) (C_23_5 c i arg2 harg2 arg3 harg3 arg5 harg5 arg6 harg6 arg9 x0 x1 x3 x4)).trans (store128 _ _ _ _ _)) j).trans (B128_slab _ _ _ _ _)
  refine Slab.next (n := 4) ?_ _ _ ?_
  rotate_left
  · intro j
    exact (congrFun ((congrArg (fun t => shapeCast S1x128x128 t shapeCasts_S128x128_S1x128x128) (C_23_4 c i arg2 harg2 arg3 harg3 arg5 harg5 arg6 harg6 arg9 x0 x1 x3 x4)).trans (store128 _ _ _ _ _)) j).trans (B128_slab _ _ _ _ _)
  refine Slab.next (n := 3) ?_ _ _ ?_
  rotate_left
  · intro j
    exact (congrFun ((congrArg (fun t => shapeCast S1x128x128 t shapeCasts_S128x128_S1x128x128) (C_23_3 c i arg2 harg2 arg3 harg3 arg5 harg5 arg6 harg6 arg9 x0 x1 x3 x4)).trans (store128 _ _ _ _ _)) j).trans (B128_slab _ _ _ _ _)
  refine Slab.next (n := 2) ?_ _ _ ?_
  rotate_left
  · intro j
    exact (congrFun ((congrArg (fun t => shapeCast S1x128x128 t shapeCasts_S128x128_S1x128x128) (C_23_2 c i arg2 harg2 arg3 harg3 arg5 harg5 arg6 harg6 arg9 x0 x1 x3 x4)).trans (store128 _ _ _ _ _)) j).trans (B128_slab _ _ _ _ _)
  refine Slab.next (n := 1) ?_ _ _ ?_
  rotate_left
  · intro j
    exact (congrFun ((congrArg (fun t => shapeCast S1x128x128 t shapeCasts_S128x128_S1x128x128) (C_23_1 c i arg2 harg2 arg3 harg3 arg5 harg5 arg6 harg6 arg9 x0 x1 x3 x4)).trans (store128 _ _ _ _ _)) j).trans (B128_slab _ _ _ _ _)
  refine Slab.next (n := 0) ?_ _ _ ?_
  rotate_left
  · intro j
    exact (congrFun ((congrArg (fun t => shapeCast S1x128x128 t shapeCasts_S128x128_S1x128x128) (C_23_0 c i arg2 harg2 arg3 harg3 arg5 harg5 arg6 harg6 arg9 x0 x1 x3 x4)).trans (store128 _ _ _ _ _)) j).trans (B128_slab _ _ _ _ _)
  exact Slab.nil _ _ _ _ _ _

theorem D_23 : prod128_768 (rdV 768 arg7 harg7 x5 (by decide)) (v9664 (F := Ideal) c i arg2 harg2 arg3 harg3 arg5 harg5 arg6 harg6 arg9 arg10 x0 x1 x3 x4) (omw i arg4 harg4 x2) = OT128 (Ou i x0 x1 x2 x3 x4 x5) 5 6 := by
  rw [rdV_eq, omw_eq, P_23]; exact prod128_768_eq _ _ _ _

theorem O_23_0 : (v9673 (F := Ideal) c i arg2 harg2 arg3 harg3 arg4 harg4 arg5 harg5 arg6 harg6 arg7 harg7 arg9 arg10 x0 x1 x2 x3 x4 x5) = OB (Ou i x0 x1 x2 x3 x4 x5) 5 6 := (congrArg outA128 (D_23 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Block6.lean ====
/- The tiles of query block 6 as the kernel computes them, one after the other: scores, row maxima, exponentials, row sums,
   codes and outputs, each read back from where the kernel left it. -/
module

public import proofs.«01_k».proof.Proof.Kern.Base

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg9 : Memref sig .tc .vmem S3x896x256 .f32) (arg10 : Memref sig .tc .vmem S2x896x256 .fp8e4m3)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem S_24_0 : (v8348 (F := Ideal) c i arg2 harg2 arg3 harg3 arg5 harg5 arg6 harg6 x0 x1 x3 x4) = T256 (Sc i x0 x1 x3 x4) 6 0 0 :=
  scoreN256_rd i arg2 harg2 arg3 harg3 arg5 harg5 arg6 harg6 x0 x1 x3 x4 6 0 0 (by decide) (by decide) (by decide)

theorem S_24_1 : (v8443 (F := Ideal) c i arg2 harg2 arg3 harg3 arg5 harg5 arg6 harg6 x0 x1 x3 x4) = T256 (Sc i x0 x1 x3 x4) 6 1 0 :=
  scoreN256_rd i arg2 harg2 arg3 harg3 arg5 harg5 arg6 harg6 x0 x1 x3 x4 6 1 0 (by decide) (by decide) (by decide)

theorem S_24_2 : (v8540 (F := Ideal) c i arg2 harg2 arg3 harg3 arg5 harg5 arg6 harg6 x0 x1 x3 x4) = T256 (Sc i x0 x1 x3 x4) 6 2 0 :=
  scoreN256_rd i arg2 harg2 arg3 harg3 arg5 harg5 arg6 harg6 x0 x1 x3 x4 6 2 0 (by decide) (by decide) (by decide)

theorem S_24_3 : (v8637 (F := Ideal) c i arg2 harg2 arg3 harg3 arg5 harg5 arg6 harg6 x0 x1 x3 x4) = T256 (Sc i x0 x1 x3 x4) 6 3 0 :=
  scoreN256_rd i arg2 harg2 arg3 harg3 arg5 harg5 arg6 harg6 x0 x1 x3 x4 6 3 0 (by decide) (by decide) (by decide)

theorem S_24_4 : (v8734 (F := Ideal) c i arg2 harg2 arg3 harg3 arg5 harg5 arg6 harg6 x0 x1 x3 x4) = T256 (Sc i x0 x1 x3 x4) 6 4 0 :=
  scoreN256_rd i arg2 harg2 arg3 harg3 arg5 harg5 arg6 harg6 x0 x1 x3 x4 6 4 0 (by decide) (by decide) (by decide)

theorem S_24_5 : (v8831 (F := Ideal) c i arg2 harg2 arg3 harg3 arg5 harg5 arg6 harg6 x0 x1 x3 x4) = T256 (Sc i x0 x1 x3 x4) 6 5 0 :=
  scoreN256_rd i arg2 harg2 arg3 harg3 arg5 harg5 arg6 harg6 x0 x1 x3 x4 6 5 0 (by decide) (by decide) (by decide)

theorem S_24_6 : (v8930 (F := Ideal) c i arg2 harg2 arg3 harg3 arg5 harg5 arg6 harg6 x0 x1 x3 x4) = T256 (Sc i x0 x1 x3 x4) 6 6 0 :=
  scoreD256_rd i arg2 harg2 arg3 harg3 arg5 harg5 arg6 harg6 x0 x1 x3 x4 6 0 (by decide) (by decide)

theorem R_24_0 : (v9039 (F := Ideal) c i arg2 harg2 arg3 harg3 arg5 harg5 arg6 harg6 arg9 x0 x1 x3 x4) = B256 (φ := .f32) (Sc i x0 x1 x3 x4) 6 0 0 := by
  refine Eq.trans ?_ ((congrArg (fun t => shapeCast S1x128x256 t shapeCasts_S128x256_S1x128x256) (S_24_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_24_1 : (v9135 (F := Ideal) c i arg2 harg2 arg3 harg3 arg5 harg5 arg6 harg6 arg9 x0 x1 x3 x4) = B256 (φ := .f32) (Sc i x0 x1 x3 x4) 6 1 0 := by
  refine Eq.trans ?_ ((congrArg (fun t => shapeCast S1x128x256 t shapeCasts_S128x256_S1x128x256) (S_24_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_24_2 : (v9232 (F := Ideal) c i arg2 harg2 arg3 harg3 arg5 harg5 arg6 harg6 arg9 x0 x1 x3 x4) = B256 (φ := .f32) (Sc i x0 x1 x3 x4) 6 2 0 := by
  refine Eq.trans ?_ ((congrArg (fun t => shapeCast S1x128x256 t shapeCasts_S128x256_S1x128x256) (S_24_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_24_3 : (v9329 (F := Ideal) c i arg2 harg2 arg3 harg3 arg5 harg5 arg6 harg6 arg9 x0 x1 x3 x4) = B256 (φ := .f32) (Sc i x0 x1 x3 x4) 6 3 0 := by
  refine Eq.trans ?_ ((congrArg (fun t => shapeCast S1x128x256 t shapeCasts_S128x256_S1x128x256) (S_24_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_24_4 : (v9426 (F := Ideal) c i arg2 harg2 arg3 harg3 arg5 harg5 arg6 harg6 arg9 x0 x1 x3 x4) = B256 (φ := .f32) (Sc i x0 x1 x3 x4) 6 4 0 := by
  refine Eq.trans ?_ ((congrArg (fun t => shapeCast S1x128x256 t shapeCasts_S128x256_S1x128x256) (S_24_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_24_5 : (v9523 (F := Ideal) c i arg2 harg2 arg3 harg3 arg5 harg5 arg6 harg6 arg9 x0 x1 x3 x4) = B256 (φ := .f32) (Sc i x0 x1 x3 x4) 6 5 0 := by
  refine Eq.trans ?_ ((congrArg (fun t => shapeCast S1x128x256 t shapeCasts_S128x256_S1x128x256) (S_24_5 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_24_6 : (v9622 (F := Ideal) c i arg2 harg2 arg3 harg3 arg5 harg5 arg6 harg6 arg9 x0 x1 x3 x4) = B256 (φ := .f32) (Sc i x0 x1 x3 x4) 6 6 0 := by
  refine Eq.trans ?_ ((congrArg (fun t => shapeCast S1x128x256 t shapeCasts_S128x256_S1x128x256) (S_24_6 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_24 : (v8989 (F := Ideal) c i arg2 harg2 arg3 harg3 arg5 harg5 arg6 harg6 x0 x1 x3 x4) = R256 (mx (Sc i x0 x1 x3 x4)) 6 0 := by
  refine (show _ = rmax256 (v8348 (F := Ideal) c i arg2 harg2 arg3 harg3 arg5 harg5 arg6 harg6 x0 x1 x3 x4) [(v8443 (F := Ideal) c i arg2 harg2 arg3 harg3 arg5 harg5 arg6 harg6 x0 x1 x3 x4), (v8540 (F := Ideal) c i arg2 harg2 arg3 harg3 arg5 harg5 arg6 harg6 x0 x1 x3 x4), (v8637 (F := Ideal) c i arg2 harg2 arg3 harg3 arg5 harg5 arg6 harg6 x0 x1 x3 x4), (v8734 (F := Ideal) c i arg2 harg2 arg3 harg3 arg5 harg5 arg6 harg6 x0 x1 x3 x4), (v8831 (F := Ideal) c i arg2 harg2 arg3 harg3 arg5 harg5 arg6 harg6 x0 x1 x3 x4), (v8930 (F := Ideal) c i arg2 harg2 arg3 harg3 arg5 harg5 arg6 harg6 x0 x1 x3 x4)] from rfl).trans ?_
  rw [S_24_0, S_24_1, S_24_2, S_24_3, S_24_4, S_24_5, S_24_6]
  exact rmax256_eq _ _ _

theorem E_24_0 : expT256 (v9039 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 0 0 := by
  rw [R_24_0, M_24]; exact expT256_eq _ _ _ _

theorem E_24_1 : expT256 (v9135 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 1 0 := by
  rw [R_24_1, M_24]; exact expT256_eq _ _ _ _

theorem E_24_2 : expT256 (v9232 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 2 0 := by
  rw [R_24_2, M_24]; exact expT256_eq _ _ _ _

theorem E_24_3 : expT256 (v9329 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 3 0 := by
  rw [R_24_3, M_24]; exact expT256_eq _ _ _ _

theorem E_24_4 : expT256 (v9426 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 4 0 := by
  rw [R_24_4, M_24]; exact expT256_eq _ _ _ _

theorem E_24_5 : expT256 (v9523 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 5 0 := by
  rw [R_24_5, M_24]; exact expT256_eq _ _ _ _

theorem E_24_6 : expT256 (v9622 (F := Ideal) c i arg2 harg2 arg3 harg3 arg5 harg5 arg6 harg6 arg9 x0 x1 x3 x4) (v8989 (F := Ideal) c i arg2 harg2 arg3 harg3 arg5 harg5 arg6 harg6 x0 x1 x3 x4) = T256 (ex (Sc i x0 x1 x3 x4)) 6 6 0 := by
  rw [R_24_6, M_24]; exact expT256_eq _ _ _ _

theorem Q_24_0 : (v9768 (F := Ideal) c i arg2 harg2 arg3 harg3 arg5 harg5 arg6 harg6 arg9 x0 x1 x3 x4) = B256 (φ := .f32) (ex (Sc i x0 x1 x3 x4)) 6 0 0 := by
  refine Eq.trans ?_ ((congrArg (fun t => shapeCast S1x128x256 t shapeCasts_S128x256_S1x128x256) (E_24_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_24_1 : (v9865 (F := Ideal) c i arg2 harg2 arg3 harg3 arg5 harg5 arg6 harg6 arg9 x0 x1 x3 x4) = B256 (φ := .f32) (ex (Sc i x0 x1 x3 x4)) 6 1 0 := by
  refine Eq.trans ?_ ((congrArg (fun t => shapeCast S1x128x256 t shapeCasts_S128x256_S1x128x256) (E_24_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_24_2 : (v9962 (F := Ideal) c i arg2 harg2 arg3 harg3 arg5 harg5 arg6 harg6 arg9 x0 x1 x3 x4) = B256 (φ := .f32) (ex (Sc i x0 x1 x3 x4)) 6 2 0 := by
  refine Eq.trans ?_ ((congrArg (fun t => shapeCast S1x128x256 t shapeCasts_S128x256_S1x128x256) (E_24_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_24_3 : (v10059 (F := Ideal) c i arg2 harg2 arg3 harg3 arg5 harg5 arg6 harg6 arg9 x0 x1 x3 x4) = B256 (φ := .f32) (ex (Sc i x0 x1 x3 x4)) 6 3 0 := by
  refine Eq.trans ?_ ((congrArg (fun t => shapeCast S1x128x256 t shapeCasts_S128x256_S1x128x256) (E_24_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_24_4 : (v10156 (F := Ideal) c i arg2 harg2 arg3 harg3 arg5 harg5 arg6 harg6 arg9 x0 x1 x3 x4) = B256 (φ := .f32) (ex (Sc i x0 x1 x3 x4)) 6 4 0 := by
  refine Eq.trans ?_ ((congrArg (fun t => shapeCast S1x128x256 t shapeCasts_S128x256_S1x128x256) (E_24_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_24_5 : (v10253 (F := Ideal) c i arg2 harg2 arg3 harg3 arg5 harg5 arg6 harg6 arg9 x0 x1 x3 x4) = B256 (φ := .f32) (ex (Sc i x0 x1 x3 x4)) 6 5 0 := by
  refine Eq.trans ?_ ((congrArg (fun t => shapeCast S1x128x256 t shapeCasts_S128x256_S1x128x256) (E_24_5 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_24_6 : (v10352 (F := Ideal) c i arg2 harg2 arg3 harg3 arg5 harg5 arg6 harg6 arg9 x0 x1 x3 x4) = B256 (φ := .f32) (ex (Sc i x0 x1 x3 x4)) 6 6 0 := by
  refine Eq.trans ?_ ((congrArg (fun t => shapeCast S1x128x256 t shapeCasts_S128x256_S1x128x256) (E_24_6 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_24 : (v9679 (F := Ideal) c i arg2 harg2 arg3 harg3 arg5 harg5 arg6 harg6 arg9 x0 x1 x3 x4) = R256 (rc (ex (Sc i x0 x1 x3 x4))) 6 0 := by
  refine (show _ = rdiv256 (expT256 (v9039 (F := Ideal) c i arg2 harg2 arg3 harg3 arg5 harg5 arg6 harg6 arg9 x0 x1 x3 x4) (v8989 (F := Ideal) c i arg2 harg2 arg3 harg3 arg5 harg5 arg6 harg6 x0 x1 x3 x4)) [expT256 (v9135 (F := Ideal) c i arg2 harg2 arg3 harg3 arg5 harg5 arg6 harg6 arg9 x0 x1 x3 x4) (v8989 (F := Ideal) c i arg2 harg2 arg3 harg3 arg5 harg5 arg6 harg6 x0 x1 x3 x4), expT256 (v9232 (F := Ideal) c i arg2 harg2 arg3 harg3 arg5 harg5 arg6 harg6 arg9 x0 x1 x3 x4) (v8989 (F := Ideal) c i arg2 harg2 arg3 harg3 arg5 harg5 arg6 harg6 x0 x1 x3 x4), expT256 (v9329 (F := Ideal) c i arg2 harg2 arg3 harg3 arg5 harg5 arg6 harg6 arg9 x0 x1 x3 x4) (v8989 (F := Ideal) c i arg2 harg2 arg3 harg3 arg5 harg5 arg6 harg6 x0 x1 x3 x4), expT256 (v9426 (F := Ideal) c i arg2 harg2 arg3 harg3 arg5 harg5 arg6 harg6 arg9 x0 x1 x3 x4) (v8989 (F := Ideal) c i arg2 harg2 arg3 harg3 arg5 harg5 arg6 harg6 x0 x1 x3 x4), expT256 (v9523 (F := Ideal) c i arg2 harg2 arg3 harg3 arg5 harg5 arg6 harg6 arg9 x0 x1 x3 x4) (v8989 (F := Ideal) c i arg2 harg2 arg3 harg3 arg5 harg5 arg6 harg6 x0 x1 x3 x4), expT256 (v9622 (F := Ideal) c i arg2 harg2 arg3 harg3 arg5 harg5 arg6 harg6 arg9 x0 x1 x3 x4) (v8989 (F := Ideal) c i arg2 harg2 arg3 harg3 arg5 harg5 arg6 harg6 x0 x1 x3 x4)] from rfl).trans ?_
  rw [E_24_0, E_24_1, E_24_2, E_24_3, E_24_4, E_24_5, E_24_6]
  exact rdiv256_eq _ _ _

theorem C_24_0 : code256 (v9768 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 0 0 := by
  rw [Q_24_0, L_24]; exact code256_eq _ _ _ _

theorem C_24_1 : code256 (v9865 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 1 0 := by
  rw [Q_24_1, L_24]; exact code256_eq _ _ _ _

theorem C_24_2 : code256 (v9962 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 2 0 := by
  rw [Q_24_2, L_24]; exact code256_eq _ _ _ _

theorem C_24_3 : code256 (v10059 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 3 0 := by
  rw [Q_24_3, L_24]; exact code256_eq _ _ _ _

theorem C_24_4 : code256 (v10156 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 4 0 := by
  rw [Q_24_4, L_24]; exact code256_eq _ _ _ _

theorem C_24_5 : code256 (v10253 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 5 0 := by
  rw [Q_24_5, L_24]; exact code256_eq _ _ _ _

theorem C_24_6 : code256 (v10352 (F := Ideal) c i arg2 harg2 arg3 harg3 arg5 harg5 arg6 harg6 arg9 x0 x1 x3 x4) (v9679 (F := Ideal) c i arg2 harg2 arg3 harg3 arg5 harg5 arg6 harg6 arg9 x0 x1 x3 x4) = T256 (cd (ex (Sc i x0 x1 x3 x4))) 6 6 0 := by
  rw [Q_24_6, L_24]; exact code256_eq _ _ _ _

theorem P_24 : (v10372 (F := Ideal) c i arg2 harg2 arg3 harg3 arg5 harg5 arg6 harg6 arg9 arg10 x0 x1 x3 x4) = fun j => (cd (ex (Sc i x0 x1 x3 x4))) (0 + (j 2).val / 128) (128 * 6 + (j 2).val % 128) (j 1).val := by
  refine Eq.trans (Slab.read (f := (cd (ex (Sc i x0 x1 x3 x4)))) (i := 6) (h := 0) (n := 7) ?_ 896 (by decide) _ _) rfl
  refine Slab.next (n := 6) ?_ _ _ ?_
  rotate_left
  · intro j
    exact (congrFun ((congrArg (fun t => shapeCast S1x128x256 t shapeCasts_S128x256_S1x128x256) (C_24_6 c i arg2 harg2 arg3 harg3 arg5 harg5 arg6 harg6 arg9 x0 x1 x3 x4)).trans (store256 _ _ _ _ _)) j)
  refine Slab.next (n := 5) ?_ _ _ ?_
  rotate_left
  · intro j
    exact (congrFun ((congrArg (fun t => shapeCast S1x128x256 t shapeCasts_S128x256_S1x128x256) (C_24_5 c i arg2 harg2 arg3 harg3 arg5 harg5 arg6 harg6 arg9 x0 x1 x3 x4)).trans (store256 _ _ _ _ _)) j)
  refine Slab.next (n := 4) ?_ _ _ ?_
  rotate_left
  · intro j
    exact (congrFun ((congrArg (fun t => shapeCast S1x128x256 t shapeCasts_S128x256_S1x128x256) (C_24_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_24_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_24_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_24_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_24_0 c i arg2 harg2 arg3 harg3 arg5 harg5 arg6 harg6 arg9 x0 x1 x3 x4)).trans (store256 _ _ _ _ _)) j)
  exact Slab.nil _ _ _ _ _ _

theorem D_24 : prod256_896 (rdV 896 arg7 harg7 x5 (by decide)) (v10372 (F := Ideal) c i arg2 harg2 arg3 harg3 arg5 harg5 arg6 harg6 arg9 arg10 x0 x1 x3 x4) (omw i arg4 harg4 x2) = OT256 (Ou i x0 x1 x2 x3 x4 x5) 6 0 := by
  rw [rdV_eq, omw_eq, P_24]; exact prod256_896_eq _ _ _ _

theorem O_24_0 : (v10382 (F := Ideal) c i arg2 harg2 arg3 harg3 arg4 harg4 arg5 harg5 arg6 harg6 arg7 harg7 arg9 arg10 x0 x1 x2 x3 x4 x5) = OB (Ou i x0 x1 x2 x3 x4 x5) 6 0 := (congrArg outA256 (D_24 c i arg2 harg2 arg3 harg3 arg4 harg4 arg5 harg5 arg6 harg6 arg7 harg7 arg9 arg10 x0 x1 x2 x3 x4 x5)).trans (outA256_eq _ _ _)

theorem O_24_1 : (v10387 (F := Ideal) c i arg2 harg2 arg3 harg3 arg4 harg4 arg5 harg5 arg6 harg6 arg7 harg7 arg9 arg10 x0 x1 x2 x3 x4 x5) = OB (Ou i x0 x1 x2 x3 x4 x5) 6 1 := (congrArg outB256 (D_24 c i arg2 harg2 arg3 harg3 arg4 harg4 arg5 harg5 arg6 harg6 arg7 harg7 arg9 arg10 x0 x1 x2 x3 x4 x5)).trans (outB256_eq _ _ _)

theorem S_25_0 : (v9004 (F := Ideal) c i arg2 harg2 arg3 harg3 arg5 harg5 arg6 harg6 x0 x1 x3 x4) = T256 (Sc i x0 x1 x3 x4) 6 0 2 :=
  scoreN256_rd i arg2 harg2 arg3 harg3 arg5 harg5 arg6 harg6 x0 x1 x3 x4 6 0 2 (by decide) (by decide) (by decide)

theorem S_25_1 : (v9099 (F := Ideal) c i arg2 harg2 arg3 harg3 arg5 harg5 arg6 harg6 x0 x1 x3 x4) = T256 (Sc i x0 x1 x3 x4) 6 1 2 :=
  scoreN256_rd i arg2 harg2 arg3 harg3 arg5 harg5 arg6 harg6 x0 x1 x3 x4 6 1 2 (by decide) (by decide) (by decide)

theorem S_25_2 : (v9196 (F := Ideal) c i arg2 harg2 arg3 harg3 arg5 harg5 arg6 harg6 x0 x1 x3 x4) = T256 (Sc i x0 x1 x3 x4) 6 2 2 :=
  scoreN256_rd i arg2 harg2 arg3 harg3 arg5 harg5 arg6 harg6 x0 x1 x3 x4 6 2 2 (by decide) (by decide) (by decide)

theorem S_25_3 : (v9293 (F := Ideal) c i arg2 harg2 arg3 harg3 arg5 harg5 arg6 harg6 x0 x1 x3 x4) = T256 (Sc i x0 x1 x3 x4) 6 3 2 :=
  scoreN256_rd i arg2 harg2 arg3 harg3 arg5 harg5 arg6 harg6 x0 x1 x3 x4 6 3 2 (by decide) (by decide) (by decide)

theorem S_25_4 : (v9390 (F := Ideal) c i arg2 harg2 arg3 harg3 arg5 harg5 arg6 harg6 x0 x1 x3 x4) = T256 (Sc i x0 x1 x3 x4) 6 4 2 :=
  scoreN256_rd i arg2 harg2 arg3 harg3 arg5 harg5 arg6 harg6 x0 x1 x3 x4 6 4 2 (by decide) (by decide) (by decide)

theorem S_25_5 : (v9487 (F := Ideal) c i arg2 harg2 arg3 harg3 arg5 harg5 arg6 harg6 x0 x1 x3 x4) = T256 (Sc i x0 x1 x3 x4) 6 5 2 :=
  scoreN256_rd i arg2 harg2 arg3 harg3 arg5 harg5 arg6 harg6 x0 x1 x3 x4 6 5 2 (by decide) (by decide) (by decide)

theorem S_25_6 : (v9586 (F := Ideal) c i arg2 harg2 arg3 harg3 arg5 harg5 arg6 harg6 x0 x1 x3 x4) = T256 (Sc i x0 x1 x3 x4) 6 6 2 :=
  scoreD256_rd i arg2 harg2 arg3 harg3 arg5 harg5 arg6 harg6 x0 x1 x3 x4 6 2 (by decide) (by decide)

theorem R_25_0 : (v9729 (F := Ideal) c i arg2 harg2 arg3 harg3 arg5 harg5 arg6 harg6 arg9 x0 x1 x3 x4) = B256 (φ := .f32) (Sc i x0 x1 x3 x4) 6 0 2 := by
  refine Eq.trans ?_ ((congrArg (fun t => shapeCast S1x128x256 t shapeCasts_S128x256_S1x128x256) (S_25_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_25_1 : (v9825 (F := Ideal) c i arg2 harg2 arg3 harg3 arg5 harg5 arg6 harg6 arg9 x0 x1 x3 x4) = B256 (φ := .f32) (Sc i x0 x1 x3 x4) 6 1 2 := by
  refine Eq.trans ?_ ((congrArg (fun t => shapeCast S1x128x256 t shapeCasts_S128x256_S1x128x256) (S_25_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_25_2 : (v9922 (F := Ideal) c i arg2 harg2 arg3 harg3 arg5 harg5 arg6 harg6 arg9 x0 x1 x3 x4) = B256 (φ := .f32) (Sc i x0 x1 x3 x4) 6 2 2 := by
  refine Eq.trans ?_ ((congrArg (fun t => shapeCast S1x128x256 t shapeCasts_S128x256_S1x128x256) (S_25_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_25_3 : (v10019 (F := Ideal) c i arg2 harg2 arg3 harg3 arg5 harg5 arg6 harg6 arg9 x0 x1 x3 x4) = B256 (φ := .f32) (Sc i x0 x1 x3 x4) 6 3 2 := by
  refine Eq.trans ?_ ((congrArg (fun t => shapeCast S1x128x256 t shapeCasts_S128x256_S1x128x256) (S_25_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_25_4 : (v10116 (F := Ideal) c i arg2 harg2 arg3 harg3 arg5 harg5 arg6 harg6 arg9 x0 x1 x3 x4) = B256 (φ := .f32) (Sc i x0 x1 x3 x4) 6 4 2 := by
  refine Eq.trans ?_ ((congrArg (fun t => shapeCast S1x128x256 t shapeCasts_S128x256_S1x128x256) (S_25_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_25_5 : (v10213 (F := Ideal) c i arg2 harg2 arg3 harg3 arg5 harg5 arg6 harg6 arg9 x0 x1 x3 x4) = B256 (φ := .f32) (Sc i x0 x1 x3 x4) 6 5 2 := by
  refine Eq.trans ?_ ((congrArg (fun t => shapeCast S1x128x256 t shapeCasts_S128x256_S1x128x256) (S_25_5 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_25_6 : (v10312 (F := Ideal) c i arg2 harg2 arg3 harg3 arg5 harg5 arg6 harg6 arg9 x0 x1 x3 x4) = B256 (φ := .f32) (Sc i x0 x1 x3 x4) 6 6 2 := by
  refine Eq.trans ?_ ((congrArg (fun t => shapeCast S1x128x256 t shapeCasts_S128x256_S1x128x256) (S_25_6 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_25 : (v9675 (F := Ideal) c i arg2 harg2 arg3 harg3 arg5 harg5 arg6 harg6 x0 x1 x3 x4) = R256 (mx (Sc i x0 x1 x3 x4)) 6 2 := by
  refine (show _ = rmax256 (v9004 (F := Ideal) c i arg2 harg2 arg3 harg3 arg5 harg5 arg6 harg6 x0 x1 x3 x4) [(v9099 (F := Ideal) c i arg2 harg2 arg3 harg3 arg5 harg5 arg6 harg6 x0 x1 x3 x4), (v9196 (F := Ideal) c i arg2 harg2 arg3 harg3 arg5 harg5 arg6 harg6 x0 x1 x3 x4), (v9293 (F := Ideal) c i arg2 harg2 arg3 harg3 arg5 harg5 arg6 harg6 x0 x1 x3 x4), (v9390 (F := Ideal) c i arg2 harg2 arg3 harg3 arg5 harg5 arg6 harg6 x0 x1 x3 x4), (v9487 (F := Ideal) c i arg2 harg2 arg3 harg3 arg5 harg5 arg6 harg6 x0 x1 x3 x4), (v9586 (F := Ideal) c i arg2 harg2 arg3 harg3 arg5 harg5 arg6 harg6 x0 x1 x3 x4)] from rfl).trans ?_
  rw [S_25_0, S_25_1, S_25_2, S_25_3, S_25_4, S_25_5, S_25_6]
  exact rmax256_eq _ _ _

theorem E_25_0 : expT256 (v9729 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 0 2 := by
  rw [R_25_0, M_25]; exact expT256_eq _ _ _ _

theorem E_25_1 : expT256 (v9825 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 1 2 := by
  rw [R_25_1, M_25]; exact expT256_eq _ _ _ _

theorem E_25_2 : expT256 (v9922 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 2 2 := by
  rw [R_25_2, M_25]; exact expT256_eq _ _ _ _

theorem E_25_3 : expT256 (v10019 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 3 2 := by
  rw [R_25_3, M_25]; exact expT256_eq _ _ _ _

theorem E_25_4 : expT256 (v10116 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 4 2 := by
  rw [R_25_4, M_25]; exact expT256_eq _ _ _ _

theorem E_25_5 : expT256 (v10213 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 5 2 := by
  rw [R_25_5, M_25]; exact expT256_eq _ _ _ _

theorem E_25_6 : expT256 (v10312 (F := Ideal) c i arg2 harg2 arg3 harg3 arg5 harg5 arg6 harg6 arg9 x0 x1 x3 x4) (v9675 (F := Ideal) c i arg2 harg2 arg3 harg3 arg5 harg5 arg6 harg6 x0 x1 x3 x4) = T256 (ex (Sc i x0 x1 x3 x4)) 6 6 2 := by
  rw [R_25_6, M_25]; exact expT256_eq _ _ _ _

theorem Q_25_0 : (v10468 (F := Ideal) c i arg2 harg2 arg3 harg3 arg5 harg5 arg6 harg6 arg9 x0 x1 x3 x4) = B256 (φ := .f32) (ex (Sc i x0 x1 x3 x4)) 6 0 2 := by
  refine Eq.trans ?_ ((congrArg (fun t => shapeCast S1x128x256 t shapeCasts_S128x256_S1x128x256) (E_25_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_25_1 : (v10560 (F := Ideal) c i arg2 harg2 arg3 harg3 arg5 harg5 arg6 harg6 arg9 x0 x1 x3 x4) = B256 (φ := .f32) (ex (Sc i x0 x1 x3 x4)) 6 1 2 := by
  refine Eq.trans ?_ ((congrArg (fun t => shapeCast S1x128x256 t shapeCasts_S128x256_S1x128x256) (E_25_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_25_2 : (v10652 (F := Ideal) c i arg2 harg2 arg3 harg3 arg5 harg5 arg6 harg6 arg9 x0 x1 x3 x4) = B256 (φ := .f32) (ex (Sc i x0 x1 x3 x4)) 6 2 2 := by
  refine Eq.trans ?_ ((congrArg (fun t => shapeCast S1x128x256 t shapeCasts_S128x256_S1x128x256) (E_25_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_25_3 : (v10744 (F := Ideal) c i arg2 harg2 arg3 harg3 arg5 harg5 arg6 harg6 arg9 x0 x1 x3 x4) = B256 (φ := .f32) (ex (Sc i x0 x1 x3 x4)) 6 3 2 := by
  refine Eq.trans ?_ ((congrArg (fun t => shapeCast S1x128x256 t shapeCasts_S128x256_S1x128x256) (E_25_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_25_4 : (v10836 (F := Ideal) c i arg2 harg2 arg3 harg3 arg5 harg5 arg6 harg6 arg9 x0 x1 x3 x4) = B256 (φ := .f32) (ex (Sc i x0 x1 x3 x4)) 6 4 2 := by
  refine Eq.trans ?_ ((congrArg (fun t => shapeCast S1x128x256 t shapeCasts_S128x256_S1x128x256) (E_25_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_25_5 : (v10928 (F := Ideal) c i arg2 harg2 arg3 harg3 arg5 harg5 arg6 harg6 arg9 x0 x1 x3 x4) = B256 (φ := .f32) (ex (Sc i x0 x1 x3 x4)) 6 5 2 := by
  refine Eq.trans ?_ ((congrArg (fun t => shapeCast S1x128x256 t shapeCasts_S128x256_S1x128x256) (E_25_5 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_25_6 : (v11021 (F := Ideal) c i arg2 harg2 arg3 harg3 arg5 harg5 arg6 harg6 arg9 x0 x1 x3 x4) = B256 (φ := .f32) (ex (Sc i x0 x1 x3 x4)) 6 6 2 := by
  refine Eq.trans ?_ ((congrArg (fun t => shapeCast S1x128x256 t shapeCasts_S128x256_S1x128x256) (E_25_6 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_25 : (v10369 (F := Ideal) c i arg2 harg2 arg3 harg3 arg5 harg5 arg6 harg6 arg9 x0 x1 x3 x4) = R256 (rc (ex (Sc i x0 x1 x3 x4))) 6 2 := by
  refine (show _ = rdiv256 (expT256 (v9729 (F := Ideal) c i arg2 harg2 arg3 harg3 arg5 harg5 arg6 harg6 arg9 x0 x1 x3 x4) (v9675 (F := Ideal) c i arg2 harg2 arg3 harg3 arg5 harg5 arg6 harg6 x0 x1 x3 x4)) [expT256 (v9825 (F := Ideal) c i arg2 harg2 arg3 harg3 arg5 harg5 arg6 harg6 arg9 x0 x1 x3 x4) (v9675 (F := Ideal) c i arg2 harg2 arg3 harg3 arg5 harg5 arg6 harg6 x0 x1 x3 x4), expT256 (v9922 (F := Ideal) c i arg2 harg2 arg3 harg3 arg5 harg5 arg6 harg6 arg9 x0 x1 x3 x4) (v9675 (F := Ideal) c i arg2 harg2 arg3 harg3 arg5 harg5 arg6 harg6 x0 x1 x3 x4), expT256 (v10019 (F := Ideal) c i arg2 harg2 arg3 harg3 arg5 harg5 arg6 harg6 arg9 x0 x1 x3 x4) (v9675 (F := Ideal) c i arg2 harg2 arg3 harg3 arg5 harg5 arg6 harg6 x0 x1 x3 x4), expT256 (v10116 (F := Ideal) c i arg2 harg2 arg3 harg3 arg5 harg5 arg6 harg6 arg9 x0 x1 x3 x4) (v9675 (F := Ideal) c i arg2 harg2 arg3 harg3 arg5 harg5 arg6 harg6 x0 x1 x3 x4), expT256 (v10213 (F := Ideal) c i arg2 harg2 arg3 harg3 arg5 harg5 arg6 harg6 arg9 x0 x1 x3 x4) (v9675 (F := Ideal) c i arg2 harg2 arg3 harg3 arg5 harg5 arg6 harg6 x0 x1 x3 x4), expT256 (v10312 (F := Ideal) c i arg2 harg2 arg3 harg3 arg5 harg5 arg6 harg6 arg9 x0 x1 x3 x4) (v9675 (F := Ideal) c i arg2 harg2 arg3 harg3 arg5 harg5 arg6 harg6 x0 x1 x3 x4)] from rfl).trans ?_
  rw [E_25_0, E_25_1, E_25_2, E_25_3, E_25_4, E_25_5, E_25_6]
  exact rdiv256_eq _ _ _

theorem C_25_0 : code256 (v10468 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 0 2 := by
  rw [Q_25_0, L_25]; exact code256_eq _ _ _ _

theorem C_25_1 : code256 (v10560 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 1 2 := by
  rw [Q_25_1, L_25]; exact code256_eq _ _ _ _

theorem C_25_2 : code256 (v10652 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 2 2 := by
  rw [Q_25_2, L_25]; exact code256_eq _ _ _ _

theorem C_25_3 : code256 (v10744 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 3 2 := by
  rw [Q_25_3, L_25]; exact code256_eq _ _ _ _

theorem C_25_4 : code256 (v10836 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 4 2 := by
  rw [Q_25_4, L_25]; exact code256_eq _ _ _ _

theorem C_25_5 : code256 (v10928 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 5 2 := by
  rw [Q_25_5, L_25]; exact code256_eq _ _ _ _

theorem C_25_6 : code256 (v11021 (F := Ideal) c i arg2 harg2 arg3 harg3 arg5 harg5 arg6 harg6 arg9 x0 x1 x3 x4) (v10369 (F := Ideal) c i arg2 harg2 arg3 harg3 arg5 harg5 arg6 harg6 arg9 x0 x1 x3 x4) = T256 (cd (ex (Sc i x0 x1 x3 x4))) 6 6 2 := by
  rw [Q_25_6, L_25]; exact code256_eq _ _ _ _

theorem P_25 : (v11041 (F := Ideal) c i arg2 harg2 arg3 harg3 arg5 harg5 arg6 harg6 arg9 arg10 x0 x1 x3 x4) = fun j => (cd (ex (Sc i x0 x1 x3 x4))) (2 + (j 2).val / 128) (128 * 6 + (j 2).val % 128) (j 1).val := by
  refine Eq.trans (Slab.read (f := (cd (ex (Sc i x0 x1 x3 x4)))) (i := 6) (h := 2) (n := 7) ?_ 896 (by decide) _ _) rfl
  refine Slab.next (n := 6) ?_ _ _ ?_
  rotate_left
  · intro j
    exact (congrFun ((congrArg (fun t => shapeCast S1x128x256 t shapeCasts_S128x256_S1x128x256) (C_25_6 c i arg2 harg2 arg3 harg3 arg5 harg5 arg6 harg6 arg9 x0 x1 x3 x4)).trans (store256 _ _ _ _ _)) j)
  refine Slab.next (n := 5) ?_ _ _ ?_
  rotate_left
  · intro j
    exact (congrFun ((congrArg (fun t => shapeCast S1x128x256 t shapeCasts_S128x256_S1x128x256) (C_25_5 c i arg2 harg2 arg3 harg3 arg5 harg5 arg6 harg6 arg9 x0 x1 x3 x4)).trans (store256 _ _ _ _ _)) j)
  refine Slab.next (n := 4) ?_ _ _ ?_
  rotate_left
  · intro j
    exact (congrFun ((congrArg (fun t => shapeCast S1x128x256 t shapeCasts_S128x256_S1x128x256) (C_25_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_25_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_25_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_25_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_25_0 c i arg2 harg2 arg3 harg3 arg5 harg5 arg6 harg6 arg9 x0 x1 x3 x4)).trans (store256 _ _ _ _ _)) j)
  exact Slab.nil _ _ _ _ _ _

theorem D_25 : prod256_896 (rdV 896 arg7 harg7 x5 (by decide)) (v11041 (F := Ideal) c i arg2 harg2 arg3 harg3 arg5 harg5 arg6 harg6 arg9 arg10 x0 x1 x3 x4) (omw i arg4 harg4 x2) = OT256 (Ou i x0 x1 x2 x3 x4 x5) 6 2 := by
  rw [rdV_eq, omw_eq, P_25]; exact prod256_896_eq _ _ _ _

theorem O_25_0 : (v11051 (F := Ideal) c i arg2 harg2 arg3 harg3 arg4 harg4 arg5 harg5 arg6 harg6 arg7 harg7 arg9 arg10 x0 x1 x2 x3 x4 x5) = OB (Ou i x0 x1 x2 x3 x4 x5) 6 2 := (congrArg outA256 (D_25 c i arg2 harg2 arg3 harg3 arg4 harg4 arg5 harg5 arg6 harg6 arg7 harg7 arg9 arg10 x0 x1 x2 x3 x4 x5)).trans (outA256_eq _ _ _)

theorem O_25_1 : (v11056 (F := Ideal) c i arg2 harg2 arg3 harg3 arg4 harg4 arg5 harg5 arg6 harg6 arg7 harg7 arg9 arg10 x0 x1 x2 x3 x4 x5) = OB (Ou i x0 x1 x2 x3 x4 x5) 6 3 := (congrArg outB256 (D_25 c i arg2 harg2 arg3 harg3 arg4 harg4 arg5 harg5 arg6 harg6 arg7 harg7 arg9 arg10 x0 x1 x2 x3 x4 x5)).trans (outB256_eq _ _ _)

theorem S_26_0 : (v9694 (F := Ideal) c i arg2 harg2 arg3 harg3 arg5 harg5 arg6 harg6 x0 x1 x3 x4) = T256 (Sc i x0 x1 x3 x4) 6 0 4 :=
  scoreN256_rd i arg2 harg2 arg3 harg3 arg5 harg5 arg6 harg6 x0 x1 x3 x4 6 0 4 (by decide) (by decide) (by decide)

theorem S_26_1 : (v9789 (F := Ideal) c i arg2 harg2 arg3 harg3 arg5 harg5 arg6 harg6 x0 x1 x3 x4) = T256 (Sc i x0 x1 x3 x4) 6 1 4 :=
  scoreN256_rd i arg2 harg2 arg3 harg3 arg5 harg5 arg6 harg6 x0 x1 x3 x4 6 1 4 (by decide) (by decide) (by decide)

theorem S_26_2 : (v9886 (F := Ideal) c i arg2 harg2 arg3 harg3 arg5 harg5 arg6 harg6 x0 x1 x3 x4) = T256 (Sc i x0 x1 x3 x4) 6 2 4 :=
  scoreN256_rd i arg2 harg2 arg3 harg3 arg5 harg5 arg6 harg6 x0 x1 x3 x4 6 2 4 (by decide) (by decide) (by decide)

theorem S_26_3 : (v9983 (F := Ideal) c i arg2 harg2 arg3 harg3 arg5 harg5 arg6 harg6 x0 x1 x3 x4) = T256 (Sc i x0 x1 x3 x4) 6 3 4 :=
  scoreN256_rd i arg2 harg2 arg3 harg3 arg5 harg5 arg6 harg6 x0 x1 x3 x4 6 3 4 (by decide) (by decide) (by decide)

theorem S_26_4 : (v10080 (F := Ideal) c i arg2 harg2 arg3 harg3 arg5 harg5 arg6 harg6 x0 x1 x3 x4) = T256 (Sc i x0 x1 x3 x4) 6 4 4 :=
  scoreN256_rd i arg2 harg2 arg3 harg3 arg5 harg5 arg6 harg6 x0 x1 x3 x4 6 4 4 (by decide) (by decide) (by decide)

theorem S_26_5 : (v10177 (F := Ideal) c i arg2 harg2 arg3 harg3 arg5 harg5 arg6 harg6 x0 x1 x3 x4) = T256 (Sc i x0 x1 x3 x4) 6 5 4 :=
  scoreN256_rd i arg2 harg2 arg3 harg3 arg5 harg5 arg6 harg6 x0 x1 x3 x4 6 5 4 (by decide) (by decide) (by decide)

theorem S_26_6 : (v10276 (F := Ideal) c i arg2 harg2 arg3 harg3 arg5 harg5 arg6 harg6 x0 x1 x3 x4) = T256 (Sc i x0 x1 x3 x4) 6 6 4 :=
  scoreD256_rd i arg2 harg2 arg3 harg3 arg5 harg5 arg6 harg6 x0 x1 x3 x4 6 4 (by decide) (by decide)

theorem R_26_0 : (v10429 (F := Ideal) c i arg2 harg2 arg3 harg3 arg5 harg5 arg6 harg6 arg9 x0 x1 x3 x4) = B256 (φ := .f32) (Sc i x0 x1 x3 x4) 6 0 4 := by
  refine Eq.trans ?_ ((congrArg (fun t => shapeCast S1x128x256 t shapeCasts_S128x256_S1x128x256) (S_26_0 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_26_1 : (v10520 (F := Ideal) c i arg2 harg2 arg3 harg3 arg5 harg5 arg6 harg6 arg9 x0 x1 x3 x4) = B256 (φ := .f32) (Sc i x0 x1 x3 x4) 6 1 4 := by
  refine Eq.trans ?_ ((congrArg (fun t => shapeCast S1x128x256 t shapeCasts_S128x256_S1x128x256) (S_26_1 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_26_2 : (v10612 (F := Ideal) c i arg2 harg2 arg3 harg3 arg5 harg5 arg6 harg6 arg9 x0 x1 x3 x4) = B256 (φ := .f32) (Sc i x0 x1 x3 x4) 6 2 4 := by
  refine Eq.trans ?_ ((congrArg (fun t => shapeCast S1x128x256 t shapeCasts_S128x256_S1x128x256) (S_26_2 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_26_3 : (v10704 (F := Ideal) c i arg2 harg2 arg3 harg3 arg5 harg5 arg6 harg6 arg9 x0 x1 x3 x4) = B256 (φ := .f32) (Sc i x0 x1 x3 x4) 6 3 4 := by
  refine Eq.trans ?_ ((congrArg (fun t => shapeCast S1x128x256 t shapeCasts_S128x256_S1x128x256) (S_26_3 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_26_4 : (v10796 (F := Ideal) c i arg2 harg2 arg3 harg3 arg5 harg5 arg6 harg6 arg9 x0 x1 x3 x4) = B256 (φ := .f32) (Sc i x0 x1 x3 x4) 6 4 4 := by
  refine Eq.trans ?_ ((congrArg (fun t => shapeCast S1x128x256 t shapeCasts_S128x256_S1x128x256) (S_26_4 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_26_5 : (v10888 (F := Ideal) c i arg2 harg2 arg3 harg3 arg5 harg5 arg6 harg6 arg9 x0 x1 x3 x4) = B256 (φ := .f32) (Sc i x0 x1 x3 x4) 6 5 4 := by
  refine Eq.trans ?_ ((congrArg (fun t => shapeCast S1x128x256 t shapeCasts_S128x256_S1x128x256) (S_26_5 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_26_6 : (v10981 (F := Ideal) c i arg2 harg2 arg3 harg3 arg5 harg5 arg6 harg6 arg9 x0 x1 x3 x4) = B256 (φ := .f32) (Sc i x0 x1 x3 x4) 6 6 4 := by
  refine Eq.trans ?_ ((congrArg (fun t => shapeCast S1x128x256 t shapeCasts_S128x256_S1x128x256) (S_26_6 c i arg2 harg2 arg3 harg3 arg5 harg5 arg6 harg6 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_26 : (v10365 (F := Ideal) c i arg2 harg2 arg3 harg3 arg5 harg5 arg6 harg6 x0 x1 x3 x4) = R256 (mx (Sc i x0 x1 x3 x4)) 6 4 := by
  refine (show _ = rmax256 (v9694 (F := Ideal) c i arg2 harg2 arg3 harg3 arg5 harg5 arg6 harg6 x0 x1 x3 x4) [(v9789 (F := Ideal) c i arg2 harg2 arg3 harg3 arg5 harg5 arg6 harg6 x0 x1 x3 x4), (v9886 (F := Ideal) c i arg2 harg2 arg3 harg3 arg5 harg5 arg6 harg6 x0 x1 x3 x4), (v9983 (F := Ideal) c i arg2 harg2 arg3 harg3 arg5 harg5 arg6 harg6 x0 x1 x3 x4), (v10080 (F := Ideal) c i arg2 harg2 arg3 harg3 arg5 harg5 arg6 harg6 x0 x1 x3 x4), (v10177 (F := Ideal) c i arg2 harg2 arg3 harg3 arg5 harg5 arg6 harg6 x0 x1 x3 x4), (v10276 (F := Ideal) c i arg2 harg2 arg3 harg3 arg5 harg5 arg6 harg6 x0 x1 x3 x4)] from rfl).trans ?_
  rw [S_26_0, S_26_1, S_26_2, S_26_3, S_26_4, S_26_5, S_26_6]
  exact rmax256_eq _ _ _

theorem E_26_0 : expT256 (v10429 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 0 4 := by
  rw [R_26_0, M_26]; exact expT256_eq _ _ _ _

theorem E_26_1 : expT256 (v10520 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 1 4 := by
  rw [R_26_1, M_26]; exact expT256_eq _ _ _ _

theorem E_26_2 : expT256 (v10612 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 2 4 := by
  rw [R_26_2, M_26]; exact expT256_eq _ _ _ _

theorem E_26_3 : expT256 (v10704 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 3 4 := by
  rw [R_26_3, M_26]; exact expT256_eq _ _ _ _

theorem E_26_4 : expT256 (v10796 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 4 4 := by
  rw [R_26_4, M_26]; exact expT256_eq _ _ _ _

theorem E_26_5 : expT256 (v10888 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 5 4 := by
  rw [R_26_5, M_26]; exact expT256_eq _ _ _ _

theorem E_26_6 : expT256 (v10981 (F := Ideal) c i arg2 harg2 arg3 harg3 arg5 harg5 arg6 harg6 arg9 x0 x1 x3 x4) (v10365 (F := Ideal) c i arg2 harg2 arg3 harg3 arg5 harg5 arg6 harg6 x0 x1 x3 x4) = T256 (ex (Sc i x0 x1 x3 x4)) 6 6 4 := by
  rw [R_26_6, M_26]; exact expT256_eq _ _ _ _

theorem Q_26_0 : (v11096 (F := Ideal) c i arg2 harg2 arg3 harg3 arg5 harg5 arg6 harg6 arg9 x0 x1 x3 x4) = B256 (φ := .f32) (ex (Sc i x0 x1 x3 x4)) 6 0 4 := by
  refine Eq.trans ?_ ((congrArg (fun t => shapeCast S1x128x256 t shapeCasts_S128x256_S1x128x256) (E_26_0 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_26_1 : (v11148 (F := Ideal) c i arg2 harg2 arg3 harg3 arg5 harg5 arg6 harg6 arg9 x0 x1 x3 x4) = B256 (φ := .f32) (ex (Sc i x0 x1 x3 x4)) 6 1 4 := by
  refine Eq.trans ?_ ((congrArg (fun t => shapeCast S1x128x256 t shapeCasts_S128x256_S1x128x256) (E_26_1 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_26_2 : (v11200 (F := Ideal) c i arg2 harg2 arg3 harg3 arg5 harg5 arg6 harg6 arg9 x0 x1 x3 x4) = B256 (φ := .f32) (ex (Sc i x0 x1 x3 x4)) 6 2 4 := by
  refine Eq.trans ?_ ((congrArg (fun t => shapeCast S1x128x256 t shapeCasts_S128x256_S1x128x256) (E_26_2 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_26_3 : (v11252 (F := Ideal) c i arg2 harg2 arg3 harg3 arg5 harg5 arg6 harg6 arg9 x0 x1 x3 x4) = B256 (φ := .f32) (ex (Sc i x0 x1 x3 x4)) 6 3 4 := by
  refine Eq.trans ?_ ((congrArg (fun t => shapeCast S1x128x256 t shapeCasts_S128x256_S1x128x256) (E_26_3 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_26_4 : (v11304 (F := Ideal) c i arg2 harg2 arg3 harg3 arg5 harg5 arg6 harg6 arg9 x0 x1 x3 x4) = B256 (φ := .f32) (ex (Sc i x0 x1 x3 x4)) 6 4 4 := by
  refine Eq.trans ?_ ((congrArg (fun t => shapeCast S1x128x256 t shapeCasts_S128x256_S1x128x256) (E_26_4 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_26_5 : (v11356 (F := Ideal) c i arg2 harg2 arg3 harg3 arg5 harg5 arg6 harg6 arg9 x0 x1 x3 x4) = B256 (φ := .f32) (ex (Sc i x0 x1 x3 x4)) 6 5 4 := by
  refine Eq.trans ?_ ((congrArg (fun t => shapeCast S1x128x256 t shapeCasts_S128x256_S1x128x256) (E_26_5 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_26_6 : (v11408 (F := Ideal) c i arg2 harg2 arg3 harg3 arg5 harg5 arg6 harg6 arg9 x0 x1 x3 x4) = B256 (φ := .f32) (ex (Sc i x0 x1 x3 x4)) 6 6 4 := by
  refine Eq.trans ?_ ((congrArg (fun t => shapeCast S1x128x256 t shapeCasts_S128x256_S1x128x256) (E_26_6 c i arg2 harg2 arg3 harg3 arg5 harg5 arg6 harg6 arg9 x0 x1 x3 x4)).trans (store256 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem L_26 : (v11038 (F := Ideal) c i arg2 harg2 arg3 harg3 arg5 harg5 arg6 harg6 arg9 x0 x1 x3 x4) = R256 (rc (ex (Sc i x0 x1 x3 x4))) 6 4 := by
  refine (show _ = rdiv256 (expT256 (v10429 (F := Ideal) c i arg2 harg2 arg3 harg3 arg5 harg5 arg6 harg6 arg9 x0 x1 x3 x4) (v10365 (F := Ideal) c i arg2 harg2 arg3 harg3 arg5 harg5 arg6 harg6 x0 x1 x3 x4)) [expT256 (v10520 (F := Ideal) c i arg2 harg2 arg3 harg3 arg5 harg5 arg6 harg6 arg9 x0 x1 x3 x4) (v10365 (F := Ideal) c i arg2 harg2 arg3 harg3 arg5 harg5 arg6 harg6 x0 x1 x3 x4), expT256 (v10612 (F := Ideal) c i arg2 harg2 arg3 harg3 arg5 harg5 arg6 harg6 arg9 x0 x1 x3 x4) (v10365 (F := Ideal) c i arg2 harg2 arg3 harg3 arg5 harg5 arg6 harg6 x0 x1 x3 x4), expT256 (v10704 (F := Ideal) c i arg2 harg2 arg3 harg3 arg5 harg5 arg6 harg6 arg9 x0 x1 x3 x4) (v10365 (F := Ideal) c i arg2 harg2 arg3 harg3 arg5 harg5 arg6 harg6 x0 x1 x3 x4), expT256 (v10796 (F := Ideal) c i arg2 harg2 arg3 harg3 arg5 harg5 arg6 harg6 arg9 x0 x1 x3 x4) (v10365 (F := Ideal) c i arg2 harg2 arg3 harg3 arg5 harg5 arg6 harg6 x0 x1 x3 x4), expT256 (v10888 (F := Ideal) c i arg2 harg2 arg3 harg3 arg5 harg5 arg6 harg6 arg9 x0 x1 x3 x4) (v10365 (F := Ideal) c i arg2 harg2 arg3 harg3 arg5 harg5 arg6 harg6 x0 x1 x3 x4), expT256 (v10981 (F := Ideal) c i arg2 harg2 arg3 harg3 arg5 harg5 arg6 harg6 arg9 x0 x1 x3 x4) (v10365 (F := Ideal) c i arg2 harg2 arg3 harg3 arg5 harg5 arg6 harg6 x0 x1 x3 x4)] from rfl).trans ?_
  rw [E_26_0, E_26_1, E_26_2, E_26_3, E_26_4, E_26_5, E_26_6]
  exact rdiv256_eq _ _ _

theorem C_26_0 : code256 (v11096 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 0 4 := by
  rw [Q_26_0, L_26]; exact code256_eq _ _ _ _

theorem C_26_1 : code256 (v11148 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 1 4 := by
  rw [Q_26_1, L_26]; exact code256_eq _ _ _ _

theorem C_26_2 : code256 (v11200 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 2 4 := by
  rw [Q_26_2, L_26]; exact code256_eq _ _ _ _

theorem C_26_3 : code256 (v11252 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 3 4 := by
  rw [Q_26_3, L_26]; exact code256_eq _ _ _ _

theorem C_26_4 : code256 (v11304 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 4 4 := by
  rw [Q_26_4, L_26]; exact code256_eq _ _ _ _

theorem C_26_5 : code256 (v11356 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 5 4 := by
  rw [Q_26_5, L_26]; exact code256_eq _ _ _ _

theorem C_26_6 : code256 (v11408 (F := Ideal) c i arg2 harg2 arg3 harg3 arg5 harg5 arg6 harg6 arg9 x0 x1 x3 x4) (v11038 (F := Ideal) c i arg2 harg2 arg3 harg3 arg5 harg5 arg6 harg6 arg9 x0 x1 x3 x4) = T256 (cd (ex (Sc i x0 x1 x3 x4))) 6 6 4 := by
  rw [Q_26_6, L_26]; exact code256_eq _ _ _ _

theorem P_26 : (v11426 (F := Ideal) c i arg2 harg2 arg3 harg3 arg5 harg5 arg6 harg6 arg9 arg10 x0 x1 x3 x4) = fun j => (cd (ex (Sc i x0 x1 x3 x4))) (4 + (j 2).val / 128) (128 * 6 + (j 2).val % 128) (j 1).val := by
  refine Eq.trans (Slab.read (f := (cd (ex (Sc i x0 x1 x3 x4)))) (i := 6) (h := 4) (n := 7) ?_ 896 (by decide) _ _) rfl
  refine Slab.next (n := 6) ?_ _ _ ?_
  rotate_left
  · intro j
    exact (congrFun ((congrArg (fun t => shapeCast S1x128x256 t shapeCasts_S128x256_S1x128x256) (C_26_6 c i arg2 harg2 arg3 harg3 arg5 harg5 arg6 harg6 arg9 x0 x1 x3 x4)).trans (store256 _ _ _ _ _)) j)
  refine Slab.next (n := 5) ?_ _ _ ?_
  rotate_left
  · intro j
    exact (congrFun ((congrArg (fun t => shapeCast S1x128x256 t shapeCasts_S128x256_S1x128x256) (C_26_5 c i arg2 harg2 arg3 harg3 arg5 harg5 arg6 harg6 arg9 x0 x1 x3 x4)).trans (store256 _ _ _ _ _)) j)
  refine Slab.next (n := 4) ?_ _ _ ?_
  rotate_left
  · intro j
    exact (congrFun ((congrArg (fun t => shapeCast S1x128x256 t shapeCasts_S128x256_S1x128x256) (C_26_4 c i arg2 harg2 arg3 harg3 arg5 harg5 arg6 harg6 arg9 x0 x1 x3 x4)).trans (store256 _ _ _ _ _)) j)
  refine Slab.next (n := 3) ?_ _ _ ?_
  rotate_left
  · intro j
    exact (congrFun ((congrArg (fun t => shapeCast S1x128x256 t shapeCasts_S128x256_S1x128x256) (C_26_3 c i arg2 harg2 arg3 harg3 arg5 harg5 arg6 harg6 arg9 x0 x1 x3 x4)).trans (store256 _ _ _ _ _)) j)
  refine Slab.next (n := 2) ?_ _ _ ?_
  rotate_left
  · intro j
    exact (congrFun ((congrArg (fun t => shapeCast S1x128x256 t shapeCasts_S128x256_S1x128x256) (C_26_2 c i arg2 harg2 arg3 harg3 arg5 harg5 arg6 harg6 arg9 x0 x1 x3 x4)).trans (store256 _ _ _ _ _)) j)
  refine Slab.next (n := 1) ?_ _ _ ?_
  rotate_left
  · intro j
    exact (congrFun ((congrArg (fun t => shapeCast S1x128x256 t shapeCasts_S128x256_S1x128x256) (C_26_1 c i arg2 harg2 arg3 harg3 arg5 harg5 arg6 harg6 arg9 x0 x1 x3 x4)).trans (store256 _ _ _ _ _)) j)
  refine Slab.next (n := 0) ?_ _ _ ?_
  rotate_left
  · intro j
    exact (congrFun ((congrArg (fun t => shapeCast S1x128x256 t shapeCasts_S128x256_S1x128x256) (C_26_0 c i arg2 harg2 arg3 harg3 arg5 harg5 arg6 harg6 arg9 x0 x1 x3 x4)).trans (store256 _ _ _ _ _)) j)
  exact Slab.nil _ _ _ _ _ _

theorem D_26 : prod256_896 (rdV 896 arg7 harg7 x5 (by decide)) (v11426 (F := Ideal) c i arg2 harg2 arg3 harg3 arg5 harg5 arg6 harg6 arg9 arg10 x0 x1 x3 x4) (omw i arg4 harg4 x2) = OT256 (Ou i x0 x1 x2 x3 x4 x5) 6 4 := by
  rw [rdV_eq, omw_eq, P_26]; exact prod256_896_eq _ _ _ _

theorem O_26_0 : k0_pay2010 (F := Ideal) (r_6 (F := Ideal) c i arg4 harg4 x2) (View.readAt (Elt Ideal) arg7.view (Rect.unit (s := S1x1x128x896) ![0, 0, 0, 0] ![1, 1, 128, 896] inb_S1x1x128x896_S1x1x128x896_0_0_0_0).toLoadRect (harg7.unread x5)) (v11426 (F := Ideal) c i arg2 harg2 arg3 harg3 arg5 harg5 arg6 harg6 arg9 arg10 x0 x1 x3 x4) = OB (Ou i x0 x1 x2 x3 x4 x5) 6 4 := (congrArg outA256 (D_26 c i arg2 harg2 arg3 harg3 arg4 harg4 arg5 harg5 arg6 harg6 arg7 harg7 arg9 arg10 x0 x1 x2 x3 x4 x5)).trans (outA256_eq _ _ _)

theorem O_26_1 : k0_pay2011 (F := Ideal) (r_6 (F := Ideal) c i arg4 harg4 x2) (View.readAt (Elt Ideal) arg7.view (Rect.unit (s := S1x1x128x896) ![0, 0, 0, 0] ![1, 1, 128, 896] inb_S1x1x128x896_S1x1x128x896_0_0_0_0).toLoadRect (harg7.unread x5)) (v11426 (F := Ideal) c i arg2 harg2 arg3 harg3 arg5 harg5 arg6 harg6 arg9 arg10 x0 x1 x3 x4) = OB (Ou i x0 x1 x2 x3 x4 x5) 6 5 := (congrArg outB256 (D_26 c i arg2 harg2 arg3 harg3 arg4 harg4 arg5 harg5 arg6 harg6 arg7 harg7 arg9 arg10 x0 x1 x2 x3 x4 x5)).trans (outB256_eq _ _ _)

theorem S_27_0 : (v10394 (F := Ideal) c i arg2 harg2 arg3 harg3 arg5 harg5 arg6 harg6 x0 x1 x3 x4) = T128 (Sc i x0 x1 x3 x4) 6 0 6 :=
  scoreN128_rd i arg2 harg2 arg3 harg3 arg5 harg5 arg6 harg6 x0 x1 x3 x4 6 0 6 (by decide) (by decide) (by decide)

theorem S_27_1 : (v10484 (F := Ideal) c i arg2 harg2 arg3 harg3 arg5 harg5 arg6 harg6 x0 x1 x3 x4) = T128 (Sc i x0 x1 x3 x4) 6 1 6 :=
  scoreN128_rd i arg2 harg2 arg3 harg3 arg5 harg5 arg6 harg6 x0 x1 x3 x4 6 1 6 (by decide) (by decide) (by decide)

theorem S_27_2 : (v10576 (F := Ideal) c i arg2 harg2 arg3 harg3 arg5 harg5 arg6 harg6 x0 x1 x3 x4) = T128 (Sc i x0 x1 x3 x4) 6 2 6 :=
  scoreN128_rd i arg2 harg2 arg3 harg3 arg5 harg5 arg6 harg6 x0 x1 x3 x4 6 2 6 (by decide) (by decide) (by decide)

theorem S_27_3 : (v10668 (F := Ideal) c i arg2 harg2 arg3 harg3 arg5 harg5 arg6 harg6 x0 x1 x3 x4) = T128 (Sc i x0 x1 x3 x4) 6 3 6 :=
  scoreN128_rd i arg2 harg2 arg3 harg3 arg5 harg5 arg6 harg6 x0 x1 x3 x4 6 3 6 (by decide) (by decide) (by decide)

theorem S_27_4 : (v10760 (F := Ideal) c i arg2 harg2 arg3 harg3 arg5 harg5 arg6 harg6 x0 x1 x3 x4) = T128 (Sc i x0 x1 x3 x4) 6 4 6 :=
  scoreN128_rd i arg2 harg2 arg3 harg3 arg5 harg5 arg6 harg6 x0 x1 x3 x4 6 4 6 (by decide) (by decide) (by decide)

theorem S_27_5 : (v10852 (F := Ideal) c i arg2 harg2 arg3 harg3 arg5 harg5 arg6 harg6 x0 x1 x3 x4) = T128 (Sc i x0 x1 x3 x4) 6 5 6 :=
  scoreN128_rd i arg2 harg2 arg3 harg3 arg5 harg5 arg6 harg6 x0 x1 x3 x4 6 5 6 (by decide) (by decide) (by decide)

theorem S_27_6 : (v10945 (F := Ideal) c i arg2 harg2 arg3 harg3 arg5 harg5 arg6 harg6 x0 x1 x3 x4) = T128 (Sc i x0 x1 x3 x4) 6 6 6 :=
  scoreD128_rd i arg2 harg2 arg3 harg3 arg5 harg5 arg6 harg6 x0 x1 x3 x4 6 6 (by decide) (by decide)

theorem R_27_0 : (v11057 (F := Ideal) c i arg2 harg2 arg3 harg3 arg5 harg5 arg6 harg6 arg9 x0 x1 x3 x4) = B128 (φ := .f32) (Sc i x0 x1 x3 x4) 6 0 6 := by
  refine Eq.trans ?_ ((congrArg (fun t => shapeCast S1x128x128 t shapeCasts_S128x128_S1x128x128) (S_27_0 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_27_1 : (v11108 (F := Ideal) c i arg2 harg2 arg3 harg3 arg5 harg5 arg6 harg6 arg9 x0 x1 x3 x4) = B128 (φ := .f32) (Sc i x0 x1 x3 x4) 6 1 6 := by
  refine Eq.trans ?_ ((congrArg (fun t => shapeCast S1x128x128 t shapeCasts_S128x128_S1x128x128) (S_27_1 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_27_2 : (v11160 (F := Ideal) c i arg2 harg2 arg3 harg3 arg5 harg5 arg6 harg6 arg9 x0 x1 x3 x4) = B128 (φ := .f32) (Sc i x0 x1 x3 x4) 6 2 6 := by
  refine Eq.trans ?_ ((congrArg (fun t => shapeCast S1x128x128 t shapeCasts_S128x128_S1x128x128) (S_27_2 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_27_3 : (v11212 (F := Ideal) c i arg2 harg2 arg3 harg3 arg5 harg5 arg6 harg6 arg9 x0 x1 x3 x4) = B128 (φ := .f32) (Sc i x0 x1 x3 x4) 6 3 6 := by
  refine Eq.trans ?_ ((congrArg (fun t => shapeCast S1x128x128 t shapeCasts_S128x128_S1x128x128) (S_27_3 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_27_4 : (v11264 (F := Ideal) c i arg2 harg2 arg3 harg3 arg5 harg5 arg6 harg6 arg9 x0 x1 x3 x4) = B128 (φ := .f32) (Sc i x0 x1 x3 x4) 6 4 6 := by
  refine Eq.trans ?_ ((congrArg (fun t => shapeCast S1x128x128 t shapeCasts_S128x128_S1x128x128) (S_27_4 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_27_5 : (v11316 (F := Ideal) c i arg2 harg2 arg3 harg3 arg5 harg5 arg6 harg6 arg9 x0 x1 x3 x4) = B128 (φ := .f32) (Sc i x0 x1 x3 x4) 6 5 6 := by
  refine Eq.trans ?_ ((congrArg (fun t => shapeCast S1x128x128 t shapeCasts_S128x128_S1x128x128) (S_27_5 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem R_27_6 : (v11368 (F := Ideal) c i arg2 harg2 arg3 harg3 arg5 harg5 arg6 harg6 arg9 x0 x1 x3 x4) = B128 (φ := .f32) (Sc i x0 x1 x3 x4) 6 6 6 := by
  refine Eq.trans ?_ ((congrArg (fun t => shapeCast S1x128x128 t shapeCasts_S128x128_S1x128x128) (S_27_6 c i arg2 harg2 arg3 harg3 arg5 harg5 arg6 harg6 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem M_27 : (v11034 (F := Ideal) c i arg2 harg2 arg3 harg3 arg5 harg5 arg6 harg6 x0 x1 x3 x4) = R128 (mx (Sc i x0 x1 x3 x4)) 6 6 := by
  refine (show _ = rmax128 (v10394 (F := Ideal) c i arg2 harg2 arg3 harg3 arg5 harg5 arg6 harg6 x0 x1 x3 x4) [(v10484 (F := Ideal) c i arg2 harg2 arg3 harg3 arg5 harg5 arg6 harg6 x0 x1 x3 x4), (v10576 (F := Ideal) c i arg2 harg2 arg3 harg3 arg5 harg5 arg6 harg6 x0 x1 x3 x4), (v10668 (F := Ideal) c i arg2 harg2 arg3 harg3 arg5 harg5 arg6 harg6 x0 x1 x3 x4), (v10760 (F := Ideal) c i arg2 harg2 arg3 harg3 arg5 harg5 arg6 harg6 x0 x1 x3 x4), (v10852 (F := Ideal) c i arg2 harg2 arg3 harg3 arg5 harg5 arg6 harg6 x0 x1 x3 x4), (v10945 (F := Ideal) c i arg2 harg2 arg3 harg3 arg5 harg5 arg6 harg6 x0 x1 x3 x4)] from rfl).trans ?_
  rw [S_27_0, S_27_1, S_27_2, S_27_3, S_27_4, S_27_5, S_27_6]
  exact rmax128_eq _ _ _

theorem E_27_0 : expT128 (v11057 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 0 6 := by
  rw [R_27_0, M_27]; exact expT128_eq _ _ _ _

theorem E_27_1 : expT128 (v11108 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 1 6 := by
  rw [R_27_1, M_27]; exact expT128_eq _ _ _ _

theorem E_27_2 : expT128 (v11160 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 2 6 := by
  rw [R_27_2, M_27]; exact expT128_eq _ _ _ _

theorem E_27_3 : expT128 (v11212 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 3 6 := by
  rw [R_27_3, M_27]; exact expT128_eq _ _ _ _

theorem E_27_4 : expT128 (v11264 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 4 6 := by
  rw [R_27_4, M_27]; exact expT128_eq _ _ _ _

theorem E_27_5 : expT128 (v11316 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 5 6 := by
  rw [R_27_5, M_27]; exact expT128_eq _ _ _ _

theorem E_27_6 : expT128 (v11368 (F := Ideal) c i arg2 harg2 arg3 harg3 arg5 harg5 arg6 harg6 arg9 x0 x1 x3 x4) (v11034 (F := Ideal) c i arg2 harg2 arg3 harg3 arg5 harg5 arg6 harg6 x0 x1 x3 x4) = T128 (ex (Sc i x0 x1 x3 x4)) 6 6 6 := by
  rw [R_27_6, M_27]; exact expT128_eq _ _ _ _

theorem Q_27_0 : (v11442 (F := Ideal) c i arg2 harg2 arg3 harg3 arg5 harg5 arg6 harg6 arg9 x0 x1 x3 x4) = B128 (φ := .f32) (ex (Sc i x0 x1 x3 x4)) 6 0 6 := by
  refine Eq.trans ?_ ((congrArg (fun t => shapeCast S1x128x128 t shapeCasts_S128x128_S1x128x128) (E_27_0 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_27_1 : (v11454 (F := Ideal) c i arg2 harg2 arg3 harg3 arg5 harg5 arg6 harg6 arg9 x0 x1 x3 x4) = B128 (φ := .f32) (ex (Sc i x0 x1 x3 x4)) 6 1 6 := by
  refine Eq.trans ?_ ((congrArg (fun t => shapeCast S1x128x128 t shapeCasts_S128x128_S1x128x128) (E_27_1 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_27_2 : (v11466 (F := Ideal) c i arg2 harg2 arg3 harg3 arg5 harg5 arg6 harg6 arg9 x0 x1 x3 x4) = B128 (φ := .f32) (ex (Sc i x0 x1 x3 x4)) 6 2 6 := by
  refine Eq.trans ?_ ((congrArg (fun t => shapeCast S1x128x128 t shapeCasts_S128x128_S1x128x128) (E_27_2 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_27_3 : (v11478 (F := Ideal) c i arg2 harg2 arg3 harg3 arg5 harg5 arg6 harg6 arg9 x0 x1 x3 x4) = B128 (φ := .f32) (ex (Sc i x0 x1 x3 x4)) 6 3 6 := by
  refine Eq.trans ?_ ((congrArg (fun t => shapeCast S1x128x128 t shapeCasts_S128x128_S1x128x128) (E_27_3 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem Q_27_4 : (v11490 (F := Ideal) c i arg2 harg2 arg3 harg3 arg5 harg5 arg6 harg6 arg9 x0 x1 x3 x4) = B128 (φ := .f32) (ex (Sc i x0 x1 x3 x4)) 6 4 6 := by
  refine Eq.trans ?_ ((congrArg (fun t => shapeCast S1x128x128 t shapeCasts_S128x128_S1x128x128) (E_27_4 c i arg2 harg2 arg3 harg3 arg5 harg5 arg6 harg6 arg9 x0 x1 x3 x4)).trans (store128 _ _ _ _ _))
  refine (View.readCov_skip _ _ _ _ _ (by decide)).trans ?_
  refine (View.readCov_skip _ _ _ _ _ (by decide)).trans ?_
  exact View.readCov_cons_toLoadRect _ _ _ _

theorem Q_27_5 : (v11502 (F := Ideal) c i arg2 harg2 arg3 harg3 arg5 harg5 arg6 harg6 arg9 x0 x1 x3 x4) = B128 (φ := .f32) (ex (Sc i x0 x1 x3 x4)) 6 5 6 := by
  refine Eq.trans ?_ ((congrArg (fun t => shapeCast S1x128x128 t shapeCasts_S128x128_S1x128x128) (E_27_5 c i arg2 harg2 arg3 harg3 arg5 harg5 arg6 harg6 arg9 x0 x1 x3 x4)).trans (store128 _ _ _ _ _))
  refine (View.readCov_skip _ _ _ _ _ (by decide)).trans ?_
  exact View.readCov_cons_toLoadRect _ _ _ _

theorem Q_27_6 : (v11514 (F := Ideal) c i arg2 harg2 arg3 harg3 arg5 harg5 arg6 harg6 arg9 x0 x1 x3 x4) = B128 (φ := .f32) (ex (Sc i x0 x1 x3 x4)) 6 6 6 := by
  refine Eq.trans ?_ ((congrArg (fun t => shapeCast S1x128x128 t shapeCasts_S128x128_S1x128x128) (E_27_6 c i arg2 harg2 arg3 harg3 arg5 harg5 arg6 harg6 arg9 x0 x1 x3 x4)).trans (store128 _ _ _ _ _))
  exact View.readCov_cons_toLoadRect _ _ _ _

theorem L_27 : (r_56 (F := Ideal) c i arg2 harg2 arg3 harg3 arg5 harg5 arg6 harg6 arg9 x0 x1 x3 x4) = R128 (rc (ex (Sc i x0 x1 x3 x4))) 6 6 := by
  refine (show _ = rdiv128 (expT128 (v11057 (F := Ideal) c i arg2 harg2 arg3 harg3 arg5 harg5 arg6 harg6 arg9 x0 x1 x3 x4) (v11034 (F := Ideal) c i arg2 harg2 arg3 harg3 arg5 harg5 arg6 harg6 x0 x1 x3 x4)) [expT128 (v11108 (F := Ideal) c i arg2 harg2 arg3 harg3 arg5 harg5 arg6 harg6 arg9 x0 x1 x3 x4) (v11034 (F := Ideal) c i arg2 harg2 arg3 harg3 arg5 harg5 arg6 harg6 x0 x1 x3 x4), expT128 (v11160 (F := Ideal) c i arg2 harg2 arg3 harg3 arg5 harg5 arg6 harg6 arg9 x0 x1 x3 x4) (v11034 (F := Ideal) c i arg2 harg2 arg3 harg3 arg5 harg5 arg6 harg6 x0 x1 x3 x4), expT128 (v11212 (F := Ideal) c i arg2 harg2 arg3 harg3 arg5 harg5 arg6 harg6 arg9 x0 x1 x3 x4) (v11034 (F := Ideal) c i arg2 harg2 arg3 harg3 arg5 harg5 arg6 harg6 x0 x1 x3 x4), expT128 (v11264 (F := Ideal) c i arg2 harg2 arg3 harg3 arg5 harg5 arg6 harg6 arg9 x0 x1 x3 x4) (v11034 (F := Ideal) c i arg2 harg2 arg3 harg3 arg5 harg5 arg6 harg6 x0 x1 x3 x4), expT128 (v11316 (F := Ideal) c i arg2 harg2 arg3 harg3 arg5 harg5 arg6 harg6 arg9 x0 x1 x3 x4) (v11034 (F := Ideal) c i arg2 harg2 arg3 harg3 arg5 harg5 arg6 harg6 x0 x1 x3 x4), expT128 (v11368 (F := Ideal) c i arg2 harg2 arg3 harg3 arg5 harg5 arg6 harg6 arg9 x0 x1 x3 x4) (v11034 (F := Ideal) c i arg2 harg2 arg3 harg3 arg5 harg5 arg6 harg6 x0 x1 x3 x4)] from rfl).trans ?_
  rw [E_27_0, E_27_1, E_27_2, E_27_3, E_27_4, E_27_5, E_27_6]
  exact rdiv128_eq _ _ _

theorem C_27_0 : code128 (v11442 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 0 6 := by
  rw [Q_27_0, L_27]; exact code128_eq _ _ _ _

theorem C_27_1 : code128 (v11454 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 1 6 := by
  rw [Q_27_1, L_27]; exact code128_eq _ _ _ _

theorem C_27_2 : code128 (v11466 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 2 6 := by
  rw [Q_27_2, L_27]; exact code128_eq _ _ _ _

theorem C_27_3 : code128 (v11478 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 3 6 := by
  rw [Q_27_3, L_27]; exact code128_eq _ _ _ _

theorem C_27_4 : code128 (v11490 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 4 6 := by
  rw [Q_27_4, L_27]; exact code128_eq _ _ _ _

theorem C_27_5 : code128 (v11502 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 5 6 := by
  rw [Q_27_5, L_27]; exact code128_eq _ _ _ _

theorem C_27_6 : code128 (v11514 (F := Ideal) c i arg2 harg2 arg3 harg3 arg5 harg5 arg6 harg6 arg9 x0 x1 x3 x4) (r_56 (F := Ideal) c i arg2 harg2 arg3 harg3 arg5 harg5 arg6 harg6 arg9 x0 x1 x3 x4) = T128 (cd (ex (Sc i x0 x1 x3 x4))) 6 6 6 := by
  rw [Q_27_6, L_27]; exact code128_eq _ _ _ _

theorem P_27 : (v11528 (F := Ideal) c i arg2 harg2 arg3 harg3 arg5 harg5 arg6 harg6 arg9 arg10 x0 x1 x3 x4) = fun j => (cd (ex (Sc i x0 x1 x3 x4))) (6 + (j 2).val / 128) (128 * 6 + (j 2).val % 128) (j 1).val := by
  refine Eq.trans (Slab.read (f := (cd (ex (Sc i x0 x1 x3 x4)))) (i := 6) (h := 6) (n := 7) ?_ 896 (by decide) _ _) rfl
  refine Slab.next (n := 6) ?_ _ _ ?_
  rotate_left
  · intro j
    exact (congrFun ((congrArg (fun t => shapeCast S1x128x128 t shapeCasts_S128x128_S1x128x128) (C_27_6 c i arg2 harg2 arg3 harg3 arg5 harg5 arg6 harg6 arg9 x0 x1 x3 x4)).trans (store128 _ _ _ _ _)) j).trans (B128_slab _ _ _ _ _)
  refine Slab.next (n := 5) ?_ _ _ ?_
  rotate_left
  · intro j
    exact (congrFun ((congrArg (fun t => shapeCast S1x128x128 t shapeCasts_S128x128_S1x128x128) (C_27_5 c i arg2 harg2 arg3 harg3 arg5 harg5 arg6 harg6 arg9 x0 x1 x3 x4)).trans (store128 _ _ _ _ _)) j).trans (B128_slab _ _ _ _ _)
  refine Slab.next (n := 4) ?_ _ _ ?_
  rotate_left
  · intro j
    exact (congrFun ((congrArg (fun t => shapeCast S1x128x128 t shapeCasts_S128x128_S1x128x128) (C_27_4 c i arg2 harg2 arg3 harg3 arg5 harg5 arg6 harg6 arg9 x0 x1 x3 x4)).trans (store128 _ _ _ _ _)) j).trans (B128_slab _ _ _ _ _)
  refine Slab.next (n := 3) ?_ _ _ ?_
  rotate_left
  · intro j
    exact (congrFun ((congrArg (fun t => shapeCast S1x128x128 t shapeCasts_S128x128_S1x128x128) (C_27_3 c i arg2 harg2 arg3 harg3 arg5 harg5 arg6 harg6 arg9 x0 x1 x3 x4)).trans (store128 _ _ _ _ _)) j).trans (B128_slab _ _ _ _ _)
  refine Slab.next (n := 2) ?_ _ _ ?_
  rotate_left
  · intro j
    exact (congrFun ((congrArg (fun t => shapeCast S1x128x128 t shapeCasts_S128x128_S1x128x128) (C_27_2 c i arg2 harg2 arg3 harg3 arg5 harg5 arg6 harg6 arg9 x0 x1 x3 x4)).trans (store128 _ _ _ _ _)) j).trans (B128_slab _ _ _ _ _)
  refine Slab.next (n := 1) ?_ _ _ ?_
  rotate_left
  · intro j
    exact (congrFun ((congrArg (fun t => shapeCast S1x128x128 t shapeCasts_S128x128_S1x128x128) (C_27_1 c i arg2 harg2 arg3 harg3 arg5 harg5 arg6 harg6 arg9 x0 x1 x3 x4)).trans (store128 _ _ _ _ _)) j).trans (B128_slab _ _ _ _ _)
  refine Slab.next (n := 0) ?_ _ _ ?_
  rotate_left
  · intro j
    exact (congrFun ((congrArg (fun t => shapeCast S1x128x128 t shapeCasts_S128x128_S1x128x128) (C_27_0 c i arg2 harg2 arg3 harg3 arg5 harg5 arg6 harg6 arg9 x0 x1 x3 x4)).trans (store128 _ _ _ _ _)) j).trans (B128_slab _ _ _ _ _)
  exact Slab.nil _ _ _ _ _ _

theorem D_27 : prod128_896 (rdV 896 arg7 harg7 x5 (by decide)) (v11528 (F := Ideal) c i arg2 harg2 arg3 harg3 arg5 harg5 arg6 harg6 arg9 arg10 x0 x1 x3 x4) (omw i arg4 harg4 x2) = OT128 (Ou i x0 x1 x2 x3 x4 x5) 6 6 := by
  rw [rdV_eq, omw_eq, P_27]; exact prod128_896_eq _ _ _ _

theorem O_27_0 : k0_pay2 (F := Ideal) (r_6 (F := Ideal) c i arg4 harg4 x2) (v11526 (F := Ideal) c arg7 harg7 x5) (v11528 (F := Ideal) c i arg2 harg2 arg3 harg3 arg5 harg5 arg6 harg6 arg9 arg10 x0 x1 x3 x4) = OB (Ou i x0 x1 x2 x3 x4 x5) 6 6 := (congrArg outA128 (D_27 c i arg2 harg2 arg3 harg3 arg4 harg4 arg5 harg5 arg6 harg6 arg7 harg7 arg9 arg10 x0 x1 x2 x3 x4 x5)).trans (outA128_eq _ _ _)

end Cert.KernelIdeal.Tile

end
-- ==== Proof.Kern.Point.lean ====
/- What one grid point leaves in its output block. -/
module

public import proofs.«01_k».proof.Proof.Gen.KernelIdeal.Frame
public import proofs.«01_k».proof.Proof.Kern.Block0
public import proofs.«01_k».proof.Proof.Kern.Block1
public import proofs.«01_k».proof.Proof.Kern.Block2
public import proofs.«01_k».proof.Proof.Kern.Block3
public import proofs.«01_k».proof.Proof.Kern.Block4
public import proofs.«01_k».proof.Proof.Kern.Block5
public import proofs.«01_k».proof.Proof.Kern.Block6

@[expose] public section

set_option maxRecDepth 16384

noncomputable section

namespace Cert.KernelIdeal.Tile

open Cert.KernelIdeal Cert.KernelIdeal.Gen Cert.KernelIdeal.Gen.kernelRun0_A.sl Idealize.ShloMosaic Idealize.ShloMosaic.TcCoe

/-- Every store of `L` puts the function `g` of (head, query, coordinate) where it stores. -/
def AllOk (g : Fn) (L : List (View.Piece (Elt Ideal) S1x896x896 .bf16)) : Prop :=
  ∀ p ∈ L, ∀ x : p.1.shape.Idx, p.2 x = g ((p.1.emb x 2).val / 128) (p.1.emb x 1).val ((p.1.emb x 2).val % 128)

theorem AllOk.nil (g : Fn) : AllOk g [] := fun p hp => absurd hp List.not_mem_nil

theorem AllOk.cons {g : Fn} {L : List (View.Piece (Elt Ideal) S1x896x896 .bf16)} (H : AllOk g L) (i h : ℕ) (inb)
    (p : FVec Ideal S1x128x128 .bf16) (hp : p = OB g i h) :
    AllOk g (⟨Rect.unit (s := S1x896x896) ![0, 128 * i, 128 * h] ![1, 128, 128] inb, p⟩ :: L) := by
  intro q hq
  rcases List.mem_cons.mp hq with rfl | hq
  · intro x
    subst hp
    have h1 : (x 1).val < 128 := (x 1).isLt
    have h2 : (x 2).val < 128 := (x 2).isLt
    have e1 : ((Rect.unit (s := S1x896x896) ![0, 128 * i, 128 * h] ![1, 128, 128] inb).emb x 1).val = 128 * i + (x 1).val :=
      Rect.idx_unit_val (s := S1x896x896) ![0, 128 * i, 128 * h] ![1, 128, 128] inb x 1
    have e2 : ((Rect.unit (s := S1x896x896) ![0, 128 * i, 128 * h] ![1, 128, 128] inb).emb x 2).val = 128 * h + (x 2).val :=
      Rect.idx_unit_val (s := S1x896x896) ![0, 128 * i, 128 * h] ![1, 128, 128] inb x 2
    show OB g i h x = g (((Rect.unit (s := S1x896x896) ![0, 128 * i, 128 * h] ![1, 128, 128] inb).emb x 2).val / 128)
      ((Rect.unit (s := S1x896x896) ![0, 128 * i, 128 * h] ![1, 128, 128] inb).emb x 1).val
      (((Rect.unit (s := S1x896x896) ![0, 128 * i, 128 * h] ![1, 128, 128] inb).emb x 2).val % 128)
    rw [e1, e2, Nat.mul_add_div (by omega), Nat.div_eq_of_lt h2, Nat.add_zero, Nat.mul_add_mod, Nat.mod_eq_of_lt h2]
    rfl
  · exact H q hq

variable (c : Dev nD) (i : grid0.Coords) (arg2 : Memref sig .tc .smem S56 .f32) (harg2 : arg2.IsWhole) (arg3 : Memref sig .tc .smem S8 .f32) (harg3 : arg3.IsWhole)
  (arg4 : Memref sig .tc .smem S8 .f32) (harg4 : arg4.IsWhole) (arg5 : Memref sig .tc .vmem S1x896x896 .fp8e4m3) (harg5 : arg5.IsWhole)
  (arg6 : Memref sig .tc .vmem S1x896x128 .fp8e4m3) (harg6 : arg6.IsWhole) (arg7 : Memref sig .tc .vmem S1x1x128x896 .fp8e4m3) (harg7 : arg7.IsWhole)
  (arg8 : Memref sig .tc .vmem S1x896x896 .bf16) (harg8 : arg8.IsWhole)
  (arg9 : Memref sig .tc .vmem S3x896x256 .f32) (harg9 : arg9.IsWhole) (arg10 : Memref sig .tc .vmem S2x896x256 .fp8e4m3) (harg10 : arg10.IsWhole)
  (x0 : Vec Ideal S56 .f32) (x1 : Vec Ideal S8 .f32) (x2 : Vec Ideal S8 .f32) (x3 : Vec Ideal S1x896x896 .fp8e4m3)
  (x4 : Vec Ideal S1x896x128 .fp8e4m3) (x5 : Vec Ideal S1x1x128x896 .fp8e4m3)

theorem point_ok : AllOk (Ou i x0 x1 x2 x3 x4 x5)
    (kernelRun0_A (F := Ideal) c i arg2 harg2 arg3 harg3 arg4 harg4 arg5 harg5 arg6 harg6 arg7 harg7 arg8 harg8 arg9 harg9 arg10 harg10 x0 x1 x2 x3 x4 x5).1 := by
  refine AllOk.cons ?_ 6 6 _ _ (O_27_0 c i arg2 harg2 arg3 harg3 arg4 harg4 arg5 harg5 arg6 harg6 arg7 harg7 arg9 arg10 x0 x1 x2 x3 x4 x5)
  refine AllOk.cons ?_ 6 5 _ _ (O_26_1 c i arg2 harg2 arg3 harg3 arg4 harg4 arg5 harg5 arg6 harg6 arg7 harg7 arg9 arg10 x0 x1 x2 x3 x4 x5)
  refine AllOk.cons ?_ 6 4 _ _ (O_26_0 c i arg2 harg2 arg3 harg3 arg4 harg4 arg5 harg5 arg6 harg6 arg7 harg7 arg9 arg10 x0 x1 x2 x3 x4 x5)
  refine AllOk.cons ?_ 6 3 _ _ (O_25_1 c i arg2 harg2 arg3 harg3 arg4 harg4 arg5 harg5 arg6 harg6 arg7 harg7 arg9 arg10 x0 x1 x2 x3 x4 x5)
  refine AllOk.cons ?_ 6 2 _ _ (O_25_0 c i arg2 harg2 arg3 harg3 arg4 harg4 arg5 harg5 arg6 harg6 arg7 harg7 arg9 arg10 x0 x1 x2 x3 x4 x5)
  refine AllOk.cons ?_ 6 1 _ _ (O_24_1 c i arg2 harg2 arg3 harg3 arg4 harg4 arg5 harg5 arg6 harg6 arg7 harg7 arg9 arg10 x0 x1 x2 x3 x4 x5)
  refine AllOk.cons ?_ 6 0 _ _ (O_24_0 c i arg2 harg2 arg3 harg3 arg4 harg4 arg5 harg5 arg6 harg6 arg7 harg7 arg9 arg10 x0 x1 x2 x3 x4 x5)
  refine AllOk.cons ?_ 5 6 _ _ (O_23_0 c i arg2 harg2 arg3 harg3 arg4 harg4 arg5 harg5 arg6 harg6 arg7 harg7 arg9 arg10 x0 x1 x2 x3 x4 x5)
  refine AllOk.cons ?_ 5 5 _ _ (O_22_1 c i arg2 harg2 arg3 harg3 arg4 harg4 arg5 harg5 arg6 harg6 arg7 harg7 arg9 arg10 x0 x1 x2 x3 x4 x5)
  refine AllOk.cons ?_ 5 4 _ _ (O_22_0 c i arg2 harg2 arg3 harg3 arg4 harg4 arg5 harg5 arg6 harg6 arg7 harg7 arg9 arg10 x0 x1 x2 x3 x4 x5)
  refine AllOk.cons ?_ 5 3 _ _ (O_21_1 c i arg2 harg2 arg3 harg3 arg4 harg4 arg5 harg5 arg6 harg6 arg7 harg7 arg9 arg10 x0 x1 x2 x3 x4 x5)
  refine AllOk.cons ?_ 5 2 _ _ (O_21_0 c i arg2 harg2 arg3 harg3 arg4 harg4 arg5 harg5 arg6 harg6 arg7 harg7 arg9 arg10 x0 x1 x2 x3 x4 x5)
  refine AllOk.cons ?_ 5 1 _ _ (O_20_1 c i arg2 harg2 arg3 harg3 arg4 harg4 arg5 harg5 arg6 harg6 arg7 harg7 arg9 arg10 x0 x1 x2 x3 x4 x5)
  refine AllOk.cons ?_ 5 0 _ _ (O_20_0 c i arg2 harg2 arg3 harg3 arg4 harg4 arg5 harg5 arg6 harg6 arg7 harg7 arg9 arg10 x0 x1 x2 x3 x4 x5)
  refine AllOk.cons ?_ 4 6 _ _ (O_19_0 c i arg2 harg2 arg3 harg3 arg4 harg4 arg5 harg5 arg6 harg6 arg7 harg7 arg9 arg10 x0 x1 x2 x3 x4 x5)
  refine AllOk.cons ?_ 4 5 _ _ (O_18_1 c i arg2 harg2 arg3 harg3 arg4 harg4 arg5 harg5 arg6 harg6 arg7 harg7 arg9 arg10 x0 x1 x2 x3 x4 x5)
  refine AllOk.cons ?_ 4 4 _ _ (O_18_0 c i arg2 harg2 arg3 harg3 arg4 harg4 arg5 harg5 arg6 harg6 arg7 harg7 arg9 arg10 x0 x1 x2 x3 x4 x5)
  refine AllOk.cons ?_ 4 3 _ _ (O_17_1 c i arg2 harg2 arg3 harg3 arg4 harg4 arg5 harg5 arg6 harg6 arg7 harg7 arg9 arg10 x0 x1 x2 x3 x4 x5)
  refine AllOk.cons ?_ 4 2 _ _ (O_17_0 c i arg2 harg2 arg3 harg3 arg4 harg4 arg5 harg5 arg6 harg6 arg7 harg7 arg9 arg10 x0 x1 x2 x3 x4 x5)
  refine AllOk.cons ?_ 4 1 _ _ (O_16_1 c i arg2 harg2 arg3 harg3 arg4 harg4 arg5 harg5 arg6 harg6 arg7 harg7 arg9 arg10 x0 x1 x2 x3 x4 x5)
  refine AllOk.cons ?_ 4 0 _ _ (O_16_0 c i arg2 harg2 arg3 harg3 arg4 harg4 arg5 harg5 arg6 harg6 arg7 harg7 arg9 arg10 x0 x1 x2 x3 x4 x5)
  refine AllOk.cons ?_ 3 6 _ _ (O_15_0 c i arg2 harg2 arg3 harg3 arg4 harg4 arg5 harg5 arg6 harg6 arg7 harg7 arg9 arg10 x0 x1 x2 x3 x4 x5)
  refine AllOk.cons ?_ 3 5 _ _ (O_14_1 c i arg2 harg2 arg3 harg3 arg4 harg4 arg5 harg5 arg6 harg6 arg7 harg7 arg9 arg10 x0 x1 x2 x3 x4 x5)
  refine AllOk.cons ?_ 3 4 _ _ (O_14_0 c i arg2 harg2 arg3 harg3 arg4 harg4 arg5 harg5 arg6 harg6 arg7 harg7 arg9 arg10 x0 x1 x2 x3 x4 x5)
  refine AllOk.cons ?_ 3 3 _ _ (O_13_1 c i arg2 harg2 arg3 harg3 arg4 harg4 arg5 harg5 arg6 harg6 arg7 harg7 arg9 arg10 x0 x1 x2 x3 x4 x5)
  refine AllOk.cons ?_ 3 2 _ _ (O_13_0 c i arg2 harg2 arg3 harg3 arg4 harg4 arg5 harg5 arg6 harg6 arg7 harg7 arg9 arg10 x0 x1 x2 x3 x4 x5)
  refine AllOk.cons ?_ 3 1 _ _ (O_12_1 c i arg2 harg2 arg3 harg3 arg4 harg4 arg5 harg5 arg6 harg6 arg7 harg7 arg9 arg10 x0 x1 x2 x3 x4 x5)
  refine AllOk.cons ?_ 3 0 _ _ (O_12_0 c i arg2 harg2 arg3 harg3 arg4 harg4 arg5 harg5 arg6 harg6 arg7 harg7 arg9 arg10 x0 x1 x2 x3 x4 x5)
  refine AllOk.cons ?_ 2 6 _ _ (O_11_0 c i arg2 harg2 arg3 harg3 arg4 harg4 arg5 harg5 arg6 harg6 arg7 harg7 arg9 arg10 x0 x1 x2 x3 x4 x5)
  refine AllOk.cons ?_ 2 5 _ _ (O_10_1 c i arg2 harg2 arg3 harg3 arg4 harg4 arg5 harg5 arg6 harg6 arg7 harg7 arg9 arg10 x0 x1 x2 x3 x4 x5)
  refine AllOk.cons ?_ 2 4 _ _ (O_10_0 c i arg2 harg2 arg3 harg3 arg4 harg4 arg5 harg5 arg6 harg6 arg7 harg7 arg9 arg10 x0 x1 x2 x3 x4 x5)
  refine AllOk.cons ?_ 2 3 _ _ (O_9_1 c i arg2 harg2 arg3 harg3 arg4 harg4 arg5 harg5 arg6 harg6 arg7 harg7 arg9 arg10 x0 x1 x2 x3 x4 x5)
  refine AllOk.cons ?_ 2 2 _ _ (O_9_0 c i arg2 harg2 arg3 harg3 arg4 harg4 arg5 harg5 arg6 harg6 arg7 harg7 arg9 arg10 x0 x1 x2 x3 x4 x5)
  refine AllOk.cons ?_ 2 1 _ _ (O_8_1 c i arg2 harg2 arg3 harg3 arg4 harg4 arg5 harg5 arg6 harg6 arg7 harg7 arg9 arg10 x0 x1 x2 x3 x4 x5)
  refine AllOk.cons ?_ 2 0 _ _ (O_8_0 c i arg2 harg2 arg3 harg3 arg4 harg4 arg5 harg5 arg6 harg6 arg7 harg7 arg9 arg10 x0 x1 x2 x3 x4 x5)
  refine AllOk.cons ?_ 1 6 _ _ (O_7_0 c i arg2 harg2 arg3 harg3 arg4 harg4 arg5 harg5 arg6 harg6 arg7 harg7 arg9 arg10 x0 x1 x2 x3 x4 x5)
  refine AllOk.cons ?_ 1 5 _ _ (O_6_1 c i arg2 harg2 arg3 harg3 arg4 harg4 arg5 harg5 arg6 harg6 arg7 harg7 arg9 arg10 x0 x1 x2 x3 x4 x5)
  refine AllOk.cons ?_ 1 4 _ _ (O_6_0 c i arg2 harg2 arg3 harg3 arg4 harg4 arg5 harg5 arg6 harg6 arg7 harg7 arg9 arg10 x0 x1 x2 x3 x4 x5)
  refine AllOk.cons ?_ 1 3 _ _ (O_5_1 c i arg2 harg2 arg3 harg3 arg4 harg4 arg5 harg5 arg6 harg6 arg7 harg7 arg9 arg10 x0 x1 x2 x3 x4 x5)
  refine AllOk.cons ?_ 1 2 _ _ (O_5_0 c i arg2 harg2 arg3 harg3 arg4 harg4 arg5 harg5 arg6 harg6 arg7 harg7 arg9 arg10 x0 x1 x2 x3 x4 x5)
  refine AllOk.cons ?_ 1 1 _ _ (O_4_1 c i arg2 harg2 arg3 harg3 arg4 harg4 arg5 harg5 arg6 harg6 arg7 harg7 arg9 arg10 x0 x1 x2 x3 x4 x5)
  refine AllOk.cons ?_ 1 0 _ _ (O_4_0 c i arg2 harg2 arg3 harg3 arg4 harg4 arg5 harg5 arg6 harg6 arg7 harg7 arg9 arg10 x0 x1 x2 x3 x4 x5)
  refine AllOk.cons ?_ 0 6 _ _ (O_3_0 c i arg2 harg2 arg3 harg3 arg4 harg4 arg5 harg5 arg6 harg6 arg7 harg7 arg9 arg10 x0 x1 x2 x3 x4 x5)
  refine AllOk.cons ?_ 0 5 _ _ (O_2_1 c i arg2 harg2 arg3 harg3 arg4 harg4 arg5 harg5 arg6 harg6 arg7 harg7 arg9 arg10 x0 x1 x2 x3 x4 x5)
  refine AllOk.cons ?_ 0 4 _ _ (O_2_0 c i arg2 harg2 arg3 harg3 arg4 harg4 arg5 harg5 arg6 harg6 arg7 harg7 arg9 arg10 x0 x1 x2 x3 x4 x5)
  refine AllOk.cons ?_ 0 3 _ _ (O_1_1 c i arg2 harg2 arg3 harg3 arg4 harg4 arg5 harg5 arg6 harg6 arg7 harg7 arg9 arg10 x0 x1 x2 x3 x4 x5)
  refine AllOk.cons ?_ 0 2 _ _ (O_1_0 c i arg2 harg2 arg3 harg3 arg4 harg4 arg5 harg5 arg6 harg6 arg7 harg7 arg9 arg10 x0 x1 x2 x3 x4 x5)
  refine AllOk.cons ?_ 0 1 _ _ (O_0_1 c i arg2 harg2 arg3 harg3 arg4 harg4 arg5 harg5 arg6 harg6 arg7 harg7 arg9 arg10 x0 x1 x2 x3 x4 x5)
  refine AllOk.cons ?_ 0 0 _ _ (O_0_0 c i arg2 harg2 arg3 harg3 arg4 harg4 arg5 harg5 arg6 harg6 arg7 harg7 arg9 arg10 x0 x1 x2 x3 x4 x5)
  exact AllOk.nil _

/-- One grid point's output block. -/
theorem point (y : S1x896x896.Idx) :
    out0_A_6 (F := Ideal) c i arg2 harg2 arg3 harg3 arg4 harg4 arg5 harg5 arg6 harg6 arg7 harg7 arg8 harg8 arg9 harg9 arg10 harg10 x0 x1 x2 x3 x4 x5 y
      = Ou i x0 x1 x2 x3 x4 x5 ((y 2).val / 128) (y 1).val ((y 2).val % 128) := by
  refine (View.read_writes_junk_apply_eq_canon _ y _).trans ?_
  refine View.canon_eq_of_allAt _ y _ (cover0_A_6 (F := Ideal) c i arg2 harg2 arg3 harg3 arg4 harg4 arg5 harg5 arg6 harg6 arg7 harg7 arg8 harg8 arg9 harg9 arg10 harg10 x0 x1 x2 x3 x4 x5 y) ?_
  intro p hp x hx
  subst hx
  exact point_ok c i arg2 harg2 arg3 harg3 arg4 harg4 arg5 harg5 arg6 harg6 arg7 harg7 arg8 harg8 arg9 harg9 arg10 harg10 x0 x1 x2 x3 x4 x5 p hp x

end Cert.KernelIdeal.Tile

end
-- ==== Proof.Kern.Array.lean ====
/- The kernel's result array: at every index the output function of its batch and key-value head. -/
module

public import proofs.«01_k».proof.Proof.Gen.KernelIdeal.Value
public import proofs.«01_k».proof.Proof.Kern.Point
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Pipeline (Dat)

/-- The queries of batch `b`, key-value head `v`, by position and column. -/
def Xa (a : Vec Ideal S2x896x7168 .fp8e4m3) (b v : ℕ) : ℕ → ℕ → EReal := fun q x =>
  if h : b < 2 ∧ v < 8 ∧ q < 896 ∧ x < 896 then a (ix3 (n0 := 2) (n1 := 896) (n2 := 7168) ⟨b, h.1⟩ ⟨q, h.2.2.1⟩ ⟨896 * v + x, by omega⟩) else 0
/-- The keys of batch `b`, key-value head `v`, by position and coordinate. -/
def Ka (a : Vec Ideal S2x896x1024 .fp8e4m3) (b v : ℕ) : ℕ → ℕ → EReal := fun t x =>
  if h : b < 2 ∧ v < 8 ∧ t < 896 ∧ x < 128 then a (ix3 (n0 := 2) (n1 := 896) (n2 := 1024) ⟨b, h.1⟩ ⟨t, h.2.2.1⟩ ⟨128 * v + x, by omega⟩) else 0
/-- The values of batch `b`, key-value head `v`, by coordinate and position. -/
def Va (a : Vec Ideal S2x8x128x896 .fp8e4m3) (b v : ℕ) : ℕ → ℕ → EReal := fun x t =>
  if h : b < 2 ∧ v < 8 ∧ x < 128 ∧ t < 896 then a (ix4 (n0 := 2) (n1 := 8) (n2 := 128) (n3 := 896) ⟨b, h.1⟩ ⟨v, h.2.1⟩ ⟨x, h.2.2.1⟩ ⟨t, h.2.2.2⟩) else 0
/-- The score factors of key-value head `v`. -/
def Sa (a3 : Vec Ideal S56 .f32) (a4 : Vec Ideal S8 .f32) (v : ℕ) : ℕ → EReal := fun h =>
  if hh : 7 * v + h < 56 ∧ v < 8 then
    a3 (ix1 (n0 := 56) ⟨7 * v + h, hh.1⟩) * a4 (ix1 (n0 := 8) ⟨v, hh.2⟩) * Ideal.ofBits .f32 0x3DB504F3#32 * (((Real.log 2)⁻¹ : ℝ) : EReal)
  else 0
/-- The output factor of key-value head `v`. -/
def Oa (a5 : Vec Ideal S8 .f32) (v : ℕ) : EReal :=
  if hh : v < 8 then a5 (ix1 (n0 := 8) ⟨v, hh⟩) * Ideal.ofBits .f32 0x3B124925#32 else 0

/-- The kernel's result as a function of its arguments. -/
def Res (a0 : Vec Ideal S2x896x7168 .fp8e4m3) (a1 : Vec Ideal S2x896x1024 .fp8e4m3) (a2 : Vec Ideal S2x8x128x896 .fp8e4m3)
    (a3 : Vec Ideal S56 .f32) (a4 a5 : Vec Ideal S8 .f32) (b v h q d : ℕ) : EReal :=
  out (Va a2 b v) (Oa a5 v) (cd (ex (sc (Ka a1 b v) (Xa a0 b v) (Sa a3 a4 v)))) h q d

variable (m : (ℓ : Loc nD τ sig) → Buf (Elt Ideal) ℓ)

theorem idx_all : ∀ t : Fin cfg0.N, win0_0.index t = ![0] ∧ win0_1.index t = ![0] ∧ win0_2.index t = ![0] ∧
    win0_3.index t = ![(grid0.coords t 0).val, 0, (grid0.coords t 1).val] ∧ win0_4.index t = ![(grid0.coords t 0).val, 0, (grid0.coords t 1).val] ∧
    win0_5.index t = ![(grid0.coords t 0).val, (grid0.coords t 1).val, 0, 0] ∧ win0_6.index t = ![(grid0.coords t 0).val, 0, (grid0.coords t 1).val] :=
  (by decide +kernel : ∀ t : Fin grid0.N, _)

theorem Xf_eq (c : Dev nD) (t : Fin cfg0.N) :
    Xf (iblk m c 3 t) = Xa (m ((c : Thread nD τ).loc main_arg0)) (grid0.coords t 0).val (grid0.coords t 1).val := by
  have h0 : (grid0.coords t 0).val < 2 := (grid0.coords t 0).isLt
  have h1 : (grid0.coords t 1).val < 8 := (grid0.coords t 1).isLt
  funext q x
  unfold Xf Xa
  by_cases h : q < 896 ∧ x < 896
  · rw [dif_pos h, dif_pos ⟨h0, h1, h⟩]
    blk_point [iblk, V, (idx_all t).2.2.2.1]
  · rw [dif_neg h, dif_neg fun hh => h hh.2.2]

theorem Kf_eq (c : Dev nD) (t : Fin cfg0.N) :
    Kf (iblk m c 4 t) = Ka (m ((c : Thread nD τ).loc main_arg1)) (grid0.coords t 0).val (grid0.coords t 1).val := by
  have h0 : (grid0.coords t 0).val < 2 := (grid0.coords t 0).isLt
  have h1 : (grid0.coords t 1).val < 8 := (grid0.coords t 1).isLt
  funext q x
  unfold Kf Ka
  by_cases h : q < 896 ∧ x < 128
  · rw [dif_pos h, dif_pos ⟨h0, h1, h⟩]
    blk_point [iblk, V, (idx_all t).2.2.2.2.1]
  · rw [dif_neg h, dif_neg fun hh => h hh.2.2]

theorem Vf_eq (c : Dev nD) (t : Fin cfg0.N) :
    Vf (iblk m c 5 t) = Va (m ((c : Thread nD τ).loc main_arg2)) (grid0.coords t 0).val (grid0.coords t 1).val := by
  have h0 : (grid0.coords t 0).val < 2 := (grid0.coords t 0).isLt
  have h1 : (grid0.coords t 1).val < 8 := (grid0.coords t 1).isLt
  funext q x
  unfold Vf Va
  by_cases h : q < 128 ∧ x < 896
  · rw [dif_pos h, dif_pos ⟨h0, h1, h⟩]
    blk_point [iblk, V, (idx_all t).2.2.2.2.2.1]
  · rw [dif_neg h, dif_neg fun hh => h hh.2.2]

theorem iblk0_eq (c : Dev nD) (t : Fin cfg0.N) (x : S56.Idx) : iblk m c 0 t x = m ((c : Thread nD τ).loc main_arg3) x := by
  blk_point [iblk, V, (idx_all t).1]
theorem iblk1_eq (c : Dev nD) (t : Fin cfg0.N) (x : S8.Idx) : iblk m c 1 t x = m ((c : Thread nD τ).loc main_arg4) x := by
  blk_point [iblk, V, (idx_all t).2.1]
theorem iblk2_eq (c : Dev nD) (t : Fin cfg0.N) (x : S8.Idx) : iblk m c 2 t x = m ((c : Thread nD τ).loc main_arg5) x := by
  blk_point [iblk, V, (idx_all t).2.2.1]

theorem sg_arr (c : Dev nD) (t : Fin cfg0.N) : sg (grid0.coords t) (iblk m c 0 t) (iblk m c 1 t) =
    Sa (m ((c : Thread nD τ).loc main_arg3)) (m ((c : Thread nD τ).loc main_arg4)) (grid0.coords t 1).val := by
  have h1 : (grid0.coords t 1).val < 8 := (grid0.coords t 1).isLt
  have e0 : iblk m c 0 t = m ((c : Thread nD τ).loc main_arg3) := funext (iblk0_eq m c t)
  have e1 : iblk m c 1 t = m ((c : Thread nD τ).loc main_arg4) := funext (iblk1_eq m c t)
  funext h
  unfold sg Sa
  rw [e0, e1]
  by_cases hh : 7 * (grid0.coords t 1).val + h < 56
  · rw [dif_pos hh, dif_pos ⟨hh, h1⟩]
  · rw [dif_neg hh, dif_neg fun x => hh x.1]

theorem om_arr (c : Dev nD) (t : Fin cfg0.N) : om (grid0.coords t) (iblk m c 2 t) =
    Oa (m ((c : Thread nD τ).loc main_arg5)) (grid0.coords t 1).val := by
  have h1 : (grid0.coords t 1).val < 8 := (grid0.coords t 1).isLt
  have e0 : iblk m c 2 t = m ((c : Thread nD τ).loc main_arg5) := funext (iblk2_eq m c t)
  unfold om Oa
  rw [e0, dif_pos h1]

/-- `Res` at an index of the result array. -/
def ResAt (c : Dev nD) (y : S2x896x7168.Idx) : EReal :=
  Res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (y 0).val ((y 2).val / 896) ((y 2).val % 896 / 128) (y 1).val ((y 2).val % 128)

/-- The argument-side functions at grid point `t` are the array-side functions at its coordinates. -/
theorem Ou_arr (c : Dev nD) (t : Fin cfg0.N) (h q d : ℕ) :
    Ou (grid0.coords t) (iblk m c 0 t) (iblk m c 1 t) (iblk m c 2 t) (iblk m c 3 t) (iblk m c 4 t) (iblk m c 5 t) h q d =
      Res (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (grid0.coords t 0).val (grid0.coords t 1).val h q d := by
  unfold Ou Sc Res
  rw [Xf_eq, Kf_eq, Vf_eq, sg_arr, om_arr]

theorem arr (c : Dev nD) : (dats m 0 c).arrAt 6 cfg0.N = ResAt m c := by
  refine (dats m 0 c).arrAt_eq_of_covers 6 _ (by decide +kernel) fun t hf y => ?_
  blk_simp
  rw [after0_6]
  have hi := (idx_all t).2.2.2.2.2.2
  have e0 : ((((cfg0.win 6).blk t).view.emb y) 0).val = (grid0.coords t 0).val := by
    have hy : (y 0).val < 1 := (y 0).isLt
    have h := Pipeline.Window.rect_emb_val win0_6 t y 0
    rw [hi] at h
    refine h.trans ?_
    show (grid0.coords t 0).val * 1 + (y 0).val = _
    omega
  have e1 : ((((cfg0.win 6).blk t).view.emb y) 1).val = (y 1).val := by
    have h := Pipeline.Window.rect_emb_val win0_6 t y 1
    rw [hi] at h
    refine h.trans ?_
    show 0 * 896 + (y 1).val = _
    omega
  have hy2 : (y 2).val < 896 := (y 2).isLt
  have e2 : ((((cfg0.win 6).blk t).view.emb y) 2).val = (grid0.coords t 1).val * 896 + (y 2).val := by
    have h := Pipeline.Window.rect_emb_val win0_6 t y 2
    rw [hi] at h
    exact h
  have f0 : ((grid0.coords t 1).val * 896 + (y 2).val) / 896 = (grid0.coords t 1).val := by omega
  have f1 : ((grid0.coords t 1).val * 896 + (y 2).val) % 896 / 128 = (y 2).val / 128 := by omega
  have f2 : ((grid0.coords t 1).val * 896 + (y 2).val) % 128 = (y 2).val % 128 := by omega
  unfold outsAt0
  refine (point _ _ _ _ _ _ _ _ _ _ _ _ _ _ _ _ _ _ _ _ _ _ _ _ _ _ y).trans ((Ou_arr m c t _ _ _).trans ?_)
  show _ = ResAt m c (((cfg0.win 6).blk t).view.emb y)
  unfold ResAt
  rw [e0, e1, e2, f0, f1, f2]

end Cert.KernelIdeal.Tile

end
-- ==== Proof.Ref.Value.lean ====
/- The reference's result as a function of its arguments. -/
module

public import proofs.«01_k».proof.Proof.Ref.Host
public import proofs.«01_k».proof.Proof.Join
public import proofs.«01_k».proof.Proof.Kern.Array

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.KernelIdeal.Tile (Xa Ka Va Oa Sa sc sle_ofNat ofBits_ninf sum_fin)
open Cert.Proof.Join

variable (m : (ℓ : Loc nD τ sig) → Buf (Elt Ideal) ℓ) (ρ : Dev nD → PrngReg)

/-- The arguments at their shapes. -/
abbrev A0 (c : Dev nD) : FVec Ideal S2x896x7168 .fp8e4m3 := m ((c : Thread nD τ).loc main_arg0)
abbrev A1 (c : Dev nD) : FVec Ideal S2x896x1024 .fp8e4m3 := m ((c : Thread nD τ).loc main_arg1)
abbrev A2 (c : Dev nD) : FVec Ideal S2x8x128x896 .fp8e4m3 := m ((c : Thread nD τ).loc main_arg2)
abbrev A3 (c : Dev nD) : FVec Ideal S56 .f32 := m ((c : Thread nD τ).loc main_arg3)
abbrev A4 (c : Dev nD) : FVec Ideal S8 .f32 := m ((c : Thread nD τ).loc main_arg4)
abbrev A5 (c : Dev nD) : FVec Ideal S8 .f32 := m ((c : Thread nD τ).loc main_arg5)

/-- The score factors of key-value head `v`. -/
def Sr (a3 : FVec Ideal S56 .f32) (a4 : FVec Ideal S8 .f32) (v : ℕ) : ℕ → EReal := fun h =>
  if hh : 7 * v + h < 56 ∧ v < 8 then
    a3 (ix1 (n0 := 56) ⟨7 * v + h, hh.1⟩) * a4 (ix1 (n0 := 8) ⟨v, hh.2⟩) * Ideal.ofBits .f32 0x3DB504F3#32
  else 0

/-- The kernel's score factors are the reference's times `1 / log 2`. -/
theorem Sa_eq (a3 : FVec Ideal S56 .f32) (a4 : FVec Ideal S8 .f32) (v h : ℕ) : Sa a3 a4 v h = Sr a3 a4 v h * lam := by
  unfold Sa Sr
  by_cases hh : 7 * v + h < 56 ∧ v < 8
  · rw [dif_pos hh, dif_pos hh]; rfl
  · rw [dif_neg hh, dif_neg hh, zero_mul]

theorem qW_eq (c : Dev nD) (y : S2x896x7168.Idx) : qW m ρ c y = A0 m c y := congrFun ((W1_arr m ρ c 3).trans (region0_3 _ c)) y
theorem kW_eq (c : Dev nD) (y : S2x896x1024.Idx) : kW m ρ c y = A1 m c y := congrFun ((W1_arr m ρ c 4).trans (region0_4 _ c)) y
theorem a3W_eq (c : Dev nD) (y : S56.Idx) : a3W m ρ c y = A3 m c y := congrFun (W1_args m ρ c main_arg3 (by decide)) y
theorem a4W_eq (c : Dev nD) (y : S8.Idx) : a4W m ρ c y = A4 m c y := congrFun (W1_args m ρ c main_arg4 (by decide)) y
theorem a5W_eq (c : Dev nD) (y : S8.Idx) : a5W m ρ c y = A5 m c y := congrFun (W5_args m ρ c main_arg5 (by decide)) y

theorem vW_eq (c : Dev nD) (y : S2x8x128x896.Idx) : vW m ρ c y = A2 m c y := by
  have e5 := W5_of m ρ c main_v0_2 (by decide +kernel)
  have e4 := W4_of m ρ c main_v0_2 (by decide +kernel)
  have e3 := W3_of m ρ c main_v0_2 (by decide +kernel)
  have e2 := W2_of m ρ c main_v0_2 (by decide +kernel)
  exact congrFun ((((e5.trans e4).trans e3).trans e2).trans ((W1_arr m ρ c 5).trans (region0_5 _ c))) y

/-- The score of head `h` of key-value head `v`, query `q`, key `t`, of batch `b`. -/
abbrev S (c : Dev nD) (b v : ℕ) := sc (Ka (A1 m c) b v) (Xa (A0 m c) b v) (Sr (A3 m c) (A4 m c) v)

theorem sW_eq (c : Dev nD) (b : Fin 2) (v : Fin 8) (h : Fin 7) (q t : Fin 896) :
    (sW m ρ c (ix5 b v h q t) : EReal) = S m c b.val v.val h.val q.val t.val := by
  refine (v21 m ρ c b v h q t).trans ?_
  unfold S sc
  rw [sle_ofNat _ _ t.isLt q.isLt]
  by_cases htq : t.val ≤ q.val
  · rw [if_pos htq, if_pos htq]
    show _ * _ = _
    congr 1
    · refine Finset.sum_congr rfl fun x _ => ?_
      rw [kW_eq, qW_eq]
      unfold Ka Xa
      have hb := b.isLt; have hv := v.isLt; have hh := h.isLt; have hx := x.isLt
      rw [dif_pos ⟨hb, hv, t.isLt, hx⟩, dif_pos ⟨hb, hv, q.isLt, by omega⟩]
      have e1 : (⟨v.val * 128 + x.val, by omega⟩ : Fin 1024) = ⟨128 * v.val + x.val, by omega⟩ := by rw [Fin.mk.injEq]; omega
      have e2 : (⟨v.val * 896 + h.val * 128 + x.val, by omega⟩ : Fin 7168) = ⟨896 * v.val + (128 * h.val + x.val), by omega⟩ := by rw [Fin.mk.injEq]; omega
      rw [e1, e2]
    · rw [a3W_eq, a4W_eq]
      unfold Sr
      have hv := v.isLt; have hh := h.isLt
      rw [dif_pos ⟨by omega, hv⟩]
      have e1 : (⟨v.val * 7 + h.val, by omega⟩ : Fin 56) = ⟨7 * v.val + h.val, by omega⟩ := by rw [Fin.mk.injEq]; omega
      rw [e1]
  · rw [if_neg htq, if_neg htq]
    exact ofBits_ninf

theorem fold_range (g : ℕ → EReal) : Finset.fold max (⊥ : EReal) (fun t : Fin 896 => g t.val) Finset.univ = (Finset.range 896).sup g := by
  show (Finset.univ : Finset (Fin 896)).sup (fun t => g t.val) = _
  refine le_antisymm (Finset.sup_le fun t _ => Finset.le_sup (f := g) (Finset.mem_range.2 t.isLt)) (Finset.sup_le fun t ht => ?_)
  exact Finset.le_sup (f := fun t : Fin 896 => g t.val) (Finset.mem_univ ⟨t, Finset.mem_range.1 ht⟩)

theorem max_eq (c : Dev nD) (b : Fin 2) (v : Fin 8) (h : Fin 7) (q : Fin 896) :
    (rowMax (sW m ρ c) (ix4 b v h q) : EReal) = (Finset.range 896).sup (S m c b.val v.val h.val q.val) := by
  refine (rowMax_at _ b v h q).trans ?_
  have e : (fun t' : Fin 896 => (sW m ρ c (ix5 b v h q t') : EReal)) = fun t' => S m c b.val v.val h.val q.val t'.val :=
    funext (sW_eq m ρ c b v h q)
  rw [← fold_range, ofBits_ninf]
  exact congrArg (fun f => Finset.fold max (⊥ : EReal) f (Finset.univ : Finset (Fin 896))) e

/-- The exponentials of the scores. -/
abbrev eW (c : Dev nD) : FVec Ideal S2x8x7x896x896 .f32 := F28 (sW m ρ c) (rowMax (sW m ρ c))

theorem eW_eq (c : Dev nD) (b : Fin 2) (v : Fin 8) (h : Fin 7) (q t : Fin 896) :
    (eW m ρ c (ix5 b v h q t) : EReal) = en (S m c b.val v.val h.val q.val) t.val := by
  refine (F28_at _ _ b v h q t).trans ?_
  have e1 := sW_eq m ρ c b v h q t
  have e2 := max_eq m ρ c b v h q
  unfold en
  refine congrArg Ideal.exp (congrArg₂ (fun x y : EReal => x - y) e1 ?_)
  rw [ofBits_ninf]
  exact (max_eq_right bot_le).trans e2

theorem pW_eq (c : Dev nD) (b : Fin 2) (v : Fin 8) (h : Fin 7) (q t : Fin 896) :
    (pW m ρ c (ix5 b v h q t) : EReal) = cn (S m c b.val v.val h.val q.val) t.val := by
  refine (congrFun ((W5_arr m ρ c 1).trans (region1_1 _ c)) (ix5 b v h q t)).trans ?_
  have e : (W4 (F := Ideal) m ρ c (Proc.devRef .tc main_v32) : FVec Ideal S2x8x7x896x896 .f32) (ix5 b v h q t) = _ :=
    (congrFun (v32 m ρ c) (ix5 b v h q t)).trans (F32_at (eW m ρ c) b v h q t)
  refine (congrArg code e).trans ?_
  have es : (∑ t' : Fin 896, eW m ρ c (ix5 b v h q t') : EReal) = ∑ t' ∈ Finset.range 896, en (S m c b.val v.val h.val q.val) t' :=
    (Finset.sum_congr rfl fun t' _ => eW_eq m ρ c b v h q t').trans (sum_fin _ 896)
  unfold code cn
  exact congrArg (fun x : EReal => min (Ideal.ofBits .f32 0x43E00000#32) (max 0 (x * Ideal.ofBits .f32 0x43E00000#32)))
    (congrArg₂ Ideal.div (eW_eq m ρ c b v h q t) es)

/-- The reference's result, at its indices. -/
theorem oW_eq (c : Dev nD) (b : Fin 2) (q : Fin 896) (x : Fin 7168) :
    (oW m ρ c (ix3 b q x) : EReal) =
      Cert.KernelIdeal.Tile.Res (A0 m c) (A1 m c) (A2 m c) (A3 m c) (A4 m c) (A5 m c)
        b.val (x.val / 896) (x.val % 896 / 128) q.val (x.val % 128) := by
  refine (v42 m ρ c b q x).trans ?_
  have hx := x.isLt
  have hv : x.val / 896 < 8 := by omega
  have hh : x.val / 128 % 7 < 7 := by omega
  have eh : x.val % 896 / 128 = x.val / 128 % 7 := by omega
  unfold Cert.KernelIdeal.Tile.Res
  rw [out_eq _ _ _ _ _ _ _ (Sa_eq _ _ _ _) _ q.isLt, eh]
  refine congrArg₂ (fun x y : EReal => x * y) ?_ ?_
  · rw [← sum_fin]
    refine Finset.sum_congr rfl fun t _ => ?_
    refine congrArg₂ (fun x y : EReal => x * y) ?_ (pW_eq m ρ c b ⟨x.val / 896, hv⟩ ⟨x.val / 128 % 7, hh⟩ q t)
    refine (vW_eq m ρ c _).trans ?_
    unfold Va
    rw [dif_pos ⟨b.isLt, hv, Nat.mod_lt _ (by omega), t.isLt⟩]
  · unfold Oa
    rw [dif_pos hv, a5W_eq]

end Cert.ReferenceIdeal.Val

end
-- ==== Proof.Algebraic.lean ====
/- Over the extended reals the kernel and the reference compute one result. -/
module

public import proofs.«01_k».proof.Defs
public import proofs.«01_k».proof.Proof.Gen.KernelIdeal
public import proofs.«01_k».proof.Proof.Gen.ReferenceIdeal
public import proofs.«01_k».proof.Proof.RefRun
public import proofs.«01_k».proof.Proof.Ref.Value

@[expose] public section

set_option maxRecDepth 16384

noncomputable section

namespace Cert.Proof.Algebraic

open Idealize.ShloMosaic Idealize.SL.Sem
open Cert.KernelIdeal.Tile (ResAt Res)

theorem algebraic : algebraic_KernelIdeal_ReferenceIdeal (hKernelIdeal := Cert.KernelIdeal.Gen.facts) (hReferenceIdeal := Cert.ReferenceIdeal.Gen.facts) := by
  intro m g m' g' _ hargs
  refine ⟨fun c => ResAt m c, ?_, ?_⟩
  · refine (θ_run _ _ _).mono (fun r h c => ?_) (Cert.KernelIdeal.Value.run_blocks (F := Ideal) m g)
    obtain ⟨h0, h1⟩ := h c
    exact ⟨h0.trans (Cert.KernelIdeal.Tile.arr m c), h1⟩
  · refine (θ_run _ _ _).mono (fun r h c => ?_) (Cert.ReferenceIdeal.RefRun.run (F := Ideal) m' g')
    obtain ⟨h0, h1⟩ := h c
    refine ⟨h0.trans (funext fun y => ?_), h1⟩
    obtain ⟨a0, a1, a2, a3, a4, a5⟩ := hargs c
    have e := Cert.ReferenceIdeal.Val.oW_eq m' g' c (y 0) (y 1) (y 2)
    refine Eq.trans ?_ (e.trans ?_)
    · exact congrArg (Cert.ReferenceIdeal.Val.oW m' g' c) (eq_ix3 y)
    · have b0 : Cert.ReferenceIdeal.Val.A0 m' c = m ((c.tc : Thread Cert.KernelIdeal.nD Cert.KernelIdeal.τ).loc Cert.KernelIdeal.main_arg0) := a0
      have b1 : Cert.ReferenceIdeal.Val.A1 m' c = m ((c.tc : Thread Cert.KernelIdeal.nD Cert.KernelIdeal.τ).loc Cert.KernelIdeal.main_arg1) := a1
      have b2 : Cert.ReferenceIdeal.Val.A2 m' c = m ((c.tc : Thread Cert.KernelIdeal.nD Cert.KernelIdeal.τ).loc Cert.KernelIdeal.main_arg2) := a2
      have b3 : Cert.ReferenceIdeal.Val.A3 m' c = m ((c.tc : Thread Cert.KernelIdeal.nD Cert.KernelIdeal.τ).loc Cert.KernelIdeal.main_arg3) := a3
      have b4 : Cert.ReferenceIdeal.Val.A4 m' c = m ((c.tc : Thread Cert.KernelIdeal.nD Cert.KernelIdeal.τ).loc Cert.KernelIdeal.main_arg4) := a4
      have b5 : Cert.ReferenceIdeal.Val.A5 m' c = m ((c.tc : Thread Cert.KernelIdeal.nD Cert.KernelIdeal.τ).loc Cert.KernelIdeal.main_arg5) := a5
      rw [b0, b1, b2, b3, b4, b5]
      rfl

end Cert.Proof.Algebraic

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Claims
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Claims.frame_p, Claims.frame_pi, Claims.frame_ri, Claims.preserves, Algebraic.algebraic⟩

end Cert.Proof

end
